-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v34_0)) (v1 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v34_0) = v0 c
          ∧ r.2.mem ((c.tc : Thread Cert.KernelIdeal.nD Cert.KernelIdeal.τ).loc Cert.KernelIdeal.main_v39) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v131) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S20000x2 : Shape := ⟨2, ![20000, 2]⟩
abbrev S20000x4 : Shape := ⟨2, ![20000, 4]⟩
abbrev S128x512x7x7 : Shape := ⟨4, ![128, 512, 7, 7]⟩
abbrev S25088x4096 : Shape := ⟨2, ![25088, 4096]⟩
abbrev S4096 : Shape := ⟨1, ![4096]⟩
abbrev S4096x1024 : Shape := ⟨2, ![4096, 1024]⟩
abbrev S1024 : Shape := ⟨1, ![1024]⟩
abbrev S1024x21 : Shape := ⟨2, ![1024, 21]⟩
abbrev S21 : Shape := ⟨1, ![21]⟩
abbrev S1024x84 : Shape := ⟨2, ![1024, 84]⟩
abbrev S84 : Shape := ⟨1, ![84]⟩
abbrev S_ : Shape := ⟨0, ![]⟩
abbrev S20000 : Shape := ⟨1, ![20000]⟩
abbrev S20000x1 : Shape := ⟨2, ![20000, 1]⟩
abbrev S6000 : Shape := ⟨1, ![6000]⟩
abbrev S144 : Shape := ⟨1, ![144]⟩
abbrev S6144 : Shape := ⟨1, ![6144]⟩
abbrev S6144x1 : Shape := ⟨2, ![6144, 1]⟩
abbrev S4 : Shape := ⟨1, ![4]⟩
abbrev S1x4 : Shape := ⟨2, ![1, 4]⟩
abbrev S6144x4 : Shape := ⟨2, ![6144, 4]⟩
abbrev S24576 : Shape := ⟨1, ![24576]⟩
abbrev S80000 : Shape := ⟨1, ![80000]⟩
abbrev S6x128 : Shape := ⟨2, ![6, 128]⟩
abbrev S768 : Shape := ⟨1, ![768]⟩
abbrev S1x128 : Shape := ⟨2, ![1, 128]⟩
abbrev S128 : Shape := ⟨1, ![128]⟩
abbrev S128x4 : Shape := ⟨2, ![128, 4]⟩
abbrev S24x256 : Shape := ⟨2, ![24, 256]⟩
abbrev S1x1 : Shape := ⟨2, ![1, 1]⟩
abbrev S1x2 : Shape := ⟨2, ![1, 2]⟩
abbrev S256x1 : Shape := ⟨2, ![256, 1]⟩
abbrev S1x256 : Shape := ⟨2, ![1, 256]⟩
abbrev S256x4 : Shape := ⟨2, ![256, 4]⟩
abbrev S4x256 : Shape := ⟨2, ![4, 256]⟩
abbrev S256x256 : Shape := ⟨2, ![256, 256]⟩
abbrev S1x1x256 : Shape := ⟨3, ![1, 1, 256]⟩
abbrev S1 : Shape := ⟨1, ![1]⟩
abbrev S1x1x1 : Shape := ⟨3, ![1, 1, 1]⟩
abbrev S128x1 : Shape := ⟨2, ![128, 1]⟩
abbrev S128x256 : Shape := ⟨2, ![128, 256]⟩
abbrev S128x25088 : Shape := ⟨2, ![128, 25088]⟩
abbrev S128x4096 : Shape := ⟨2, ![128, 4096]⟩
abbrev S128x6272 : Shape := ⟨2, ![128, 6272]⟩
abbrev S6272x1024 : Shape := ⟨2, ![6272, 1024]⟩
abbrev S128x1024 : Shape := ⟨2, ![128, 1024]⟩
abbrev S1x4096 : Shape := ⟨2, ![1, 4096]⟩
abbrev S1x1024 : Shape := ⟨2, ![1, 1024]⟩
abbrev S1x21 : Shape := ⟨2, ![1, 21]⟩
abbrev S1x84 : Shape := ⟨2, ![1, 84]⟩
abbrev S128x21 : Shape := ⟨2, ![128, 21]⟩
abbrev S128x84 : Shape := ⟨2, ![128, 84]⟩
abbrev S4096x256 : Shape := ⟨2, ![4096, 256]⟩
abbrev S256x21 : Shape := ⟨2, ![256, 21]⟩
abbrev S256x84 : Shape := ⟨2, ![256, 84]⟩
abbrev S21x128x4 : Shape := ⟨3, ![21, 128, 4]⟩
abbrev S4x21x128 : Shape := ⟨3, ![4, 21, 128]⟩
abbrev S4x128 : Shape := ⟨2, ![4, 128]⟩
abbrev S1x21x128 : Shape := ⟨3, ![1, 21, 128]⟩
abbrev S21x128 : Shape := ⟨2, ![21, 128]⟩
abbrev S128x21x4 : Shape := ⟨3, ![128, 21, 4]⟩

abbrev nBuf : Table → Nat
  | .hbm => 59
  | .local .tc .vmem => 26
  | .local .tc .smem => 2
  | .local .scVector .vmem => 2
  | _ => 0

abbrev bufTy : (tb : Table) → Fin (nBuf tb) → BufTy
  | .hbm, ⟨0, _⟩ => ⟨S20000x2, .f32⟩
  | .hbm, ⟨1, _⟩ => ⟨S20000x4, .f32⟩
  | .hbm, ⟨2, _⟩ => ⟨S128x512x7x7, .f32⟩
  | .hbm, ⟨3, _⟩ => ⟨S25088x4096, .f32⟩
  | .hbm, ⟨4, _⟩ => ⟨S4096, .f32⟩
  | .hbm, ⟨5, _⟩ => ⟨S4096x1024, .f32⟩
  | .hbm, ⟨6, _⟩ => ⟨S1024, .f32⟩
  | .hbm, ⟨7, _⟩ => ⟨S1024x21, .f32⟩
  | .hbm, ⟨8, _⟩ => ⟨S21, .f32⟩
  | .hbm, ⟨9, _⟩ => ⟨S1024x84, .f32⟩
  | .hbm, ⟨10, _⟩ => ⟨S84, .f32⟩
  | .hbm, ⟨11, _⟩ => ⟨S_, .f32⟩
  | .hbm, ⟨12, _⟩ => ⟨S20000, .f32⟩
  | .hbm, ⟨13, _⟩ => ⟨S_, .f32⟩
  | .hbm, ⟨14, _⟩ => ⟨S20000, .f32⟩
  | .hbm, ⟨15, _⟩ => ⟨S20000, .f32⟩
  | .hbm, ⟨16, _⟩ => ⟨S20000x1, .f32⟩
  | .hbm, ⟨17, _⟩ => ⟨S20000x2, .f32⟩
  | .hbm, ⟨18, _⟩ => ⟨S20000x2, .f32⟩
  | .hbm, ⟨19, _⟩ => ⟨S20000x2, .f32⟩
  | .hbm, ⟨20, _⟩ => ⟨S_, .f32⟩
  | .hbm, ⟨21, _⟩ => ⟨S20000, .f32⟩
  | .hbm, ⟨22, _⟩ => ⟨S20000x1, .f32⟩
  | .hbm, ⟨23, _⟩ => ⟨S20000x2, .f32⟩
  | .hbm, ⟨24, _⟩ => ⟨S20000x2, .f32⟩
  | .hbm, ⟨25, _⟩ => ⟨S20000x1, .f32⟩
  | .hbm, ⟨26, _⟩ => ⟨S20000, .f32⟩
  | .hbm, ⟨27, _⟩ => ⟨S6000, .f32⟩
  | .hbm, ⟨28, _⟩ => ⟨S6000, .i32⟩
  | .hbm, ⟨29, _⟩ => ⟨S_, .i32⟩
  | .hbm, ⟨30, _⟩ => ⟨S144, .i32⟩
  | .hbm, ⟨31, _⟩ => ⟨S6144, .i32⟩
  | .hbm, ⟨32, _⟩ => ⟨S6144x1, .i32⟩
  | .hbm, ⟨33, _⟩ => ⟨S_, .i32⟩
  | .hbm, ⟨34, _⟩ => ⟨S6144x1, .i32⟩
  | .hbm, ⟨35, _⟩ => ⟨S6144x1, .i32⟩
  | .hbm, ⟨36, _⟩ => ⟨S4, .i32⟩
  | .hbm, ⟨37, _⟩ => ⟨S1x4, .i32⟩
  | .hbm, ⟨38, _⟩ => ⟨S6144x4, .i32⟩
  | .hbm, ⟨39, _⟩ => ⟨S6144x4, .i32⟩
  | .hbm, ⟨40, _⟩ => ⟨S6144x4, .i32⟩
  | .hbm, ⟨41, _⟩ => ⟨S24576, .i32⟩
  | .hbm, ⟨42, _⟩ => ⟨S80000, .f32⟩
  | .hbm, ⟨43, _⟩ => ⟨S24576, .f32⟩
  | .hbm, ⟨44, _⟩ => ⟨S6144x4, .f32⟩
  | .hbm, ⟨45, _⟩ => ⟨S128x4, .f32⟩
  | .hbm, ⟨46, _⟩ => ⟨S128x25088, .f32⟩
  | .hbm, ⟨47, _⟩ => ⟨S128x4096, .f32⟩
  | .hbm, ⟨48, _⟩ => ⟨S1x4096, .f32⟩
  | .hbm, ⟨49, _⟩ => ⟨S1x1024, .f32⟩
  | .hbm, ⟨50, _⟩ => ⟨S1x21, .f32⟩
  | .hbm, ⟨51, _⟩ => ⟨S1x84, .f32⟩
  | .hbm, ⟨52, _⟩ => ⟨S128x21, .f32⟩
  | .hbm, ⟨53, _⟩ => ⟨S128x84, .f32⟩
  | .hbm, ⟨54, _⟩ => ⟨S21x128x4, .f32⟩
  | .hbm, ⟨55, _⟩ => ⟨S4x21x128, .f32⟩
  | .hbm, ⟨56, _⟩ => ⟨S4x128, .f32⟩
  | .hbm, ⟨57, _⟩ => ⟨S4x21x128, .f32⟩
  | .hbm, ⟨58, _⟩ => ⟨S128x21x4, .f32⟩
  | .local .tc .vmem, ⟨0, _⟩ => ⟨S6144x4, .f32⟩
  | .local .tc .vmem, ⟨1, _⟩ => ⟨S128x4, .f32⟩
  | .local .tc .vmem, ⟨2, _⟩ => ⟨S24x256, .f32⟩
  | .local .tc .vmem, ⟨3, _⟩ => ⟨S128x6272, .f32⟩
  | .local .tc .vmem, ⟨4, _⟩ => ⟨S128x6272, .f32⟩
  | .local .tc .vmem, ⟨5, _⟩ => ⟨S6272x1024, .f32⟩
  | .local .tc .vmem, ⟨6, _⟩ => ⟨S6272x1024, .f32⟩
  | .local .tc .vmem, ⟨7, _⟩ => ⟨S128x1024, .f32⟩
  | .local .tc .vmem, ⟨8, _⟩ => ⟨S128x1024, .f32⟩
  | .local .tc .vmem, ⟨9, _⟩ => ⟨S128x4096, .f32⟩
  | .local .tc .vmem, ⟨10, _⟩ => ⟨S1x4096, .f32⟩
  | .local .tc .vmem, ⟨11, _⟩ => ⟨S4096x256, .f32⟩
  | .local .tc .vmem, ⟨12, _⟩ => ⟨S4096x256, .f32⟩
  | .local .tc .vmem, ⟨13, _⟩ => ⟨S1x256, .f32⟩
  | .local .tc .vmem, ⟨14, _⟩ => ⟨S1x256, .f32⟩
  | .local .tc .vmem, ⟨15, _⟩ => ⟨S256x21, .f32⟩
  | .local .tc .vmem, ⟨16, _⟩ => ⟨S256x21, .f32⟩
  | .local .tc .vmem, ⟨17, _⟩ => ⟨S1x21, .f32⟩
  | .local .tc .vmem, ⟨18, _⟩ => ⟨S256x84, .f32⟩
  | .local .tc .vmem, ⟨19, _⟩ => ⟨S256x84, .f32⟩
  | .local .tc .vmem, ⟨20, _⟩ => ⟨S1x84, .f32⟩
  | .local .tc .vmem, ⟨21, _⟩ => ⟨S128x21, .f32⟩
  | .local .tc .vmem, ⟨22, _⟩ => ⟨S128x84, .f32⟩
  | .local .tc .vmem, ⟨23, _⟩ => ⟨S4x21x128, .f32⟩
  | .local .tc .vmem, ⟨24, _⟩ => ⟨S4x128, .f32⟩
  | .local .tc .vmem, ⟨25, _⟩ => ⟨S4x21x128, .f32⟩
  | .local .tc .smem, ⟨0, _⟩ => ⟨S1x1, .f32⟩
  | .local .tc .smem, ⟨1, _⟩ => ⟨S1x2, .f32⟩
  | .local .scVector .vmem, ⟨0, _⟩ => ⟨S6x128, .i32⟩
  | .local .scVector .vmem, ⟨1, _⟩ => ⟨S768, .f32⟩
  | _, _ => ⟨S20000x2, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .smem, ⟨0, _⟩ => true
  | .smem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 33 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTables nBuf rfl bufTy 4 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_values : Ref sig .tc := ⟨.hbm, 27, rfl⟩
abbrev main_indices : Ref sig .tc := ⟨.hbm, 28, rfl⟩
abbrev main_c : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_c_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34_0 : Ref sig .tc := ⟨.hbm, 52, rfl⟩
abbrev main_v34_1 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v23_scv : Ref sig .scVector := ⟨.hbm, 41, rfl⟩
abbrev main_v24_scv : Ref sig .scVector := ⟨.hbm, 42, rfl⟩
abbrev main_v25_scv : Ref sig .scVector := ⟨.hbm, 43, rfl⟩
abbrev cc1_stg0_0 : Ref sig .tc := ⟨.vmem, 0, rfl⟩
abbrev cc1_stg1_0 : Ref sig .tc := ⟨.vmem, 1, rfl⟩
abbrev cc1_scratch0 : Ref sig .tc := ⟨.vmem, 2, rfl⟩
abbrev cc2_stg0_0 : Ref sig .tc := ⟨.vmem, 3, rfl⟩
abbrev cc2_stg0_1 : Ref sig .tc := ⟨.vmem, 4, rfl⟩
abbrev cc2_stg1_0 : Ref sig .tc := ⟨.vmem, 5, rfl⟩
abbrev cc2_stg1_1 : Ref sig .tc := ⟨.vmem, 6, rfl⟩
abbrev cc2_stg2_0 : Ref sig .tc := ⟨.vmem, 7, rfl⟩
abbrev cc2_stg2_1 : Ref sig .tc := ⟨.vmem, 8, rfl⟩
abbrev cc3_stg0_0 : Ref sig .tc := ⟨.vmem, 9, rfl⟩
abbrev cc3_stg1_0 : Ref sig .tc := ⟨.vmem, 10, rfl⟩
abbrev cc3_stg2_0 : Ref sig .tc := ⟨.vmem, 11, rfl⟩
abbrev cc3_stg2_1 : Ref sig .tc := ⟨.vmem, 12, rfl⟩
abbrev cc3_stg3_0 : Ref sig .tc := ⟨.vmem, 13, rfl⟩
abbrev cc3_stg3_1 : Ref sig .tc := ⟨.vmem, 14, rfl⟩
abbrev cc3_stg4_0 : Ref sig .tc := ⟨.vmem, 15, rfl⟩
abbrev cc3_stg4_1 : Ref sig .tc := ⟨.vmem, 16, rfl⟩
abbrev cc3_stg5_0 : Ref sig .tc := ⟨.vmem, 17, rfl⟩
abbrev cc3_stg6_0 : Ref sig .tc := ⟨.vmem, 18, rfl⟩
abbrev cc3_stg6_1 : Ref sig .tc := ⟨.vmem, 19, rfl⟩
abbrev cc3_stg7_0 : Ref sig .tc := ⟨.vmem, 20, rfl⟩
abbrev cc3_stg8_0 : Ref sig .tc := ⟨.vmem, 21, rfl⟩
abbrev cc3_stg9_0 : Ref sig .tc := ⟨.vmem, 22, rfl⟩
abbrev cc4_stg0_0 : Ref sig .tc := ⟨.vmem, 23, rfl⟩
abbrev cc4_stg1_0 : Ref sig .tc := ⟨.vmem, 24, rfl⟩
abbrev cc4_stg2_0 : Ref sig .tc := ⟨.vmem, 25, rfl⟩
abbrev cc1_scratch1 : Ref sig .tc := ⟨.smem, 0, rfl⟩
abbrev cc1_scratch2 : Ref sig .tc := ⟨.smem, 1, rfl⟩
abbrev cc0_scratch0 : Ref sig .scVector := ⟨.vmem, 0, rfl⟩
abbrev cc0_scratch1 : Ref sig .scVector := ⟨.vmem, 1, rfl⟩
abbrev cc1_sem0_0 : DmaSem sig := 8
abbrev cc1_sem1_0 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc3_sem0_0 : DmaSem sig := 16
abbrev cc3_sem1_0 : DmaSem sig := 17
abbrev cc3_sem2_0 : DmaSem sig := 18
abbrev cc3_sem2_1 : DmaSem sig := 19
abbrev cc3_sem3_0 : DmaSem sig := 20
abbrev cc3_sem3_1 : DmaSem sig := 21
abbrev cc3_sem4_0 : DmaSem sig := 22
abbrev cc3_sem4_1 : DmaSem sig := 23
abbrev cc3_sem5_0 : DmaSem sig := 24
abbrev cc3_sem6_0 : DmaSem sig := 25
abbrev cc3_sem6_1 : DmaSem sig := 26
abbrev cc3_sem7_0 : DmaSem sig := 27
abbrev cc3_sem8_0 : DmaSem sig := 28
abbrev cc3_sem9_0 : DmaSem sig := 29
abbrev cc4_sem0_0 : DmaSem sig := 30
abbrev cc4_sem1_0 : DmaSem sig := 31
abbrev cc4_sem2_0 : DmaSem sig := 32
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c768_i32 : BitVec 32 := 768#32
  let v2 : BitVec 32 := Scalar.muli v1 c768_i32
  let v3 : BitVec 32 := Scalar.addi v2 c0_i32
  ![v3.toNat]
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c768_i32 : BitVec 32 := 768#32
  let v2 : BitVec 32 := Scalar.muli v1 c768_i32
  ![v2.toNat]
abbrev grid1 : Pipeline.Grid := .none

@[reducible] def k1_t1_loop : Scf.Loop 32 :=
  let c0_i32 : BitVec 32 := 0#32
  let c24_i32 : BitVec 32 := 24#32
  let v12 : BitVec 32 := Scalar.addi c0_i32 c24_i32
  let c1_i32 : BitVec 32 := 1#32
  ⟨c0_i32, v12, c1_i32⟩
def k1_off1 (k1_t1 : Fin k1_t1_loop.trips) : Fin 2 → Nat :=
  let c0_i32 : BitVec 32 := 0#32
  let c1_i32 : BitVec 32 := 1#32
  let arg5 : BitVec 32 := Scf.iv c0_i32 c1_i32 k1_t1
  let c256_i32 : BitVec 32 := 256#32
  let v29 : BitVec 32 := Scalar.muli arg5 c256_i32
  let v30 : Index := Scalar.indexCast v29
  let c0_25 : Index := 0#32
  ![v30.toNat, 0]
@[reducible] def k1_t2_loop (k1_t1 : Fin k1_t1_loop.trips) : Scf.Loop 32 :=
  let c0_i32_28 : BitVec 32 := 0#32
  let c0_i32 : BitVec 32 := 0#32
  let c1_i32 : BitVec 32 := 1#32
  let arg5 : BitVec 32 := Scf.iv c0_i32 c1_i32 k1_t1
  let v44 : BitVec 32 := Scalar.subi arg5 c0_i32_28
  let c1_i32_29 : BitVec 32 := 1#32
  let v46 : BitVec 32 := Scalar.divsi v44 c1_i32_29
  let v47 : BitVec 32 := Scalar.muli v46 c1_i32_29
  let v48 : BitVec 32 := Scalar.addi c0_i32_28 v47
  let c1_i32_30 : BitVec 32 := 1#32
  ⟨c0_i32_28, v48, c1_i32_30⟩
def k1_off2 (k1_t1 : Fin k1_t1_loop.trips) (k1_t2 : Fin (k1_t2_loop k1_t1).trips) : Fin 2 → Nat :=
  let c0_i32_28 : BitVec 32 := 0#32
  let c1_i32_30 : BitVec 32 := 1#32
  let arg6 : BitVec 32 := Scf.iv c0_i32_28 c1_i32_30 k1_t2
  let c256_i32_48 : BitVec 32 := 256#32
  let v117 : BitVec 32 := Scalar.muli arg6 c256_i32_48
  let v118 : Index := Scalar.indexCast v117
  let c0_49 : Index := 0#32
  ![v118.toNat, 0]
def k1_off3 (k1_t1 : Fin k1_t1_loop.trips) (k1_t2 : Fin (k1_t2_loop k1_t1).trips) : Fin 2 → Nat :=
  let c0_i32_28 : BitVec 32 := 0#32
  let c1_i32_30 : BitVec 32 := 1#32
  let arg6 : BitVec 32 := Scf.iv c0_i32_28 c1_i32_30 k1_t2
  let v125 : Index := Scalar.indexCast arg6
  let c0_50 : Index := 0#32
  ![v125.toNat, 0]
@[reducible] def k1_t3_loop (k1_t1 : Fin k1_t1_loop.trips) : Scf.Loop 32 :=
  let c0_i32_28 : BitVec 32 := 0#32
  let c0_i32 : BitVec 32 := 0#32
  let c1_i32 : BitVec 32 := 1#32
  let arg5 : BitVec 32 := Scf.iv c0_i32 c1_i32 k1_t1
  let v44 : BitVec 32 := Scalar.subi arg5 c0_i32_28
  let c1_i32_29 : BitVec 32 := 1#32
  let v46 : BitVec 32 := Scalar.divsi v44 c1_i32_29
  let v47 : BitVec 32 := Scalar.muli v46 c1_i32_29
  let v48 : BitVec 32 := Scalar.addi c0_i32_28 v47
  let v45 : BitVec 32 := Scalar.addi c0_i32_28 v44
  let c1_i32_31 : BitVec 32 := 1#32
  ⟨v48, v45, c1_i32_31⟩
def k1_off4 (k1_t1 : Fin k1_t1_loop.trips) (k1_t3 : Fin (k1_t3_loop k1_t1).trips) : Fin 2 → Nat :=
  let c0_i32_28 : BitVec 32 := 0#32
  let c0_i32 : BitVec 32 := 0#32
  let c1_i32 : BitVec 32 := 1#32
  let arg5 : BitVec 32 := Scf.iv c0_i32 c1_i32 k1_t1
  let v44 : BitVec 32 := Scalar.subi arg5 c0_i32_28
  let c1_i32_29 : BitVec 32 := 1#32
  let v46 : BitVec 32 := Scalar.divsi v44 c1_i32_29
  let v47 : BitVec 32 := Scalar.muli v46 c1_i32_29
  let v48 : BitVec 32 := Scalar.addi c0_i32_28 v47
  let c1_i32_31 : BitVec 32 := 1#32
  let arg6 : BitVec 32 := Scf.iv v48 c1_i32_31 k1_t3
  let c256_i32_48 : BitVec 32 := 256#32
  let v117 : BitVec 32 := Scalar.muli arg6 c256_i32_48
  let v118 : Index := Scalar.indexCast v117
  let c0_49 : Index := 0#32
  ![v118.toNat, 0]
def k1_off5 (k1_t1 : Fin k1_t1_loop.trips) (k1_t3 : Fin (k1_t3_loop k1_t1).trips) : Fin 2 → Nat :=
  let c0_i32_28 : BitVec 32 := 0#32
  let c0_i32 : BitVec 32 := 0#32
  let c1_i32 : BitVec 32 := 1#32
  let arg5 : BitVec 32 := Scf.iv c0_i32 c1_i32 k1_t1
  let v44 : BitVec 32 := Scalar.subi arg5 c0_i32_28
  let c1_i32_29 : BitVec 32 := 1#32
  let v46 : BitVec 32 := Scalar.divsi v44 c1_i32_29
  let v47 : BitVec 32 := Scalar.muli v46 c1_i32_29
  let v48 : BitVec 32 := Scalar.addi c0_i32_28 v47
  let c1_i32_31 : BitVec 32 := 1#32
  let arg6 : BitVec 32 := Scf.iv v48 c1_i32_31 k1_t3
  let v125 : Index := Scalar.indexCast arg6
  let c0_50 : Index := 0#32
  ![v125.toNat, 0]
def k1_cond1 (v26 : BitVec 1) : BitVec 1 :=
  let v27 : BitVec 32 := Scalar.extui v26
  let c0_i32_24 : BitVec 32 := 0#32
  let v28 : BitVec 1 := Scalar.cmpi .ne v27 c0_i32_24
  v28

def k1_off6 (k1_t1 : Fin k1_t1_loop.trips) : Fin 2 → Nat :=
  let c0_i32 : BitVec 32 := 0#32
  let c1_i32 : BitVec 32 := 1#32
  let arg5 : BitVec 32 := Scf.iv c0_i32 c1_i32 k1_t1
  let v106 : Index := Scalar.indexCast arg5
  let c0_42 : Index := 0#32
  ![v106.toNat, 0]
@[reducible] def k1_t4_loop : Scf.Loop 32 :=
  let c0_i32_17 : BitVec 32 := 0#32
  let c24_i32_18 : BitVec 32 := 24#32
  let v24 : BitVec 32 := Scalar.addi c0_i32_17 c24_i32_18
  let c1_i32_19 : BitVec 32 := 1#32
  ⟨c0_i32_17, v24, c1_i32_19⟩
def k1_off7 (k1_t4 : Fin k1_t4_loop.trips) : Fin 2 → Nat :=
  let c0_i32_17 : BitVec 32 := 0#32
  let c1_i32_19 : BitVec 32 := 1#32
  let arg5 : BitVec 32 := Scf.iv c0_i32_17 c1_i32_19 k1_t4
  let v32 : Index := Scalar.indexCast arg5
  let c0_28 : Index := 0#32
  ![v32.toNat, 0]
def k1_off8 (k1_t4 : Fin k1_t4_loop.trips) : Fin 2 → Nat :=
  let c0_i32_17 : BitVec 32 := 0#32
  let c1_i32_19 : BitVec 32 := 1#32
  let arg5 : BitVec 32 := Scf.iv c0_i32_17 c1_i32_19 k1_t4
  let c256_i32_38 : BitVec 32 := 256#32
  let v65 : BitVec 32 := Scalar.muli arg5 c256_i32_38
  let v66 : Index := Scalar.indexCast v65
  let c0_39 : Index := 0#32
  ![v66.toNat, 0]
abbrev stage1_0 : Fin 1 → Memref sig .tc .vmem S6144x4 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S128x4 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev grid2 : Pipeline.Grid := ⟨2, ![4, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage2_0 : Fin 2 → Memref sig .tc .vmem S128x6272 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S6272x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S128x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S128x4096 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S1x4096 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S4096x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S256x21 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S1x21 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S256x84 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 1 → Memref sig .tc .vmem S1x84 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S128x21 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S128x84 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev grid4 : Pipeline.Grid := .none

abbrev stage4_0 : Fin 1 → Memref sig .tc .vmem S4x21x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))

abbrev stage4_1 : Fin 1 → Memref sig .tc .vmem S4x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))

abbrev stage4_2 : Fin 1 → Memref sig .tc .vmem S4x21x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S20000x2 : Shape := ⟨2, ![20000, 2]⟩
abbrev S20000x4 : Shape := ⟨2, ![20000, 4]⟩
abbrev S128x512x7x7 : Shape := ⟨4, ![128, 512, 7, 7]⟩
abbrev S25088x4096 : Shape := ⟨2, ![25088, 4096]⟩
abbrev S4096 : Shape := ⟨1, ![4096]⟩
abbrev S4096x1024 : Shape := ⟨2, ![4096, 1024]⟩
abbrev S1024 : Shape := ⟨1, ![1024]⟩
abbrev S1024x21 : Shape := ⟨2, ![1024, 21]⟩
abbrev S21 : Shape := ⟨1, ![21]⟩
abbrev S1024x84 : Shape := ⟨2, ![1024, 84]⟩
abbrev S84 : Shape := ⟨1, ![84]⟩
abbrev S_ : Shape := ⟨0, ![]⟩
abbrev S20000 : Shape := ⟨1, ![20000]⟩
abbrev S20000x1 : Shape := ⟨2, ![20000, 1]⟩
abbrev S6000 : Shape := ⟨1, ![6000]⟩
abbrev S6000x1 : Shape := ⟨2, ![6000, 1]⟩
abbrev S6000x4 : Shape := ⟨2, ![6000, 4]⟩
abbrev S1x4 : Shape := ⟨2, ![1, 4]⟩
abbrev S4 : Shape := ⟨1, ![4]⟩
abbrev S1 : Shape := ⟨1, ![1]⟩
abbrev S300 : Shape := ⟨1, ![300]⟩
abbrev S300x1 : Shape := ⟨2, ![300, 1]⟩
abbrev S300x4 : Shape := ⟨2, ![300, 4]⟩
abbrev S128x4 : Shape := ⟨2, ![128, 4]⟩
abbrev S128x25088 : Shape := ⟨2, ![128, 25088]⟩
abbrev S128x4096 : Shape := ⟨2, ![128, 4096]⟩
abbrev S1x4096 : Shape := ⟨2, ![1, 4096]⟩
abbrev S128x1024 : Shape := ⟨2, ![128, 1024]⟩
abbrev S1x1024 : Shape := ⟨2, ![1, 1024]⟩
abbrev S128x21 : Shape := ⟨2, ![128, 21]⟩
abbrev S1x21 : Shape := ⟨2, ![1, 21]⟩
abbrev S128x84 : Shape := ⟨2, ![128, 84]⟩
abbrev S1x84 : Shape := ⟨2, ![1, 84]⟩
abbrev S21x128x4 : Shape := ⟨3, ![21, 128, 4]⟩
abbrev S128x1 : Shape := ⟨2, ![128, 1]⟩
abbrev S128 : Shape := ⟨1, ![128]⟩
abbrev S21x128x1 : Shape := ⟨3, ![21, 128, 1]⟩
abbrev S21x128 : Shape := ⟨2, ![21, 128]⟩
abbrev S1x128 : Shape := ⟨2, ![1, 128]⟩
abbrev S128x21x4 : Shape := ⟨3, ![128, 21, 4]⟩

abbrev nBuf : Space → Nat
  | .hbm => 257
  | .vmem => 0
  | .smem => 0
  | _ => 0

abbrev hbmTy0_0 (i : Nat) : BufTy := match i % 128 with
  | 0 => ⟨S20000x2, .f32⟩
  | 1 => ⟨S20000x4, .f32⟩
  | 2 => ⟨S128x512x7x7, .f32⟩
  | 3 => ⟨S25088x4096, .f32⟩
  | 4 => ⟨S4096, .f32⟩
  | 5 => ⟨S4096x1024, .f32⟩
  | 6 => ⟨S1024, .f32⟩
  | 7 => ⟨S1024x21, .f32⟩
  | 8 => ⟨S21, .f32⟩
  | 9 => ⟨S1024x84, .f32⟩
  | 10 => ⟨S84, .f32⟩
  | 11 => ⟨S_, .f32⟩
  | 12 => ⟨S20000, .f32⟩
  | 13 => ⟨S_, .f32⟩
  | 14 => ⟨S20000, .f32⟩
  | 15 => ⟨S20000, .f32⟩
  | 16 => ⟨S20000x1, .f32⟩
  | 17 => ⟨S20000x2, .f32⟩
  | 18 => ⟨S20000x2, .f32⟩
  | 19 => ⟨S20000x2, .f32⟩
  | 20 => ⟨S_, .f32⟩
  | 21 => ⟨S20000, .f32⟩
  | 22 => ⟨S20000x1, .f32⟩
  | 23 => ⟨S20000x2, .f32⟩
  | 24 => ⟨S20000x2, .f32⟩
  | 25 => ⟨S20000x1, .f32⟩
  | 26 => ⟨S20000, .f32⟩
  | 27 => ⟨S20000, .f32⟩
  | 28 => ⟨S20000, .i32⟩
  | 29 => ⟨S20000, .f32⟩
  | 30 => ⟨S20000, .i32⟩
  | 31 => ⟨S6000, .i32⟩
  | 32 => ⟨S_, .i32⟩
  | 33 => ⟨S6000, .i32⟩
  | 34 => ⟨S6000, .i1⟩
  | 35 => ⟨S_, .i32⟩
  | 36 => ⟨S6000, .i32⟩
  | 37 => ⟨S6000, .i32⟩
  | 38 => ⟨S6000, .i32⟩
  | 39 => ⟨S6000x1, .i32⟩
  | 40 => ⟨S6000x4, .f32⟩
  | 41 => ⟨S6000x1, .f32⟩
  | 42 => ⟨S6000, .f32⟩
  | 43 => ⟨S6000x1, .f32⟩
  | 44 => ⟨S6000, .f32⟩
  | 45 => ⟨S6000, .f32⟩
  | 46 => ⟨S6000x1, .f32⟩
  | 47 => ⟨S6000, .f32⟩
  | 48 => ⟨S6000x1, .f32⟩
  | 49 => ⟨S6000, .f32⟩
  | 50 => ⟨S6000, .f32⟩
  | 51 => ⟨S6000, .f32⟩
  | 52 => ⟨S6000, .i32⟩
  | 53 => ⟨S_, .i1⟩
  | 54 => ⟨S6000, .i1⟩
  | 55 => ⟨S_, .i32⟩
  | 56 => ⟨S_, .i32⟩
  | 57 => ⟨S6000x4, .f32⟩
  | 58 => ⟨S6000, .f32⟩
  | 59 => ⟨S6000, .i32⟩
  | 60 => ⟨S_, .i32⟩
  | 61 => ⟨S_, .i32⟩
  | 62 => ⟨S6000, .i1⟩
  | 63 => ⟨S_, .i32⟩
  | 64 => ⟨S_, .i1⟩
  | 65 => ⟨S_, .i32⟩
  | 66 => ⟨S_, .i32⟩
  | 67 => ⟨S_, .i32⟩
  | 68 => ⟨S_, .i32⟩
  | 69 => ⟨S_, .i1⟩
  | 70 => ⟨S_, .i32⟩
  | 71 => ⟨S_, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S_, .i32⟩
  | 79 => ⟨S_, .i32⟩
  | 80 => ⟨S_, .i32⟩
  | 81 => ⟨S1x4, .f32⟩
  | 82 => ⟨S4, .f32⟩
  | 83 => ⟨S1, .f32⟩
  | 84 => ⟨S_, .f32⟩
  | 85 => ⟨S6000x1, .f32⟩
  | 86 => ⟨S6000, .f32⟩
  | 87 => ⟨S6000, .f32⟩
  | 88 => ⟨S6000, .f32⟩
  | 89 => ⟨S1, .f32⟩
  | 90 => ⟨S_, .f32⟩
  | 91 => ⟨S6000x1, .f32⟩
  | 92 => ⟨S6000, .f32⟩
  | 93 => ⟨S6000, .f32⟩
  | 94 => ⟨S6000, .f32⟩
  | 95 => ⟨S1, .f32⟩
  | 96 => ⟨S_, .f32⟩
  | 97 => ⟨S6000x1, .f32⟩
  | 98 => ⟨S6000, .f32⟩
  | 99 => ⟨S6000, .f32⟩
  | 100 => ⟨S6000, .f32⟩
  | 101 => ⟨S1, .f32⟩
  | 102 => ⟨S_, .f32⟩
  | 103 => ⟨S6000x1, .f32⟩
  | 104 => ⟨S6000, .f32⟩
  | 105 => ⟨S6000, .f32⟩
  | 106 => ⟨S6000, .f32⟩
  | 107 => ⟨S6000, .f32⟩
  | 108 => ⟨S_, .f32⟩
  | 109 => ⟨S6000, .f32⟩
  | 110 => ⟨S6000, .f32⟩
  | 111 => ⟨S6000, .f32⟩
  | 112 => ⟨S_, .f32⟩
  | 113 => ⟨S6000, .f32⟩
  | 114 => ⟨S6000, .f32⟩
  | 115 => ⟨S6000, .f32⟩
  | 116 => ⟨S_, .i32⟩
  | 117 => ⟨S_, .i1⟩
  | 118 => ⟨S_, .i32⟩
  | 119 => ⟨S_, .i32⟩
  | 120 => ⟨S_, .i32⟩
  | 121 => ⟨S_, .i32⟩
  | 122 => ⟨S1, .f32⟩
  | 123 => ⟨S_, .f32⟩
  | 124 => ⟨S6000, .f32⟩
  | 125 => ⟨S6000, .f32⟩
  | 126 => ⟨S6000, .f32⟩
  | 127 => ⟨S_, .f32⟩
  | _ => ⟨S20000x2, .f32⟩

abbrev hbmTy0_1 (i : Nat) : BufTy := match i % 128 with
  | 0 => ⟨S6000, .f32⟩
  | 1 => ⟨S6000, .f32⟩
  | 2 => ⟨S6000, .f32⟩
  | 3 => ⟨S_, .f32⟩
  | 4 => ⟨S6000, .f32⟩
  | 5 => ⟨S6000, .i1⟩
  | 6 => ⟨S_, .i32⟩
  | 7 => ⟨S6000, .i32⟩
  | 8 => ⟨S6000, .i1⟩
  | 9 => ⟨S6000, .i1⟩
  | 10 => ⟨S_, .i32⟩
  | 11 => ⟨S_, .i1⟩
  | 12 => ⟨S_, .i32⟩
  | 13 => ⟨S_, .i32⟩
  | 14 => ⟨S_, .i32⟩
  | 15 => ⟨S_, .i32⟩
  | 16 => ⟨S1, .i1⟩
  | 17 => ⟨S_, .i1⟩
  | 18 => ⟨S6000, .i1⟩
  | 19 => ⟨S6000, .i1⟩
  | 20 => ⟨S6000, .i1⟩
  | 21 => ⟨S6000, .i1⟩
  | 22 => ⟨S_, .i32⟩
  | 23 => ⟨S_, .i32⟩
  | 24 => ⟨S6000, .i1⟩
  | 25 => ⟨S6000, .i32⟩
  | 26 => ⟨S6000, .i1⟩
  | 27 => ⟨S6000, .i32⟩
  | 28 => ⟨S300, .i32⟩
  | 29 => ⟨S_, .i32⟩
  | 30 => ⟨S300, .i32⟩
  | 31 => ⟨S300, .i1⟩
  | 32 => ⟨S_, .i32⟩
  | 33 => ⟨S300, .i32⟩
  | 34 => ⟨S300, .i32⟩
  | 35 => ⟨S300, .i32⟩
  | 36 => ⟨S300x1, .i32⟩
  | 37 => ⟨S300x4, .f32⟩
  | 38 => ⟨S128x4, .f32⟩
  | 39 => ⟨S128x25088, .f32⟩
  | 40 => ⟨S128x4096, .f32⟩
  | 41 => ⟨S1x4096, .f32⟩
  | 42 => ⟨S128x4096, .f32⟩
  | 43 => ⟨S128x4096, .f32⟩
  | 44 => ⟨S128x1024, .f32⟩
  | 45 => ⟨S1x1024, .f32⟩
  | 46 => ⟨S128x1024, .f32⟩
  | 47 => ⟨S128x1024, .f32⟩
  | 48 => ⟨S128x21, .f32⟩
  | 49 => ⟨S1x21, .f32⟩
  | 50 => ⟨S128x21, .f32⟩
  | 51 => ⟨S128x21, .f32⟩
  | 52 => ⟨S128x84, .f32⟩
  | 53 => ⟨S1x84, .f32⟩
  | 54 => ⟨S128x84, .f32⟩
  | 55 => ⟨S128x84, .f32⟩
  | 56 => ⟨S21x128x4, .f32⟩
  | 57 => ⟨S128x1, .f32⟩
  | 58 => ⟨S128, .f32⟩
  | 59 => ⟨S128x1, .f32⟩
  | 60 => ⟨S128, .f32⟩
  | 61 => ⟨S128, .f32⟩
  | 62 => ⟨S128x1, .f32⟩
  | 63 => ⟨S128, .f32⟩
  | 64 => ⟨S128x1, .f32⟩
  | 65 => ⟨S128, .f32⟩
  | 66 => ⟨S128, .f32⟩
  | 67 => ⟨S128x1, .f32⟩
  | 68 => ⟨S128, .f32⟩
  | 69 => ⟨S_, .f32⟩
  | 70 => ⟨S128, .f32⟩
  | 71 => ⟨S128, .f32⟩
  | 72 => ⟨S128, .f32⟩
  | 73 => ⟨S128x1, .f32⟩
  | 74 => ⟨S128, .f32⟩
  | 75 => ⟨S_, .f32⟩
  | 76 => ⟨S128, .f32⟩
  | 77 => ⟨S128, .f32⟩
  | 78 => ⟨S128, .f32⟩
  | 79 => ⟨S21x128x1, .f32⟩
  | 80 => ⟨S21x128, .f32⟩
  | 81 => ⟨S21x128x1, .f32⟩
  | 82 => ⟨S21x128, .f32⟩
  | 83 => ⟨S21x128x1, .f32⟩
  | 84 => ⟨S21x128, .f32⟩
  | 85 => ⟨S21x128x1, .f32⟩
  | 86 => ⟨S21x128, .f32⟩
  | 87 => ⟨S1x128, .f32⟩
  | 88 => ⟨S21x128, .f32⟩
  | 89 => ⟨S21x128, .f32⟩
  | 90 => ⟨S1x128, .f32⟩
  | 91 => ⟨S21x128, .f32⟩
  | 92 => ⟨S21x128, .f32⟩
  | 93 => ⟨S1x128, .f32⟩
  | 94 => ⟨S21x128, .f32⟩
  | 95 => ⟨S21x128, .f32⟩
  | 96 => ⟨S1x128, .f32⟩
  | 97 => ⟨S21x128, .f32⟩
  | 98 => ⟨S21x128, .f32⟩
  | 99 => ⟨S21x128, .f32⟩
  | 100 => ⟨S1x128, .f32⟩
  | 101 => ⟨S21x128, .f32⟩
  | 102 => ⟨S21x128, .f32⟩
  | 103 => ⟨S21x128, .f32⟩
  | 104 => ⟨S1x128, .f32⟩
  | 105 => ⟨S21x128, .f32⟩
  | 106 => ⟨S21x128, .f32⟩
  | 107 => ⟨S_, .f32⟩
  | 108 => ⟨S21x128, .f32⟩
  | 109 => ⟨S21x128, .f32⟩
  | 110 => ⟨S21x128, .f32⟩
  | 111 => ⟨S_, .f32⟩
  | 112 => ⟨S21x128, .f32⟩
  | 113 => ⟨S21x128, .f32⟩
  | 114 => ⟨S21x128, .f32⟩
  | 115 => ⟨S_, .f32⟩
  | 116 => ⟨S21x128, .f32⟩
  | 117 => ⟨S21x128, .f32⟩
  | 118 => ⟨S21x128, .f32⟩
  | 119 => ⟨S_, .f32⟩
  | 120 => ⟨S21x128, .f32⟩
  | 121 => ⟨S21x128, .f32⟩
  | 122 => ⟨S21x128, .f32⟩
  | 123 => ⟨S21x128x1, .f32⟩
  | 124 => ⟨S21x128x1, .f32⟩
  | 125 => ⟨S21x128x1, .f32⟩
  | 126 => ⟨S21x128x1, .f32⟩
  | 127 => ⟨S21x128x4, .f32⟩
  | _ => ⟨S20000x2, .f32⟩

abbrev hbmTy0_2 (i : Nat) : BufTy := match i % 128 with
  | 0 => ⟨S128x21x4, .f32⟩
  | _ => ⟨S20000x2, .f32⟩

abbrev hbmTy (i : Nat) : BufTy := match i / 128 with
  | 0 => hbmTy0_0 i
  | 1 => hbmTy0_1 i
  | 2 => hbmTy0_2 i
  | _ => ⟨S20000x2, .f32⟩

abbrev bufTy : (tb : Table) → Fin (tcTables nBuf tb) → BufTy
  | .hbm, ⟨i, _⟩ => hbmTy i
  | _, _ => ⟨S20000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_call0_v0 : Ref sig .tc := ⟨.hbm, 28, rfl⟩
abbrev main_call0_v1_0 : Ref sig .tc := ⟨.hbm, 29, rfl⟩
abbrev main_v14 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_3 : Ref sig .tc := ⟨.hbm, 53, rfl⟩
abbrev main_v35 : Ref sig .tc := ⟨.hbm, 54, rfl⟩
abbrev main_c_4 : Ref sig .tc := ⟨.hbm, 55, rfl⟩
abbrev main_c_5 : Ref sig .tc := ⟨.hbm, 56, rfl⟩
abbrev main_v36_0 : Ref sig .tc := ⟨.hbm, 57, rfl⟩
abbrev main_v36_1 : Ref sig .tc := ⟨.hbm, 58, rfl⟩
abbrev main_v36_2 : Ref sig .tc := ⟨.hbm, 59, rfl⟩
abbrev main_v36_3 : Ref sig .tc := ⟨.hbm, 60, rfl⟩
abbrev main_v36_4 : Ref sig .tc := ⟨.hbm, 61, rfl⟩
abbrev main_v36_5 : Ref sig .tc := ⟨.hbm, 62, rfl⟩
abbrev main_while0c_c_19 : Ref sig .tc := ⟨.hbm, 63, rfl⟩
abbrev main_while0c_v132 : Ref sig .tc := ⟨.hbm, 64, rfl⟩
abbrev main_while0b_c_19 : Ref sig .tc := ⟨.hbm, 65, rfl⟩
abbrev main_while0b_v132 : Ref sig .tc := ⟨.hbm, 66, rfl⟩
abbrev main_while0b_v133 : Ref sig .tc := ⟨.hbm, 67, rfl⟩
abbrev main_while0b_c_20 : Ref sig .tc := ⟨.hbm, 68, rfl⟩
abbrev main_while0b_v134 : Ref sig .tc := ⟨.hbm, 69, rfl⟩
abbrev main_while0b_c_21 : Ref sig .tc := ⟨.hbm, 70, rfl⟩
abbrev main_while0b_v135 : Ref sig .tc := ⟨.hbm, 71, rfl⟩
abbrev main_while0b_v136 : Ref sig .tc := ⟨.hbm, 72, rfl⟩
abbrev main_while0b_c_22 : Ref sig .tc := ⟨.hbm, 73, rfl⟩
abbrev main_while0b_c_23 : Ref sig .tc := ⟨.hbm, 74, rfl⟩
abbrev main_while0b_v137 : Ref sig .tc := ⟨.hbm, 75, rfl⟩
abbrev main_while0b_c_24 : Ref sig .tc := ⟨.hbm, 76, rfl⟩
abbrev main_while0b_c_25 : Ref sig .tc := ⟨.hbm, 77, rfl⟩
abbrev main_while0b_v138 : Ref sig .tc := ⟨.hbm, 78, rfl⟩
abbrev main_while0b_c_26 : Ref sig .tc := ⟨.hbm, 79, rfl⟩
abbrev main_while0b_v139 : Ref sig .tc := ⟨.hbm, 80, rfl⟩
abbrev main_while0b_v140 : Ref sig .tc := ⟨.hbm, 81, rfl⟩
abbrev main_while0b_v141 : Ref sig .tc := ⟨.hbm, 82, rfl⟩
abbrev main_while0b_v142 : Ref sig .tc := ⟨.hbm, 83, rfl⟩
abbrev main_while0b_v143 : Ref sig .tc := ⟨.hbm, 84, rfl⟩
abbrev main_while0b_v144 : Ref sig .tc := ⟨.hbm, 85, rfl⟩
abbrev main_while0b_v145 : Ref sig .tc := ⟨.hbm, 86, rfl⟩
abbrev main_while0b_v146 : Ref sig .tc := ⟨.hbm, 87, rfl⟩
abbrev main_while0b_v147 : Ref sig .tc := ⟨.hbm, 88, rfl⟩
abbrev main_while0b_v148 : Ref sig .tc := ⟨.hbm, 89, rfl⟩
abbrev main_while0b_v149 : Ref sig .tc := ⟨.hbm, 90, rfl⟩
abbrev main_while0b_v150 : Ref sig .tc := ⟨.hbm, 91, rfl⟩
abbrev main_while0b_v151 : Ref sig .tc := ⟨.hbm, 92, rfl⟩
abbrev main_while0b_v152 : Ref sig .tc := ⟨.hbm, 93, rfl⟩
abbrev main_while0b_v153 : Ref sig .tc := ⟨.hbm, 94, rfl⟩
abbrev main_while0b_v154 : Ref sig .tc := ⟨.hbm, 95, rfl⟩
abbrev main_while0b_v155 : Ref sig .tc := ⟨.hbm, 96, rfl⟩
abbrev main_while0b_v156 : Ref sig .tc := ⟨.hbm, 97, rfl⟩
abbrev main_while0b_v157 : Ref sig .tc := ⟨.hbm, 98, rfl⟩
abbrev main_while0b_v158 : Ref sig .tc := ⟨.hbm, 99, rfl⟩
abbrev main_while0b_v159 : Ref sig .tc := ⟨.hbm, 100, rfl⟩
abbrev main_while0b_v160 : Ref sig .tc := ⟨.hbm, 101, rfl⟩
abbrev main_while0b_v161 : Ref sig .tc := ⟨.hbm, 102, rfl⟩
abbrev main_while0b_v162 : Ref sig .tc := ⟨.hbm, 103, rfl⟩
abbrev main_while0b_v163 : Ref sig .tc := ⟨.hbm, 104, rfl⟩
abbrev main_while0b_v164 : Ref sig .tc := ⟨.hbm, 105, rfl⟩
abbrev main_while0b_v165 : Ref sig .tc := ⟨.hbm, 106, rfl⟩
abbrev main_while0b_v166 : Ref sig .tc := ⟨.hbm, 107, rfl⟩
abbrev main_while0b_cst_27 : Ref sig .tc := ⟨.hbm, 108, rfl⟩
abbrev main_while0b_v167 : Ref sig .tc := ⟨.hbm, 109, rfl⟩
abbrev main_while0b_v168 : Ref sig .tc := ⟨.hbm, 110, rfl⟩
abbrev main_while0b_v169 : Ref sig .tc := ⟨.hbm, 111, rfl⟩
abbrev main_while0b_cst_28 : Ref sig .tc := ⟨.hbm, 112, rfl⟩
abbrev main_while0b_v170 : Ref sig .tc := ⟨.hbm, 113, rfl⟩
abbrev main_while0b_v171 : Ref sig .tc := ⟨.hbm, 114, rfl⟩
abbrev main_while0b_v172 : Ref sig .tc := ⟨.hbm, 115, rfl⟩
abbrev main_while0b_c_29 : Ref sig .tc := ⟨.hbm, 116, rfl⟩
abbrev main_while0b_v173 : Ref sig .tc := ⟨.hbm, 117, rfl⟩
abbrev main_while0b_v174 : Ref sig .tc := ⟨.hbm, 118, rfl⟩
abbrev main_while0b_c_30 : Ref sig .tc := ⟨.hbm, 119, rfl⟩
abbrev main_while0b_v175 : Ref sig .tc := ⟨.hbm, 120, rfl⟩
abbrev main_while0b_v176 : Ref sig .tc := ⟨.hbm, 121, rfl⟩
abbrev main_while0b_v177 : Ref sig .tc := ⟨.hbm, 122, rfl⟩
abbrev main_while0b_v178 : Ref sig .tc := ⟨.hbm, 123, rfl⟩
abbrev main_while0b_v179 : Ref sig .tc := ⟨.hbm, 124, rfl⟩
abbrev main_while0b_v180 : Ref sig .tc := ⟨.hbm, 125, rfl⟩
abbrev main_while0b_v181 : Ref sig .tc := ⟨.hbm, 126, rfl⟩
abbrev main_while0b_cst_31 : Ref sig .tc := ⟨.hbm, 127, rfl⟩
abbrev main_while0b_v182 : Ref sig .tc := ⟨.hbm, 128, rfl⟩
abbrev main_while0b_v183 : Ref sig .tc := ⟨.hbm, 129, rfl⟩
abbrev main_while0b_v184 : Ref sig .tc := ⟨.hbm, 130, rfl⟩
abbrev main_while0b_cst_32 : Ref sig .tc := ⟨.hbm, 131, rfl⟩
abbrev main_while0b_v185 : Ref sig .tc := ⟨.hbm, 132, rfl⟩
abbrev main_while0b_v186 : Ref sig .tc := ⟨.hbm, 133, rfl⟩
abbrev main_while0b_v187 : Ref sig .tc := ⟨.hbm, 134, rfl⟩
abbrev main_while0b_v188 : Ref sig .tc := ⟨.hbm, 135, rfl⟩
abbrev main_while0b_v189 : Ref sig .tc := ⟨.hbm, 136, rfl⟩
abbrev main_while0b_v190 : Ref sig .tc := ⟨.hbm, 137, rfl⟩
abbrev main_while0b_c_33 : Ref sig .tc := ⟨.hbm, 138, rfl⟩
abbrev main_while0b_v191 : Ref sig .tc := ⟨.hbm, 139, rfl⟩
abbrev main_while0b_v192 : Ref sig .tc := ⟨.hbm, 140, rfl⟩
abbrev main_while0b_c_34 : Ref sig .tc := ⟨.hbm, 141, rfl⟩
abbrev main_while0b_v193 : Ref sig .tc := ⟨.hbm, 142, rfl⟩
abbrev main_while0b_v194 : Ref sig .tc := ⟨.hbm, 143, rfl⟩
abbrev main_while0b_v195 : Ref sig .tc := ⟨.hbm, 144, rfl⟩
abbrev main_while0b_v196 : Ref sig .tc := ⟨.hbm, 145, rfl⟩
abbrev main_while0b_v197 : Ref sig .tc := ⟨.hbm, 146, rfl⟩
abbrev main_while0b_v198 : Ref sig .tc := ⟨.hbm, 147, rfl⟩
abbrev main_while0b_v199 : Ref sig .tc := ⟨.hbm, 148, rfl⟩
abbrev main_while0b_v200 : Ref sig .tc := ⟨.hbm, 149, rfl⟩
abbrev main_while0b_c_35 : Ref sig .tc := ⟨.hbm, 150, rfl⟩
abbrev main_while0b_v201 : Ref sig .tc := ⟨.hbm, 151, rfl⟩
abbrev main_v37 : Ref sig .tc := ⟨.hbm, 152, rfl⟩
abbrev main_call1_v0 : Ref sig .tc := ⟨.hbm, 153, rfl⟩
abbrev main_call1_v1_0 : Ref sig .tc := ⟨.hbm, 154, rfl⟩
abbrev main_v38 : Ref sig .tc := ⟨.hbm, 155, rfl⟩
abbrev main_v39 : Ref sig .tc := ⟨.hbm, 156, rfl⟩
abbrev main_c_6 : Ref sig .tc := ⟨.hbm, 157, rfl⟩
abbrev main_v40 : Ref sig .tc := ⟨.hbm, 158, rfl⟩
abbrev main_v41 : Ref sig .tc := ⟨.hbm, 159, rfl⟩
abbrev main_c_7 : Ref sig .tc := ⟨.hbm, 160, rfl⟩
abbrev main_v42 : Ref sig .tc := ⟨.hbm, 161, rfl⟩
abbrev main_v43 : Ref sig .tc := ⟨.hbm, 162, rfl⟩
abbrev main_v44 : Ref sig .tc := ⟨.hbm, 163, rfl⟩
abbrev main_v45 : Ref sig .tc := ⟨.hbm, 164, rfl⟩
abbrev main_v46 : Ref sig .tc := ⟨.hbm, 165, rfl⟩
abbrev main_v47 : Ref sig .tc := ⟨.hbm, 166, rfl⟩
abbrev main_v48 : Ref sig .tc := ⟨.hbm, 167, rfl⟩
abbrev main_v49 : Ref sig .tc := ⟨.hbm, 168, rfl⟩
abbrev main_v50 : Ref sig .tc := ⟨.hbm, 169, rfl⟩
abbrev main_v51 : Ref sig .tc := ⟨.hbm, 170, rfl⟩
abbrev main_v52 : Ref sig .tc := ⟨.hbm, 171, rfl⟩
abbrev main_v53 : Ref sig .tc := ⟨.hbm, 172, rfl⟩
abbrev main_v54 : Ref sig .tc := ⟨.hbm, 173, rfl⟩
abbrev main_v55 : Ref sig .tc := ⟨.hbm, 174, rfl⟩
abbrev main_v56 : Ref sig .tc := ⟨.hbm, 175, rfl⟩
abbrev main_v57 : Ref sig .tc := ⟨.hbm, 176, rfl⟩
abbrev main_v58 : Ref sig .tc := ⟨.hbm, 177, rfl⟩
abbrev main_v59 : Ref sig .tc := ⟨.hbm, 178, rfl⟩
abbrev main_v60 : Ref sig .tc := ⟨.hbm, 179, rfl⟩
abbrev main_v61 : Ref sig .tc := ⟨.hbm, 180, rfl⟩
abbrev main_v62 : Ref sig .tc := ⟨.hbm, 181, rfl⟩
abbrev main_v63 : Ref sig .tc := ⟨.hbm, 182, rfl⟩
abbrev main_v64 : Ref sig .tc := ⟨.hbm, 183, rfl⟩
abbrev main_v65 : Ref sig .tc := ⟨.hbm, 184, rfl⟩
abbrev main_v66 : Ref sig .tc := ⟨.hbm, 185, rfl⟩
abbrev main_v67 : Ref sig .tc := ⟨.hbm, 186, rfl⟩
abbrev main_v68 : Ref sig .tc := ⟨.hbm, 187, rfl⟩
abbrev main_v69 : Ref sig .tc := ⟨.hbm, 188, rfl⟩
abbrev main_v70 : Ref sig .tc := ⟨.hbm, 189, rfl⟩
abbrev main_v71 : Ref sig .tc := ⟨.hbm, 190, rfl⟩
abbrev main_v72 : Ref sig .tc := ⟨.hbm, 191, rfl⟩
abbrev main_v73 : Ref sig .tc := ⟨.hbm, 192, rfl⟩
abbrev main_v74 : Ref sig .tc := ⟨.hbm, 193, rfl⟩
abbrev main_v75 : Ref sig .tc := ⟨.hbm, 194, rfl⟩
abbrev main_v76 : Ref sig .tc := ⟨.hbm, 195, rfl⟩
abbrev main_v77 : Ref sig .tc := ⟨.hbm, 196, rfl⟩
abbrev main_cst_8 : Ref sig .tc := ⟨.hbm, 197, rfl⟩
abbrev main_v78 : Ref sig .tc := ⟨.hbm, 198, rfl⟩
abbrev main_v79 : Ref sig .tc := ⟨.hbm, 199, rfl⟩
abbrev main_v80 : Ref sig .tc := ⟨.hbm, 200, rfl⟩
abbrev main_v81 : Ref sig .tc := ⟨.hbm, 201, rfl⟩
abbrev main_v82 : Ref sig .tc := ⟨.hbm, 202, rfl⟩
abbrev main_cst_9 : Ref sig .tc := ⟨.hbm, 203, rfl⟩
abbrev main_v83 : Ref sig .tc := ⟨.hbm, 204, rfl⟩
abbrev main_v84 : Ref sig .tc := ⟨.hbm, 205, rfl⟩
abbrev main_v85 : Ref sig .tc := ⟨.hbm, 206, rfl⟩
abbrev main_v86 : Ref sig .tc := ⟨.hbm, 207, rfl⟩
abbrev main_v87 : Ref sig .tc := ⟨.hbm, 208, rfl⟩
abbrev main_v88 : Ref sig .tc := ⟨.hbm, 209, rfl⟩
abbrev main_v89 : Ref sig .tc := ⟨.hbm, 210, rfl⟩
abbrev main_v90 : Ref sig .tc := ⟨.hbm, 211, rfl⟩
abbrev main_v91 : Ref sig .tc := ⟨.hbm, 212, rfl⟩
abbrev main_v92 : Ref sig .tc := ⟨.hbm, 213, rfl⟩
abbrev main_v93 : Ref sig .tc := ⟨.hbm, 214, rfl⟩
abbrev main_v94 : Ref sig .tc := ⟨.hbm, 215, rfl⟩
abbrev main_v95 : Ref sig .tc := ⟨.hbm, 216, rfl⟩
abbrev main_v96 : Ref sig .tc := ⟨.hbm, 217, rfl⟩
abbrev main_v97 : Ref sig .tc := ⟨.hbm, 218, rfl⟩
abbrev main_v98 : Ref sig .tc := ⟨.hbm, 219, rfl⟩
abbrev main_v99 : Ref sig .tc := ⟨.hbm, 220, rfl⟩
abbrev main_v100 : Ref sig .tc := ⟨.hbm, 221, rfl⟩
abbrev main_v101 : Ref sig .tc := ⟨.hbm, 222, rfl⟩
abbrev main_v102 : Ref sig .tc := ⟨.hbm, 223, rfl⟩
abbrev main_v103 : Ref sig .tc := ⟨.hbm, 224, rfl⟩
abbrev main_v104 : Ref sig .tc := ⟨.hbm, 225, rfl⟩
abbrev main_v105 : Ref sig .tc := ⟨.hbm, 226, rfl⟩
abbrev main_v106 : Ref sig .tc := ⟨.hbm, 227, rfl⟩
abbrev main_v107 : Ref sig .tc := ⟨.hbm, 228, rfl⟩
abbrev main_v108 : Ref sig .tc := ⟨.hbm, 229, rfl⟩
abbrev main_v109 : Ref sig .tc := ⟨.hbm, 230, rfl⟩
abbrev main_v110 : Ref sig .tc := ⟨.hbm, 231, rfl⟩
abbrev main_v111 : Ref sig .tc := ⟨.hbm, 232, rfl⟩
abbrev main_v112 : Ref sig .tc := ⟨.hbm, 233, rfl⟩
abbrev main_v113 : Ref sig .tc := ⟨.hbm, 234, rfl⟩
abbrev main_cst_10 : Ref sig .tc := ⟨.hbm, 235, rfl⟩
abbrev main_v114 : Ref sig .tc := ⟨.hbm, 236, rfl⟩
abbrev main_v115 : Ref sig .tc := ⟨.hbm, 237, rfl⟩
abbrev main_v116 : Ref sig .tc := ⟨.hbm, 238, rfl⟩
abbrev main_cst_11 : Ref sig .tc := ⟨.hbm, 239, rfl⟩
abbrev main_v117 : Ref sig .tc := ⟨.hbm, 240, rfl⟩
abbrev main_v118 : Ref sig .tc := ⟨.hbm, 241, rfl⟩
abbrev main_v119 : Ref sig .tc := ⟨.hbm, 242, rfl⟩
abbrev main_cst_12 : Ref sig .tc := ⟨.hbm, 243, rfl⟩
abbrev main_v120 : Ref sig .tc := ⟨.hbm, 244, rfl⟩
abbrev main_v121 : Ref sig .tc := ⟨.hbm, 245, rfl⟩
abbrev main_v122 : Ref sig .tc := ⟨.hbm, 246, rfl⟩
abbrev main_cst_13 : Ref sig .tc := ⟨.hbm, 247, rfl⟩
abbrev main_v123 : Ref sig .tc := ⟨.hbm, 248, rfl⟩
abbrev main_v124 : Ref sig .tc := ⟨.hbm, 249, rfl⟩
abbrev main_v125 : Ref sig .tc := ⟨.hbm, 250, rfl⟩
abbrev main_v126 : Ref sig .tc := ⟨.hbm, 251, rfl⟩
abbrev main_v127 : Ref sig .tc := ⟨.hbm, 252, rfl⟩
abbrev main_v128 : Ref sig .tc := ⟨.hbm, 253, rfl⟩
abbrev main_v129 : Ref sig .tc := ⟨.hbm, 254, rfl⟩
abbrev main_v130 : Ref sig .tc := ⟨.hbm, 255, rfl⟩
abbrev main_v131 : Ref sig .tc := ⟨.hbm, 256, rfl⟩

abbrev nD : Nat := 1
abbrev τ : Topo := Topo.v7x

variable {F : FTy → Type} [FloatOps F]

abbrev main_while0_count : Scf.Loop 32 := ⟨0#32, 6000#32, 1#32⟩
-- ==== Proof.Setup.lean ====
/-
  The SparseCore call as the launch theorem sees it: the program's configuration, the resource algebra, the arrays the call
  reads and writes, how they are dealt to the thirty-two tiles, and what the handshakes carry.

  The call reads two arrays, the index list `idx` (24576 words) and the flat table `tab` (80000 numbers), and writes one, `out`
  (24576 numbers). Tile `(c, i)` writes the block of 768 elements number `2 * i + c`, and reads both arrays.
-/
module

public import Idealize.ShloMosaic.Lib.SparseCore.Quiescent
public import Idealize.ShloMosaic.Lib.SparseCore.Ops
public import Idealize.ShloMosaic.Lib.SparseCore.Stream
public import Idealize.ShloMosaic.Lib.Batch
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program -/

abbrev ΛP : Labels := Pipeline.Sig (Λ₀ F) (Fin 4) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.nat
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

/-! ## The resource algebra: the handshakes' rounds, the pipelines' rounds, the transfers' counters -/

abbrev UH : Type := URounds (GSem nD τ sig) ℕ
abbrev UP : Type := URounds (GSem nD τ sig) Unit
abbrev UU : Type := (UH × UP) × Counters

local notation "𝕄" => MT nD τ sig (HIx 1) (Elt F) ℕ UU ℕ

/-- The handshakes' part of the algebra, -/
def EH : Emb UH (MT nD τ sig (HIx 1) (Elt F) ℕ UU ℕ) := (Emb.inl : Emb UH (UH × UP)).trans embL
/-- and the pipelines'. -/
def EP : Emb UP (MT nD τ sig (HIx 1) (Elt F) ℕ UU ℕ) := (Emb.inr : Emb UP (UH × UP)).trans embL
instance EH_landsIn : (EH : Emb UH 𝕄).LandsIn (upEmb : UEmb _ 𝕄) := by unfold EH; infer_instance
instance EP_landsIn : (EP : Emb UP 𝕄).LandsIn (upEmb : UEmb _ 𝕄) := by unfold EP; infer_instance

/-! ## The arrays of the call -/

abbrev iLoc (d : Dev nD) : Loc nD τ sig := (SparseCore.T d).loc main_v23
abbrev rLoc (d : Dev nD) : Loc nD τ sig := (SparseCore.T d).loc main_v24
abbrev oLoc (d : Dev nD) : Loc nD τ sig := (SparseCore.T d).loc main_v25

/-- The block number of tile `i` of SparseCore `c`. -/
def blk (c : Fin 2) (i : Fin 16) : Fin 32 := ⟨2 * i.val + c.val, by have := c.isLt; have := i.isLt; omega⟩

theorem odiv : 32 ∣ S24576.size 0 := ⟨768, rfl⟩
/-- Block `w` of the output. -/
abbrev oRect (w : Fin 32) : Rect S24576 := Rect.part (s := S24576) (a₀ := 0) odiv w
abbrev oSet (w : Fin 32) : Finset S24576.Idx := (oRect w).set

/-- Tile `w`'s share of the arrays every tile reads. -/
abbrev shr (w : Fin 32) : PosShare TreeShare := pieceOf fullShare 32 (by decide) w

/-! ## The value: the gathered array -/

/-- The table's index with number `n` (reduced below the table's length, so that it is total). -/
def tabIx (n : ℕ) : S80000.Idx := fun a => ⟨n % 80000, by match a with | 0 => exact Nat.mod_lt _ (by decide)⟩

/-- The gather: at each position the table's element that the index list names there. -/
def gat (ix : S24576.Idx → Elt F .i32) (tab : S80000.Idx → Elt F .f32) : S24576.Idx → Elt F .f32 :=
  fun y => tab (tabIx (BitVec.toNat (ix y)))

/-! ## What the handshakes carry -/

variable (ix : (d : Dev nD) → Buf (Elt F) (iLoc d)) (tab : (d : Dev nD) → Buf (Elt F) (rLoc d)) (o₀ : (d : Dev nD) → Buf (Elt F) (oLoc d))

/-- What goes to tile `w`: its shares of the list and of the table, its block of the output. -/
abbrev goP (d : Dev nD) (w : Fin 32) : sProp 𝕄 :=
  iprop((iLoc d ↦{shr w} ix d) ∗ (rLoc d ↦{shr w} tab d) ∗ (oLoc d ↦[oSet w]{fullShare} o₀ d))
/-- What comes back: the same, the block holding the gathered elements. -/
abbrev tdP (d : Dev nD) (w : Fin 32) : sProp 𝕄 :=
  iprop((iLoc d ↦{shr w} ix d) ∗ (rLoc d ↦{shr w} tab d) ∗ (oLoc d ↦[oSet w]{fullShare} gat (ix d) (tab d)))

abbrev stP (d : Dev nD) (c : Fin 2) : sProp 𝕄 := bigSep Finset.univ fun i : Fin 16 => goP ix tab o₀ d (blk c i)
abbrev dnP (d : Dev nD) (c : Fin 2) : sProp 𝕄 := bigSep Finset.univ fun i : Fin 16 => tdP ix tab d (blk c i)

/-- Each SparseCore is handed its sixteen tiles' parts, each tile its own; they come back with the gathered blocks. -/
def P : (K (F := F)).Pay (nD := nD) (Val := Elt F) (Name := ℕ) (U := UU) where
  st := fun q d c => match q with | 0 => stP ix tab o₀ d (Fin.cast nCore_zero c)
  dn := fun q d c => match q with | 0 => dnP ix tab d (Fin.cast nCore_zero c)
  go := fun q d c i => match q with | 0 => goP ix tab o₀ d (blk (Fin.cast nCore_zero c) (Fin.cast nSub_zero i))
  td := fun q d c i => match q with | 0 => tdP ix tab d (blk (Fin.cast nCore_zero c) (Fin.cast nSub_zero i))
  x := fun _ _ => iprop(emp)

instance P_storable : (P ix tab o₀).IsStorable where
  st q d c := match q with | 0 => (inferInstance : BI.Storable (upEmb : UEmb _ 𝕄) (stP ix tab o₀ d (Fin.cast nCore_zero c)))
  dn q d c := match q with | 0 => (inferInstance : BI.Storable (upEmb : UEmb _ 𝕄) (dnP ix tab d (Fin.cast nCore_zero c)))
  go q d c i := match q with
    | 0 => (inferInstance : BI.Storable (upEmb : UEmb _ 𝕄) (goP ix tab o₀ d (blk (Fin.cast nCore_zero c) (Fin.cast nSub_zero i))))
  td q d c i := match q with
    | 0 => (inferInstance : BI.Storable (upEmb : UEmb _ 𝕄) (tdP ix tab d (blk (Fin.cast nCore_zero c) (Fin.cast nSub_zero i))))

theorem vecSplit : (K (F := F)).VecSplit' (P ix tab o₀) 0 := by
  intro d c
  show stP ix tab o₀ d (Fin.cast nCore_zero c) ⊢ |={Set.univ}=> iprop(
      (bigSep Finset.univ fun i : Fin ((K (F := F)).nSub 0) => goP ix tab o₀ d (blk (Fin.cast nCore_zero c) (Fin.cast nSub_zero i)))
      ∗ ((bigSep Finset.univ fun i : Fin ((K (F := F)).nSub 0) => tdP ix tab d (blk (Fin.cast nCore_zero c) (Fin.cast nSub_zero i)))
          -∗ dnP ix tab d (Fin.cast nCore_zero c)))
  iintro H
  imodintro
  isplitl [H]; · iexact H
  iintro H; iexact H

/-! ## The whole arrays and the tiles' parts -/

/-- A family over the thirty-two blocks is one over the SparseCores and their tiles. -/
def blkEquiv : Fin 2 × Fin 16 ≃ Fin 32 where
  toFun p := blk p.1 p.2
  invFun w := (⟨w.val % 2, Nat.mod_lt _ (by decide)⟩, ⟨w.val / 2, by have := w.isLt; omega⟩)
  left_inv := by
    rintro ⟨c, i⟩
    have := c.isLt
    refine Prod.ext (Fin.ext ?_) (Fin.ext ?_) <;> simp only [blk] <;> omega
  right_inv w := by refine Fin.ext ?_; simp only [blk]; omega

theorem bigSep_blk (Φ : Fin 32 → sProp 𝕄) :
    bigSep Finset.univ Φ = bigSep Finset.univ fun c : Fin 2 => bigSep Finset.univ fun i : Fin 16 => Φ (blk c i) := by
  rw [bigSep_univ_equiv blkEquiv Φ, bigSep_univ_prod]; rfl

theorem o_disjoint : ∀ i ∈ (Finset.univ : Finset (Fin 32)), ∀ j ∈ (Finset.univ : Finset (Fin 32)), i ≠ j → Disjoint (oSet i) (oSet j) :=
  fun _ _ _ _ h => Rect.part_disjoint odiv h
theorem o_cover : (Finset.univ : Finset (Fin 32)).biUnion oSet = Finset.univ := Rect.biUnion_part odiv

theorem oPts_blocks (d : Dev nD) (f : Buf (Elt F) (oLoc d)) :
    (oLoc d ↦{fullShare} f : sProp 𝕄) = bigSep Finset.univ fun w : Fin 32 => oLoc d ↦[oSet w]{fullShare} f := by
  rw [← pointsTo_biUnion Finset.univ (ℓ := oLoc d) oSet o_disjoint, o_cover]; try rfl

/-- All the tiles' parts are the list, the table and the output whole; -/
theorem go_all (d : Dev nD) :
    (bigSep Finset.univ fun c : Fin 2 => stP ix tab o₀ d c)
      = (iprop((iLoc d ↦{fullShare} ix d) ∗ (rLoc d ↦{fullShare} tab d) ∗ (oLoc d ↦{fullShare} o₀ d)) : sProp 𝕄) := by
  rw [oPts_blocks, pointsTo_piecesOf Finset.univ (ix d) (o := 32) (by decide), pointsTo_piecesOf Finset.univ (tab d) (o := 32) (by decide)]
  rw [← bigSep_blk fun w => goP ix tab o₀ d w]
  exact (bigSep_sep Finset.univ _ _).trans (congrArg (fun X : sProp 𝕄 => BI.sep _ X) (bigSep_sep Finset.univ _ _))
/-- and so are the parts that come back. -/
theorem td_all (d : Dev nD) :
    (bigSep Finset.univ fun c : Fin 2 => dnP ix tab d c)
      = (iprop((iLoc d ↦{fullShare} ix d) ∗ (rLoc d ↦{fullShare} tab d) ∗ (oLoc d ↦{fullShare} gat (ix d) (tab d))) : sProp 𝕄) := by
  rw [oPts_blocks d (gat (ix d) (tab d)), pointsTo_piecesOf Finset.univ (ix d) (o := 32) (by decide), pointsTo_piecesOf Finset.univ (tab d) (o := 32) (by decide)]
  rw [← bigSep_blk fun w => tdP ix tab d w]
  exact (bigSep_sep Finset.univ _ _).trans (congrArg (fun X : sProp 𝕄 => BI.sep _ X) (bigSep_sep Finset.univ _ _))

end Cert.Proof.Gather
-- ==== Proof.HostOps.lean ====
/-
  The host operations around the SparseCore call: the operations before it as one list, the operation after it, and what they
  leave in the arrays, as functions of the two arguments.

  Before the call the host computes the foreground score of every box (`scores`), the positions of the 6000 best (`order`), the
  list of the words of the boxes' coordinates (`flatList`, four words for each position, the list of positions extended by 144
  zeros), and the boxes' coordinates as one flat table (`flatTable`). After the call it reads the gathered words four by four.
-/
module

public import proofs.«01_k».proof.Proof.Setup

@[expose] public section

noncomputable section

namespace Cert.Proof.Gather

open Cert.KernelIdeal Cert.KernelIdeal.Gen
open Idealize.ShloMosaic Idealize.ShloMosaic.TcCoe Idealize.ShloMosaic.StableHlo
open Idealize.SL Idealize.SL.Sem

variable {F : FTy → Type} [FloatOps F]

/-! ## What the operations compute -/

/-- The foreground probability of each box: the softmax of its two logits, column 1. -/
def scores (x : (⟨S20000x2, .f32⟩ : BufTy).Contents (Elt F)) : (⟨S20000, .f32⟩ : BufTy).Contents (Elt F) :=
  let mx := maximumf (broadcastInDim S20000 ![] bcast_S_S20000 (constant S_ .f32 0xFF800000#32))
    (Host.reduce FloatOps.maximumf x (constant S_ .f32 0xFF800000#32) reducesTo_S20000x2_S20000_d1 h_S_)
  let e := Host.exp (subf x (broadcastInDim S20000x2 ![0, 1] bcast_S20000x1_S20000x2_0_1 (broadcastInDim S20000x1 ![0] bcast_S20000_S20000x1_0 mx)))
  let sm := Host.reduceAdd e (constant S_ .f32 0x00000000#32) reducesTo_S20000x2_S20000_d1 h_S_
  let p := Host.divf e (broadcastInDim S20000x2 ![0, 1] bcast_S20000x1_S20000x2_0_1 (broadcastInDim S20000x1 ![0] bcast_S20000_S20000x1_0 sm))
  shapeCast S20000 (extractStridedSlice S20000x1 ![0, 1] p slices_S20000x2_S20000x1_0_1) shapeCasts_S20000x1_S20000

/-- The positions of the 6000 best scores, best first. -/
def order (s : (⟨S20000, .f32⟩ : BufTy).Contents (Elt F)) : (⟨S6000, .i32⟩ : BufTy).Contents (Elt F) :=
  (Host.topK S6000 0 (FloatOps.cmpfTotal .gt) s sliceFits_S20000_S6000).2

/-- The positions, then the padding. -/
def pad : (⟨S6000, .i32⟩ : BufTy).Contents (Elt F) → (⟨S144, .i32⟩ : BufTy).Contents (Elt F) → (⟨S6144, .i32⟩ : BufTy).Contents (Elt F) :=
  fun a b => concatenate S6144 0 [⟨S6000, a⟩, ⟨S144, b⟩] concatenates_S6000_S144_S6144_d0

/-- The positions extended by 144 zeros. -/
def padded (o : (⟨S6000, .i32⟩ : BufTy).Contents (Elt F)) : (⟨S6144, .i32⟩ : BufTy).Contents (Elt F) :=
  pad (F := F) o (broadcastInDim S144 ![] bcast_S_S144 (constantI S_ 32 0#32))

/-- The index list of the call: for each position of the extended list its box's four words, `4 * p`, `4 * p + 1`, … -/
def flatList (o : (⟨S6000, .i32⟩ : BufTy).Contents (Elt F)) : (⟨S24576, .i32⟩ : BufTy).Contents (Elt F) :=
  shapeCast S24576 (addi
    (broadcastInDim S6144x4 ![0, 1] bcast_S6144x1_S6144x4_0_1 (muli (broadcastInDim S6144x1 ![0] bcast_S6144_S6144x1_0 (padded (F := F) o))
      (broadcastInDim S6144x1 ![] bcast_S_S6144x1 (constantI S_ 32 4#32))))
    (broadcastInDim S6144x4 ![0, 1] bcast_S1x4_S6144x4_0_1 (broadcastInDim S1x4 ![1] bcast_S4_S1x4_1 (iotaInDim S4 32 0))))
    shapeCasts_S6144x4_S24576

/-- The boxes' coordinates in one line. -/
def flatTable (r : (⟨S20000x4, .f32⟩ : BufTy).Contents (Elt F)) : (⟨S80000, .f32⟩ : BufTy).Contents (Elt F) :=
  shapeCast S80000 r shapeCasts_S20000x4_S80000

/-- The gathered words, four to a row. -/
def rowsOf (g : (⟨S24576, .f32⟩ : BufTy).Contents (Elt F)) : (⟨S6144x4, .f32⟩ : BufTy).Contents (Elt F) :=
  shapeCast S6144x4 g shapeCasts_S24576_S6144x4

/-! ## The operations -/

/-- The operations before the call, in order. -/
abbrev preOps : List (HloOp τ sig (Elt F)) :=
  [ nullary main_cst (constant S_ .f32 0xFF800000#32),
    binary main_arg0 main_cst main_v0 ((fun x v => Host.reduce FloatOps.maximumf x v reducesTo_S20000x2_S20000_d1 h_S_) : (⟨S20000x2, .f32⟩ : BufTy).Contents (Elt F) → (⟨S_, .f32⟩ : BufTy).Contents (Elt F) → (⟨S20000, .f32⟩ : BufTy).Contents (Elt F)),
    nullary main_cst_0 (constant S_ .f32 0xFF800000#32),
    unary main_cst_0 main_v1 (broadcastInDim S20000 ![] bcast_S_S20000 : (⟨S_, .f32⟩ : BufTy).Contents (Elt F) → (⟨S20000, .f32⟩ : BufTy).Contents (Elt F)),
    binary main_v1 main_v0 main_v2 (maximumf : (⟨S20000, .f32⟩ : BufTy).Contents (Elt F) → (⟨S20000, .f32⟩ : BufTy).Contents (Elt F) → (⟨S20000, .f32⟩ : BufTy).Contents (Elt F)),
    unary main_v2 main_v3 (broadcastInDim S20000x1 ![0] bcast_S20000_S20000x1_0 : (⟨S20000, .f32⟩ : BufTy).Contents (Elt F) → (⟨S20000x1, .f32⟩ : BufTy).Contents (Elt F)),
    unary main_v3 main_v4 (broadcastInDim S20000x2 ![0, 1] bcast_S20000x1_S20000x2_0_1 : (⟨S20000x1, .f32⟩ : BufTy).Contents (Elt F) → (⟨S20000x2, .f32⟩ : BufTy).Contents (Elt F)),
    binary main_arg0 main_v4 main_v5 (subf : (⟨S20000x2, .f32⟩ : BufTy).Contents (Elt F) → (⟨S20000x2, .f32⟩ : BufTy).Contents (Elt F) → (⟨S20000x2, .f32⟩ : BufTy).Contents (Elt F)),
    unary main_v5 main_v6 (Host.exp : (⟨S20000x2, .f32⟩ : BufTy).Contents (Elt F) → (⟨S20000x2, .f32⟩ : BufTy).Contents (Elt F)),
    nullary main_cst_1 (constant S_ .f32 0x00000000#32),
    binary main_v6 main_cst_1 main_v7 ((fun x v => Host.reduceAdd x v reducesTo_S20000x2_S20000_d1 h_S_) : (⟨S20000x2, .f32⟩ : BufTy).Contents (Elt F) → (⟨S_, .f32⟩ : BufTy).Contents (Elt F) → (⟨S20000, .f32⟩ : BufTy).Contents (Elt F)),
    unary main_v7 main_v8 (broadcastInDim S20000x1 ![0] bcast_S20000_S20000x1_0 : (⟨S20000, .f32⟩ : BufTy).Contents (Elt F) → (⟨S20000x1, .f32⟩ : BufTy).Contents (Elt F)),
    unary main_v8 main_v9 (broadcastInDim S20000x2 ![0, 1] bcast_S20000x1_S20000x2_0_1 : (⟨S20000x1, .f32⟩ : BufTy).Contents (Elt F) → (⟨S20000x2, .f32⟩ : BufTy).Contents (Elt F)),
    binary main_v6 main_v9 main_v10 (Host.divf : (⟨S20000x2, .f32⟩ : BufTy).Contents (Elt F) → (⟨S20000x2, .f32⟩ : BufTy).Contents (Elt F) → (⟨S20000x2, .f32⟩ : BufTy).Contents (Elt F)),
    unary main_v10 main_v11 ((extractStridedSlice S20000x1 ![0, 1] · slices_S20000x2_S20000x1_0_1) : (⟨S20000x2, .f32⟩ : BufTy).Contents (Elt F) → (⟨S20000x1, .f32⟩ : BufTy).Contents (Elt F)),
    reshape main_v11 main_v12 (rfl : (.f32 : EltTy) = .f32) shapeCasts_S20000x1_S20000,
    unary main_v12 main_values ((fun x => (Host.topK S6000 0 (FloatOps.cmpfTotal .gt) x sliceFits_S20000_S6000).1) : (⟨S20000, .f32⟩ : BufTy).Contents (Elt F) → (⟨S6000, .f32⟩ : BufTy).Contents (Elt F)),
    unary main_v12 main_indices ((fun x => (Host.topK S6000 0 (FloatOps.cmpfTotal .gt) x sliceFits_S20000_S6000).2) : (⟨S20000, .f32⟩ : BufTy).Contents (Elt F) → (⟨S6000, .i32⟩ : BufTy).Contents (Elt F)),
    nullary main_c (constantI S_ 32 0#32),
    unary main_c main_v13 (broadcastInDim S144 ![] bcast_S_S144 : (⟨S_, .i32⟩ : BufTy).Contents (Elt F) → (⟨S144, .i32⟩ : BufTy).Contents (Elt F)),
    binary main_indices main_v13 main_v14 (pad (F := F)),
    unary main_v14 main_v15 (broadcastInDim S6144x1 ![0] bcast_S6144_S6144x1_0 : (⟨S6144, .i32⟩ : BufTy).Contents (Elt F) → (⟨S6144x1, .i32⟩ : BufTy).Contents (Elt F)),
    nullary main_c_2 (constantI S_ 32 4#32),
    unary main_c_2 main_v16 (broadcastInDim S6144x1 ![] bcast_S_S6144x1 : (⟨S_, .i32⟩ : BufTy).Contents (Elt F) → (⟨S6144x1, .i32⟩ : BufTy).Contents (Elt F)),
    binary main_v15 main_v16 main_v17 (muli : (⟨S6144x1, .i32⟩ : BufTy).Contents (Elt F) → (⟨S6144x1, .i32⟩ : BufTy).Contents (Elt F) → (⟨S6144x1, .i32⟩ : BufTy).Contents (Elt F)),
    nullary main_v18 (iotaInDim S4 32 0),
    unary main_v18 main_v19 (broadcastInDim S1x4 ![1] bcast_S4_S1x4_1 : (⟨S4, .i32⟩ : BufTy).Contents (Elt F) → (⟨S1x4, .i32⟩ : BufTy).Contents (Elt F)),
    unary main_v17 main_v20 (broadcastInDim S6144x4 ![0, 1] bcast_S6144x1_S6144x4_0_1 : (⟨S6144x1, .i32⟩ : BufTy).Contents (Elt F) → (⟨S6144x4, .i32⟩ : BufTy).Contents (Elt F)),
    unary main_v19 main_v21 (broadcastInDim S6144x4 ![0, 1] bcast_S1x4_S6144x4_0_1 : (⟨S1x4, .i32⟩ : BufTy).Contents (Elt F) → (⟨S6144x4, .i32⟩ : BufTy).Contents (Elt F)),
    binary main_v20 main_v21 main_v22 (addi : (⟨S6144x4, .i32⟩ : BufTy).Contents (Elt F) → (⟨S6144x4, .i32⟩ : BufTy).Contents (Elt F) → (⟨S6144x4, .i32⟩ : BufTy).Contents (Elt F)),
    reshape main_v22 main_v23 (rfl : (.i32 : EltTy) = .i32) shapeCasts_S6144x4_S24576,
    reshape main_arg1 main_v24 (rfl : (.f32 : EltTy) = .f32) shapeCasts_S20000x4_S80000 ]

/-- The operation between the SparseCore call and the suppression. -/
abbrev rowsOps : List (HloOp τ sig (Elt F)) :=
  [ reshape main_v25 main_v26 (rfl : (.f32 : EltTy) = .f32) shapeCasts_S24576_S6144x4 ]

/-- The operation between the suppression and the first matrix product. -/
abbrev postOps : List (HloOp τ sig (Elt F)) :=
  [ reshape main_arg2 main_v28 (rfl : (.f32 : EltTy) = .f32) shapeCasts_S128x512x7x7_S128x25088 ]

/-- The operations between the first matrix product and the head. -/
abbrev midOps : List (HloOp τ sig (Elt F)) :=
  [ reshape main_arg4 main_v30 (rfl : (.f32 : EltTy) = .f32) shapeCasts_S4096_S1x4096,
    reshape main_arg6 main_v31 (rfl : (.f32 : EltTy) = .f32) shapeCasts_S1024_S1x1024,
    reshape main_arg8 main_v32 (rfl : (.f32 : EltTy) = .f32) shapeCasts_S21_S1x21,
    reshape main_arg10 main_v33 (rfl : (.f32 : EltTy) = .f32) shapeCasts_S84_S1x84 ]

/-- The offsets' planes and the selected boxes' lines, as the decoding reads them. -/
abbrev planes (x : (⟨S21x128x4, .f32⟩ : BufTy).Contents (Elt F)) : (⟨S4x21x128, .f32⟩ : BufTy).Contents (Elt F) :=
  transpose S4x21x128 [2, 0, 1] x transposes_S21x128x4_S4x21x128_2_0_1
abbrev linesOf (x : (⟨S128x4, .f32⟩ : BufTy).Contents (Elt F)) : (⟨S4x128, .f32⟩ : BufTy).Contents (Elt F) :=
  transpose S4x128 [1, 0] x transposes_S128x4_S4x128_1_0

/-- The operations between the head and the decoding. -/
abbrev endOps : List (HloOp τ sig (Elt F)) :=
  [ reshape main_v34_1 main_v35 (rfl : (.f32 : EltTy) = .f32) shapeCasts_S128x84_S21x128x4,
    unary main_v35 main_v36 ((transpose S4x21x128 [2, 0, 1] · transposes_S21x128x4_S4x21x128_2_0_1) : (⟨S21x128x4, .f32⟩ : BufTy).Contents (Elt F) → (⟨S4x21x128, .f32⟩ : BufTy).Contents (Elt F)),
    unary main_v27 main_v37 ((transpose S4x128 [1, 0] · transposes_S128x4_S4x128_1_0) : (⟨S128x4, .f32⟩ : BufTy).Contents (Elt F) → (⟨S4x128, .f32⟩ : BufTy).Contents (Elt F)) ]

/-- The operation after the decoding. -/
abbrev outOps : List (HloOp τ sig (Elt F)) :=
  [ unary main_v38 main_v39 ((transpose S128x21x4 [2, 1, 0] · transposes_S4x21x128_S128x21x4_2_1_0) : (⟨S4x21x128, .f32⟩ : BufTy).Contents (Elt F) → (⟨S128x21x4, .f32⟩ : BufTy).Contents (Elt F)) ]

theorem pre_sub : (preOps : List (HloOp τ sig (Elt F))).Forall fun op => op.bufs ⊆ tcRefs τ sig := by
  simp only [preOps, List.forall_cons, List.Forall, nullary_bufs_sub, unary_bufs_sub, binary_bufs_sub, reshape_bufs_sub, and_self]
theorem pre_fresh : (preOps : List (HloOp τ sig (Elt F))).Forall fun op => op.fresh = ∅ := forall_fresh_of_map rfl
theorem post_sub : (postOps : List (HloOp τ sig (Elt F))).Forall fun op => op.bufs ⊆ tcRefs τ sig := reshape_bufs_sub ..
theorem post_fresh : (postOps : List (HloOp τ sig (Elt F))).Forall fun op => op.fresh = ∅ := forall_fresh_of_map rfl
theorem mid_sub : (midOps : List (HloOp τ sig (Elt F))).Forall fun op => op.bufs ⊆ tcRefs τ sig := by
  simp only [midOps, List.forall_cons, List.Forall, reshape_bufs_sub, and_self]
theorem mid_fresh : (midOps : List (HloOp τ sig (Elt F))).Forall fun op => op.fresh = ∅ := forall_fresh_of_map rfl
theorem rows_sub : (rowsOps : List (HloOp τ sig (Elt F))).Forall fun op => op.bufs ⊆ tcRefs τ sig := reshape_bufs_sub ..
theorem rows_fresh : (rowsOps : List (HloOp τ sig (Elt F))).Forall fun op => op.fresh = ∅ := forall_fresh_of_map rfl
theorem end_sub : (endOps : List (HloOp τ sig (Elt F))).Forall fun op => op.bufs ⊆ tcRefs τ sig := by
  simp only [endOps, List.forall_cons, List.Forall, unary_bufs_sub, reshape_bufs_sub, and_self]
theorem out_sub : (outOps : List (HloOp τ sig (Elt F))).Forall fun op => op.bufs ⊆ tcRefs τ sig := unary_bufs_sub ..
theorem out_fresh : (outOps : List (HloOp τ sig (Elt F))).Forall fun op => op.fresh = ∅ := forall_fresh_of_map rfl
theorem end_fresh : (endOps : List (HloOp τ sig (Elt F))).Forall fun op => op.fresh = ∅ := forall_fresh_of_map rfl

/-- The program's @main: host operations, the SparseCore call, and the four calls of the TensorCore with the host operations
    between them. -/
theorem main_eq (d : Dev nD) :
    main (F := F) d = seq preOps >>= fun _ => ((sc (F := F)).run d 0 >>= fun _ => (seq rowsOps >>= fun _ =>
      (Prog.lift (.customCall (SparseCore.inner (Pipeline.entry 0)) ()) >>= fun _ => (seq postOps >>= fun _ =>
      (Prog.lift (.customCall (SparseCore.inner (Pipeline.entry 1)) ()) >>= fun _ => (seq midOps >>= fun _ =>
        (Prog.lift (.customCall (SparseCore.inner (Pipeline.entry 2)) ()) >>= fun _ => (seq endOps >>= fun _ =>
          (Prog.lift (.customCall (SparseCore.inner (Pipeline.entry 3)) ()) >>= fun _ => (seq outOps >>= fun _ => pure ⟨⟩)))))))))) := by
  rw [seq_bind_seqK]; rfl

/-! ## What they leave in the arrays -/

variable (V : Valuation τ sig (Elt F))

set_option maxHeartbeats 1000000 in
theorem pre_list : after preOps V (Proc.devRef .tc main_v23) = flatList (F := F) (order (scores (V (Proc.devRef .tc main_arg0)))) := by
  simp only [preOps]; after_results_simp <;> rfl

set_option maxHeartbeats 1000000 in
theorem pre_table : after preOps V (Proc.devRef .tc main_v24) = flatTable (V (Proc.devRef .tc main_arg1)) := by
  simp only [preOps]; after_results_simp <;> rfl

/-- The arrays each stretch writes. -/
abbrev preW : List (Ref sig .tc) :=
  [main_cst, main_v0, main_cst_0, main_v1, main_v2, main_v3, main_v4, main_v5, main_v6, main_cst_1, main_v7, main_v8, main_v9,
    main_v10, main_v11, main_v12, main_values, main_indices, main_c, main_v13, main_v14, main_v15, main_c_2, main_v16, main_v17,
    main_v18, main_v19, main_v20, main_v21, main_v22, main_v23, main_v24]
abbrev rowsW : List (Ref sig .tc) := [main_v26]
abbrev postW : List (Ref sig .tc) := [main_v28]
abbrev midW : List (Ref sig .tc) := [main_v30, main_v31, main_v32, main_v33]
abbrev endW : List (Ref sig .tc) := [main_v35, main_v36, main_v37]
abbrev outW : List (Ref sig .tc) := [main_v39]

theorem pre_keeps {r : Ref sig .tc} (hr : r ∉ preW) : after preOps V (Proc.devRef .tc r) = V (Proc.devRef .tc r) :=
  after_of_writes_sub _ V (forall_writes_sub_of_map rfl) hr
theorem rows_keeps {r : Ref sig .tc} (hr : r ∉ rowsW) : after rowsOps V (Proc.devRef .tc r) = V (Proc.devRef .tc r) :=
  after_of_writes_sub _ V (forall_writes_sub_of_map rfl) hr
theorem out_keeps {r : Ref sig .tc} (hr : r ∉ outW) : after outOps V (Proc.devRef .tc r) = V (Proc.devRef .tc r) :=
  after_of_writes_sub _ V (forall_writes_sub_of_map rfl) hr
theorem post_keeps {r : Ref sig .tc} (hr : r ∉ postW) : after postOps V (Proc.devRef .tc r) = V (Proc.devRef .tc r) :=
  after_of_writes_sub _ V (forall_writes_sub_of_map rfl) hr
theorem mid_keeps {r : Ref sig .tc} (hr : r ∉ midW) : after midOps V (Proc.devRef .tc r) = V (Proc.devRef .tc r) :=
  after_of_writes_sub _ V (forall_writes_sub_of_map rfl) hr
theorem end_keeps {r : Ref sig .tc} (hr : r ∉ endW) : after endOps V (Proc.devRef .tc r) = V (Proc.devRef .tc r) :=
  after_of_writes_sub _ V (forall_writes_sub_of_map rfl) hr

theorem rows_rows : after rowsOps V (Proc.devRef .tc main_v26) = rowsOf (V (Proc.devRef .tc main_v25)) := by
  simp only [rowsOps]; after_results_simp <;> rfl
theorem post_x : after postOps V (Proc.devRef .tc main_v28)
    = (shapeCast S128x25088 (V (Proc.devRef .tc main_arg2) : (⟨S128x512x7x7, .f32⟩ : BufTy).Contents (Elt F)) shapeCasts_S128x512x7x7_S128x25088
        : (⟨S128x25088, .f32⟩ : BufTy).Contents (Elt F)) := by
  simp only [postOps]; after_results_simp <;> rfl
theorem mid_b1 : after midOps V (Proc.devRef .tc main_v30)
    = (shapeCast S1x4096 (V (Proc.devRef .tc main_arg4) : (⟨S4096, .f32⟩ : BufTy).Contents (Elt F)) shapeCasts_S4096_S1x4096
        : (⟨S1x4096, .f32⟩ : BufTy).Contents (Elt F)) := by
  simp only [midOps]; after_results_simp <;> rfl
theorem mid_b2 : after midOps V (Proc.devRef .tc main_v31)
    = (shapeCast S1x1024 (V (Proc.devRef .tc main_arg6) : (⟨S1024, .f32⟩ : BufTy).Contents (Elt F)) shapeCasts_S1024_S1x1024
        : (⟨S1x1024, .f32⟩ : BufTy).Contents (Elt F)) := by
  simp only [midOps]; after_results_simp <;> rfl
theorem mid_bc : after midOps V (Proc.devRef .tc main_v32)
    = (shapeCast S1x21 (V (Proc.devRef .tc main_arg8) : (⟨S21, .f32⟩ : BufTy).Contents (Elt F)) shapeCasts_S21_S1x21
        : (⟨S1x21, .f32⟩ : BufTy).Contents (Elt F)) := by
  simp only [midOps]; after_results_simp <;> rfl
theorem mid_bb : after midOps V (Proc.devRef .tc main_v33)
    = (shapeCast S1x84 (V (Proc.devRef .tc main_arg10) : (⟨S84, .f32⟩ : BufTy).Contents (Elt F)) shapeCasts_S84_S1x84
        : (⟨S1x84, .f32⟩ : BufTy).Contents (Elt F)) := by
  simp only [midOps]; after_results_simp <;> rfl
theorem end_planes : after endOps V (Proc.devRef .tc main_v36)
    = planes (shapeCast S21x128x4 (V (Proc.devRef .tc main_v34_1) : (⟨S128x84, .f32⟩ : BufTy).Contents (Elt F)) shapeCasts_S128x84_S21x128x4
        : (⟨S21x128x4, .f32⟩ : BufTy).Contents (Elt F)) := by
  simp only [endOps]; after_results_simp <;> rfl
theorem end_lines : after endOps V (Proc.devRef .tc main_v37) = linesOf (V (Proc.devRef .tc main_v27)) := by
  simp only [endOps]; after_results_simp <;> rfl
theorem out_boxes : after outOps V (Proc.devRef .tc main_v39)
    = (transpose S128x21x4 [2, 1, 0] (V (Proc.devRef .tc main_v38) : (⟨S4x21x128, .f32⟩ : BufTy).Contents (Elt F)) transposes_S4x21x128_S128x21x4_2_1_0
        : (⟨S128x21x4, .f32⟩ : BufTy).Contents (Elt F)) := by
  simp only [outOps]; after_results_simp <;> rfl

end Cert.Proof.Gather

end
-- ==== Proof.GatherBatch.lean ====
/-
  Several indirect gathers started on ONE DMA semaphore before any of them is waited for.

  An indirect gather is a stream of row transfers, one per entry of its offset list, each crediting the semaphore when it
  lands. When several gathers share a semaphore, a wait may be satisfied by rows of any of them, so a wait tells nothing about
  its own destination: only after the last wait is everything known to have arrived. We therefore count ROWS: the batch has
  one transfer per row of every gather, gathers issue their rows in order, each wait consumes as many units as it is sized to,
  and all deliveries are collected after the last wait.

  * `rowDelivery`: what the landing of one row hands back.
  * `wp_gather_batch`: the issue of one gather, its rows the next rows of the batch.
  * `rowDelivery_join`: the deliveries of one gather's rows are the written destination, the source's share and the list.
-/
module

public import Idealize.ShloMosaic.Lib.Batch
public import Idealize.ShloMosaic.Lib.SparseCore.Ops
public import Idealize.ShloMosaic.Lib.SparseCore.Stream

@[expose] public section

noncomputable section

namespace Cert.Proof.GatherBatch

open Idealize.ShloMosaic
open Idealize.ShloMosaic.SparseCore (rows gatherPayload gatherRow rowOf rowOf_of_lt)
open Idealize.ShloMosaic.Transfers (Batch pending)
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

local notation "𝕄" => MT nD τ sig Ix (Elt F) Name U Lvl

/-- The pending transfers from `k` on are the next `o` and those from `k + o` on. -/
theorem bigSep_pending_split {n : ℕ} (Φ : Fin n → sProp 𝕄) (k o : ℕ) (h : k + o ≤ n) :
    bigSep (pending (n := n) k) Φ
      = iprop((bigSep Finset.univ fun r : Fin o => Φ ⟨k + r.val, by have := r.isLt; omega⟩) ∗ bigSep (pending (n := n) (k + o)) Φ) := by
  classical
  let em : Fin o ↪ Fin n := ⟨fun r => ⟨k + r.val, by have := r.isLt; omega⟩, fun r r' e => by
    have := congrArg Fin.val e; simp only at this; exact Fin.ext (by omega)⟩
  have hem : ∀ r, (em r).val = k + r.val := fun _ => rfl
  have hset : pending (n := n) k = (Finset.univ.map em) ∪ pending (n := n) (k + o) := by
    ext t
    simp only [pending, Finset.mem_filter, Finset.mem_univ, _root_.true_and, Finset.mem_union, Finset.mem_map]
    constructor
    · intro ht
      by_cases hlt : t.val < k + o
      · refine .inl ⟨⟨t.val - k, by omega⟩, Fin.ext ?_⟩
        rw [hem]; simp only; omega
      · exact .inr (by omega)
    · rintro (⟨r, rfl⟩ | ht)
      · rw [hem]; omega
      · omega
  have hdis : Disjoint (Finset.univ.map em) (pending (n := n) (k + o)) := by
    rw [Finset.disjoint_left]
    intro t ht ht'
    obtain ⟨r, -, rfl⟩ := Finset.mem_map.mp ht
    simp only [pending, Finset.mem_filter, Finset.mem_univ, _root_.true_and, hem] at ht'
    have := r.isLt; omega
  rw [hset, bigSep_union hdis, bigSep_map]; rfl

variable (src : Memref sig c.2.kind sp s₀ e) (dst : Memref sig c.2.kind .vmem s e) (hg : s₀.Gathers a s)
  (offs : Memref sig c.2.kind .vmem si .i32) (hn : si.numel = s.size hg.axis')

/-- The list's index that entry `r` reads. -/
abbrev entryIx (r : Fin (s.size hg.axis')) : si.Idx := si.rowMajor.symm (r.cast hn.symm)

/-- What the landing of row `r` hands back: the row's elements of the destination written with the source's row that the list
    names, entry `r` of the list, and the row's piece of the source's share. -/
def rowDelivery (ho : 0 < s.size hg.axis') (q qo : PosShare TreeShare) (fs : Buf (Elt F) (src.view.loc c)) (fd : Buf (Elt F) (dst.view.loc c))
    (fo : Buf (Elt F) (offs.view.loc c)) (hin : ∀ x, (offs.view.read (Elt F) fo x).toNat < s₀.size hg.axis) (r : Fin (s.size hg.axis')) : sProp 𝕄 :=
  iprop(((dst.view.loc c ↦[(dst.view.slice (s.rowRect hg.axis' r)).set]{fullShare}
        ((dst.view.slice (s.rowRect hg.axis' r)).write (Elt F) fd
          (fun x => src.view.read (Elt F) fs (hg.rowIdx (rows (offs.view.read (Elt F) fo) hn hin r) x)) Finset.univ))
      ∗ (offs.view.loc c ↦[{offs.view.emb (entryIx hg hn r)}]{qo} fo))
    ∗ (src.view.loc c ↦[src.view.set]{pieceOf q _ ho r} fs))

instance rowDelivery_storable (ho : 0 < s.size hg.axis') (q qo : PosShare TreeShare) (fs : Buf (Elt F) (src.view.loc c)) (fd : Buf (Elt F) (dst.view.loc c))
    (fo : Buf (Elt F) (offs.view.loc c)) (hin : ∀ x, (offs.view.read (Elt F) fo x).toNat < s₀.size hg.axis) (r : Fin (s.size hg.axis')) :
    BI.Storable (upEmb : UEmb _ 𝕄) (rowDelivery c src dst hg offs hn ho q qo fs fd fo hin r : sProp 𝕄) := by
  unfold rowDelivery; infer_instance

theorem entryIx_bijective : Function.Bijective (entryIx (si := si) hg hn) :=
  si.rowMajor.symm.bijective.comp (finCongr hn.symm).bijective

/-- The deliveries of all rows of one gather: the destination written with the gather's payload, the source's share and the list. -/
theorem rowDelivery_join (ho : 0 < s.size hg.axis') (q qo : PosShare TreeShare) (fs : Buf (Elt F) (src.view.loc c)) (fd : Buf (Elt F) (dst.view.loc c))
    (fo : Buf (Elt F) (offs.view.loc c)) (hin : ∀ x, (offs.view.read (Elt F) fo x).toNat < s₀.size hg.axis) :
    (bigSep Finset.univ (rowDelivery c src dst hg offs hn ho q qo fs fd fo hin) : sProp 𝕄)
      ⊢ iprop((dst.view.loc c ↦[dst.view.set]{fullShare}
            (dst.view.write (Elt F) fd (gatherPayload hg (src.view.read (Elt F) fs) (rows (offs.view.read (Elt F) fo) hn hin)) Finset.univ))
          ∗ (src.view.loc c ↦[src.view.set]{q} fs) ∗ (offs.view.loc c ↦[offs.view.set]{qo} fo)) := by
  have hw := pointsTo_rows_write (Ix := Ix) (Name := Name) (U := U) (Lvl := Lvl) c dst.view hg.axis' fd
    (fun r x => src.view.read (Elt F) fs (hg.rowIdx (rows (offs.view.read (Elt F) fo) hn hin r) x))
    (gatherPayload hg (src.view.read (Elt F) fs) (rows (offs.view.read (Elt F) fo) hn hin))
    fun j i => by unfold gatherPayload; rw [Shape.Gathers.idx_rowRect_emb]
  unfold rowDelivery
  iintro HD
  ihave H1 := Transfers.bigSep_sep_out _ _ _ $$ HD
  icases H1 with ⟨H2, Hsrc⟩
  ihave H3 := Transfers.bigSep_sep_out _ _ _ $$ H2
  icases H3 with ⟨Hrows, Hoffs⟩
  isplitl [Hrows]
  · iapply hw; iexact Hrows
  isplitl [Hsrc]; · iapply (Entails.of_eq (pointsTo_piecesOf (src.view.set) fs ho q).symm) $$ Hsrc
  iapply (Entails.of_eq (pointsTo_entries c offs.view (entryIx hg hn) (entryIx_bijective hg hn) qo fo).symm) $$ Hoffs

/-- The issue of one gather whose rows are the next rows of the batch: the tile holds a share of the source, the destination, a
    share of the list and the batch with `j` rows issued; it goes on with the batch with the gather's rows issued as well. -/
theorem wp_gather_batch [Infinite Name] [EC.LandsIn (upEmb : UEmb _ 𝕄)] {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    (ho : 0 < s.size hg.axis') (q qo : PosShare TreeShare) (fs : Buf (Elt F) (src.view.loc c)) (fd : Buf (Elt F) (dst.view.loc c))
    (fo : Buf (Elt F) (offs.view.loc c)) (hin : ∀ x, (offs.view.read (Elt F) fo x).toNat < s₀.size hg.axis)
    {n : ℕ} {D : Fin n → sProp 𝕄} {j u : ℕ} (ι : Ix) (N : ℕ)
    (hN : ∀ r, (dst.slice (s.rowRect hg.axis' r) (s.stride_rowRect hg.axis' r)).view.dmaCredit = N)
    (hj : j + s.size hg.axis' ≤ n) (hu : u ≤ j * N)
    (hD : ∀ r : Fin (s.size hg.axis'), rowDelivery c src dst hg offs hn ho q qo fs fd fo hin r ⊢ D ⟨j + r.val, by have := r.isLt; omega⟩) :
    iprop((src.view.loc c ↦[src.view.set]{q} fs) ∗ (dst.view.loc c ↦[dst.view.set]{fullShare} fd)
        ∗ (offs.view.loc c ↦[offs.view.set]{qo} fo) ∗ Batch EC c (.dma sem) ι N D j u)
      ⊢ iprop((Batch EC c (.dma sem) ι N D (j + s.size hg.axis') u -∗ wp frame (wpE defs 𝒱 c bd) Set.univ (k ⟨⟩) Q)
          -∗ wp frame (wpE defs 𝒱 c bd) Set.univ (SparseCore.enqueueIndirectGather hp src dst hg offs hn sem hsrc he hsp hr >>= k) Q) := by
  rw [SparseCore.enqueueIndirectGather_bind]
  let S : Stream nD τ sig (Elt F) :=
    Stream.issued c offs.view hn sem (fun j w => (rowOf (s₀.size hg.axis) w).map (gatherRow c src dst hg sem hsrc he hsp hr j)) 0
  let rd : Fin (s.size hg.axis') → RowDma τ sig (Elt F) c.2 sem := fun r =>
    gatherRow c src dst hg sem hsrc he hsp hr r (rows (offs.view.read (Elt F) fo) hn hin r)
  have hA : S.RowsAgree := by
    intro j x x' ρ ρ' h h'
    obtain ⟨_, _, rfl⟩ := Option.map_eq_some_iff.mp h
    obtain ⟨_, _, rfl⟩ := Option.map_eq_some_iff.mp h'
    rfl
  have hrd : ∀ j, S.row j (S.word fo j) = some (rd j) := fun j => by
    change (rowOf (s₀.size hg.axis) (offs.view.read (Elt F) fo (S.entry j))).map _ = _
    rw [rowOf_of_lt (hin _)]; rfl
  have hsum : ∑ r, (rd r).dst.view.dmaCredit = s.size hg.axis' * N :=
    (Finset.sum_congr rfl fun r _ => hN r).trans (by rw [Finset.sum_const, Finset.card_univ, Fintype.card_fin, smul_eq_mul])
  unfold Transfers.Batch
  iintro ⟨Hs, Hd, Ho, ⟨%γ, %γ₀, %κ, #Hinv, HI, H0, Hcred⟩⟩ Hk
  ihave HI' := (Entails.of_eq (bigSep_pending_split (fun t => count EC (γ t) 0) j (s.size hg.axis') hj)) $$ HI
  icases HI' with ⟨Hγ, HI⟩
  ihave Hd' := (Entails.of_eq (pointsTo_rows c dst.view hg.axis' fullShare fd)) $$ Hd
  ihave Ho' := (Entails.of_eq (pointsTo_entries c offs.view (entryIx hg hn) (entryIx_bijective hg hn) qo fo)) $$ Ho
  ihave Hs' := (Entails.of_eq (pointsTo_piecesOf (src.view.set) fs ho q)) $$ Hs
  iapply (wp_enqueueIndirectDma 𝒱 c bd Set.univ (qo := qo) (fo := fo) (rd := rd) ι (s.size hg.axis' * N) hA hrd hsum) $$ [Hd' Ho' Hs' Hγ]
  · -- each row: its entry of the list, and behind it the row's resources
    have hrow : ∀ r : Fin (s.size hg.axis'), iprop(inv κ (Transfers.batchBody EC (c, SemLoc.dma sem) N D γ γ₀)
          ∗ ((((dst.view.loc c ↦[(dst.view.slice (s.rowRect hg.axis' r)).set]{fullShare} fd)
            ∗ (offs.view.loc c ↦[{offs.view.emb (entryIx hg hn r)}]{qo} fo))
            ∗ (src.view.loc c ↦[src.view.set]{pieceOf q _ ho r} fs)) ∗ count EC (γ ⟨j + r.val, by have := r.isLt; omega⟩) 0))
        ⊢ iprop(S.heldEntry qo fo r ∗ (S.heldEntry qo fo r -∗ rowRes c (rd r))) := fun r => by
      iintro ⟨#Hinv, ⟨⟨Hr, He⟩, Hsq⟩, Hγr⟩
      isplitl [He]; · iexact He
      iintro He
      unfold rowRes
      iexists pieceOf q _ ho r, fs, iprop((dst.view.loc c ↦[(dst.view.slice (s.rowRect hg.axis' r)).set]{fullShare}
          ((dst.view.slice (s.rowRect hg.axis' r)).write (Elt F) fd
            (fun x => src.view.read (Elt F) fs (hg.rowIdx (rows (offs.view.read (Elt F) fo) hn hin r) x)) Finset.univ)) ∗ S.heldEntry qo fo r)
      isplitl [Hsq]; · iexact Hsq
      isplitl [Hr He]
      · iapply writeUpdate_frame
        isplitl [Hr]
        · iapply (pointsTo_writeUpdate c (v := dst.view.slice (s.rowRect hg.axis' r)) subset_rfl) $$ Hr
        · iexact He
      · rw [show (rd r).dst.view.amount (.dma sem) = N from hN r]
        iapply (Transfers.batch_creditUpdate EC (D := D) ⟨j + r.val, by have := r.isLt; omega⟩ (hD r))
        isplitr; · iexact Hinv
        iexact Hγr
    unfold Stream.res
    ihave H1 := Transfers.bigSep_sep_in _ _ _ $$ [Hd' Ho']; · isplitl [Hd'] <;> iassumption
    ihave H2 := Transfers.bigSep_sep_in _ _ _ $$ [H1 Hs']; · isplitl [H1] <;> iassumption
    ihave H3 := Transfers.bigSep_sep_in _ _ _ $$ [H2 Hγ]; · isplitl [H2] <;> iassumption
    iapply (Transfers.bigSep_mono_pers Finset.univ _ _ _ fun r _ => hrow r)
    isplitr; · iexact Hinv
    iexact H3
  · iintro Hcred'
    iapply Hk
    iexists γ, γ₀, κ
    isplitr; · iexact Hinv
    isplitl [HI]; · iexact HI
    isplitl [H0]; · iexact H0
    rw [show (j + s.size hg.axis') * N - u = (j * N - u) + s.size hg.axis' * N by rw [Nat.add_mul]; omega, ← tallyAt_add]
    icombine Hcred Hcred' as H
    iexact H

/-- The wait of a gather on the batch's semaphore: `q` rows' worth of units consumed. -/
theorem wp_wait_batch [EC.LandsIn (upEmb : UEmb _ 𝕄)] {sem : DmaSem sig} {κ : Kind} {e' : EltTy}
    (srcw : Memref sig c.2.kind sp s₀ e') (dstw : Memref sig κ .vmem s e) {hsrc : srcw.view.WordExact} {hdst : dstw.view.WordExact}
    {k : PUnit → Prog (TpuEff nD τ sig (Elt F) Λ c.2) α} (ι : Ix) {N : ℕ} (q : ℕ) (hJ : dstw.view.dmaCredit = q * N)
    {n : ℕ} {D : Fin n → sProp 𝕄} {j u : ℕ} (hu : u + q * N ≤ N * j) {O : CellTallies nD τ sig Ix} {W : Waits sig Ix} :
    iprop(Batch EC c (.dma sem) ι N D j u ∗ owes c O W ∗ MayWait c (.dma sem) ι O)
      ⊢ iprop((iprop(Batch EC c (.dma sem) ι N D j (u + q * N) ∗ owes c O (insert (SemLoc.dma sem, ι) W)) -∗ wp frame (wpE defs 𝒱 c bd) Set.univ (k ⟨⟩) Q)
          -∗ wp frame (wpE defs 𝒱 c bd) Set.univ (SparseCore.waitIndirectGather sem srcw dstw hsrc hdst >>= k) Q) := by
  rw [SparseCore.waitIndirectGather_bind]
  exact Transfers.wp_waitBatchMulO EC 𝒱 c bd ι q hJ hu

end Cert.Proof.GatherBatch
-- ==== Proof.Tile.lean ====
/-
  One tile of the SparseCore call.

  Tile `(c, i)` copies its 768 words of the index list into its scratch, six rows of 128; starts six indirect gathers from the
  table, one per row, all on one semaphore; waits for the six; and copies the 768 gathered numbers to its block of the output.
-/
module

public import proofs.«01_k».proof.Proof.Setup
public import proofs.«01_k».proof.Proof.GatherBatch

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The tile's views -/

abbrev iV : Memref sig .scVector .hbm S24576 .i32 := Memref.whole main_v23_scv
abbrev rV : Memref sig .scVector .hbm S80000 .f32 := Memref.whole main_v24_scv
abbrev oV : Memref sig .scVector .hbm S24576 .f32 := Memref.whole main_v25_scv
abbrev sV : Memref sig .scVector .vmem S6x128 .i32 := Memref.whole cc0_scratch0
abbrev gV : Memref sig .scVector .vmem S768 .f32 := Memref.whole cc0_scratch1

/-- Row `n` of the index scratch. -/
abbrev sRow (n : ℕ) (h : ∀ a, (![n, 0] : Fin 2 → Nat) a + S1x128.size a ≤ S6x128.size a) : Memref sig .scVector .vmem S128 .i32 :=
  ((sV).slice (Rect.unit (s := S6x128) ![n, 0] S1x128.size h) (fun _ => rfl)).squeeze S128 squeezes_S1x128_S128
/-- The window of the gathered numbers from position `n`. -/
abbrev gWin (n : ℕ) (h : ∀ a, (![n] : Fin 1 → Nat) a + S128.size a ≤ S768.size a) : Memref sig .scVector .vmem S128 .f32 :=
  (gV).slice (Rect.unit (s := S768) ![n] S128.size h) (fun _ => rfl)
/-- The table as the gathers name it. -/
abbrev rAll : Memref sig .scVector .hbm S80000 .f32 :=
  (rV).slice (Rect.unit (s := S80000) ![0] S80000.size inb_S80000_S80000_0) (fun _ => rfl)

theorem sInb (g : Fin 6) : ∀ a, (![g.val, 0] : Fin 2 → Nat) a + S1x128.size a ≤ S6x128.size a := by
  revert g; decide
theorem gInb (g : Fin 6) : ∀ a, (![128 * g.val] : Fin 1 → Nat) a + S128.size a ≤ S768.size a := by
  revert g; decide

variable (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
/-- The tile's block number. -/
abbrev wL (L : grid0.Coords) : Fin 32 := blk (Fin.cast bound_zero (L 0)) (Fin.cast bound_one (L 1))

abbrev oBlk (L : grid0.Coords) : Memref sig .scVector .hbm S768 .f32 :=
  (oV).slice (Rect.unit (s := S24576) (k0_off2 L) S768.size (k0_off2_inb L)) (fun _ => rfl)

theorem oRect_eq : Rect.unit (s := S24576) (k0_off2 L) S768.size (k0_off2_inb L) = oRect (wL L) := by
  unfold oRect Rect.part Rect.block
  congr 1 <;> funext a
  · rw [k0_off2_eq]
    match a with
    | 0 =>
      have h1 : (Fin.cast bound_one (L 1)).val = (L 1).val := rfl
      have h0 : (Fin.cast bound_zero (L 0)).val = (L 0).val := rfl
      simp only [Shape.partIx, Shape.partSize, blk, h0, h1]
      simp; omega
  · match a with
    | 0 => simp [Shape.partSize]

theorem set_oBlk : (oBlk L).view.set = oSet (wL L) := by
  show ((View.whole (main_v25_scv : Ref sig .scVector)).slice (Rect.unit (s := S24576) (k0_off2 L) S768.size (k0_off2_inb L))).set = _
  rw [oRect_eq, View.set_slice]; exact Finset.map_refl

theorem pts_oBlk (f : Buf (Elt F) (oLoc d)) :
    ((oBlk L).view.loc (V d (cV L) (jV L)) ↦[(oBlk L).view.set]{fullShare} f : sProp 𝕄) = oLoc d ↦[oSet (wL L)]{fullShare} f := by
  rw [set_oBlk]
theorem pts_iV (q : PosShare TreeShare) (f : Buf (Elt F) (iLoc d)) :
    ((iV).view.loc (V d (cV L) (jV L)) ↦{q} f : sProp 𝕄) = iLoc d ↦{q} f := rfl
theorem pts_rV (q : PosShare TreeShare) (f : Buf (Elt F) (rLoc d)) :
    ((rV).view.loc (V d (cV L) (jV L)) ↦{q} f : sProp 𝕄) = rLoc d ↦{q} f := rfl

theorem pts_gV (f : Buf (Elt F) ((V d (cV L) (jV L)).loc cc0_scratch1)) :
    ((gV).view.loc (V d (cV L) (jV L)) ↦{fullShare} f : sProp 𝕄) = (V d (cV L) (jV L)).loc cc0_scratch1 ↦{fullShare} f := rfl

/-! ## The scratch buffers cut into rows and windows -/

theorem sdiv : 6 ∣ S6x128.size 0 := ⟨1, rfl⟩
theorem gdiv : 6 ∣ S768.size 0 := ⟨128, rfl⟩

theorem sRect_eq (g : Fin 6) : Rect.unit (s := S6x128) ![g.val, 0] S1x128.size (sInb g) = Rect.part (s := S6x128) (a₀ := 0) sdiv g := by
  unfold Rect.part Rect.block
  congr 1 <;> funext a
  · match a with
    | 0 => simp [Shape.partIx, Shape.partSize]
    | 1 => simp [Shape.partIx, Shape.partSize]
  · match a with
    | 0 => simp [Shape.partSize]
    | 1 => simp [Shape.partSize]
theorem gRect_eq (g : Fin 6) : Rect.unit (s := S768) ![128 * g.val] S128.size (gInb g) = Rect.part (s := S768) (a₀ := 0) gdiv g := by
  unfold Rect.part Rect.block
  congr 1 <;> funext a
  · match a with
    | 0 => simp [Shape.partIx, Shape.partSize]; omega
  · match a with
    | 0 => simp [Shape.partSize]

theorem set_sRow (g : Fin 6) : (sRow g.val (sInb g)).view.set = (Rect.part (s := S6x128) (a₀ := 0) sdiv g).set := by
  show (((View.whole (cc0_scratch0 : Ref sig .scVector)).slice (Rect.unit (s := S6x128) ![g.val, 0] S1x128.size (sInb g))).reshape S128
    squeezes_S1x128_S128.numel_eq).set = _
  exact (View.set_reshape _ _).trans ((View.set_slice _ _).trans (Finset.map_refl.trans (congrArg (fun r : Rect S6x128 => r.set) (sRect_eq g))))
theorem set_gWin (g : Fin 6) : (gWin (128 * g.val) (gInb g)).view.set = (Rect.part (s := S768) (a₀ := 0) gdiv g).set := by
  show ((View.whole (cc0_scratch1 : Ref sig .scVector)).slice (Rect.unit (s := S768) ![128 * g.val] S128.size (gInb g))).set = _
  rw [gRect_eq, View.set_slice]; exact Finset.map_refl
theorem set_rAll : rAll.view.set = Finset.univ := by
  show ((View.whole (main_v24_scv : Ref sig .scVector)).slice (Rect.unit (s := S80000) ![0] S80000.size inb_S80000_S80000_0)).set = _
  rw [View.set_slice]
  refine Finset.eq_univ_of_forall fun x => Finset.mem_map.mpr ⟨x, Rect.mem_set_unit.mpr fun a => ?_, rfl⟩
  match a with
  | 0 => exact ⟨Nat.zero_le _, by have h := (x 0).isLt; change (x 0).val < 80000 at h; change (x 0).val < 0 + 80000; omega⟩

theorem bigSep_six (Φ : Fin 6 → sProp 𝕄) : bigSep Finset.univ Φ = iprop(Φ 0 ∗ Φ 1 ∗ Φ 2 ∗ Φ 3 ∗ Φ 4 ∗ Φ 5) := by
  rw [bigSep_univ_succ, bigSep_univ_succ, bigSep_univ_succ, bigSep_univ_succ, bigSep_univ_succ, bigSep_univ_of_subsingleton (0 : Fin 1)]; rfl

theorem sPts_rows (f : Buf (Elt F) ((V d (cV L) (jV L)).loc cc0_scratch0)) :
    ((V d (cV L) (jV L)).loc cc0_scratch0 ↦{fullShare} f : sProp 𝕄)
      = bigSep Finset.univ fun g : Fin 6 => (sRow g.val (sInb g)).view.loc (V d (cV L) (jV L)) ↦[(sRow g.val (sInb g)).view.set]{fullShare} f := by
  rw [← pointsTo_biUnion Finset.univ (ℓ := (V d (cV L) (jV L)).loc cc0_scratch0) (fun g : Fin 6 => (sRow g.val (sInb g)).view.set)
    (fun i _ j _ h => by rw [set_sRow, set_sRow]; exact Rect.part_disjoint sdiv h),
    show (Finset.univ.biUnion fun g : Fin 6 => (sRow g.val (sInb g)).view.set) = Finset.univ from
      (Finset.biUnion_congr rfl fun g _ => set_sRow g).trans (Rect.biUnion_part sdiv)]
theorem gPts_wins (f : Buf (Elt F) ((V d (cV L) (jV L)).loc cc0_scratch1)) :
    ((V d (cV L) (jV L)).loc cc0_scratch1 ↦{fullShare} f : sProp 𝕄)
      = bigSep Finset.univ fun g : Fin 6 => (gWin (128 * g.val) (gInb g)).view.loc (V d (cV L) (jV L)) ↦[(gWin (128 * g.val) (gInb g)).view.set]{fullShare} f := by
  rw [← pointsTo_biUnion Finset.univ (ℓ := (V d (cV L) (jV L)).loc cc0_scratch1) (fun g : Fin 6 => (gWin (128 * g.val) (gInb g)).view.set)
    (fun i _ j _ h => by rw [set_gWin, set_gWin]; exact Rect.part_disjoint gdiv h),
    show (Finset.univ.biUnion fun g : Fin 6 => (gWin (128 * g.val) (gInb g)).view.set) = Finset.univ from
      (Finset.biUnion_congr rfl fun g _ => set_gWin g).trans (Rect.biUnion_part gdiv)]

/-- The index scratch is its six rows, as the body spells them; -/
theorem sPts_six (f : Buf (Elt F) ((V d (cV L) (jV L)).loc cc0_scratch0)) :
    ((V d (cV L) (jV L)).loc cc0_scratch0 ↦{fullShare} f : sProp 𝕄)
      = iprop(((sRow 0 inb_S6x128_S1x128_0_0).view.loc (V d (cV L) (jV L)) ↦[(sRow 0 inb_S6x128_S1x128_0_0).view.set]{fullShare} f)
          ∗ ((sRow 1 inb_S6x128_S1x128_1_0).view.loc (V d (cV L) (jV L)) ↦[(sRow 1 inb_S6x128_S1x128_1_0).view.set]{fullShare} f)
          ∗ ((sRow 2 inb_S6x128_S1x128_2_0).view.loc (V d (cV L) (jV L)) ↦[(sRow 2 inb_S6x128_S1x128_2_0).view.set]{fullShare} f)
          ∗ ((sRow 3 inb_S6x128_S1x128_3_0).view.loc (V d (cV L) (jV L)) ↦[(sRow 3 inb_S6x128_S1x128_3_0).view.set]{fullShare} f)
          ∗ ((sRow 4 inb_S6x128_S1x128_4_0).view.loc (V d (cV L) (jV L)) ↦[(sRow 4 inb_S6x128_S1x128_4_0).view.set]{fullShare} f)
          ∗ ((sRow 5 inb_S6x128_S1x128_5_0).view.loc (V d (cV L) (jV L)) ↦[(sRow 5 inb_S6x128_S1x128_5_0).view.set]{fullShare} f)) :=
  (sPts_rows d L f).trans (bigSep_six _)
/-- the gathered numbers' scratch is its six windows. -/
theorem gPts_six (f : Buf (Elt F) ((V d (cV L) (jV L)).loc cc0_scratch1)) :
    ((V d (cV L) (jV L)).loc cc0_scratch1 ↦{fullShare} f : sProp 𝕄)
      = iprop(((gWin 0 inb_S768_S128_0).view.loc (V d (cV L) (jV L)) ↦[(gWin 0 inb_S768_S128_0).view.set]{fullShare} f)
          ∗ ((gWin 128 inb_S768_S128_128).view.loc (V d (cV L) (jV L)) ↦[(gWin 128 inb_S768_S128_128).view.set]{fullShare} f)
          ∗ ((gWin 256 inb_S768_S128_256).view.loc (V d (cV L) (jV L)) ↦[(gWin 256 inb_S768_S128_256).view.set]{fullShare} f)
          ∗ ((gWin 384 inb_S768_S128_384).view.loc (V d (cV L) (jV L)) ↦[(gWin 384 inb_S768_S128_384).view.set]{fullShare} f)
          ∗ ((gWin 512 inb_S768_S128_512).view.loc (V d (cV L) (jV L)) ↦[(gWin 512 inb_S768_S128_512).view.set]{fullShare} f)
          ∗ ((gWin 640 inb_S768_S128_640).view.loc (V d (cV L) (jV L)) ↦[(gWin 640 inb_S768_S128_640).view.set]{fullShare} f)) :=
  (gPts_wins d L f).trans (bigSep_six _)

/-! ## The tile's semaphores and scratch among its own -/

abbrev cell (d : Dev nD) (L : grid0.Coords) (s : DmaSem sig) : GSem nD τ sig := (V d (cV L) (jV L), .dma s)

/-- The eight semaphores of the call, in the order the body uses them. -/
def sems : List (DmaSem sig) :=
  [cc0_scratch2.sem, cc0_scoped0.sem, cc0_scoped1.sem, cc0_scoped2.sem, cc0_scoped3.sem, cc0_scoped4.sem, cc0_scoped5.sem, cc0_scoped6.sem]

/-- A family over a finite set, the members of a list without repetition taken out one by one. -/
theorem bigSep_takeList {I : Type} [DecidableEq I] (Φ : I → sProp 𝕄) :
    ∀ (l : List I) (s : Finset I), l.Nodup → (∀ x ∈ l, x ∈ s) →
      bigSep s Φ = l.foldr (fun x R => iprop(Φ x ∗ R)) (bigSep (l.foldl (fun s x => s.erase x) s) Φ)
  | [], _, _, _ => rfl
  | x :: l, s, hn, hm => by
    rw [SparseCore.bigSep_erase' (hm x (List.mem_cons_self ..)),
      bigSep_takeList Φ l (s.erase x) (List.nodup_cons.mp hn).2 fun y hy =>
        Finset.mem_erase.mpr ⟨fun e => (List.nodup_cons.mp hn).1 (e ▸ hy), hm y (List.mem_cons_of_mem _ hy)⟩]
    rfl

theorem cell_injective : Function.Injective (cell d L) := fun _ _ h => by
  have := (Prod.mk.inj h).2; exact SemLoc.dma.inj this

/-- What of the tile's own semaphores the call does not use. -/
abbrev restSems : Finset (GSem nD τ sig) := (sems.map (cell d L)).foldl (fun s x => s.erase x) (ownCells (V d (cV L) (jV L)))

theorem ownSems0_V :
    (ownSems0 (V d (cV L) (jV L)) : sProp 𝕄)
      = iprop(semVal (cell d L cc0_scratch2.sem) 0 ∗ semVal (cell d L cc0_scoped0.sem) 0 ∗ semVal (cell d L cc0_scoped1.sem) 0
          ∗ semVal (cell d L cc0_scoped2.sem) 0 ∗ semVal (cell d L cc0_scoped3.sem) 0 ∗ semVal (cell d L cc0_scoped4.sem) 0
          ∗ semVal (cell d L cc0_scoped5.sem) 0 ∗ semVal (cell d L cc0_scoped6.sem) 0 ∗ bigSep (restSems d L) fun g => semVal g 0) := by
  unfold SparseCore.Cfg.ownSems0
  refine (bigSep_takeList _ (sems.map (cell d L)) _ (List.Nodup.map (cell_injective d L) (by decide)) ?_).trans rfl
  intro g hg
  obtain ⟨s, hs, rfl⟩ := List.mem_map.mp hg
  clear hg
  refine mem_ownCells.mpr ⟨rfl, ?_⟩
  show (SemLoc.dma s : SemLoc sig).isScoped .scVector = true
  revert s; decide

/-- What of the tile's own buffers the call does not use. -/
abbrev restBufs : Finset (DevRef τ sig) :=
  ((ownRefs (τ := τ) (.scVector (cV L) (jV L))).erase ((Proc.scVector (cV L) (jV L)).devRef cc0_scratch0)).erase
    ((Proc.scVector (cV L) (jV L)).devRef cc0_scratch1)

theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (restBufs L) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## Values -/

/-- The list's position that entry `(y0, y1)` of the tile's index scratch holds. -/
def lpos (L : grid0.Coords) (y : S6x128.Idx) : S24576.Idx := fun a => match a with
  | 0 => ⟨1536 * (L 1).val + 768 * (L 0).val + 128 * (y 0).val + (y 1).val, by
      have h1 := (L 1).isLt; have h0 := (L 0).isLt; have hy := (y 0).isLt; have hz := (y 1).isLt
      change (L 1).val < 16 at h1; change (L 0).val < 2 at h0; change (y 0).val < 6 at hy; change (y 1).val < 128 at hz
      change _ < 24576; omega⟩

/-- The output's position that position `z` of the tile's gathered numbers goes to. -/
def opos (L : grid0.Coords) (z : S768.Idx) : S24576.Idx := fun a => match a with
  | 0 => ⟨1536 * (L 1).val + 768 * (L 0).val + (z 0).val, by
      have h1 := (L 1).isLt; have h0 := (L 0).isLt; have hy := (z 0).isLt
      change (L 1).val < 16 at h1; change (L 0).val < 2 at h0; change (z 0).val < 768 at hy
      change _ < 24576; omega⟩

/-- What the index scratch holds once the six rows are fetched. -/
abbrev lst (f : S24576.Idx → Elt F .i32) : S6x128.Idx → Elt F .i32 := fun y => f (lpos L y)
/-- What the gathered numbers' scratch holds in the end. -/
abbrev gth (f : S24576.Idx → Elt F .i32) (t : S80000.Idx → Elt F .f32) : S768.Idx → Elt F .f32 := fun z => gat f t (opos L z)

/-- Entry `x` of row `g`. -/
def rowIdx (g : Fin 6) (x : S128.Idx) : S6x128.Idx := fun a => match a with
  | 0 => g
  | 1 => x 0

theorem sRow_emb (g : Fin 6) (x : S128.Idx) : (sRow g.val (sInb g)).view.emb x = rowIdx g x := by
  have hx : Shape.reshapeEquiv squeezes_S1x128_S128.numel_eq x = (fun a => match a with | 0 => (0 : Fin 1) | 1 => x 0 : S1x128.Idx) := by
    refine Shape.reshapeEquiv_eq_of_rowMajor _ ?_
    show (Shape.rowMajor ⟨2, ![1, 128]⟩ _).val = (Shape.rowMajor ⟨1, ![128]⟩ x).val
    rw [Shape.rowMajor_val_two, Shape.rowMajor_val_one]
    simp
  show (Rect.unit (s := S6x128) ![g.val, 0] S1x128.size (sInb g)).emb (Shape.reshapeEquiv squeezes_S1x128_S128.numel_eq x) = _
  rw [hx]
  funext a
  match a with
  | 0 => exact Fin.ext (show g.val + 1 * 0 = g.val by omega)
  | 1 => exact Fin.ext (show 0 + 1 * (x 0).val = (x 0).val by omega)

theorem sRow_row (g : Fin 6) (f fs : S6x128.Idx → Elt F .i32) (w : S128.Idx → Elt F .i32) (hw : ∀ x, w x = f (rowIdx g x)) :
    ∀ y ∈ (sRow g.val (sInb g)).view.set, (sRow g.val (sInb g)).view.writes (Elt F) fs [⟨Rect.whole S128, w⟩] y = f y := by
  intro y hy
  obtain ⟨x, -, rfl⟩ := Finset.mem_map.mp hy
  have h : (sRow g.val (sInb g)).view.emb x = ((sRow g.val (sInb g)).view.slice (Rect.whole S128)).emb x :=
    congrArg (sRow g.val (sInb g)).view.emb (Rect.emb_whole_apply S128 x).symm
  rw [View.writes_singleton, h, View.write_emb_of_mem _ _ (Finset.mem_univ x), ← h, sRow_emb]
  exact hw x

theorem gWin_emb (g : Fin 6) (x : S128.Idx) :
    (gWin (128 * g.val) (gInb g)).view.emb x = (fun a => match a with
      | 0 => ⟨128 * g.val + (x 0).val, by have := g.isLt; have hx := (x 0).isLt; change (x 0).val < 128 at hx; change _ < 768; omega⟩ : S768.Idx) := by
  show (Rect.unit (s := S768) ![128 * g.val] S128.size (gInb g)).emb x = _
  funext a
  match a with
  | 0 => exact Fin.ext (show 128 * g.val + 1 * (x 0).val = 128 * g.val + (x 0).val by omega)

theorem fetch_val (g : Fin 6) (f : S24576.Idx → Elt F .i32) {off : Fin 1 → ℕ} (h : ∀ a, off a + S128.size a ≤ S24576.size a)
    (ho : off = ![1536 * (L 1).val + 768 * (L 0).val + 128 * g.val]) (x : S128.Idx) :
    ((iV).slice (Rect.unit (s := S24576) off S128.size h) (fun _ => rfl)).view.read (Elt F) f x = lst L f (rowIdx g x) := by
  subst ho
  rw [View.read_apply]
  refine congrArg f (funext fun a => ?_)
  match a with
  | 0 => exact Fin.ext (show 1536 * (L 1).val + 768 * (L 0).val + 128 * g.val + 1 * (x 0).val = 1536 * (L 1).val + 768 * (L 0).val + 128 * g.val + (x 0).val by omega)

/-- The list's entries name elements of the table. -/
theorem lst_lt {f : S24576.Idx → Elt F .i32} (hf : ∀ x, BitVec.toNat (f x) < 80000) (g : Fin 6) (x : S128.Idx) :
    ((sRow g.val (sInb g)).view.read (Elt F) (lst L f) x).toNat < S80000.size gathers_S80000_S128.axis := hf _

theorem rows_numel : S128.numel = S128.size gathers_S80000_S128.axis' := by decide
theorem rows_pos : 0 < S128.size gathers_S80000_S128.axis' := by decide
theorem six_pos : 0 < 6 := by decide

/-- What one row of gather `g` delivers. -/
abbrev dlv (t : S80000.Idx → Elt F .f32) (f : S24576.Idx → Elt F .i32) (hf : ∀ x, BitVec.toNat (f x) < 80000) (fg : S768.Idx → Elt F .f32)
    (g : Fin 6) (r : Fin 128) : sProp 𝕄 :=
  GatherBatch.rowDelivery (V d (cV L) (jV L)) rAll (gWin (128 * g.val) (gInb g)) gathers_S80000_S128 (sRow g.val (sInb g)) rows_numel rows_pos
    (pieceOf (shr (wL L)) 6 six_pos g) fullShare t fg (lst L f) (lst_lt L hf g) r

/-- The deliveries of all the six gathers' rows, in the order the rows are issued. -/
def dlvs (t : S80000.Idx → Elt F .f32) (f : S24576.Idx → Elt F .i32) (hf : ∀ x, BitVec.toNat (f x) < 80000) (fg : S768.Idx → Elt F .f32)
    (n : Fin 768) : sProp 𝕄 :=
  dlv d L t f hf fg ⟨n.val / 128, by have := n.isLt; omega⟩ ⟨n.val % 128, Nat.mod_lt _ (by decide)⟩

instance dlvs_storable (t : S80000.Idx → Elt F .f32) (f : S24576.Idx → Elt F .i32) (hf : ∀ x, BitVec.toNat (f x) < 80000)
    (fg : S768.Idx → Elt F .f32) (n : Fin 768) : BI.Storable (upEmb : UEmb _ 𝕄) (dlvs d L t f hf fg n) := by
  unfold dlvs; exact GatherBatch.rowDelivery_storable ..

theorem dlvs_eq (t : S80000.Idx → Elt F .f32) (f : S24576.Idx → Elt F .i32) (hf : ∀ x, BitVec.toNat (f x) < 80000) (fg : S768.Idx → Elt F .f32)
    (g : Fin 6) (r : Fin 128) (n : Fin 768) (hn : n.val = 128 * g.val + r.val) : dlvs d L t f hf fg n = dlv d L t f hf fg g r := by
  unfold dlvs
  have h1 : (⟨n.val / 128, by have := n.isLt; omega⟩ : Fin 6) = g := Fin.ext (by have := r.isLt; simp only; omega)
  have h2 : (⟨n.val % 128, Nat.mod_lt _ (by decide)⟩ : Fin 128) = r := Fin.ext (by have := r.isLt; simp only; omega)
  rw [h1, h2]

/-- The rows in the order of issue are the gathers and the rows of each. -/
def rowEquiv : Fin 6 × Fin 128 ≃ Fin 768 where
  toFun p := ⟨128 * p.1.val + p.2.val, by have := p.1.isLt; have := p.2.isLt; omega⟩
  invFun n := (⟨n.val / 128, by have := n.isLt; omega⟩, ⟨n.val % 128, Nat.mod_lt _ (by decide)⟩)
  left_inv := by
    rintro ⟨g, r⟩
    have := r.isLt
    refine Prod.ext (Fin.ext ?_) (Fin.ext ?_) <;> simp only <;> omega
  right_inv n := by refine Fin.ext ?_; simp only; omega

theorem dlvs_all (t : S80000.Idx → Elt F .f32) (f : S24576.Idx → Elt F .i32) (hf : ∀ x, BitVec.toNat (f x) < 80000) (fg : S768.Idx → Elt F .f32) :
    bigSep Finset.univ (dlvs d L t f hf fg) = bigSep Finset.univ fun g : Fin 6 => bigSep Finset.univ fun r : Fin 128 => dlv d L t f hf fg g r := by
  rw [bigSep_univ_equiv rowEquiv, bigSep_univ_prod]
  exact bigSep_congr fun g _ => bigSep_congr fun r _ => dlvs_eq d L t f hf fg g r _ rfl

/-- What a gather writes: the table's elements that the list names. -/
theorem gWin_val (t : S80000.Idx → Elt F .f32) (f : S24576.Idx → Elt F .i32) (hf : ∀ x, BitVec.toNat (f x) < 80000) (fg : S768.Idx → Elt F .f32)
    (g : Fin 6) : ∀ z ∈ (gWin (128 * g.val) (gInb g)).view.set,
      (gWin (128 * g.val) (gInb g)).view.write (Elt F) fg (SparseCore.gatherPayload gathers_S80000_S128 (rAll.view.read (Elt F) t)
        (SparseCore.rows ((sRow g.val (sInb g)).view.read (Elt F) (lst L f)) rows_numel (lst_lt L hf g))) Finset.univ z = gth L f t z := by
  intro z hz
  obtain ⟨x, -, rfl⟩ := Finset.mem_map.mp hz
  rw [View.write_emb_of_mem _ _ (Finset.mem_univ x), gWin_emb]
  have hx : S128.rowMajor.symm ((x 0).cast rows_numel.symm) = x := by
    rw [Equiv.symm_apply_eq]
    exact Fin.ext (Shape.rowMajor_val_one (d := ![128]) x).symm
  have hr : ((SparseCore.rows ((sRow g.val (sInb g)).view.read (Elt F) (lst L f)) rows_numel (lst_lt L hf g)) (x 0)).val
      = BitVec.toNat (f (lpos L (rowIdx g x))) := by
    show BitVec.toNat ((sRow g.val (sInb g)).view.read (Elt F) (lst L f) (S128.rowMajor.symm ((x 0).cast rows_numel.symm))) = _
    rw [hx, View.read_apply, sRow_emb]; rfl
  have hp : lpos L (rowIdx g x) = opos L (fun a => match a with
      | 0 => ⟨128 * g.val + (x 0).val, by have := g.isLt; have hx := (x 0).isLt; change (x 0).val < 128 at hx; change _ < 768; omega⟩) := by
    funext a
    match a with
    | 0 => exact Fin.ext (show 1536 * (L 1).val + 768 * (L 0).val + 128 * g.val + (x 0).val
        = 1536 * (L 1).val + 768 * (L 0).val + (128 * g.val + (x 0).val) by omega)
  show rAll.view.read (Elt F) t (gathers_S80000_S128.idx _ x) = t (tabIx (BitVec.toNat (f (opos L _))))
  rw [← hp, View.read_apply]
  refine congrArg t (funext fun a => ?_)
  match a with
  | 0 =>
    refine Fin.ext ?_
    show 0 + 1 * ((SparseCore.rows ((sRow g.val (sInb g)).view.read (Elt F) (lst L f)) rows_numel (lst_lt L hf g)) (x 0)).val = BitVec.toNat _ % 80000
    rw [hr, Nat.mod_eq_of_lt (hf _)]; omega

/-- All the rows of gather `g` delivered: its window of gathered numbers, its piece of the table's share, its row of the list. -/
theorem dlv_join (t : S80000.Idx → Elt F .f32) (f : S24576.Idx → Elt F .i32) (hf : ∀ x, BitVec.toNat (f x) < 80000) (fg : S768.Idx → Elt F .f32)
    (g : Fin 6) : (bigSep Finset.univ fun r : Fin 128 => dlv d L t f hf fg g r)
      ⊢ iprop(((gWin (128 * g.val) (gInb g)).view.loc (V d (cV L) (jV L)) ↦[(gWin (128 * g.val) (gInb g)).view.set]{fullShare} gth L f t)
        ∗ (rLoc d ↦{pieceOf (shr (wL L)) 6 six_pos g} t)
        ∗ ((sRow g.val (sInb g)).view.loc (V d (cV L) (jV L)) ↦[(sRow g.val (sInb g)).view.set]{fullShare} lst L f)) := by
  have h := GatherBatch.rowDelivery_join (Ix := HIx 1) (Name := ℕ) (U := UU) (Lvl := ℕ) (V d (cV L) (jV L)) rAll (gWin (128 * g.val) (gInb g))
    gathers_S80000_S128 (sRow g.val (sInb g)) rows_numel rows_pos (pieceOf (shr (wL L)) 6 six_pos g) fullShare t fg (lst L f) (lst_lt L hf g)
  rw [set_rAll, pointsTo_congr (q := fullShare) (gWin_val L t f hf fg g)] at h
  exact h

theorem oBlk_emb (z : S768.Idx) : (oBlk L).view.emb z = opos L z := by
  show (Rect.unit (s := S24576) (k0_off2 L) S768.size (k0_off2_inb L)).emb z = _
  funext a
  match a with
  | 0 =>
    refine Fin.ext ?_
    show k0_off2 L 0 + 1 * (z 0).val = 1536 * (L 1).val + 768 * (L 0).val + (z 0).val
    rw [k0_off2_eq]
    show 1536 * (L 1).val + 768 * (L 0).val + 1 * (z 0).val = _
    omega

/-- What the last copy leaves in the tile's block of the output. -/
theorem oBlk_val (t : S80000.Idx → Elt F .f32) (f : S24576.Idx → Elt F .i32) (o) (G) (hw : gth L f t = G) :
    ∀ y ∈ (oBlk L).view.set, (oBlk L).view.writes (Elt F) o [⟨Rect.whole S768, ReadAs.same.apply ((gV).view.read (Elt F) G)⟩] y = gat f t y := by
  subst hw
  intro y hy
  obtain ⟨x, -, rfl⟩ := Finset.mem_map.mp hy
  have h : (oBlk L).view.emb x = ((oBlk L).view.slice (Rect.whole S768)).emb x :=
    congrArg (oBlk L).view.emb (Rect.emb_whole_apply S768 x).symm
  rw [View.writes_singleton, h, View.write_emb_of_mem _ _ (Finset.mem_univ x), ← h, oBlk_emb]; rfl

/-- One more wait on a semaphore's own turn keeps the waits' account. -/
theorem insert_none {W W' : Waits sig (HIx 1)} {sm : SemLoc sig} (h : ∀ p ∈ W', p ∈ W ∨ p.2 = none) :
    ∀ p ∈ insert (sm, (default : HIx 1)) W', p ∈ W ∨ p.2 = none := by
  intro p hp
  rcases Finset.mem_insert.mp hp with rfl | hp
  · exact .inr rfl
  · exact h p hp

/-! ## The body -/

variable (ix : (d : Dev nD) → Buf (Elt F) (iLoc d)) (tab : (d : Dev nD) → Buf (Elt F) (rLoc d)) (o₀ : (d : Dev nD) → Buf (Elt F) (oLoc d))

set_option maxHeartbeats 4000000 in
theorem tile_body (hF : (K (F := F)).Facts) (hin : ∀ x, BitVec.toNat (ix d x) < 80000) (O : CellTallies nD τ sig (HIx 1)) (W : Waits sig (HIx 1)) (hO : ∀ g, O g none = 0) :
    iprop(levAts (K (F := F)).L (K (F := F)).lev ∗ emp ∗ goP ix tab o₀ d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__gather_sc_body L iV (Memref.isWhole_whole _) rV (Memref.isWhole_whole _) oV (Memref.isWhole_whole _)
            sV (Memref.isWhole_whole _) gV (Memref.isWhole_whole _) cc0_scratch2 cc0_scoped0 cc0_scoped1 cc0_scoped2 cc0_scoped3 cc0_scoped4 cc0_scoped5 cc0_scoped6)
          fun _ => iprop(tdP ix tab d (wL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__gather_sc_body_eq_skeleton]; unfold cc0__gather_sc_body_skel
  simp only [k0_part1_eq_skeleton, k0_part2_eq_skeleton, k0_part3_eq_skeleton, k0_part4_eq_skeleton]
  unfold k0_part1_skel k0_part2_skel k0_part3_skel k0_part4_skel
  rw [(K (F := F)).scopedBufs_V hF d (cV L) (jV L), SparseCore.Cfg.scopedSems0_V (Val := Elt F) d (cV L) (jV L), ownSems0_V, ownBufs_V]
  iintro ⟨#Hlv, -, ⟨Hi, Hr, Ho⟩, ⟨⟨%fs, Hs⟩, ⟨%fg, Hg⟩, Hbufs⟩, ⟨HsemG, Hsem0, Hsem1, Hsem2, Hsem3, Hsem4, Hsem5, Hsem6, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iV (F := F) d L _ _).symm) $$ Hi
  ihave Ho' := (Entails.of_eq (pts_oBlk (F := F) d L _).symm) $$ Ho
  ihave Hr' := (Entails.of_eq (pts_rV (F := F) d L _ _).symm) $$ Hr
  ihave Hs' := (Entails.of_eq (sPts_six (F := F) d L fs)) $$ Hs
  icases Hs' with ⟨Hs0, Hs1, Hs2, Hs3, Hs4, Hs5⟩
  sl_exec
  have hN : ∀ (g : Fin 6) (r : Fin (S128.size gathers_S80000_S128.axis')),
      ((gWin (128 * g.val) (gInb g)).slice (S128.rowRect gathers_S80000_S128.axis' r) (S128.stride_rowRect gathers_S80000_S128.axis' r)).view.dmaCredit = 32 := by
    intro g r; rfl
  have hJ : ∀ (g : Fin 6), (gWin (128 * g.val) (gInb g)).view.dmaCredit = 128 * 32 := by
    intro g; rfl
  ihave Hq0 := (Entails.of_eq (pointsTo_congr (q := fullShare) (sRow_row 0 (lst L (ix d)) fs _ (fetch_val L 0 (ix d) _ (k0_off1_eq L 0))))) $$ Hs0
  ihave Hq1 := (Entails.of_eq (pointsTo_congr (q := fullShare) (sRow_row 1 (lst L (ix d)) fs _ (fetch_val L 1 (ix d) _ (k0_off1_eq L 1))))) $$ Hs1
  ihave Hq2 := (Entails.of_eq (pointsTo_congr (q := fullShare) (sRow_row 2 (lst L (ix d)) fs _ (fetch_val L 2 (ix d) _ (k0_off1_eq L 2))))) $$ Hs2
  ihave Hq3 := (Entails.of_eq (pointsTo_congr (q := fullShare) (sRow_row 3 (lst L (ix d)) fs _ (fetch_val L 3 (ix d) _ (k0_off1_eq L 3))))) $$ Hs3
  ihave Hq4 := (Entails.of_eq (pointsTo_congr (q := fullShare) (sRow_row 4 (lst L (ix d)) fs _ (fetch_val L 4 (ix d) _ (k0_off1_eq L 4))))) $$ Hs4
  ihave Hq5 := (Entails.of_eq (pointsTo_congr (q := fullShare) (sRow_row 5 (lst L (ix d)) fs _ (fetch_val L 5 (ix d) _ (k0_off1_eq L 5))))) $$ Hs5
  ihave Hg' := (Entails.of_eq (gPts_six (F := F) d L fg)) $$ Hg
  icases Hg' with ⟨Hg0, Hg1, Hg2, Hg3, Hg4, Hg5⟩
  ihave Hr6 := (Entails.of_eq ((pointsTo_piecesOf Finset.univ (tab d) six_pos (shr (wL L))).trans (bigSep_six _))) $$ Hr'
  icases Hr6 with ⟨Hr0, Hr1, Hr2, Hr3, Hr4, Hr5⟩
  imod (Transfers.batch_alloc' (E := Set.univ) countersEmb (V d (cV L) (jV L)) (sm := .dma cc0_scratch2.sem) (default : HIx 1) 32
    (dlvs d L (tab d) (ix d) hin fg)) $$ HsemG with HB
  iapply (GatherBatch.wp_gather_batch countersEmb 𝒱₀ (V d (cV L) (jV L)) none rAll (gWin (128 * ((0 : Fin 6)).val) (gInb 0)) gathers_S80000_S128
    (sRow (0 : Fin 6).val (sInb 0)) rows_numel rows_pos (pieceOf (shr (wL L)) 6 six_pos 0) fullShare (tab d) fg (lst L (ix d)) (lst_lt L hin 0)
    (j := 0) (u := 0) (default : HIx 1) 32 (hN 0) (show 0 + 128 ≤ 768 by decide) (Nat.zero_le _)
    (fun r => Entails.of_eq (dlvs_eq d L (tab d) (ix d) hin fg 0 r _ rfl).symm)) $$ [Hr0 Hg0 Hq0 HB]
  · isplitl [Hr0]; · rw [set_rAll]; iexact Hr0
    isplitl [Hg0]; · iexact Hg0
    isplitl [Hq0]; · iexact Hq0
    iexact HB
  iintro HB
  sl_exec
  iapply (GatherBatch.wp_gather_batch countersEmb 𝒱₀ (V d (cV L) (jV L)) none rAll (gWin (128 * ((1 : Fin 6)).val) (gInb 1)) gathers_S80000_S128
    (sRow (1 : Fin 6).val (sInb 1)) rows_numel rows_pos (pieceOf (shr (wL L)) 6 six_pos 1) fullShare (tab d) fg (lst L (ix d)) (lst_lt L hin 1)
    (j := 128) (u := 0) (default : HIx 1) 32 (hN 1) (show 128 + 128 ≤ 768 by decide) (Nat.zero_le _)
    (fun r => Entails.of_eq (dlvs_eq d L (tab d) (ix d) hin fg 1 r _ rfl).symm)) $$ [Hr1 Hg1 Hq1 HB]
  · isplitl [Hr1]; · rw [set_rAll]; iexact Hr1
    isplitl [Hg1]; · iexact Hg1
    isplitl [Hq1]; · iexact Hq1
    iexact HB
  iintro HB
  sl_exec
  iapply (GatherBatch.wp_gather_batch countersEmb 𝒱₀ (V d (cV L) (jV L)) none rAll (gWin (128 * ((2 : Fin 6)).val) (gInb 2)) gathers_S80000_S128
    (sRow (2 : Fin 6).val (sInb 2)) rows_numel rows_pos (pieceOf (shr (wL L)) 6 six_pos 2) fullShare (tab d) fg (lst L (ix d)) (lst_lt L hin 2)
    (j := 256) (u := 0) (default : HIx 1) 32 (hN 2) (show 256 + 128 ≤ 768 by decide) (Nat.zero_le _)
    (fun r => Entails.of_eq (dlvs_eq d L (tab d) (ix d) hin fg 2 r _ rfl).symm)) $$ [Hr2 Hg2 Hq2 HB]
  · isplitl [Hr2]; · rw [set_rAll]; iexact Hr2
    isplitl [Hg2]; · iexact Hg2
    isplitl [Hq2]; · iexact Hq2
    iexact HB
  iintro HB
  sl_exec
  iapply (GatherBatch.wp_gather_batch countersEmb 𝒱₀ (V d (cV L) (jV L)) none rAll (gWin (128 * ((3 : Fin 6)).val) (gInb 3)) gathers_S80000_S128
    (sRow (3 : Fin 6).val (sInb 3)) rows_numel rows_pos (pieceOf (shr (wL L)) 6 six_pos 3) fullShare (tab d) fg (lst L (ix d)) (lst_lt L hin 3)
    (j := 384) (u := 0) (default : HIx 1) 32 (hN 3) (show 384 + 128 ≤ 768 by decide) (Nat.zero_le _)
    (fun r => Entails.of_eq (dlvs_eq d L (tab d) (ix d) hin fg 3 r _ rfl).symm)) $$ [Hr3 Hg3 Hq3 HB]
  · isplitl [Hr3]; · rw [set_rAll]; iexact Hr3
    isplitl [Hg3]; · iexact Hg3
    isplitl [Hq3]; · iexact Hq3
    iexact HB
  iintro HB
  sl_exec
  iapply (GatherBatch.wp_gather_batch countersEmb 𝒱₀ (V d (cV L) (jV L)) none rAll (gWin (128 * ((4 : Fin 6)).val) (gInb 4)) gathers_S80000_S128
    (sRow (4 : Fin 6).val (sInb 4)) rows_numel rows_pos (pieceOf (shr (wL L)) 6 six_pos 4) fullShare (tab d) fg (lst L (ix d)) (lst_lt L hin 4)
    (j := 512) (u := 0) (default : HIx 1) 32 (hN 4) (show 512 + 128 ≤ 768 by decide) (Nat.zero_le _)
    (fun r => Entails.of_eq (dlvs_eq d L (tab d) (ix d) hin fg 4 r _ rfl).symm)) $$ [Hr4 Hg4 Hq4 HB]
  · isplitl [Hr4]; · rw [set_rAll]; iexact Hr4
    isplitl [Hg4]; · iexact Hg4
    isplitl [Hq4]; · iexact Hq4
    iexact HB
  iintro HB
  sl_exec
  iapply (GatherBatch.wp_gather_batch countersEmb 𝒱₀ (V d (cV L) (jV L)) none rAll (gWin (128 * ((5 : Fin 6)).val) (gInb 5)) gathers_S80000_S128
    (sRow (5 : Fin 6).val (sInb 5)) rows_numel rows_pos (pieceOf (shr (wL L)) 6 six_pos 5) fullShare (tab d) fg (lst L (ix d)) (lst_lt L hin 5)
    (j := 640) (u := 0) (default : HIx 1) 32 (hN 5) (show 640 + 128 ≤ 768 by decide) (Nat.zero_le _)
    (fun r => Entails.of_eq (dlvs_eq d L (tab d) (ix d) hin fg 5 r _ rfl).symm)) $$ [Hr5 Hg5 Hq5 HB]
  · isplitl [Hr5]; · rw [set_rAll]; iexact Hr5
    isplitl [Hg5]; · iexact Hg5
    isplitl [Hq5]; · iexact Hq5
    iexact HB
  iintro HB
  sl_exec
  ihave Hm := (Transfers.MayWaits.elim (SemLoc.dma cc0_scratch2.sem)) $$ Hmw
  iapply (GatherBatch.wp_wait_batch countersEmb 𝒱₀ (V d (cV L) (jV L)) none rAll (gWin (128 * ((0 : Fin 6)).val) (gInb 0))
    (default : HIx 1) 128 (hJ 0) (j := 768) (u := 0) (by decide)) $$ [HB HO Hm]
  · isplitl [HB]; · iexact HB
    isplitl [HO]; · iexact HO
    iexact Hm
  iintro ⟨HB, HO⟩
  sl_exec
  ihave Hm := (Transfers.MayWaits.elim (SemLoc.dma cc0_scratch2.sem)) $$ Hmw
  iapply (GatherBatch.wp_wait_batch countersEmb 𝒱₀ (V d (cV L) (jV L)) none rAll (gWin (128 * ((1 : Fin 6)).val) (gInb 1))
    (default : HIx 1) 128 (hJ 1) (j := 768) (u := 4096) (by decide)) $$ [HB HO Hm]
  · isplitl [HB]; · iexact HB
    isplitl [HO]; · iexact HO
    iexact Hm
  iintro ⟨HB, HO⟩
  sl_exec
  ihave Hm := (Transfers.MayWaits.elim (SemLoc.dma cc0_scratch2.sem)) $$ Hmw
  iapply (GatherBatch.wp_wait_batch countersEmb 𝒱₀ (V d (cV L) (jV L)) none rAll (gWin (128 * ((2 : Fin 6)).val) (gInb 2))
    (default : HIx 1) 128 (hJ 2) (j := 768) (u := 8192) (by decide)) $$ [HB HO Hm]
  · isplitl [HB]; · iexact HB
    isplitl [HO]; · iexact HO
    iexact Hm
  iintro ⟨HB, HO⟩
  sl_exec
  ihave Hm := (Transfers.MayWaits.elim (SemLoc.dma cc0_scratch2.sem)) $$ Hmw
  iapply (GatherBatch.wp_wait_batch countersEmb 𝒱₀ (V d (cV L) (jV L)) none rAll (gWin (128 * ((3 : Fin 6)).val) (gInb 3))
    (default : HIx 1) 128 (hJ 3) (j := 768) (u := 12288) (by decide)) $$ [HB HO Hm]
  · isplitl [HB]; · iexact HB
    isplitl [HO]; · iexact HO
    iexact Hm
  iintro ⟨HB, HO⟩
  sl_exec
  ihave Hm := (Transfers.MayWaits.elim (SemLoc.dma cc0_scratch2.sem)) $$ Hmw
  iapply (GatherBatch.wp_wait_batch countersEmb 𝒱₀ (V d (cV L) (jV L)) none rAll (gWin (128 * ((4 : Fin 6)).val) (gInb 4))
    (default : HIx 1) 128 (hJ 4) (j := 768) (u := 16384) (by decide)) $$ [HB HO Hm]
  · isplitl [HB]; · iexact HB
    isplitl [HO]; · iexact HO
    iexact Hm
  iintro ⟨HB, HO⟩
  iapply (le_wp_ret)
  ihave Hm := (Transfers.MayWaits.elim (SemLoc.dma cc0_scratch2.sem)) $$ Hmw
  iapply (GatherBatch.wp_wait_batch countersEmb 𝒱₀ (V d (cV L) (jV L)) none rAll (gWin (128 * ((5 : Fin 6)).val) (gInb 5))
    (default : HIx 1) 128 (hJ 5) (j := 768) (u := 20480) (by decide)) $$ [HB HO Hm]
  · isplitl [HB]; · iexact HB
    isplitl [HO]; · iexact HO
    iexact Hm
  iintro ⟨HB, HO⟩
  imod (Transfers.batch_collect' countersEmb (V d (cV L) (jV L)) (sm := .dma cc0_scratch2.sem) (D := dlvs d L (tab d) (ix d) hin fg) (by decide)) $$ HB with ⟨HD, HsemG⟩
  ihave HD' := (Entails.of_eq ((dlvs_all d L (tab d) (ix d) hin fg).trans (bigSep_six _))) $$ HD
  icases HD' with ⟨HD0, HD1, HD2, HD3, HD4, HD5⟩
  ihave HJ := (dlv_join (F := F) d L (tab d) (ix d) hin fg 0) $$ HD0
  icases HJ with ⟨Hw0, Hr0, Hq0⟩
  ihave HJ := (dlv_join (F := F) d L (tab d) (ix d) hin fg 1) $$ HD1
  icases HJ with ⟨Hw1, Hr1, Hq1⟩
  ihave HJ := (dlv_join (F := F) d L (tab d) (ix d) hin fg 2) $$ HD2
  icases HJ with ⟨Hw2, Hr2, Hq2⟩
  ihave HJ := (dlv_join (F := F) d L (tab d) (ix d) hin fg 3) $$ HD3
  icases HJ with ⟨Hw3, Hr3, Hq3⟩
  ihave HJ := (dlv_join (F := F) d L (tab d) (ix d) hin fg 4) $$ HD4
  icases HJ with ⟨Hw4, Hr4, Hq4⟩
  ihave HJ := (dlv_join (F := F) d L (tab d) (ix d) hin fg 5) $$ HD5
  icases HJ with ⟨Hw5, Hr5, Hq5⟩
  ihave Hg := (Entails.of_eq (gPts_six (F := F) d L (gth L (ix d) (tab d))).symm) $$ [Hw0 Hw1 Hw2 Hw3 Hw4 Hw5]
  · isplitl [Hw0]; · iexact Hw0
    isplitl [Hw1]; · iexact Hw1
    isplitl [Hw2]; · iexact Hw2
    isplitl [Hw3]; · iexact Hw3
    isplitl [Hw4]; · iexact Hw4
    iexact Hw5
  ihave Hs := (Entails.of_eq (sPts_six (F := F) d L (lst L (ix d))).symm) $$ [Hq0 Hq1 Hq2 Hq3 Hq4 Hq5]
  · isplitl [Hq0]; · iexact Hq0
    isplitl [Hq1]; · iexact Hq1
    isplitl [Hq2]; · iexact Hq2
    isplitl [Hq3]; · iexact Hq3
    isplitl [Hq4]; · iexact Hq4
    iexact Hq5
  ihave Hr := (Entails.of_eq ((pointsTo_piecesOf Finset.univ (tab d) six_pos (shr (wL L))).trans (bigSep_six _)).symm) $$ [Hr0 Hr1 Hr2 Hr3 Hr4 Hr5]
  · isplitl [Hr0]; · iexact Hr0
    isplitl [Hr1]; · iexact Hr1
    isplitl [Hr2]; · iexact Hr2
    isplitl [Hr3]; · iexact Hr3
    isplitl [Hr4]; · iexact Hr4
    iexact Hr5
  ihave Hg' := (Entails.of_eq (pts_gV (F := F) d L _).symm) $$ Hg
  generalize hG : gth L (ix d) (tab d) = G
  generalize hl : lst L (ix d) = l
  sl_exec
  unfold tile_body.sl.dma0_6
  ihave Ho := (Entails.of_eq ((pointsTo_congr (q := fullShare) (oBlk_val L (tab d) (ix d) (o₀ d) G hG)).trans (pts_oBlk (F := F) d L _))) $$ Ho'
  iapply (le_wp_ret)
  isplitl [Hi' Hr Ho]
  · isplitl [Hi']; · iexact Hi'
    isplitl [Hr]; · iexact Hr
    iexact Ho
  isplitl [Hs Hg' Hbufs]
  · isplitl [Hs]; · iexists l; iexact Hs
    isplitl [Hg']; · iexists G; iexact Hg'
    iexact Hbufs
  isplitl [HsemG Hsem0 Hsem1 Hsem2 Hsem3 Hsem4 Hsem5 Hsem6 Hsems]
  · isplitl [HsemG]; · iexact HsemG
    isplitl [Hsem0]; · iexact Hsem0
    isplitl [Hsem1]; · iexact Hsem1
    isplitl [Hsem2]; · iexact Hsem2
    isplitl [Hsem3]; · iexact Hsem3
    isplitl [Hsem4]; · iexact Hsem4
    isplitl [Hsem5]; · iexact Hsem5
    isplitl [Hsem6]; · iexact Hsem6
    iexact Hsems
  iexists _
  isplitr; rotate_left; · iexact HO
  ipureintro
  repeat' (first | exact fun p hp => .inl hp | refine insert_none ?_)

end Cert.Proof.Gather
-- ==== Proof.Regions.lean ====
/-
  A pipeline's grid as one step of the TensorCore's program: entered with every array of the TensorCore at some contents and the
  core owing nothing, left with the arrays its windows write at what the grid leaves and every other array as it was. The waits the
  core has recorded stay at or below the level they were at.
-/
module

public import proofs.«01_k».proof.Proof.Setup
public import proofs.«01_k».proof.Proof.Gen.KernelIdeal.Launch
public import Idealize.ShloMosaic.Lib.Pipeline.RegionArraysS
public import Idealize.ShloMosaic.Lib.Pipeline.RegionsLoop

@[expose] public section

set_option maxRecDepth 16384

noncomputable section

namespace Cert.Proof.Gather

open Cert.KernelIdeal Cert.KernelIdeal.Gen
open Idealize.ShloMosaic Idealize.ShloMosaic.TcCoe
open Idealize.ShloMosaic.SparseCore (S V T)
open Idealize.ShloMosaic.SparseCore.Cfg (HIx)
open Idealize.ShloMosaic.Pipeline (Dat BodyObligationLoose RegionSeg pin arrRef arrRefs ucRefs scopedRest afterRegion)
open Idealize.ShloMosaic.StableHlo (held)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- No pipeline here has a table of runtime values, so each is launched as it stands. -/
abbrev adm : (p : Fin 4) → (pcfgs (F := F) p).Adm := fun p => (cfgs p).toPCfg_adm

/-- The waits of core `d` at or below level `b`. -/
def lowWaits (b : ℕ) (d : Dev nD) : Set (SemLoc sig × HIx 1) := {q | (K (F := F)).lev (T d, q.1) q.2 ≤ b}

/-- The core owes nothing, its recorded waits at or below level `b`. -/
abbrev Idle (b : ℕ) (d : Dev nD) : sProp 𝕄 :=
  iprop(∃ W, ⌜(K (F := F)).WBelow (T d) W b⌝ ∗ owes (T d) (0 : CellTallies nD τ sig (HIx 1)) W)

variable (pdats : (p : Fin 4) → (c : Dev nD) → Dat τ (Elt F) (HIx 1) ℕ UU ℕ (pin (pcfgs (F := F)) adm p) c)

theorem no_tables (c : Dev nD) (p : Fin 4) (h : (pcfgs (F := F) p).pre.K = 0) (q) (a) :
    (Pipeline.prefHeld (pcfgs (F := F) p).pre c q a : sProp 𝕄) = BI.emp := Pipeline.prefHeld_of_none _ h _ _ _

set_option backward.isDefEq.respectTransparency.types false in
/-- The step's record: the pipeline's layout, its body, and how the arrays go in and come out. -/
def seg (b : ℕ) (p : Fin 4) (win : Pipeline.WinFacts (pin (pcfgs (F := F)) adm p).spec)
    (block_pos : ∀ w : Fin (pin (pcfgs (F := F)) adm p).W, 0 < ((pin (pcfgs (F := F)) adm p).spec w).block.numel)
    (arr_whole : ∀ w : Fin (pin (pcfgs (F := F)) adm p).W, ((pin (pcfgs (F := F)) adm p).spec w).arr.IsWhole)
    (stage_whole : ∀ (w : Fin (pin (pcfgs (F := F)) adm p).W) (s : Fin ((pin (pcfgs (F := F)) adm p).spec w).nbuf),
      (((pin (pcfgs (F := F)) adm p).spec w).stage s).IsWhole)
    (hK : (pcfgs (F := F) p).pre.K = 0)
    (hbody : ∀ c, BodyObligationLoose (pdats p c) (defs₀ (F := F)) 𝒱₀ none Set.univ)
    (howed : ∀ c t, (pdats p c).owed t = 0)
    (hrec : ∀ c t, (pdats p c).recorded t = lowWaits (F := F) b c)
    (hq : ∀ c w, (pdats p c).q w = fullShare)
    (hΦ : ∀ c t, (pdats p c).Φ t = (scopedRest (pin (pcfgs (F := F)) adm p).spec c : sProp 𝕄))
    (W : Dev nD → Valuation τ sig (Elt F))
    (hA : ∀ c w, (pdats p c).A w = W c (Proc.devRef .tc (arrRef (pin (pcfgs (F := F)) adm p).spec w))) :
    RegionSeg (pcfgs (F := F)) adm pdats none defs₀ 𝒱₀ (K (F := F)).L (K (F := F)).lev p where
  win := win.to₀
  block_pos := block_pos
  stage_whole := stage_whole
  K := PEmpty
  osem k := k.elim
  ho := Pipeline.OwnSemFacts.none _
  hbody := hbody
  hwaits := Pipeline.hwaits_of_owed_zero _ _ _ _ _ _ p howed
  pre c := iprop(held (T c) (ucRefs τ sig) (W c) ∗ Idle (F := F) b c)
  post c := iprop(held (T c) (ucRefs τ sig) (afterRegion (pdats p c) (W c)) ∗ Idle (F := F) b c)
  X c := iprop(emp)
  Y c := iprop(emp)
  Z c := Pipeline.unscopedRest (Ix := HIx 1) (Name := ℕ) (U := UU) (Lvl := ℕ) (pin (pcfgs (F := F)) adm p).spec c
    (fun r => W c (Proc.devRef .tc r))
  hentry c := by
    rw [Pipeline.ownSems0_none, no_tables c p hK]
    have hsplit := Pipeline.arrays_of_unscopedBufs (p := p) (pcfgs (F := F)) adm pdats win arr_whole c
      ((pdats p c).share_full (hq c)) (fun r => W c (Proc.devRef .tc r)) (hA c)
    rw [Pipeline.unscopedBufs_held c (W c)] at hsplit
    iintro ⟨⟨Hh, HO⟩, -, -⟩
    ihave H := hsplit $$ Hh
    icases H with ⟨Ha, Hrest⟩
    imodintro
    isplitl [Ha]; · iexact Ha
    isplitr; · iempintro
    isplitl [HO]
    · unfold Pipeline.Dat.owesAt Pipeline.owesWithin Pipeline.Dat.bound
      rw [howed c 0, hrec c 0]
      icases HO with ⟨%Wd, %hWd, HO⟩; iexists Wd; isplitr; · ipureintro; exact fun q hq => Or.inl (hWd q hq)
      iexact HO
    isplitr; · iempintro
    iexact Hrest
  hin c := by
    rw [hΦ c 0]
    iintro ⟨-, -, Hr⟩
    iexact Hr
  hout c := by
    rw [Pipeline.ownSems0_none, hΦ c]
    iintro Hr
    isplitr; · iempintro
    isplitr; · iempintro
    iexact Hr
  hexit c := by
    have hjoin := Pipeline.unscopedBufs_of_arrays (p := p) (pcfgs (F := F)) adm (Ix := HIx 1) (Name := ℕ) (U := UU) (Lvl := ℕ)
      win arr_whole c pdats ((pdats p c).share_full (hq c))
      (fun r => W c (Proc.devRef .tc r)) (fun r => afterRegion (pdats p c) (W c) (Proc.devRef .tc r))
      ((pdats p c).arrAt · (pin (pcfgs (F := F)) adm p).N)
      (fun w => (Pipeline.afterRegion_arr (pdats p c) (W c) win.arr_inj w).symm)
      (fun r hr => Pipeline.afterRegion_of_not_arr (pdats p c) (W c) fun w e => hr (Finset.mem_image.mpr ⟨w, Finset.mem_univ _, e.symm⟩))
    rw [Pipeline.unscopedBufs_held c (afterRegion (pdats p c) (W c))] at hjoin
    iintro ⟨Ha, HO, -, Hrest⟩
    imodintro
    isplitl [Ha Hrest]
    · iapply hjoin; isplitl [Ha] <;> iassumption
    unfold Pipeline.Dat.owesAt Pipeline.owesWithin Pipeline.Dat.bound
    rw [howed c (Fin.last _), hrec c (Fin.last _)]
    icases HO with ⟨%Wd, %hWd, HO⟩; iexists Wd; isplitr
    · ipureintro
      intro q hq
      rcases hWd hq with h | ⟨w, s, rfl⟩
      · exact h
      · exact Nat.zero_le b
    iexact HO

/-- The step in @main: from the boundary, the step's entry state, the levels and the pipeline's own tokens, the call of the
    pipeline runs to its exit state. -/
theorem wp_seg [∀ e, Nonempty (Elt F e)] {p : Fin 4}
    (R : RegionSeg (pcfgs (F := F)) adm pdats none defs₀ 𝒱₀ (K (F := F)).L (K (F := F)).lev p) (d : Dev nD) (Q : PUnit → sProp 𝕄) :
    iprop((iprop(boundary (d.tc : Thread nD τ) ∗ R.post d) -∗ Q ⟨⟩) ∗ boundary (d.tc : Thread nD τ) ∗ R.pre d ∗ levAts (K (F := F)).L (K (F := F)).lev
        ∗ Pipeline.cellsGhost (pin (pcfgs (F := F)) adm) EP p d ∗ Pipeline.toksInit (pin (pcfgs (F := F)) adm) EP p d)
      ⊢ wp frame (wpE ((K (F := F)).defs (D (F := F))) 𝒱 (T d) none) Set.univ
          (Prog.lift (.customCall (SparseCore.inner (Pipeline.entry p)) ())) Q := by
  have h₁ := (K (F := F)).wp_liftProg (D (F := F)) 𝒱 (T d) Set.univ none
    (Prog.op (.customCall (Λ := ΛP (F := F)) (Pipeline.entry p) ()) fun _ => .ret ⟨⟩) Q
  have h₂ := RegionSeg.wp (pcfgs (F := F)) adm pdats none cellOf_inj EP defs₀ 𝒱₀ (K (F := F)).L (K (F := F)).lev R d none
    (fun _ h => nomatch h) (fun _ => .ret ⟨⟩) Q
  have h := h₂.trans h₁
  rw [wp_ret] at h
  refine (?_ : _ ⊢ _).trans h
  iintro ⟨Hk, Hrest⟩
  isplitl [Hk]
  · iintro H; imodintro; iapply Hk; iexact H
  iexact Hrest

end Cert.Proof.Gather

end
-- ==== Proof.Nms.lean ====
/-
  The suppression call: what its body leaves, as plain recursions, and the body's run.

  The body keeps 24 rows of 256 flags (a box kept or not), a count of the boxes kept so far, and two running counts for the
  selection. The first loop goes over the 24 blocks of boxes: for each it adds up the overlaps with the kept boxes of the earlier
  blocks, then repeats a pass over the block itself until nothing changes (a recursive call). The second loop goes over the blocks
  again and adds the chosen boxes to the 128 selected rows. `accF`, `whileF`, `st1`, `st2` are these, as functions; `run` says the
  body leaves what they compute.
-/
module

public import proofs.«01_k».proof.Proof.Setup
public import proofs.«01_k».proof.Proof.Gen.KernelIdeal.Launch
public import proofs.«01_k».proof.Proof.Gen.KernelIdeal.Points
public import Idealize.ShloMosaic.Lib.Tactic
public import Idealize.ShloMosaic.Lib.ValueIdx

@[expose] public section

set_option maxRecDepth 16384

noncomputable section

namespace Cert.Proof.Gather.Nms

open Cert.KernelIdeal Cert.KernelIdeal.Gen
open Idealize.ShloMosaic Idealize.ShloMosaic.TcCoe
open Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-! ## The values -/

/-- Block `n` of the boxes: 256 rows. -/
def blk (B : Vec F S6144x4 .f32) (n : ℕ) : Vec F S256x4 .f32 :=
  fun i => B (ix2 (n0 := 6144) (n1 := 4) ⟨(256 * n + (i 0).val) % 6144, Nat.mod_lt _ (by decide)⟩ (i 1))

/-- Row `n` of the flags. -/
def row (K : Vec F S24x256 .f32) (n : ℕ) : Vec F S1x256 .f32 :=
  fun i => K (ix2 (n0 := 24) (n1 := 256) ⟨n % 24, Nat.mod_lt _ (by decide)⟩ (i 1))

/-- The flags with row `n` replaced. -/
def setRow (K : Vec F S24x256 .f32) (n : ℕ) (v : Vec F S1x256 .f32) : Vec F S24x256 .f32 :=
  fun i => if (i 0).val = n then v (ix2 (n0 := 1) (n1 := 256) ⟨0, by decide⟩ (i 1)) else K i

/-- The lanes' numbers. -/
def lanes : IVec S1x256 32 := iota .tc S1x256 32 [1] iota_S1x256_d1_w32

/-- The overlaps with the kept boxes of the first `n` blocks, added up, for a block of boxes `r`. -/
def accF (B : Vec F S6144x4 .f32) (K : Vec F S24x256 .f32) (r : Vec F S256x4 .f32) : ℕ → FVec F S1x256 .f32
  | 0 => k1_pay20
  | n + 1 => k1_pay21 r (accF B K r n) (blk B n) (row K n)

/-- The overlaps inside a block. -/
def inner (r : Vec F S256x4 .f32) : FVec F S256x256 .f32 :=
  k1_pay5 (k1_pay16 r) (k1_pay17 r) (k1_pay18 r) (k1_pay19 r) (k1_pay25 r) (k1_pay26 r) (k1_pay27 r) (k1_pay28 r) (k1_pay29 r r) (k1_pay30 r r)
    (k1_pay31 r r) (k1_pay32 r)

/-- The repeated pass over a block, at most `n` more times. -/
def whileF (M : FVec F S256x256 .f32) (pre : FVec F S1x256 .f32) : ℕ → BitVec 1 → FVec F S1x256 .f32 → FVec F S1x256 .f32
  | 0, _, k => k
  | n + 1, ch, k => if ch = 1#1 then whileF M pre n (Scalar.cmpf .ogt (k1_pay14 M pre k) (Scalar.ofBits .f32 0x00000000#32)) (k1_pay13 M pre k) else k

/-- Block `n`'s boxes not removed by an earlier block's. -/
def preF (B : Vec F S6144x4 .f32) (K : Vec F S24x256 .f32) (n : ℕ) : FVec F S1x256 .f32 :=
  k1_pay23 lanes (Scf.iv 0#32 1#32 n) (accF B K (blk B n) n)

/-- Block `n`'s kept boxes. -/
def keepF (B : Vec F S6144x4 .f32) (K : Vec F S24x256 .f32) (n : ℕ) : FVec F S1x256 .f32 :=
  whileF (inner (blk B n)) (preF B K n) 258 1#1 (preF B K n)

/-- The flags and the count after the first `n` blocks. -/
def st1 (B : Vec F S6144x4 .f32) : ℕ → Vec F S24x256 .f32 × F .f32
  | 0 => (k1_pay1, Scalar.ofBits .f32 0x00000000#32)
  | n + 1 =>
    if k1_cond1 (Scalar.cmpf .olt (st1 B n).2 (Scalar.ofBits .f32 0x43000000#32)) = 1#1 then
      (setRow (st1 B n).1 n (k1_pay6 (keepF B (st1 B n).1 n)), k1_pay7 (keepF B (st1 B n).1 n) (st1 B n).2)
    else st1 B n

/-- Whether the selection still needs a block. -/
def cond2 (kb kt : F .f32) : BitVec 1 :=
  Scalar.cmpi .ne (Scalar.extui (Scalar.ori (Scalar.cmpf .olt kb (Scalar.ofBits .f32 0x43000000#32)) (Scalar.cmpf .olt kt (Scalar.ofBits .f32 0x43000000#32))) : BitVec 32) 0#32

/-- The selected rows and the two running counts after the first `n` blocks. -/
def st2 (B : Vec F S6144x4 .f32) (K : Vec F S24x256 .f32) (kt : F .f32) : ℕ → Vec F S128x4 .f32 × F .f32 × F .f32
  | 0 => (k1_pay2, Scalar.ofBits .f32 0x00000000#32, Scalar.ofBits .f32 0x00000000#32)
  | n + 1 =>
    if cond2 (st2 B K kt n).2.1 kt = 1#1 then
      (k1_pay10 (k1_pay35 (st2 B K kt n).1)
          (k1_pay36 lanes kt k1_pay8 k1_pay9 (Scf.iv 0#32 1#32 n) (st2 B K kt n).2.1 (st2 B K kt n).2.2 (row K n) (blk B n)),
        k1_pay11 (st2 B K kt n).2.1 (row K n), k1_pay12 (st2 B K kt n).2.2 (k1_pay34 lanes (Scf.iv 0#32 1#32 n) (row K n)))
    else st2 B K kt n

/-- What the body leaves in the result. -/
def out (B : Vec F S6144x4 .f32) : Vec F S128x4 .f32 := (st2 B (st1 B 24).1 (st1 B 24).2 24).1

/-- Two words. -/
def pair (a b : F .f32) : Vec F S1x2 .f32 := fun i => if (i 1).val = 0 then a else b

/-! ## The accesses -/

theorem offs0 : (![0, 0] : Fin 2 → Nat) = fun _ => 0 := funext fun a => by fin_cases a <;> rfl

theorem trips1 : k1_t1_loop.trips = 24 := by decide +kernel
theorem trips2 : ∀ t : Fin k1_t1_loop.trips, (k1_t2_loop t).trips = t.val := by decide +kernel
theorem trips3 : ∀ t : Fin k1_t1_loop.trips, (k1_t3_loop t).trips = 0 := by decide +kernel
theorem trips4 : k1_t4_loop.trips = 24 := by decide +kernel

theorem read_blk (B : Vec F S6144x4 .f32) (n : ℕ) (hn : n < 24) (off : Fin 2 → Nat) (ho : off = ![256 * n, 0])
    (inb : ∀ a, off a + S256x4.size a ≤ S6144x4.size a) :
    ((Memref.whole cc1_stg0_0).access (Rect.unit (s := S6144x4) off S256x4.size inb) : View sig .tc _ _ _).read (Elt F) B = blk B n := by
  subst ho
  funext i
  show B _ = B _
  refine congrArg B (funext fun a => Fin.ext ?_)
  match a with
  | 0 =>
    show 256 * n + 1 * (i 0).val = (256 * n + (i 0).val) % 6144
    have : (i 0).val < 256 := (i 0).isLt
    omega
  | 1 =>
    show 0 + 1 * (i 1).val = (i 1).val
    omega

theorem read_row (K : Vec F S24x256 .f32) (n : ℕ) (hn : n < 24) (off : Fin 2 → Nat) (ho : off = ![n, 0])
    (inb : ∀ a, off a + S1x256.size a ≤ S24x256.size a) :
    ((Memref.whole cc1_scratch0).access (Rect.unit (s := S24x256) off S1x256.size inb) : View sig .tc _ _ _).read (Elt F) K = row K n := by
  subst ho
  funext i
  show K _ = K _
  refine congrArg K (funext fun a => Fin.ext ?_)
  match a with
  | 0 =>
    show n + 1 * (i 0).val = n % 24
    have : (i 0).val < 1 := (i 0).isLt
    omega
  | 1 =>
    show 0 + 1 * (i 1).val = (i 1).val
    omega

theorem write_row (K : Vec F S24x256 .f32) (n : ℕ) (hn : n < 24) (off : Fin 2 → Nat) (ho : off = ![n, 0])
    (inb : ∀ a, off a + S1x256.size a ≤ S24x256.size a) (v : Vec F S1x256 .f32) :
    ((Memref.whole cc1_scratch0).access (Rect.unit (s := S24x256) off S1x256.size inb) : View sig .tc _ _ _).write (Elt F) K v Finset.univ = setRow K n v := by
  subst ho
  funext i
  by_cases h : (i 0).val = n
  · have he : i = ((Memref.whole cc1_scratch0).access (Rect.unit (s := S24x256) ![n, 0] S1x256.size inb) : View sig .tc _ _ _).emb (ix2 (n0 := 1) (n1 := 256) 0 (i 1)) := by
      refine funext fun a => Fin.ext ?_
      match a with
      | 0 => show (i 0).val = n + 1 * 0; omega
      | 1 => show (i 1).val = 0 + 1 * (i 1).val; omega
    have hw := View.write_emb_of_mem (v := ((Memref.whole cc1_scratch0).access (Rect.unit (s := S24x256) ![n, 0] S1x256.size inb) : View sig .tc _ _ _)) (Val := Elt F) K v
      (M := Finset.univ) (x := ix2 (n0 := 1) (n1 := 256) 0 (i 1)) (Finset.mem_univ _)
    rw [← he] at hw
    rw [hw]
    unfold setRow
    rw [if_pos h]
    rfl
  · rw [View.write_of_not_mem]
    · unfold setRow
      rw [if_neg h]
    · intro hm
      obtain ⟨x, -, hx⟩ := Finset.mem_map.mp hm
      apply h
      rw [← hx]
      show n + 1 * (x 0).val = n
      have : (x 0).val < 1 := (x 0).isLt
      omega

theorem write_pair0 (f : Vec F S1x2 .f32) (x : F .f32) (inb : ∀ a, (![0, 0] : Fin 2 → Nat) a + S1x1.size a ≤ S1x2.size a) :
    ((Memref.whole cc1_scratch2).access (Rect.unit (s := S1x2) ![0, 0] S1x1.size inb) : View sig .tc _ _ _).write (Elt F) f (fun _ => x) Finset.univ
      = pair x (f (ix2 (n0 := 1) (n1 := 2) ⟨0, by decide⟩ ⟨1, by decide⟩)) := by
  funext i
  by_cases h : (i 1).val = 0
  · have he : i = ((Memref.whole cc1_scratch2).access (Rect.unit (s := S1x2) ![0, 0] S1x1.size inb) : View sig .tc _ _ _).emb (ix2 (n0 := 1) (n1 := 1) 0 0) := by
      refine funext fun a => Fin.ext ?_
      match a with
      | 0 => show (i 0).val = 0 + 1 * 0; have : (i 0).val < 1 := (i 0).isLt; omega
      | 1 => show (i 1).val = 0 + 1 * 0; omega
    have hw := View.write_emb_of_mem (v := ((Memref.whole cc1_scratch2).access (Rect.unit (s := S1x2) ![0, 0] S1x1.size inb) : View sig .tc _ _ _)) (Val := Elt F) f (fun _ => x)
      (M := Finset.univ) (x := ix2 (n0 := 1) (n1 := 1) 0 0) (Finset.mem_univ _)
    rw [← he] at hw
    rw [hw]
    unfold pair
    rw [if_pos h]
    rfl
  · rw [View.write_of_not_mem]
    · unfold pair
      have h2 : (i 1).val < 2 := (i 1).isLt
      rw [if_neg h]
      refine congrArg f (funext fun a => Fin.ext ?_)
      match a with
      | 0 => show (i 0).val = 0; have : (i 0).val < 1 := (i 0).isLt; omega
      | 1 => show (i 1).val = 1; omega
    · intro hm
      obtain ⟨y, -, hy⟩ := Finset.mem_map.mp hm
      apply h
      rw [← hy]
      show 0 + 1 * (y 1).val = 0
      have : (y 1).val < 1 := (y 1).isLt
      omega

theorem write_pair1 (f : Vec F S1x2 .f32) (x : F .f32) (inb : ∀ a, (![0, 1] : Fin 2 → Nat) a + S1x1.size a ≤ S1x2.size a) :
    ((Memref.whole cc1_scratch2).access (Rect.unit (s := S1x2) ![0, 1] S1x1.size inb) : View sig .tc _ _ _).write (Elt F) f (fun _ => x) Finset.univ
      = pair (f (ix2 (n0 := 1) (n1 := 2) ⟨0, by decide⟩ ⟨0, by decide⟩)) x := by
  funext i
  by_cases h : (i 1).val = 1
  · have he : i = ((Memref.whole cc1_scratch2).access (Rect.unit (s := S1x2) ![0, 1] S1x1.size inb) : View sig .tc _ _ _).emb (ix2 (n0 := 1) (n1 := 1) 0 0) := by
      refine funext fun a => Fin.ext ?_
      match a with
      | 0 => show (i 0).val = 0 + 1 * 0; have : (i 0).val < 1 := (i 0).isLt; omega
      | 1 => show (i 1).val = 1 + 1 * 0; omega
    have hw := View.write_emb_of_mem (v := ((Memref.whole cc1_scratch2).access (Rect.unit (s := S1x2) ![0, 1] S1x1.size inb) : View sig .tc _ _ _)) (Val := Elt F) f (fun _ => x)
      (M := Finset.univ) (x := ix2 (n0 := 1) (n1 := 1) 0 0) (Finset.mem_univ _)
    rw [← he] at hw
    rw [hw]
    unfold pair
    rw [if_neg (by omega)]
    rfl
  · rw [View.write_of_not_mem]
    · unfold pair
      have h2 : (i 1).val < 2 := (i 1).isLt
      rw [if_pos (by omega)]
      refine congrArg f (funext fun a => Fin.ext ?_)
      match a with
      | 0 => show (i 0).val = 0; have : (i 0).val < 1 := (i 0).isLt; omega
      | 1 => show (i 1).val = 0; omega
    · intro hm
      obtain ⟨y, -, hy⟩ := Finset.mem_map.mp hm
      apply h
      rw [← hy]
      show 1 + 1 * (y 1).val = 1
      have : (y 1).val < 1 := (y 1).isLt
      omega

/-! ## The repeated pass -/

variable (c : Dev nD)

/-- Whatever the pass returns, its flags are `w`. -/
def passSpec (w : FVec F S1x256 .f32) : sWPT 𝕄 (FVec F S1x256 .f32 × BitVec 1 × BitVec 32) := do
  let r ← sWPT.arbitrary
  sWPT.assume (r.1 = w)
  pure r

theorem passSpec_apply (w : FVec F S1x256 .f32) (K : FVec F S1x256 .f32 × BitVec 1 × BitVec 32 → sProp 𝕄) :
    passSpec w K = iprop(∀ r : FVec F S1x256 .f32 × BitVec 1 × BitVec 32, ⌜r.1 = w⌝ -∗ K r) := rfl

/-- The pass from counter `258 - n`, entered at variant `n`. -/
theorem pass (E : Set ℕ) (t : Fin k1_t1_loop.trips) (v26 : BitVec 1) (h1 : k1_cond1 v26 = 1#1) (M : FVec F S256x256 .f32) (pre : FVec F S1x256 .f32) :
    ∀ n, n ≤ 258 → ∀ (ch : BitVec 1) (k : FVec F S1x256 .f32) (K : FVec F S1x256 .f32 × BitVec 1 × BitVec 32 → sProp 𝕄),
      passSpec (whileF M pre n ch k) K
        ⊢ wp frame (wpE (defs₀ (F := F)) 𝒱₀ (c : Thread nD τ) (some n)) E
            (defs₀ (F := F) .tc 5 ⟨t, v26, h1, M, pre, k, ch, BitVec.ofNat 32 (258 - n)⟩) K := by
  intro n
  induction n with
  | zero =>
    intro _ ch k K
    rw [passSpec_apply]
    show _ ⊢ wp frame (wpE (defs₀ (F := F)) 𝒱₀ (c : Thread nD τ) (some 0)) E (cc1_while1 t v26 h1 M pre k ch (BitVec.ofNat 32 258)) K
    simp only [cc1_while1_eq_skeleton]; unfold cc1_while1_skel
    have htest : ¬Scalar.andi ch (Scalar.cmpi .slt (BitVec.ofNat 32 258) 258#32) = 1#1 := by
      revert ch; decide
    simp only [htest, ↓reduceIte, Prog.pure_eq_ret]
    iintro Hk
    rw [wp_ret]; imodintro
    iapply Hk
    ipureintro; rfl
  | succ n ih =>
    intro hn ch k K
    rw [passSpec_apply]
    show _ ⊢ wp frame (wpE (defs₀ (F := F)) 𝒱₀ (c : Thread nD τ) (some (n + 1))) E
      (cc1_while1 t v26 h1 M pre k ch (BitVec.ofNat 32 (258 - (n + 1)))) K
    simp only [cc1_while1_eq_skeleton]; unfold cc1_while1_skel
    have hs : Scalar.cmpi .slt (BitVec.ofNat 32 (258 - (n + 1))) 258#32 = 1#1 :=
      (by decide +kernel : ∀ n : Fin 258, Scalar.cmpi .slt (BitVec.ofNat 32 (258 - (n.val + 1))) 258#32 = 1#1) ⟨n, by omega⟩
    have hi : Scalar.addi (BitVec.ofNat 32 (258 - (n + 1))) 1#32 = BitVec.ofNat 32 (258 - n) :=
      (by decide +kernel : ∀ n : Fin 258, Scalar.addi (BitVec.ofNat 32 (258 - (n.val + 1))) 1#32 = BitVec.ofNat 32 (258 - n.val)) ⟨n, by omega⟩
    have ha : Scalar.andi ch 1#1 = ch := by revert ch; decide
    simp only [hs, hi, ha, whileF]
    by_cases hc : ch = 1#1
    · simp only [hc, ↓reduceIte, Prog.lift]
      iintro Hk
      iapply (wp_call_spec 𝒱₀ (c : Thread nD τ) (some (n + 1)) E
        (passSpec (whileF M pre n (Scalar.cmpf .ogt (k1_pay14 M pre k) (Scalar.ofBits .f32 0x00000000#32)) (k1_pay13 M pre k))) n
        (fun u hu => by cases hu; exact Nat.lt_succ_self n) (ih (by omega) _ _))
      rw [passSpec_apply]
      iintro %r %hr
      rw [wp_ret]; imodintro
      iapply Hk
      ipureintro; exact hr
    · simp only [hc, ↓reduceIte, Prog.pure_eq_ret]
      iintro Hk
      rw [wp_ret]; imodintro
      iapply Hk
      ipureintro; rfl

/-! ## The body's run -/

/-- The boxes' staging buffer and the flags. -/
def bufs (B : Vec F S6144x4 .f32) (K : Vec F S24x256 .f32) : sProp 𝕄 :=
  iprop((((c : Thread nD τ).loc cc1_stg0_0) ↦{fullShare} (B : Buf (Elt F) ((c : Thread nD τ).loc cc1_stg0_0)))
    ∗ (((c : Thread nD τ).loc cc1_scratch0) ↦{fullShare} (K : Buf (Elt F) ((c : Thread nD τ).loc cc1_scratch0))))

/-- The count of the kept boxes. -/
def cnt (x : F .f32) : sProp 𝕄 := iprop(((c : Thread nD τ).loc cc1_scratch1) ↦{fullShare} ((fun _ => x : Vec F S1x1 .f32) : Buf (Elt F) ((c : Thread nD τ).loc cc1_scratch1)))

abbrev a0 : Memref sig .tc .vmem S6144x4 .f32 := Memref.whole cc1_stg0_0
abbrev a1 : Memref sig .tc .vmem S128x4 .f32 := Memref.whole cc1_stg1_0
abbrev a2 : Memref sig .tc .vmem S24x256 .f32 := Memref.whole cc1_scratch0
abbrev a3 : Memref sig .tc .smem S1x1 .f32 := Memref.whole cc1_scratch1
abbrev a4 : Memref sig .tc .smem S1x2 .f32 := Memref.whole cc1_scratch2

theorem sum2 (E : Set ℕ) (t : Fin k1_t1_loop.trips) (B : Vec F S6144x4 .f32) (K : Vec F S24x256 .f32) (r : Vec F S256x4 .f32) (arg5 : BitVec 32)
    (k : Fin (k1_t2_loop t).trips) (acc : FVec F S1x256 .f32) :
    iprop(⌜acc = accF B K r k.val⌝ ∗ bufs c B K)
      ⊢ wp frame (wpE (defs₀ (F := F)) 𝒱₀ (c : Thread nD τ) none) E
          (k1_t2_body a0 (Memref.isWhole_whole _) a1 (Memref.isWhole_whole _) a2 (Memref.isWhole_whole _) a3 (Memref.isWhole_whole _) a4 (Memref.isWhole_whole _)
            lanes t arg5 r k acc)
          fun acc => iprop(⌜acc = accF B K r (k.val + 1)⌝ ∗ bufs c B K) := by
  have hk : k.val < 24 := Nat.lt_trans (Nat.lt_of_lt_of_eq k.isLt (trips2 t)) (Nat.lt_of_lt_of_eq t.isLt trips1)
  unfold k1_t2_body
  simp only [Prog.lift, Prog.bind_op, Prog.bind_ret, Prog.pure_eq_ret]
  unfold bufs
  iintro ⟨%ha, HB, HK⟩
  iapply (wp_load_rect 𝒱₀ (c : Thread nD τ) none E (m := a0) (r := Rect.unit (s := S6144x4) (k1_off2 t k) S256x4.size (k1_off2_inb t k)) (Finset.subset_univ _)) $$ HB; iintro HB
  iapply (wp_load_rect 𝒱₀ (c : Thread nD τ) none E (m := a2) (r := Rect.unit (s := S24x256) (k1_off3 t k) S1x256.size (k1_off3_inb t k)) (Finset.subset_univ _)) $$ HK; iintro HK
  rw [wp_ret]; imodintro
  isplitr
  · ipureintro
    subst ha
    have e1 := read_blk B k.val hk _ (k1_off2_eq t k) (k1_off2_inb t k)
    have e2 := read_row K k.val hk _ (k1_off3_eq t k) (k1_off3_inb t k)
    exact congrArg₂ (fun x y => k1_pay21 r (accF B K r k.val) x y) e1 e2
  isplitl [HB]
  · iexact HB
  · iexact HK

/-- The first half of a trip: the overlaps with the earlier blocks. -/
theorem part1 (E : Set ℕ) (t : Fin k1_t1_loop.trips) (B : Vec F S6144x4 .f32) (K : Vec F S24x256 .f32) (Q) :
    iprop(bufs c B K ∗ (bufs c B K -∗ Q ⟨k1_pay16 (blk B t.val), k1_pay17 (blk B t.val), k1_pay18 (blk B t.val), k1_pay19 (blk B t.val), preF B K t.val,
          k1_pay25 (blk B t.val), k1_pay26 (blk B t.val), k1_pay27 (blk B t.val), k1_pay28 (blk B t.val), k1_pay29 (blk B t.val) (blk B t.val),
          k1_pay30 (blk B t.val) (blk B t.val), k1_pay31 (blk B t.val) (blk B t.val), k1_pay32 (blk B t.val)⟩))
      ⊢ wp frame (wpE (defs₀ (F := F)) 𝒱₀ (c : Thread nD τ) none) E
          (k1_part1 a0 (Memref.isWhole_whole _) a1 (Memref.isWhole_whole _) a2 (Memref.isWhole_whole _) a3 (Memref.isWhole_whole _) a4 (Memref.isWhole_whole _)
            lanes t (Scf.iv 0#32 1#32 t.val)) Q := by
  have ht : t.val < 24 := Nat.lt_of_lt_of_eq t.isLt trips1
  have e1 := read_blk B t.val ht _ (k1_off1_eq t) (k1_off1_inb t)
  simp only [k1_part1_eq_skeleton]; unfold k1_part1_skel
  simp only [Prog.lift, Prog.bind_op, Prog.bind_ret, Prog.pure_eq_ret]
  iintro ⟨Hb, Hk⟩
  unfold bufs
  icases Hb with ⟨HB, HK⟩
  iapply (wp_load_rect 𝒱₀ (c : Thread nD τ) none E (m := a0) (r := Rect.unit (s := S6144x4) (k1_off1 t) S256x4.size (k1_off1_inb t)) (Finset.subset_univ _)) $$ HB; iintro HB
  rw [e1]
  rw [wp_bind]
  iapply (Scf.wp_for frame (wpE (defs₀ (F := F)) 𝒱₀ (c : Thread nD τ) none) E _ _ _ _ _ _ (fun n acc => iprop(⌜acc = accF B K (blk B t.val) n⌝ ∗ bufs c B K))
    (fun k acc => sum2 c E t B K (blk B t.val) _ k acc))
  isplitl [HB HK]
  · isplitr
    · ipureintro; rfl
    · unfold bufs; isplitl [HB] <;> iassumption
  iintro %acc ⟨%ha, Hb⟩
  rw [wp_bind]
  iapply (Scf.wp_for0' frame (wpE (defs₀ (F := F)) 𝒱₀ (c : Thread nD τ) none) E _ _ _ _ _ _ (trips3 t) _ _ .rfl)
  unfold bufs
  icases Hb with ⟨HB, HK⟩
  iapply (wp_load_rect 𝒱₀ (c : Thread nD τ) none E (m := a0) (r := Rect.unit (s := S6144x4) (k1_off1 t) S256x4.size (k1_off1_inb t)) (Finset.subset_univ _)) $$ HB; iintro HB
  rw [e1]
  rw [wp_ret]; imodintro
  have ha' : acc = accF B K (blk B t.val) t.val := by rw [ha]; exact congrArg _ (trips2 t)
  rw [ha']
  unfold preF
  iapply Hk
  isplitl [HB] <;> iassumption

theorem rd3 (x : F .f32) (i : (Rect.unit (s := S1x1) ![0, 0] S1x1.size inb_S1x1_S1x1_0_0).shape.Idx) :
    ((a3 : Memref sig .tc .smem S1x1 .f32).access (Rect.unit (s := S1x1) ![0, 0] S1x1.size inb_S1x1_S1x1_0_0)).read (Elt F) (fun _ => x : Vec F S1x1 .f32) i = x := rfl

theorem wr3 (f : Vec F S1x1 .f32) (x : F .f32) :
    ((a3 : Memref sig .tc .smem S1x1 .f32).access (Rect.unit (s := S1x1) ![0, 0] S1x1.size inb_S1x1_S1x1_0_0)).write (Elt F) f (fun _ => x) Finset.univ = (fun _ => x : Vec F S1x1 .f32) :=
  Memref.write_access_unit_zero_univ (Elt F) cc1_scratch1 offs0 inb_S1x1_S1x1_0_0 f (fun _ => x)

/-- A trip of the first loop. -/
theorem trip1 (E : Set ℕ) (B : Vec F S6144x4 .f32) (t : Fin k1_t1_loop.trips) (u : Unit) :
    iprop(bufs c B (st1 B t.val).1 ∗ cnt c (st1 B t.val).2)
      ⊢ wp frame (wpE (defs₀ (F := F)) 𝒱₀ (c : Thread nD τ) none) E
          (k1_t1_body a0 (Memref.isWhole_whole _) a1 (Memref.isWhole_whole _) a2 (Memref.isWhole_whole _) a3 (Memref.isWhole_whole _) a4 (Memref.isWhole_whole _) lanes t u)
          fun _ => iprop(bufs c B (st1 B (t.val + 1)).1 ∗ cnt c (st1 B (t.val + 1)).2) := by
  have ht : t.val < 24 := Nat.lt_of_lt_of_eq t.isLt trips1
  generalize hK : (st1 B t.val).1 = K
  generalize hx : (st1 B t.val).2 = x
  unfold k1_t1_body
  simp only [smemLoad, smemLoadElt, Prog.lift, Prog.bind_op, Prog.bind_ret, Prog.pure_eq_ret]
  iintro ⟨Hb, Hc⟩
  unfold cnt
  iapply (wp_load_rect 𝒱₀ (c : Thread nD τ) none E (m := a3) (r := Rect.unit (s := S1x1) ![0, 0] S1x1.size inb_S1x1_S1x1_0_0) (Finset.subset_univ _)) $$ Hc; iintro Hc
  rw [rd3]
  by_cases h1 : k1_cond1 (Scalar.cmpf .olt x (Scalar.ofBits .f32 0x43000000#32)) = 1#1
  · rw [dif_pos h1]
    simp only [Prog.bind_op, Prog.bind_ret, Prog.pure_eq_ret]
    rw [wp_bind]
    iapply (part1 c E t B K _)
    isplitl [Hb]; · iexact Hb
    iintro Hb
    simp only [Prog.bind_op, Prog.bind_ret]
    iapply (wp_call_spec 𝒱₀ (c : Thread nD τ) none E (passSpec (keepF B K t.val)) 258 (fun u hu => nomatch hu)
      (pass c E t _ h1 _ _ 258 (le_refl _) _ _))
    rw [passSpec_apply]
    iintro %r %hr
    obtain ⟨k, ch, it⟩ := r
    dsimp only at hr
    subst hr
    dsimp only
    unfold bufs
    icases Hb with ⟨HB, HK⟩
    iapply (wp_load_rect 𝒱₀ (c : Thread nD τ) none E (m := a2) (r := Rect.unit (s := S24x256) (k1_off6 t) S1x256.size (k1_off6_inb t)) (Finset.subset_univ _)) $$ HK; iintro HK
    iapply (wp_store 𝒱₀ (c : Thread nD τ) none E (m := a2) (r := Rect.unit (s := S24x256) (k1_off6 t) S1x256.size (k1_off6_inb t)) (Mk := Finset.univ) (Finset.subset_univ _)) $$ HK; iintro HK
    iapply (wp_load_rect 𝒱₀ (c : Thread nD τ) none E (m := a3) (r := Rect.unit (s := S1x1) ![0, 0] S1x1.size inb_S1x1_S1x1_0_0) (Finset.subset_univ _)) $$ Hc; iintro Hc
    rw [rd3]
    iapply (wp_load_rect 𝒱₀ (c : Thread nD τ) none E (m := a3) (r := Rect.unit (s := S1x1) ![0, 0] S1x1.size inb_S1x1_S1x1_0_0) (Finset.subset_univ _)) $$ Hc; iintro Hc
    iapply (wp_store 𝒱₀ (c : Thread nD τ) none E (m := a3) (r := Rect.unit (s := S1x1) ![0, 0] S1x1.size inb_S1x1_S1x1_0_0) (Mk := Finset.univ) (Finset.subset_univ _)) $$ Hc; iintro Hc
    rw [wp_ret]; imodintro
    have hs : st1 B (t.val + 1) = (setRow K t.val (k1_pay6 (keepF B K t.val)), k1_pay7 (keepF B K t.val) x) := by
      subst hK hx
      rw [st1, if_pos h1]
    have e6 := write_row K t.val ht _ (k1_off6_eq t) (k1_off6_inb t) (k1_pay6 (keepF B K t.val))
    rw [hs]
    isplitl [HB HK]
    · isplitl [HB]; · iexact HB
      have e := congrArg (fun f : Vec F S24x256 .f32 => (iprop(((c : Thread nD τ).loc cc1_scratch0) ↦{fullShare} (f : Buf (Elt F) ((c : Thread nD τ).loc cc1_scratch0))) : sProp 𝕄)) e6
      iapply (Entails.of_eq e)
      iexact HK
    · have e := congrArg (fun f : Vec F S1x1 .f32 => (iprop(((c : Thread nD τ).loc cc1_scratch1) ↦{fullShare} (f : Buf (Elt F) ((c : Thread nD τ).loc cc1_scratch1))) : sProp 𝕄))
        (wr3 (F := F) (fun _ => x) (k1_pay7 (keepF B K t.val) x))
      iapply (Entails.of_eq e)
      iexact Hc
  · rw [dif_neg h1]
    simp only [Prog.bind_ret, Prog.pure_eq_ret]
    rw [wp_ret]; imodintro
    have hs : st1 B (t.val + 1) = st1 B t.val := by
      subst hx
      rw [st1, if_neg h1]
    rw [hs, hK, hx]
    isplitl [Hb] <;> iassumption

theorem rd40 (a b : F .f32) (i : (Rect.unit (s := S1x2) ![0, 0] S1x1.size inb_S1x2_S1x1_0_0).shape.Idx) :
    ((a4 : Memref sig .tc .smem S1x2 .f32).access (Rect.unit (s := S1x2) ![0, 0] S1x1.size inb_S1x2_S1x1_0_0)).read (Elt F) (pair a b) i = a := by
  show (if 0 + 1 * (i 1).val = 0 then a else b) = a
  have : (i 1).val < 1 := (i 1).isLt
  rw [if_pos (by omega)]

theorem rd41 (a b : F .f32) (i : (Rect.unit (s := S1x2) ![0, 1] S1x1.size inb_S1x2_S1x1_0_1).shape.Idx) :
    ((a4 : Memref sig .tc .smem S1x2 .f32).access (Rect.unit (s := S1x2) ![0, 1] S1x1.size inb_S1x2_S1x1_0_1)).read (Elt F) (pair a b) i = b := by
  show (if 1 + 1 * (i 1).val = 0 then a else b) = b
  rw [if_neg (by omega)]

theorem wr40 (f : Vec F S1x2 .f32) (x : F .f32) :
    ((a4 : Memref sig .tc .smem S1x2 .f32).access (Rect.unit (s := S1x2) ![0, 0] S1x1.size inb_S1x2_S1x1_0_0)).write (Elt F) f (fun _ => x) Finset.univ
      = pair x (f (ix2 (n0 := 1) (n1 := 2) ⟨0, by decide⟩ ⟨1, by decide⟩)) := write_pair0 f x _

theorem wr41 (f : Vec F S1x2 .f32) (x : F .f32) :
    ((a4 : Memref sig .tc .smem S1x2 .f32).access (Rect.unit (s := S1x2) ![0, 1] S1x1.size inb_S1x2_S1x1_0_1)).write (Elt F) f (fun _ => x) Finset.univ
      = pair (f (ix2 (n0 := 1) (n1 := 2) ⟨0, by decide⟩ ⟨0, by decide⟩)) x := write_pair1 f x _

/-- The selected rows' staging buffer. -/
def sel (R : Vec F S128x4 .f32) : sProp 𝕄 := iprop(((c : Thread nD τ).loc cc1_stg1_0) ↦{fullShare} (R : Buf (Elt F) ((c : Thread nD τ).loc cc1_stg1_0)))

/-- The two running counts. -/
def cnts (f : Vec F S1x2 .f32) : sProp 𝕄 := iprop(((c : Thread nD τ).loc cc1_scratch2) ↦{fullShare} (f : Buf (Elt F) ((c : Thread nD τ).loc cc1_scratch2)))

theorem rd1 (R : Vec F S128x4 .f32) :
    ((a1 : Memref sig .tc .vmem S128x4 .f32).access (Rect.unit (s := S128x4) ![0, 0] S128x4.size inb_S128x4_S128x4_0_0)).read (Elt F) R = R :=
  Memref.read_access_unit_zero (Elt F) cc1_stg1_0 offs0 inb_S128x4_S128x4_0_0 R

theorem wr1 (f R : Vec F S128x4 .f32) :
    ((a1 : Memref sig .tc .vmem S128x4 .f32).access (Rect.unit (s := S128x4) ![0, 0] S128x4.size inb_S128x4_S128x4_0_0)).write (Elt F) f R Finset.univ = R :=
  Memref.write_access_unit_zero_univ (Elt F) cc1_stg1_0 offs0 inb_S128x4_S128x4_0_0 f R

theorem wr2 (f K : Vec F S24x256 .f32) :
    ((a2 : Memref sig .tc .vmem S24x256 .f32).access (Rect.unit (s := S24x256) ![0, 0] S24x256.size inb_S24x256_S24x256_0_0)).write (Elt F) f K Finset.univ = K :=
  Memref.write_access_unit_zero_univ (Elt F) cc1_scratch0 offs0 inb_S24x256_S24x256_0_0 f K

/-- A trip of the second loop. -/
theorem trip4 (E : Set ℕ) (B : Vec F S6144x4 .f32) (K : Vec F S24x256 .f32) (kt : F .f32) (t : Fin k1_t4_loop.trips) (u : Unit) :
    iprop(bufs c B K ∗ sel c (st2 B K kt t.val).1 ∗ cnts c (pair (st2 B K kt t.val).2.1 (st2 B K kt t.val).2.2))
      ⊢ wp frame (wpE (defs₀ (F := F)) 𝒱₀ (c : Thread nD τ) none) E
          (k1_t4_body a0 (Memref.isWhole_whole _) a1 (Memref.isWhole_whole _) a2 (Memref.isWhole_whole _) a3 (Memref.isWhole_whole _) a4 (Memref.isWhole_whole _) lanes kt t u)
          fun _ => iprop(bufs c B K ∗ sel c (st2 B K kt (t.val + 1)).1 ∗ cnts c (pair (st2 B K kt (t.val + 1)).2.1 (st2 B K kt (t.val + 1)).2.2)) := by
  have ht : t.val < 24 := Nat.lt_of_lt_of_eq t.isLt trips4
  generalize hR : (st2 B K kt t.val).1 = R
  generalize hk : (st2 B K kt t.val).2.1 = kb
  generalize hs : (st2 B K kt t.val).2.2 = sb
  unfold k1_t4_body
  simp only [k1_part2_eq_skeleton]; unfold k1_part2_skel
  simp only [smemLoad, smemLoadElt, Prog.lift, Prog.bind_op, Prog.bind_ret, Prog.pure_eq_ret]
  unfold bufs sel cnts
  iintro ⟨⟨HB, HK⟩, HR, Hc⟩
  iapply (wp_load_rect 𝒱₀ (c : Thread nD τ) none E (m := a4) (r := Rect.unit (s := S1x2) ![0, 0] S1x1.size inb_S1x2_S1x1_0_0) (Finset.subset_univ _)) $$ Hc; iintro Hc
  rw [rd40]
  by_cases h1 : cond2 kb kt = 1#1
  · have h1' := h1; unfold cond2 at h1'
    rw [if_pos h1']
    simp only [Prog.bind_op, Prog.bind_ret, Prog.pure_eq_ret]
    iapply (wp_load_rect 𝒱₀ (c : Thread nD τ) none E (m := a4) (r := Rect.unit (s := S1x2) ![0, 1] S1x1.size inb_S1x2_S1x1_0_1) (Finset.subset_univ _)) $$ Hc; iintro Hc
    rw [rd41]
    iapply (wp_load_rect 𝒱₀ (c : Thread nD τ) none E (m := a2) (r := Rect.unit (s := S24x256) (k1_off7 t) S1x256.size (k1_off7_inb t)) (Finset.subset_univ _)) $$ HK; iintro HK
    rw [read_row K t.val ht _ (k1_off7_eq t) (k1_off7_inb t)]
    iapply (wp_load_rect 𝒱₀ (c : Thread nD τ) none E (m := a0) (r := Rect.unit (s := S6144x4) (k1_off8 t) S256x4.size (k1_off8_inb t)) (Finset.subset_univ _)) $$ HB; iintro HB
    rw [read_blk B t.val ht _ (k1_off8_eq t) (k1_off8_inb t)]
    iapply (wp_load_rect 𝒱₀ (c : Thread nD τ) none E (m := a1) (r := Rect.unit (s := S128x4) ![0, 0] S128x4.size inb_S128x4_S128x4_0_0) (Finset.subset_univ _)) $$ HR; iintro HR
    rw [rd1]
    iapply (wp_load_rect 𝒱₀ (c : Thread nD τ) none E (m := a1) (r := Rect.unit (s := S128x4) ![0, 0] S128x4.size inb_S128x4_S128x4_0_0) (Finset.subset_univ _)) $$ HR; iintro HR
    iapply (wp_store 𝒱₀ (c : Thread nD τ) none E (m := a1) (r := Rect.unit (s := S128x4) ![0, 0] S128x4.size inb_S128x4_S128x4_0_0) (Mk := Finset.univ) (Finset.subset_univ _)) $$ HR; iintro HR
    rw [wr1]
    iapply (wp_load_rect 𝒱₀ (c : Thread nD τ) none E (m := a4) (r := Rect.unit (s := S1x2) ![0, 0] S1x1.size inb_S1x2_S1x1_0_0) (Finset.subset_univ _)) $$ Hc; iintro Hc
    iapply (wp_store 𝒱₀ (c : Thread nD τ) none E (m := a4) (r := Rect.unit (s := S1x2) ![0, 0] S1x1.size inb_S1x2_S1x1_0_0) (Mk := Finset.univ) (Finset.subset_univ _)) $$ Hc; iintro Hc
    rw [wr40]
    iapply (wp_load_rect 𝒱₀ (c : Thread nD τ) none E (m := a4) (r := Rect.unit (s := S1x2) ![0, 1] S1x1.size inb_S1x2_S1x1_0_1) (Finset.subset_univ _)) $$ Hc; iintro Hc
    iapply (wp_store 𝒱₀ (c : Thread nD τ) none E (m := a4) (r := Rect.unit (s := S1x2) ![0, 1] S1x1.size inb_S1x2_S1x1_0_1) (Mk := Finset.univ) (Finset.subset_univ _)) $$ Hc; iintro Hc
    rw [wr41]
    rw [wp_ret]; imodintro
    have hst : st2 B K kt (t.val + 1) = (k1_pay10 (k1_pay35 R) (k1_pay36 lanes kt k1_pay8 k1_pay9 (Scf.iv 0#32 1#32 t.val) kb sb (row K t.val) (blk B t.val)),
        k1_pay11 kb (row K t.val), k1_pay12 sb (k1_pay34 lanes (Scf.iv 0#32 1#32 t.val) (row K t.val))) := by
      subst hR hk hs
      rw [st2, if_pos h1]
    rw [hst]
    isplitl [HB HK]
    · isplitl [HB] <;> iassumption
    isplitl [HR]; · iexact HR
    iexact Hc
  · have h1' := h1; unfold cond2 at h1'
    rw [if_neg h1']
    simp only [Prog.bind_ret, Prog.pure_eq_ret]
    rw [wp_ret]; imodintro
    have hst : st2 B K kt (t.val + 1) = st2 B K kt t.val := by
      subst hk
      rw [st2, if_neg h1]
    rw [hst, hR, hk, hs]
    isplitl [HB HK]
    · isplitl [HB] <;> iassumption
    isplitl [HR] <;> iassumption

/-- The body's run: whatever the result's and the scratch's buffers held, the result holds `out`. -/
theorem run (E : Set ℕ) (B : Vec F S6144x4 .f32) (K0 : Vec F S24x256 .f32) (R0 : Vec F S128x4 .f32) (x0 : Vec F S1x1 .f32) (f0 : Vec F S1x2 .f32) (Q : PUnit → sProp 𝕄) :
    iprop(bufs c B K0 ∗ sel c R0 ∗ (((c : Thread nD τ).loc cc1_scratch1) ↦{fullShare} (x0 : Buf (Elt F) ((c : Thread nD τ).loc cc1_scratch1))) ∗ cnts c f0
        ∗ (∀ K : Vec F S24x256 .f32, ∀ x : F .f32, ∀ f : Vec F S1x2 .f32, iprop(bufs c B K ∗ sel c (out B) ∗ cnt c x ∗ cnts c f) -∗ Q ⟨⟩))
      ⊢ wp frame (wpE (defs₀ (F := F)) 𝒱₀ (c : Thread nD τ) none) E
          (cc1__nms_body a0 (Memref.isWhole_whole _) a1 (Memref.isWhole_whole _) a2 (Memref.isWhole_whole _) a3 (Memref.isWhole_whole _) a4 (Memref.isWhole_whole _)) Q := by
  simp only [cc1__nms_body_eq_skeleton]; unfold cc1__nms_body_skel
  simp only [smemLoad, smemLoadElt, Prog.lift, Prog.bind_op, Prog.bind_ret, Prog.pure_eq_ret]
  iintro ⟨Hb, HR, Hc, Hp, Hk⟩
  unfold bufs sel cnts
  icases Hb with ⟨HB, HK⟩
  iapply (wp_load_rect 𝒱₀ (c : Thread nD τ) none E (m := a2) (r := Rect.unit (s := S24x256) ![0, 0] S24x256.size inb_S24x256_S24x256_0_0) (Finset.subset_univ _)) $$ HK; iintro HK
  iapply (wp_store 𝒱₀ (c : Thread nD τ) none E (m := a2) (r := Rect.unit (s := S24x256) ![0, 0] S24x256.size inb_S24x256_S24x256_0_0) (Mk := Finset.univ) (Finset.subset_univ _)) $$ HK; iintro HK
  rw [wr2]
  iapply (wp_load_rect 𝒱₀ (c : Thread nD τ) none E (m := a1) (r := Rect.unit (s := S128x4) ![0, 0] S128x4.size inb_S128x4_S128x4_0_0) (Finset.subset_univ _)) $$ HR; iintro HR
  iapply (wp_store 𝒱₀ (c : Thread nD τ) none E (m := a1) (r := Rect.unit (s := S128x4) ![0, 0] S128x4.size inb_S128x4_S128x4_0_0) (Mk := Finset.univ) (Finset.subset_univ _)) $$ HR; iintro HR
  rw [wr1]
  iapply (wp_load_rect 𝒱₀ (c : Thread nD τ) none E (m := a3) (r := Rect.unit (s := S1x1) ![0, 0] S1x1.size inb_S1x1_S1x1_0_0) (Finset.subset_univ _)) $$ Hc; iintro Hc
  iapply (wp_store 𝒱₀ (c : Thread nD τ) none E (m := a3) (r := Rect.unit (s := S1x1) ![0, 0] S1x1.size inb_S1x1_S1x1_0_0) (Mk := Finset.univ) (Finset.subset_univ _)) $$ Hc; iintro Hc
  rw [wr3]
  rw [wp_bind]
  iapply (Scf.wp_for frame (wpE (defs₀ (F := F)) 𝒱₀ (c : Thread nD τ) none) E _ _ _ _ _ _ (fun n _ => iprop(bufs c B (st1 B n).1 ∗ cnt c (st1 B n).2))
    (fun k acc => trip1 c E B k acc))
  isplitl [HB HK Hc]
  · unfold bufs cnt
    isplitl [HB HK]
    · isplitl [HB]; · iexact HB
      iexact HK
    · iexact Hc
  iintro %acc ⟨Hb, Hc⟩
  have e1 : st1 B (Scf.trips k1_t1_loop.lb k1_t1_loop.ub k1_t1_loop.st) = st1 B 24 := congrArg (st1 B) trips1
  rw [e1]
  unfold cnt
  iapply (wp_load_rect 𝒱₀ (c : Thread nD τ) none E (m := a3) (r := Rect.unit (s := S1x1) ![0, 0] S1x1.size inb_S1x1_S1x1_0_0) (Finset.subset_univ _)) $$ Hc; iintro Hc
  rw [rd3]
  iapply (wp_load_rect 𝒱₀ (c : Thread nD τ) none E (m := a4) (r := Rect.unit (s := S1x2) ![0, 0] S1x1.size inb_S1x2_S1x1_0_0) (Finset.subset_univ _)) $$ Hp; iintro Hp
  iapply (wp_store 𝒱₀ (c : Thread nD τ) none E (m := a4) (r := Rect.unit (s := S1x2) ![0, 0] S1x1.size inb_S1x2_S1x1_0_0) (Mk := Finset.univ) (Finset.subset_univ _)) $$ Hp; iintro Hp
  rw [wr40]
  iapply (wp_load_rect 𝒱₀ (c : Thread nD τ) none E (m := a4) (r := Rect.unit (s := S1x2) ![0, 1] S1x1.size inb_S1x2_S1x1_0_1) (Finset.subset_univ _)) $$ Hp; iintro Hp
  iapply (wp_store 𝒱₀ (c : Thread nD τ) none E (m := a4) (r := Rect.unit (s := S1x2) ![0, 1] S1x1.size inb_S1x2_S1x1_0_1) (Mk := Finset.univ) (Finset.subset_univ _)) $$ Hp; iintro Hp
  rw [wr41]
  rw [wp_bind]
  iapply (Scf.wp_for frame (wpE (defs₀ (F := F)) 𝒱₀ (c : Thread nD τ) none) E _ _ _ _ _ _
    (fun n _ => iprop(bufs c B (st1 B 24).1 ∗ sel c (st2 B (st1 B 24).1 (st1 B 24).2 n).1
      ∗ cnts c (pair (st2 B (st1 B 24).1 (st1 B 24).2 n).2.1 (st2 B (st1 B 24).1 (st1 B 24).2 n).2.2)))
    (fun k acc => trip4 c E B (st1 B 24).1 (st1 B 24).2 k acc))
  isplitl [Hb HR Hp]
  · unfold sel cnts
    isplitl [Hb]; · iexact Hb
    isplitl [HR]; · iexact HR
    iexact Hp
  iintro %acc ⟨Hb, HR, Hp⟩
  have e4 : st2 B (st1 B 24).1 (st1 B 24).2 (Scf.trips k1_t4_loop.lb k1_t4_loop.ub k1_t4_loop.st) = st2 B (st1 B 24).1 (st1 B 24).2 24 :=
    congrArg (st2 B (st1 B 24).1 (st1 B 24).2) trips4
  rw [e4]
  rw [wp_ret]; imodintro
  ispecialize Hk $$ %(st1 B 24).1 %(st1 B 24).2 %(pair (st2 B (st1 B 24).1 (st1 B 24).2 24).2.1 (st2 B (st1 B 24).1 (st1 B 24).2 24).2.2)
  iapply Hk
  unfold out sel cnts
  isplitl [Hb]
  · unfold bufs; iexact Hb
  isplitl [HR]; · iexact HR
  isplitl [Hc]; · iexact Hc
  iexact Hp

end Cert.Proof.Gather.Nms
-- ==== Proof.NmsRegion.lean ====
/-
  The suppression call as a pipeline of one point: its operand is the table of gathered boxes, whole; its result the selected rows,
  whole. The three scratch buffers are taken from the scoped storage the call finds and given back at whatever they then hold.
-/
module

public import proofs.«01_k».proof.Proof.Nms
public import Idealize.ShloMosaic.Lib.Pipeline.FrameBody
public import Idealize.ShloMosaic.Lib.Pipeline.RegionsLoop
public import Idealize.ShloMosaic.Lib.Pipeline.FrameSuffix
public import Idealize.ShloMosaic.Lib.Pipeline.Value

@[expose] public section

set_option maxRecDepth 16384

noncomputable section

namespace Cert.Proof.Gather.Nms

open Cert.KernelIdeal Cert.KernelIdeal.Gen
open Idealize.ShloMosaic Idealize.ShloMosaic.TcCoe
open Idealize.ShloMosaic.SparseCore.Cfg (HIx)
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

-- the contents the call finds the arrays at
variable (V : (c : Dev nD) → (b : Ref sig .tc) → Buf (Elt F) ((c : Thread nD τ).loc b))

/-- Window `w`'s block at the point. -/
def blkOf (c : Dev nD) (w : Fin (cfg1 (F := F)).W) (t : Fin (cfg1 (F := F)).N) : ((cfg1.win w).xblock (cfg1.grid.coords t)).Idx → Elt F (cfg1.win w).elt :=
  ((cfg1.win w).blk t).view.read (Elt F) (V c (Pipeline.arrRef spec1 w))

/-- The pipeline's data. -/
def dat (O : CellTallies nD τ sig (HIx 1)) (B : Set (SemLoc sig × HIx 1)) (c : Dev nD) : Dat τ (Elt F) (HIx 1) ℕ UU ℕ (cfg1 (F := F)) c where
  A w := V c (Pipeline.arrRef spec1 w)
  after w t := match w with
    | ⟨0, _⟩ => blkOf V c 0 t
    | ⟨1, _⟩ => out (F := F) (blkOf V c 0 t)
  Φ _ := Pipeline.scopedRest spec1 c
  q _ := fullShare
  owed _ := O
  recorded _ := B

variable (O : CellTallies nD τ sig (HIx 1)) (B : Set (SemLoc sig × HIx 1))

theorem dat_A (c : Dev nD) (w : Fin (cfg1 (F := F)).W) : (dat V O B c).A w = V c (Pipeline.arrRef spec1 w) := by dsimp only [dat]
theorem after_0 (c : Dev nD) (t : Fin (cfg1 (F := F)).N) : (dat V O B c).after 0 t = blkOf V c 0 t := by dsimp only [dat] <;> rfl
theorem after_1 (c : Dev nD) (t : Fin (cfg1 (F := F)).N) : (dat V O B c).after 1 t = out (F := F) (blkOf V c 0 t) := by dsimp only [dat] <;> rfl

/-- The operand's staging buffer holds the table. -/
theorem before_0 (c : Dev nD) (t : Fin (cfg1 (F := F)).N) (d) : (dat V O B c).before 0 t d = blkOf V c 0 t :=
  ((dat V O B c).before_in_eq_fetched 0 rfl (fun _ => rfl) (fun _ _ _ => rfl)
    (fun t => by rw [after_0]; unfold Dat.blockOf blkOf; rw [dat_A]; try rfl) t d).trans
    (by unfold Dat.fetched Dat.blockOf blkOf; rw [dat_A]; try rfl)

/-- Each window's staging memref. -/
abbrev sg0 (t : Fin (cfg1 (F := F)).N) : Memref sig .tc .vmem S6144x4 .f32 := win1_0.stage (cfg1.slots t 0)
abbrev sg1 (t : Fin (cfg1 (F := F)).N) : Memref sig .tc .vmem S128x4 .f32 := win1_1.stage (cfg1.slots t 1)

/-- The scoped storage, the scratch buffers apart. -/
theorem rest_split (c : Dev nD) : (Pipeline.scopedRest spec1 c : sProp 𝕄)
    = iprop(iprop((∃ f : Buf (Elt F) ((c : Thread nD τ).loc cc1_scratch0), ((c : Thread nD τ).loc cc1_scratch0) ↦{fullShare} f)
        ∗ (∃ f : Buf (Elt F) ((c : Thread nD τ).loc cc1_scratch1), ((c : Thread nD τ).loc cc1_scratch1) ↦{fullShare} f)
        ∗ (∃ f : Buf (Elt F) ((c : Thread nD τ).loc cc1_scratch2), ((c : Thread nD τ).loc cc1_scratch2) ↦{fullShare} f))
        ∗ Pipeline.scopedRestBut spec1 c [cc1_scratch0, cc1_scratch1, cc1_scratch2]) := scopedRest1_split c

/-- The body from the staging buffers' contents. -/
theorem run_owns (c : Dev nD) (X : Vec F S6144x4 .f32) (Q : PUnit → sProp 𝕄) :
    iprop(Pipeline.scopedRest spec1 c ∗ owns (c : Thread nD τ) a0 fullShare X ∗ (∃ d, owns (c : Thread nD τ) a1 fullShare d)
        ∗ (iprop(Pipeline.scopedRest spec1 c ∗ owns (c : Thread nD τ) a0 fullShare X ∗ owns (c : Thread nD τ) a1 fullShare (out X)) -∗ Q ⟨⟩))
      ⊢ wp frame (wpE (defs₀ (F := F)) 𝒱₀ (c : Thread nD τ) none) Set.univ
          (cc1__nms_body a0 (Memref.isWhole_whole _) a1 (Memref.isWhole_whole _) a2 (Memref.isWhole_whole _) a3 (Memref.isWhole_whole _) a4 (Memref.isWhole_whole _)) Q := by
  rw [rest_split]
  unfold a0 a1
  simp only [owns_whole_eq]
  iintro ⟨⟨⟨⟨%k0, Hk⟩, ⟨%x0, Hx⟩, ⟨%f0, Hf⟩⟩, Hrest⟩, ⟨%b, %hb, Hb⟩, ⟨%d, %r, %hr, Hr⟩, HQ⟩
  subst hb
  iapply (run c Set.univ b k0 r x0 f0 Q)
  isplitl [Hb Hk]
  · unfold bufs; isplitl [Hb] <;> iassumption
  isplitl [Hr]
  · unfold sel; iexact Hr
  isplitl [Hx]; · iexact Hx
  isplitl [Hf]
  · unfold cnts; iexact Hf
  iintro %K %x %f ⟨Hb, Hs, Hx, Hf⟩
  unfold bufs sel cnt cnts
  icases Hb with ⟨Hb, Hk⟩
  iapply HQ
  isplitr [Hb Hs]
  · isplitr [Hrest]
    · isplitl [Hk]; · iexists _; iexact Hk
      isplitl [Hx]; · iexists _; iexact Hx
      iexists _; iexact Hf
    · iexact Hrest
  isplitl [Hb]
  · iexists _; isplitr
    swap; · iexact Hb
    ipureintro; rfl
  · iexists _; isplitr
    swap; · iexact Hs
    ipureintro; rfl

/-- The body at the point. -/
theorem body_at (c : Dev nD) (t : Fin (cfg1 (F := F)).N) :
    iprop((dat V O B c).Φ t.castSucc ∗ (dat V O B c).owesAt none t.castSucc
        ∗ (∃ d, owns (c : Thread nD τ) (sg0 t) fullShare ((dat V O B c).before 0 t d))
        ∗ (∃ d, owns (c : Thread nD τ) (sg1 t) fullShare ((dat V O B c).before 1 t d)))
      ⊢ wp frame (wpE (defs₀ (F := F)) 𝒱₀ c none) Set.univ (bodyAt1 t)
          fun _ => iprop((dat V O B c).Φ t.succ ∗ (dat V O B c).owesAt none t.succ
            ∗ owns (c : Thread nD τ) (sg0 t) fullShare ((dat V O B c).after 0 t)
            ∗ owns (c : Thread nD τ) (sg1 t) fullShare ((dat V O B c).after 1 t)) := by
  unfold bodyAt1
  simp only [before_0]
  rw [show (dat V O B c).Φ t.succ = (Pipeline.scopedRest spec1 c : sProp 𝕄) from rfl,
    show (dat V O B c).Φ t.castSucc = (Pipeline.scopedRest spec1 c : sProp 𝕄) from rfl,
    show (dat V O B c).owesAt none t.succ = (dat V O B c).owesAt none t.castSucc from rfl, after_0, after_1]
  iintro ⟨HΦ, Ho, ⟨%d0, H0⟩, ⟨%d1, H1⟩⟩
  iapply (run_owns c (blkOf V c 0 t) _)
  isplitl [HΦ]; · iexact HΦ
  isplitl [H0]; · iexact H0
  isplitl [H1]; · iexists _; iexact H1
  iintro ⟨HΦ, H0, H1⟩
  isplitl [HΦ]; · iexact HΦ
  isplitl [Ho]; · iexact Ho
  isplitl [H0]; · iexact H0
  iexact H1

theorem at_row (t : Fin (cfg1 (F := F)).N) : defs₀ (F := F) .tc (cfg1 (F := F)).body (cfg1.bodyArgs t (cfg1.slots t)) = bodyAt1 t := by
  rfl

theorem obligation (c : Dev nD) : BodyObligation (dat V O B c) (defs₀ (F := F)) 𝒱₀ none Set.univ := fun t => by
  rw [bigSep_W1, bigSep_W1, at_row]
  exact triple_restated (body_at V O B c t) rfl .rfl fun _ => .rfl

/-! ## The array after the call -/

theorem emb_0 (t : Fin (cfg1 (F := F)).N) (y : S6144x4.Idx) : (((cfg1 (F := F)).win 0).blk t).view.emb y = y := by
  funext a
  apply Fin.ext
  match a with
  | ⟨0, _⟩ => show 0 * 6144 + 1 * (y 0).val = (y 0).val; omega
  | ⟨1, _⟩ => show 0 * 4 + 1 * (y 1).val = (y 1).val; omega

theorem emb_1 (t : Fin (cfg1 (F := F)).N) (y : S128x4.Idx) : (((cfg1 (F := F)).win 1).blk t).view.emb y = y := by
  funext a
  apply Fin.ext
  match a with
  | ⟨0, _⟩ => show 0 * 128 + 1 * (y 0).val = (y 0).val; omega
  | ⟨1, _⟩ => show 0 * 4 + 1 * (y 1).val = (y 1).val; omega

theorem blk_0 (c : Dev nD) (t : Fin (cfg1 (F := F)).N) : (blkOf V c 0 t : Vec F S6144x4 .f32) = V c main_v26 := by
  funext (y : S6144x4.Idx)
  unfold blkOf
  refine (View.read_apply _ _).trans ?_
  exact congrArg (V c main_v26) (emb_0 t y)

/-- The result array: the selection from the operand array. -/
theorem final (c : Dev nD) : (dat V O B c).arrAt 1 (cfg1 (F := F)).N = (out (F := F) (V c main_v26) : Buf (Elt F) ((c : Thread nD τ).loc main_v27)) :=
  (dat V O B c).arrAt_eq_of_cover 1 (out (F := F) (V c main_v26)) (fun t _ => by
    funext (y : S128x4.Idx)
    show (dat V O B c).after 1 t y = out (F := F) (V c main_v26) ((((cfg1 (F := F)).win 1).blk t).view.emb y)
    rw [after_1, blk_0, emb_1]) fun (i : S128x4.Idx) => by
    have h0 : (i 0 : Nat) < 128 := (i 0).isLt
    have h1 : (i 1 : Nat) < 4 := (i 1).isLt
    exact ⟨⟨0, Nat.lt_of_lt_of_eq (by decide : 0 < 1) N_1.symm⟩, flush1_1 _, by
      have he := emb_1 (F := F) ⟨0, Nat.lt_of_lt_of_eq (by decide : 0 < 1) N_1.symm⟩ i
      exact Finset.mem_map.mpr ⟨i, Finset.mem_univ _, he⟩⟩

end Cert.Proof.Gather.Nms

end
-- ==== Proof.Mm1.lean ====
/-
  The first dense layer's grid: sixteen points, four blocks of columns of the result and, for each, four blocks of the inner
  dimension. At every point the body adds the product of a block of the left operand and a block of the right one to the block of
  the result, which it sets to zero at the first of the four inner blocks.

  Here: what the body leaves, from what it finds (`first`, `later`); the running block (`acc`), by recursion on the point; and the
  pipeline's data with the body's obligation.
-/
module

public import proofs.«01_k».proof.Proof.Setup
public import proofs.«01_k».proof.Proof.Gen.KernelIdeal.Launch
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.Ring
public import Idealize.ShloMosaic.Lib.WordCmp

@[expose] public section

set_option maxRecDepth 16384

noncomputable section

namespace Cert.Proof.Gather.Mm1

open Cert.KernelIdeal Cert.KernelIdeal.Gen
open Idealize.ShloMosaic Idealize.ShloMosaic.TcCoe
open Idealize.ShloMosaic.SparseCore.Cfg (HIx)
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-! ## The body -/

/-- Whether the point is the first of its block of the result. -/
abbrev atFirst (i : grid2.Coords) : Prop := (Scalar.cmpi .ne (Scalar.extui (Scalar.cmpi .eq (BitVec.ofNat 32 (i 1).val) 0#32)) 0#32) = 1#1

theorem atFirst_iff (t : Fin (cfg2 (F := F)).N) : atFirst (grid2.coords t) ↔ t.val % 4 = 0 :=
  (fun t => by
    have ht : t.val < 16 := Nat.lt_of_lt_of_eq t.isLt N_2
    have e1 : (grid2.coords t 1).val = t.val / 1 % 4 := Pipeline.Grid.coords_val t 1 (by decide) rfl
    simp only [atFirst, e1]
    word_cmp
   : ∀ t : Fin grid2.N, atFirst (grid2.coords t) ↔ t.val % 4 = 0) t

theorem offs0 : (![0, 0] : Fin 2 → Nat) = fun _ => 0 := funext fun a => by fin_cases a <;> rfl

set_option maxHeartbeats 1000000 in
/-- At the first point of a block the body leaves the product of the two blocks over zero. -/
theorem first (c : Dev nD) (i : grid2.Coords) (a2 : Memref sig .tc .vmem S128x6272 .f32) (h2 : a2.IsWhole)
    (a3 : Memref sig .tc .vmem S6272x1024 .f32) (h3 : a3.IsWhole) (a4 : Memref sig .tc .vmem S128x1024 .f32) (h4 : a4.IsWhole)
    (hi : atFirst i) (x : Vec F S128x6272 .f32) (w : Vec F S6272x1024 .f32) (E : Set ℕ) (Φ : PUnit → sProp 𝕄) :
    iprop(owns (c : Thread nD τ) a2 fullShare x ∗ owns (c : Thread nD τ) a3 fullShare w ∗ (∃ d, owns (c : Thread nD τ) a4 fullShare d)
        ∗ (iprop(owns (c : Thread nD τ) a2 fullShare x ∗ owns (c : Thread nD τ) a3 fullShare w
            ∗ owns (c : Thread nD τ) a4 fullShare (k2_pay2 (k2_pay1 (F := F)) x w)) -∗ Φ ⟨⟩))
      ⊢ wp frame (wpE (defs₀ (F := F)) 𝒱₀ c none) E (cc2__mm1_body i a2 h2 a3 h3 a4 h4) Φ := by
  simp only [cc2__mm1_body_eq_skeleton]; unfold cc2__mm1_body_skel
  unfold owns
  iintro ⟨⟨%f2, %e2, H2⟩, ⟨%f3, %e3, H3⟩, ⟨%d4, %f4, -, H4⟩, Hk⟩
  obtain rfl := h2.eq_unread e2; obtain rfl := h3.eq_unread e3
  sl_exec (disch := first | sl_exact hi)
  sl_step
  iapply Hk
  isplitl [H2]
  · iexists _; isplitr; · ipureintro; exact h2.read_unread _
    iexact H2
  isplitl [H3]
  · iexists _; isplitr; · ipureintro; exact h3.read_unread _
    iexact H3
  iexists _; isplitr
  swap; · iexact H4
  ipureintro
  sl_unfold_words
  rw [View.read_writes_eq_canon _ _ _ (View.cover_of_tiledL _ S128x1024.size (by sl_kernel_rfl))]
  rw [View.canon_cons_unit_zero (S := S128x1024) offs0]
  rw [View.readCov_unit_zero (S := S128x1024) _ offs0]
  simp only [View.readAt_eq_ld, h2.read_unread, h3.read_unread, View.ld_unit_zero (S := S128x6272) offs0, View.ld_unit_zero (S := S6272x1024) offs0]

set_option maxHeartbeats 1000000 in
/-- At a later one, the product added to what the block held. -/
theorem later (c : Dev nD) (i : grid2.Coords) (a2 : Memref sig .tc .vmem S128x6272 .f32) (h2 : a2.IsWhole)
    (a3 : Memref sig .tc .vmem S6272x1024 .f32) (h3 : a3.IsWhole) (a4 : Memref sig .tc .vmem S128x1024 .f32) (h4 : a4.IsWhole)
    (hi : ¬atFirst i) (x : Vec F S128x6272 .f32) (w : Vec F S6272x1024 .f32) (y : Vec F S128x1024 .f32) (E : Set ℕ) (Φ : PUnit → sProp 𝕄) :
    iprop(owns (c : Thread nD τ) a2 fullShare x ∗ owns (c : Thread nD τ) a3 fullShare w ∗ owns (c : Thread nD τ) a4 fullShare y
        ∗ (iprop(owns (c : Thread nD τ) a2 fullShare x ∗ owns (c : Thread nD τ) a3 fullShare w
            ∗ owns (c : Thread nD τ) a4 fullShare (k2_pay2 y x w)) -∗ Φ ⟨⟩))
      ⊢ wp frame (wpE (defs₀ (F := F)) 𝒱₀ c none) E (cc2__mm1_body i a2 h2 a3 h3 a4 h4) Φ := by
  simp only [cc2__mm1_body_eq_skeleton]; unfold cc2__mm1_body_skel
  unfold owns
  iintro ⟨⟨%f2, %e2, H2⟩, ⟨%f3, %e3, H3⟩, ⟨%f4, %e4, H4⟩, Hk⟩
  obtain rfl := h2.eq_unread e2; obtain rfl := h3.eq_unread e3; obtain rfl := h4.eq_unread e4
  sl_exec (disch := first | sl_exact hi)
  sl_step
  iapply Hk
  isplitl [H2]
  · iexists _; isplitr; · ipureintro; exact h2.read_unread _
    iexact H2
  isplitl [H3]
  · iexists _; isplitr; · ipureintro; exact h3.read_unread _
    iexact H3
  iexists _; isplitr
  swap; · iexact H4
  ipureintro
  rw [View.read_writes_eq_canon _ _ _ (View.cover_of_tiledL _ S128x1024.size (by sl_kernel_rfl))]
  rw [View.canon_unit_zero (S := S128x1024) offs0]
  simp only [View.readAt_eq_ld, h2.read_unread, h3.read_unread, h4.read_unread, View.ld_unit_zero (S := S128x6272) offs0,
    View.ld_unit_zero (S := S6272x1024) offs0, View.ld_unit_zero (S := S128x1024) offs0]

/-! ## The pipeline -/

-- the contents the grid finds the arrays at
variable (V : (c : Dev nD) → (b : Ref sig .tc) → Buf (Elt F) ((c : Thread nD τ).loc b))

/-- Window `w`'s block at point `t`. -/
def blkOf (c : Dev nD) (w : Fin (cfg2 (F := F)).W) (t : Fin (cfg2 (F := F)).N) : ((cfg2.win w).xblock (cfg2.grid.coords t)).Idx → Elt F (cfg2.win w).elt :=
  ((cfg2.win w).blk t).view.read (Elt F) (V c (Pipeline.arrRef spec2 w))

/-- The block of the result after point `n`: zero and the products so far of the block's inner blocks. -/
def acc (c : Dev nD) : (n : ℕ) → n < (cfg2 (F := F)).N → Vec F S128x1024 .f32
  | 0, h => k2_pay2 (k2_pay1 (F := F)) (blkOf V c 0 ⟨0, h⟩) (blkOf V c 1 ⟨0, h⟩)
  | n + 1, h => k2_pay2 (if (n + 1) % 4 = 0 then k2_pay1 (F := F) else acc c n (Nat.lt_of_succ_lt h)) (blkOf V c 0 ⟨n + 1, h⟩) (blkOf V c 1 ⟨n + 1, h⟩)

theorem acc_first (c : Dev nD) (t : Fin (cfg2 (F := F)).N) (h : t.val % 4 = 0) :
    acc V c t.val t.isLt = k2_pay2 (k2_pay1 (F := F)) (blkOf V c 0 t) (blkOf V c 1 t) := by
  obtain ⟨n, hn⟩ := t
  cases n with
  | zero => rfl
  | succ n => exact congrArg (fun y => k2_pay2 y (blkOf V c 0 ⟨n + 1, hn⟩) (blkOf V c 1 ⟨n + 1, hn⟩)) (if_pos h)

theorem acc_later (c : Dev nD) (t : Fin (cfg2 (F := F)).N) (h : ¬t.val % 4 = 0) :
    acc V c t.val t.isLt = k2_pay2 (acc V c (t.val - 1) (Nat.lt_of_le_of_lt (Nat.sub_le _ _) t.isLt)) (blkOf V c 0 t) (blkOf V c 1 t) := by
  obtain ⟨n, hn⟩ := t
  cases n with
  | zero => exact absurd (Nat.zero_mod _) h
  | succ n => exact congrArg (fun y => k2_pay2 y (blkOf V c 0 ⟨n + 1, hn⟩) (blkOf V c 1 ⟨n + 1, hn⟩)) (if_neg h)

/-- The pipeline's data: the arrays as found; after each point the operands' blocks in place and the running block of the result;
    the rest of the scoped storage carried along. -/
def dat (O : CellTallies nD τ sig (HIx 1)) (B : Set (SemLoc sig × HIx 1)) (c : Dev nD) : Dat τ (Elt F) (HIx 1) ℕ UU ℕ (cfg2 (F := F)) c where
  A w := V c (Pipeline.arrRef spec2 w)
  after w t := match w with
    | ⟨0, _⟩ => blkOf V c 0 t
    | ⟨1, _⟩ => blkOf V c 1 t
    | ⟨2, _⟩ => acc V c t.val t.isLt
  Φ _ := Pipeline.scopedRest spec2 c
  q _ := fullShare
  owed _ := O
  recorded _ := B

variable (O : CellTallies nD τ sig (HIx 1)) (B : Set (SemLoc sig × HIx 1))

theorem dat_A (c : Dev nD) (w : Fin (cfg2 (F := F)).W) : (dat V O B c).A w = V c (Pipeline.arrRef spec2 w) := by dsimp only [dat]
theorem after_0 (c : Dev nD) (t : Fin (cfg2 (F := F)).N) : (dat V O B c).after 0 t = blkOf V c 0 t := by dsimp only [dat] <;> rfl
theorem after_1 (c : Dev nD) (t : Fin (cfg2 (F := F)).N) : (dat V O B c).after 1 t = blkOf V c 1 t := by dsimp only [dat] <;> rfl
theorem after_2 (c : Dev nD) (t : Fin (cfg2 (F := F)).N) : (dat V O B c).after 2 t = acc V c t.val t.isLt := by dsimp only [dat] <;> rfl

/-- The operands' staging buffers hold their blocks at every point. -/
theorem before_0 (c : Dev nD) (t : Fin (cfg2 (F := F)).N) (d) : (dat V O B c).before 0 t d = blkOf V c 0 t :=
  ((dat V O B c).before_in_eq_fetched 0 rfl (fun _ => rfl) (fun _ _ _ => rfl)
    (fun t => by rw [after_0]; unfold Dat.blockOf blkOf; rw [dat_A]; try rfl) t d).trans
    (by unfold Dat.fetched Dat.blockOf blkOf; rw [dat_A]; try rfl)
theorem before_1 (c : Dev nD) (t : Fin (cfg2 (F := F)).N) (d) : (dat V O B c).before 1 t d = blkOf V c 1 t :=
  ((dat V O B c).before_in_eq_fetched 1 rfl (fun _ => rfl) (fun _ _ _ => rfl)
    (fun t => by rw [after_1]; unfold Dat.blockOf blkOf; rw [dat_A]; try rfl) t d).trans
    (by unfold Dat.fetched Dat.blockOf blkOf; rw [dat_A]; try rfl)
/-- The result's holds, at a later point of a block, what the point before left. -/
theorem before_2 (c : Dev nD) (t : Fin (cfg2 (F := F)).N) (h : ¬t.val % 4 = 0) (d) :
    (dat V O B c).before 2 t d = acc V c (t.val - 1) (Nat.lt_of_le_of_lt (Nat.sub_le _ _) t.isLt) := by
  have hN : t.val < 16 := lt_of_lt_of_eq t.isLt (show (cfg2 (F := F)).N = 16 from N_2)
  rw [Dat.before_out_kept _ 2 rfl t (by omega) (Bool.eq_false_iff.mpr fun h => by have := (flush2_2 _).mp h; dsimp only at this; omega)
    (fun _ => rfl) (fun _ _ => rfl)]
  dsimp only [dat] <;> rfl

/-- Each window's staging memref at point `t`. -/
abbrev st0 (t : Fin (cfg2 (F := F)).N) : Memref sig .tc .vmem S128x6272 .f32 := win2_0.stage (cfg2.slots t 0)
abbrev st1 (t : Fin (cfg2 (F := F)).N) : Memref sig .tc .vmem S6272x1024 .f32 := win2_1.stage (cfg2.slots t 1)
abbrev st2 (t : Fin (cfg2 (F := F)).N) : Memref sig .tc .vmem S128x1024 .f32 := win2_2.stage (cfg2.slots t 2)

set_option maxHeartbeats 800000 in
/-- The body at any point, from the staging buffers as the pipeline hands them over. -/
theorem body_at (c : Dev nD) (t : Fin (cfg2 (F := F)).N) :
    iprop((dat V O B c).Φ t.castSucc ∗ (dat V O B c).owesAt none t.castSucc
        ∗ (∃ d, owns (c : Thread nD τ) (st0 t) fullShare ((dat V O B c).before 0 t d))
        ∗ (∃ d, owns (c : Thread nD τ) (st1 t) fullShare ((dat V O B c).before 1 t d))
        ∗ (∃ d, owns (c : Thread nD τ) (st2 t) fullShare ((dat V O B c).before 2 t d)))
      ⊢ wp frame (wpE (defs₀ (F := F)) 𝒱₀ c none) Set.univ (bodyAt2 t)
          fun _ => iprop((dat V O B c).Φ t.succ ∗ (dat V O B c).owesAt none t.succ
            ∗ owns (c : Thread nD τ) (st0 t) fullShare ((dat V O B c).after 0 t)
            ∗ owns (c : Thread nD τ) (st1 t) fullShare ((dat V O B c).after 1 t)
            ∗ owns (c : Thread nD τ) (st2 t) fullShare ((dat V O B c).after 2 t)) := by
  unfold bodyAt2
  simp only [before_0, before_1]
  rw [show (dat V O B c).Φ t.succ = (dat V O B c).Φ t.castSucc from rfl,
    show (dat V O B c).owesAt none t.succ = (dat V O B c).owesAt none t.castSucc from rfl, after_0, after_1, after_2]
  by_cases h : t.val % 4 = 0
  · rw [acc_first V c t h]
    iintro ⟨HΦ, Ho, ⟨%d0, H0⟩, ⟨%d1, H1⟩, ⟨%d2, H2⟩⟩
    iapply (first c (grid2.coords t) _ _ _ _ _ _ ((atFirst_iff t).mpr h) (blkOf V c 0 t) (blkOf V c 1 t) Set.univ _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [acc_later V c t h]
    simp only [before_2 V O B c t h]
    iintro ⟨HΦ, Ho, ⟨%d0, H0⟩, ⟨%d1, H1⟩, ⟨%d2, H2⟩⟩
    iapply (later c (grid2.coords t) _ _ _ _ _ _ (fun e => h ((atFirst_iff t).mp e)) (blkOf V c 0 t) (blkOf V c 1 t) _ Set.univ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

theorem row (t : Fin (cfg2 (F := F)).N) : defs₀ (F := F) .tc (cfg2 (F := F)).body (cfg2.bodyArgs t (cfg2.slots t)) = bodyAt2 t := by
  rfl

theorem obligation (c : Dev nD) : BodyObligation (dat V O B c) (defs₀ (F := F)) 𝒱₀ none Set.univ := fun t => by
  rw [bigSep_W2, bigSep_W2, row]
  exact triple_restated (body_at V O B c t) rfl .rfl fun _ => .rfl

end Cert.Proof.Gather.Mm1

end
-- ==== Proof.Head.lean ====
/-
  The second and third dense layers' grid: four points, one for each 256 columns of the hidden layer. At every point the body
  computes 256 columns of the hidden layer and adds, to each of the two results, their product with 256 rows of its weights; at the
  first point the results start as their biases' rows.

  Here: what the body leaves, from what it finds (`first`, `later`); the running results (`cls`, `reg`), by recursion on the point;
  and the pipeline's data with the body's obligation.
-/
module

public import proofs.«01_k».proof.Proof.Setup
public import proofs.«01_k».proof.Proof.Gen.KernelIdeal.Launch
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.Ring
public import Idealize.ShloMosaic.Lib.WordCmp

@[expose] public section

set_option maxRecDepth 16384

noncomputable section

namespace Cert.Proof.Gather.Head

open Cert.KernelIdeal Cert.KernelIdeal.Gen
open Idealize.ShloMosaic Idealize.ShloMosaic.TcCoe
open Idealize.ShloMosaic.SparseCore.Cfg (HIx)
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-! ## The body -/

/-- Whether the point is the first. -/
abbrev atFirst (i : grid3.Coords) : Prop := (Scalar.cmpi .ne (Scalar.extui (Scalar.cmpi .eq (BitVec.ofNat 32 (i 0).val) 0#32)) 0#32) = 1#1

theorem atFirst_iff (t : Fin (cfg3 (F := F)).N) : atFirst (grid3.coords t) ↔ t.val % 4 = 0 :=
  (fun t => by
    have ht : t.val < 4 := Nat.lt_of_lt_of_eq t.isLt N_3
    have e0 : (grid3.coords t 0).val = t.val / 1 % 4 := Pipeline.Grid.coords_val t 0 (by decide) rfl
    simp only [atFirst, e0]
    word_cmp
   : ∀ t : Fin grid3.N, atFirst (grid3.coords t) ↔ t.val % 4 = 0) t

theorem offs0 : (![0, 0] : Fin 2 → Nat) = fun _ => 0 := funext fun a => by fin_cases a <;> rfl

set_option maxHeartbeats 2000000 in
/-- At the first point the body leaves the two products over the biases' rows. -/
theorem first (c : Dev nD) (i : grid3.Coords)
    (a1 : Memref sig .tc .vmem S128x4096 .f32) (h1 : a1.IsWhole) (a2 : Memref sig .tc .vmem S1x4096 .f32) (h2 : a2.IsWhole)
    (a3 : Memref sig .tc .vmem S4096x256 .f32) (h3 : a3.IsWhole) (a4 : Memref sig .tc .vmem S1x256 .f32) (h4 : a4.IsWhole)
    (a5 : Memref sig .tc .vmem S256x21 .f32) (h5 : a5.IsWhole) (a6 : Memref sig .tc .vmem S1x21 .f32) (h6 : a6.IsWhole)
    (a7 : Memref sig .tc .vmem S256x84 .f32) (h7 : a7.IsWhole) (a8 : Memref sig .tc .vmem S1x84 .f32) (h8 : a8.IsWhole)
    (a9 : Memref sig .tc .vmem S128x21 .f32) (h9 : a9.IsWhole) (a10 : Memref sig .tc .vmem S128x84 .f32) (h10 : a10.IsWhole)
    (hi : atFirst i)
    (h : Vec F S128x4096 .f32) (b1 : Vec F S1x4096 .f32) (w2 : Vec F S4096x256 .f32) (b2 : Vec F S1x256 .f32)
    (wc : Vec F S256x21 .f32) (bc : Vec F S1x21 .f32) (wb : Vec F S256x84 .f32) (bb : Vec F S1x84 .f32) (E : Set ℕ) (Φ : PUnit → sProp 𝕄) :
    iprop(owns (c : Thread nD τ) a1 fullShare h
        ∗ owns (c : Thread nD τ) a2 fullShare b1
        ∗ owns (c : Thread nD τ) a3 fullShare w2
        ∗ owns (c : Thread nD τ) a4 fullShare b2
        ∗ owns (c : Thread nD τ) a5 fullShare wc
        ∗ owns (c : Thread nD τ) a6 fullShare bc
        ∗ owns (c : Thread nD τ) a7 fullShare wb
        ∗ owns (c : Thread nD τ) a8 fullShare bb
        ∗ (∃ d, owns (c : Thread nD τ) a9 fullShare d) ∗ (∃ d, owns (c : Thread nD τ) a10 fullShare d)
        ∗ (iprop(owns (c : Thread nD τ) a1 fullShare h
        ∗ owns (c : Thread nD τ) a2 fullShare b1
        ∗ owns (c : Thread nD τ) a3 fullShare w2
        ∗ owns (c : Thread nD τ) a4 fullShare b2
        ∗ owns (c : Thread nD τ) a5 fullShare wc
        ∗ owns (c : Thread nD τ) a6 fullShare bc
        ∗ owns (c : Thread nD τ) a7 fullShare wb
        ∗ owns (c : Thread nD τ) a8 fullShare bb
            ∗ owns (c : Thread nD τ) a9 fullShare (k3_pay4 h b1 w2 b2 (k3_pay1 bc) wc)
            ∗ owns (c : Thread nD τ) a10 fullShare (k3_pay5 h b1 w2 b2 (k3_pay2 bb) wb)) -∗ Φ ⟨⟩))
      ⊢ wp frame (wpE (defs₀ (F := F)) 𝒱₀ c none) E
          (cc3__head_body i a1 h1 a2 h2 a3 h3 a4 h4 a5 h5 a6 h6 a7 h7 a8 h8 a9 h9 a10 h10) Φ := by
  simp only [cc3__head_body_eq_skeleton]; unfold cc3__head_body_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%d9, %f9, -, H9⟩, ⟨%d10, %f10, -, H10⟩, Hk⟩
  obtain rfl := h1.eq_unread e1; obtain rfl := h2.eq_unread e2; obtain rfl := h3.eq_unread e3; obtain rfl := h4.eq_unread e4; obtain rfl := h5.eq_unread e5; obtain rfl := h6.eq_unread e6; obtain rfl := h7.eq_unread e7; obtain rfl := h8.eq_unread e8
  sl_exec (disch := first | sl_exact hi)
  sl_step
  iapply Hk
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr; · ipureintro; exact h8.read_unread _
    iexact H8
  isplitl [H9]
  · iexists _; isplitr
    swap; · iexact H9
    ipureintro
    sl_unfold_words
    rw [View.read_writes_eq_canon _ _ _ (View.cover_of_tiledL _ S128x21.size (by sl_kernel_rfl))]
    rw [View.canon_cons_unit_zero (S := S128x21) offs0, View.readCov_unit_zero (S := S128x21) _ offs0]
    simp only [View.readAt_eq_ld, h1.read_unread, h2.read_unread, h3.read_unread, h4.read_unread, h5.read_unread, h6.read_unread, h7.read_unread, h8.read_unread, View.ld_unit_zero (S := S128x4096) offs0, View.ld_unit_zero (S := S1x4096) offs0, View.ld_unit_zero (S := S4096x256) offs0, View.ld_unit_zero (S := S1x256) offs0, View.ld_unit_zero (S := S256x21) offs0, View.ld_unit_zero (S := S1x21) offs0, View.ld_unit_zero (S := S256x84) offs0, View.ld_unit_zero (S := S1x84) offs0, View.ld_unit_zero (S := S128x21) offs0, View.ld_unit_zero (S := S128x84) offs0]
  · iexists _; isplitr
    swap; · iexact H10
    ipureintro
    sl_unfold_words
    rw [View.read_writes_eq_canon _ _ _ (View.cover_of_tiledL _ S128x84.size (by sl_kernel_rfl))]
    rw [View.canon_cons_unit_zero (S := S128x84) offs0, View.readCov_unit_zero (S := S128x84) _ offs0]
    simp only [View.readAt_eq_ld, h1.read_unread, h2.read_unread, h3.read_unread, h4.read_unread, h5.read_unread, h6.read_unread, h7.read_unread, h8.read_unread, View.ld_unit_zero (S := S128x4096) offs0, View.ld_unit_zero (S := S1x4096) offs0, View.ld_unit_zero (S := S4096x256) offs0, View.ld_unit_zero (S := S1x256) offs0, View.ld_unit_zero (S := S256x21) offs0, View.ld_unit_zero (S := S1x21) offs0, View.ld_unit_zero (S := S256x84) offs0, View.ld_unit_zero (S := S1x84) offs0, View.ld_unit_zero (S := S128x21) offs0, View.ld_unit_zero (S := S128x84) offs0]

set_option maxHeartbeats 2000000 in
/-- At a later one, the two products added to what the results held. -/
theorem later (c : Dev nD) (i : grid3.Coords)
    (a1 : Memref sig .tc .vmem S128x4096 .f32) (h1 : a1.IsWhole) (a2 : Memref sig .tc .vmem S1x4096 .f32) (h2 : a2.IsWhole)
    (a3 : Memref sig .tc .vmem S4096x256 .f32) (h3 : a3.IsWhole) (a4 : Memref sig .tc .vmem S1x256 .f32) (h4 : a4.IsWhole)
    (a5 : Memref sig .tc .vmem S256x21 .f32) (h5 : a5.IsWhole) (a6 : Memref sig .tc .vmem S1x21 .f32) (h6 : a6.IsWhole)
    (a7 : Memref sig .tc .vmem S256x84 .f32) (h7 : a7.IsWhole) (a8 : Memref sig .tc .vmem S1x84 .f32) (h8 : a8.IsWhole)
    (a9 : Memref sig .tc .vmem S128x21 .f32) (h9 : a9.IsWhole) (a10 : Memref sig .tc .vmem S128x84 .f32) (h10 : a10.IsWhole)
    (hi : ¬atFirst i)
    (h : Vec F S128x4096 .f32) (b1 : Vec F S1x4096 .f32) (w2 : Vec F S4096x256 .f32) (b2 : Vec F S1x256 .f32)
    (wc : Vec F S256x21 .f32) (bc : Vec F S1x21 .f32) (wb : Vec F S256x84 .f32) (bb : Vec F S1x84 .f32) (y : Vec F S128x21 .f32) (z : Vec F S128x84 .f32) (E : Set ℕ) (Φ : PUnit → sProp 𝕄) :
    iprop(owns (c : Thread nD τ) a1 fullShare h
        ∗ owns (c : Thread nD τ) a2 fullShare b1
        ∗ owns (c : Thread nD τ) a3 fullShare w2
        ∗ owns (c : Thread nD τ) a4 fullShare b2
        ∗ owns (c : Thread nD τ) a5 fullShare wc
        ∗ owns (c : Thread nD τ) a6 fullShare bc
        ∗ owns (c : Thread nD τ) a7 fullShare wb
        ∗ owns (c : Thread nD τ) a8 fullShare bb
        ∗ owns (c : Thread nD τ) a9 fullShare y ∗ owns (c : Thread nD τ) a10 fullShare z
        ∗ (iprop(owns (c : Thread nD τ) a1 fullShare h
        ∗ owns (c : Thread nD τ) a2 fullShare b1
        ∗ owns (c : Thread nD τ) a3 fullShare w2
        ∗ owns (c : Thread nD τ) a4 fullShare b2
        ∗ owns (c : Thread nD τ) a5 fullShare wc
        ∗ owns (c : Thread nD τ) a6 fullShare bc
        ∗ owns (c : Thread nD τ) a7 fullShare wb
        ∗ owns (c : Thread nD τ) a8 fullShare bb
            ∗ owns (c : Thread nD τ) a9 fullShare (k3_pay4 h b1 w2 b2 y wc)
            ∗ owns (c : Thread nD τ) a10 fullShare (k3_pay5 h b1 w2 b2 z wb)) -∗ Φ ⟨⟩))
      ⊢ wp frame (wpE (defs₀ (F := F)) 𝒱₀ c none) E
          (cc3__head_body i a1 h1 a2 h2 a3 h3 a4 h4 a5 h5 a6 h6 a7 h7 a8 h8 a9 h9 a10 h10) Φ := by
  simp only [cc3__head_body_eq_skeleton]; unfold cc3__head_body_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, Hk⟩
  obtain rfl := h1.eq_unread e1; obtain rfl := h2.eq_unread e2; obtain rfl := h3.eq_unread e3; obtain rfl := h4.eq_unread e4; obtain rfl := h5.eq_unread e5; obtain rfl := h6.eq_unread e6; obtain rfl := h7.eq_unread e7; obtain rfl := h8.eq_unread e8; obtain rfl := h9.eq_unread e9; obtain rfl := h10.eq_unread e10
  sl_exec (disch := first | sl_exact hi)
  sl_step
  iapply Hk
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr; · ipureintro; exact h8.read_unread _
    iexact H8
  isplitl [H9]
  · iexists _; isplitr
    swap; · iexact H9
    ipureintro
    rw [View.read_writes_eq_canon _ _ _ (View.cover_of_tiledL _ S128x21.size (by sl_kernel_rfl))]
    rw [View.canon_unit_zero (S := S128x21) offs0]
    simp only [View.readAt_eq_ld, h1.read_unread, h2.read_unread, h3.read_unread, h4.read_unread, h5.read_unread, h6.read_unread, h7.read_unread, h8.read_unread, h9.read_unread, h10.read_unread, View.ld_unit_zero (S := S128x4096) offs0, View.ld_unit_zero (S := S1x4096) offs0, View.ld_unit_zero (S := S4096x256) offs0, View.ld_unit_zero (S := S1x256) offs0, View.ld_unit_zero (S := S256x21) offs0, View.ld_unit_zero (S := S1x21) offs0, View.ld_unit_zero (S := S256x84) offs0, View.ld_unit_zero (S := S1x84) offs0, View.ld_unit_zero (S := S128x21) offs0, View.ld_unit_zero (S := S128x84) offs0]
  · iexists _; isplitr
    swap; · iexact H10
    ipureintro
    rw [View.read_writes_eq_canon _ _ _ (View.cover_of_tiledL _ S128x84.size (by sl_kernel_rfl))]
    rw [View.canon_unit_zero (S := S128x84) offs0]
    simp only [View.readAt_eq_ld, h1.read_unread, h2.read_unread, h3.read_unread, h4.read_unread, h5.read_unread, h6.read_unread, h7.read_unread, h8.read_unread, h9.read_unread, h10.read_unread, View.ld_unit_zero (S := S128x4096) offs0, View.ld_unit_zero (S := S1x4096) offs0, View.ld_unit_zero (S := S4096x256) offs0, View.ld_unit_zero (S := S1x256) offs0, View.ld_unit_zero (S := S256x21) offs0, View.ld_unit_zero (S := S1x21) offs0, View.ld_unit_zero (S := S256x84) offs0, View.ld_unit_zero (S := S1x84) offs0, View.ld_unit_zero (S := S128x21) offs0, View.ld_unit_zero (S := S128x84) offs0]

/-! ## The pipeline -/

-- the contents the grid finds the arrays at
variable (V : (c : Dev nD) → (b : Ref sig .tc) → Buf (Elt F) ((c : Thread nD τ).loc b))

/-- Window `w`'s block at point `t`. -/
def blkOf (c : Dev nD) (w : Fin (cfg3 (F := F)).W) (t : Fin (cfg3 (F := F)).N) : ((cfg3.win w).xblock (cfg3.grid.coords t)).Idx → Elt F (cfg3.win w).elt :=
  ((cfg3.win w).blk t).view.read (Elt F) (V c (Pipeline.arrRef spec3 w))

/-- The first result after point `n`: its bias and the products so far; -/
def cls (c : Dev nD) : (n : ℕ) → n < (cfg3 (F := F)).N → Vec F S128x21 .f32
  | 0, h => k3_pay4 (blkOf V c 0 ⟨0, h⟩) (blkOf V c 1 ⟨0, h⟩) (blkOf V c 2 ⟨0, h⟩) (blkOf V c 3 ⟨0, h⟩) (k3_pay1 (blkOf V c 5 ⟨0, h⟩)) (blkOf V c 4 ⟨0, h⟩)
  | n + 1, h => k3_pay4 (blkOf V c 0 ⟨n + 1, h⟩) (blkOf V c 1 ⟨n + 1, h⟩) (blkOf V c 2 ⟨n + 1, h⟩) (blkOf V c 3 ⟨n + 1, h⟩) (cls c n (Nat.lt_of_succ_lt h)) (blkOf V c 4 ⟨n + 1, h⟩)
/-- and the second. -/
def reg (c : Dev nD) : (n : ℕ) → n < (cfg3 (F := F)).N → Vec F S128x84 .f32
  | 0, h => k3_pay5 (blkOf V c 0 ⟨0, h⟩) (blkOf V c 1 ⟨0, h⟩) (blkOf V c 2 ⟨0, h⟩) (blkOf V c 3 ⟨0, h⟩) (k3_pay2 (blkOf V c 7 ⟨0, h⟩)) (blkOf V c 6 ⟨0, h⟩)
  | n + 1, h => k3_pay5 (blkOf V c 0 ⟨n + 1, h⟩) (blkOf V c 1 ⟨n + 1, h⟩) (blkOf V c 2 ⟨n + 1, h⟩) (blkOf V c 3 ⟨n + 1, h⟩) (reg c n (Nat.lt_of_succ_lt h)) (blkOf V c 6 ⟨n + 1, h⟩)

theorem zero_of_first (t : Fin (cfg3 (F := F)).N) (h : t.val % 4 = 0) : t.val = 0 := by
  have hN : t.val < 4 := lt_of_lt_of_eq t.isLt (show (cfg3 (F := F)).N = 4 from N_3)
  omega

theorem cls_first (c : Dev nD) (t : Fin (cfg3 (F := F)).N) (h : t.val % 4 = 0) :
    cls V c t.val t.isLt = k3_pay4 (blkOf V c 0 t) (blkOf V c 1 t) (blkOf V c 2 t) (blkOf V c 3 t) (k3_pay1 (blkOf V c 5 t)) (blkOf V c 4 t) := by
  have h0 := zero_of_first t h
  obtain ⟨n, hn⟩ := t
  cases n with
  | zero => rfl
  | succ n => exact absurd h0 (Nat.succ_ne_zero n)
theorem reg_first (c : Dev nD) (t : Fin (cfg3 (F := F)).N) (h : t.val % 4 = 0) :
    reg V c t.val t.isLt = k3_pay5 (blkOf V c 0 t) (blkOf V c 1 t) (blkOf V c 2 t) (blkOf V c 3 t) (k3_pay2 (blkOf V c 7 t)) (blkOf V c 6 t) := by
  have h0 := zero_of_first t h
  obtain ⟨n, hn⟩ := t
  cases n with
  | zero => rfl
  | succ n => exact absurd h0 (Nat.succ_ne_zero n)
theorem cls_later (c : Dev nD) (t : Fin (cfg3 (F := F)).N) (h : ¬t.val % 4 = 0) :
    cls V c t.val t.isLt = k3_pay4 (blkOf V c 0 t) (blkOf V c 1 t) (blkOf V c 2 t) (blkOf V c 3 t) (cls V c (t.val - 1) (Nat.lt_of_le_of_lt (Nat.sub_le _ _) t.isLt)) (blkOf V c 4 t) := by
  obtain ⟨n, hn⟩ := t
  cases n with
  | zero => exact absurd (Nat.zero_mod _) h
  | succ n => rfl
theorem reg_later (c : Dev nD) (t : Fin (cfg3 (F := F)).N) (h : ¬t.val % 4 = 0) :
    reg V c t.val t.isLt = k3_pay5 (blkOf V c 0 t) (blkOf V c 1 t) (blkOf V c 2 t) (blkOf V c 3 t) (reg V c (t.val - 1) (Nat.lt_of_le_of_lt (Nat.sub_le _ _) t.isLt)) (blkOf V c 6 t) := by
  obtain ⟨n, hn⟩ := t
  cases n with
  | zero => exact absurd (Nat.zero_mod _) h
  | succ n => rfl

/-- The pipeline's data: the arrays as found; after each point the operands' blocks in place and the running results; the rest of
    the scoped storage carried along. -/
def dat (O : CellTallies nD τ sig (HIx 1)) (B : Set (SemLoc sig × HIx 1)) (c : Dev nD) : Dat τ (Elt F) (HIx 1) ℕ UU ℕ (cfg3 (F := F)) c where
  A w := V c (Pipeline.arrRef spec3 w)
  after w t := match w with
    | ⟨0, _⟩ => blkOf V c 0 t
    | ⟨1, _⟩ => blkOf V c 1 t
    | ⟨2, _⟩ => blkOf V c 2 t
    | ⟨3, _⟩ => blkOf V c 3 t
    | ⟨4, _⟩ => blkOf V c 4 t
    | ⟨5, _⟩ => blkOf V c 5 t
    | ⟨6, _⟩ => blkOf V c 6 t
    | ⟨7, _⟩ => blkOf V c 7 t
    | ⟨8, _⟩ => cls V c t.val t.isLt
    | ⟨9, _⟩ => reg V c t.val t.isLt
  Φ _ := Pipeline.scopedRest spec3 c
  q _ := fullShare
  owed _ := O
  recorded _ := B

variable (O : CellTallies nD τ sig (HIx 1)) (B : Set (SemLoc sig × HIx 1))

theorem dat_A (c : Dev nD) (w : Fin (cfg3 (F := F)).W) : (dat V O B c).A w = V c (Pipeline.arrRef spec3 w) := by dsimp only [dat]
theorem after_0 (c : Dev nD) (t : Fin (cfg3 (F := F)).N) : (dat V O B c).after 0 t = blkOf V c 0 t := by dsimp only [dat] <;> rfl
theorem after_1 (c : Dev nD) (t : Fin (cfg3 (F := F)).N) : (dat V O B c).after 1 t = blkOf V c 1 t := by dsimp only [dat] <;> rfl
theorem after_2 (c : Dev nD) (t : Fin (cfg3 (F := F)).N) : (dat V O B c).after 2 t = blkOf V c 2 t := by dsimp only [dat] <;> rfl
theorem after_3 (c : Dev nD) (t : Fin (cfg3 (F := F)).N) : (dat V O B c).after 3 t = blkOf V c 3 t := by dsimp only [dat] <;> rfl
theorem after_4 (c : Dev nD) (t : Fin (cfg3 (F := F)).N) : (dat V O B c).after 4 t = blkOf V c 4 t := by dsimp only [dat] <;> rfl
theorem after_5 (c : Dev nD) (t : Fin (cfg3 (F := F)).N) : (dat V O B c).after 5 t = blkOf V c 5 t := by dsimp only [dat] <;> rfl
theorem after_6 (c : Dev nD) (t : Fin (cfg3 (F := F)).N) : (dat V O B c).after 6 t = blkOf V c 6 t := by dsimp only [dat] <;> rfl
theorem after_7 (c : Dev nD) (t : Fin (cfg3 (F := F)).N) : (dat V O B c).after 7 t = blkOf V c 7 t := by dsimp only [dat] <;> rfl
theorem after_8 (c : Dev nD) (t : Fin (cfg3 (F := F)).N) : (dat V O B c).after 8 t = cls V c t.val t.isLt := by dsimp only [dat] <;> rfl
theorem after_9 (c : Dev nD) (t : Fin (cfg3 (F := F)).N) : (dat V O B c).after 9 t = reg V c t.val t.isLt := by dsimp only [dat] <;> rfl

/-! The operands' staging buffers hold their blocks at every point, -/

theorem before_0 (c : Dev nD) (t : Fin (cfg3 (F := F)).N) (d) : (dat V O B c).before 0 t d = blkOf V c 0 t :=
  ((dat V O B c).before_in_eq_fetched 0 rfl (fun _ => rfl) (fun _ _ _ => rfl)
    (fun t => by rw [after_0]; unfold Dat.blockOf blkOf; rw [dat_A]; try rfl) t d).trans
    (by unfold Dat.fetched Dat.blockOf blkOf; rw [dat_A]; try rfl)
theorem before_1 (c : Dev nD) (t : Fin (cfg3 (F := F)).N) (d) : (dat V O B c).before 1 t d = blkOf V c 1 t :=
  ((dat V O B c).before_in_eq_fetched 1 rfl (fun _ => rfl) (fun _ _ _ => rfl)
    (fun t => by rw [after_1]; unfold Dat.blockOf blkOf; rw [dat_A]; try rfl) t d).trans
    (by unfold Dat.fetched Dat.blockOf blkOf; rw [dat_A]; try rfl)
theorem before_2 (c : Dev nD) (t : Fin (cfg3 (F := F)).N) (d) : (dat V O B c).before 2 t d = blkOf V c 2 t :=
  ((dat V O B c).before_in_eq_fetched 2 rfl (fun _ => rfl) (fun _ _ _ => rfl)
    (fun t => by rw [after_2]; unfold Dat.blockOf blkOf; rw [dat_A]; try rfl) t d).trans
    (by unfold Dat.fetched Dat.blockOf blkOf; rw [dat_A]; try rfl)
theorem before_3 (c : Dev nD) (t : Fin (cfg3 (F := F)).N) (d) : (dat V O B c).before 3 t d = blkOf V c 3 t :=
  ((dat V O B c).before_in_eq_fetched 3 rfl (fun _ => rfl) (fun _ _ _ => rfl)
    (fun t => by rw [after_3]; unfold Dat.blockOf blkOf; rw [dat_A]; try rfl) t d).trans
    (by unfold Dat.fetched Dat.blockOf blkOf; rw [dat_A]; try rfl)
theorem before_4 (c : Dev nD) (t : Fin (cfg3 (F := F)).N) (d) : (dat V O B c).before 4 t d = blkOf V c 4 t :=
  ((dat V O B c).before_in_eq_fetched 4 rfl (fun _ => rfl) (fun _ _ _ => rfl)
    (fun t => by rw [after_4]; unfold Dat.blockOf blkOf; rw [dat_A]; try rfl) t d).trans
    (by unfold Dat.fetched Dat.blockOf blkOf; rw [dat_A]; try rfl)
theorem before_5 (c : Dev nD) (t : Fin (cfg3 (F := F)).N) (d) : (dat V O B c).before 5 t d = blkOf V c 5 t :=
  ((dat V O B c).before_in_eq_fetched 5 rfl (fun _ => rfl) (fun _ _ _ => rfl)
    (fun t => by rw [after_5]; unfold Dat.blockOf blkOf; rw [dat_A]; try rfl) t d).trans
    (by unfold Dat.fetched Dat.blockOf blkOf; rw [dat_A]; try rfl)
theorem before_6 (c : Dev nD) (t : Fin (cfg3 (F := F)).N) (d) : (dat V O B c).before 6 t d = blkOf V c 6 t :=
  ((dat V O B c).before_in_eq_fetched 6 rfl (fun _ => rfl) (fun _ _ _ => rfl)
    (fun t => by rw [after_6]; unfold Dat.blockOf blkOf; rw [dat_A]; try rfl) t d).trans
    (by unfold Dat.fetched Dat.blockOf blkOf; rw [dat_A]; try rfl)
theorem before_7 (c : Dev nD) (t : Fin (cfg3 (F := F)).N) (d) : (dat V O B c).before 7 t d = blkOf V c 7 t :=
  ((dat V O B c).before_in_eq_fetched 7 rfl (fun _ => rfl) (fun _ _ _ => rfl)
    (fun t => by rw [after_7]; unfold Dat.blockOf blkOf; rw [dat_A]; try rfl) t d).trans
    (by unfold Dat.fetched Dat.blockOf blkOf; rw [dat_A]; try rfl)

/-! and the results', at a later point, what the point before left. -/

theorem before_8 (c : Dev nD) (t : Fin (cfg3 (F := F)).N) (h : ¬t.val % 4 = 0) (d) :
    (dat V O B c).before 8 t d = cls V c (t.val - 1) (Nat.lt_of_le_of_lt (Nat.sub_le _ _) t.isLt) := by
  have hN : t.val < 4 := lt_of_lt_of_eq t.isLt (show (cfg3 (F := F)).N = 4 from N_3)
  rw [Dat.before_out_kept _ 8 rfl t (by omega) (Bool.eq_false_iff.mpr fun h => by have := (flush3_8 _).mp h; dsimp only at this; omega)
    (fun _ => rfl) (fun _ _ => rfl)]
  dsimp only [dat] <;> rfl
theorem before_9 (c : Dev nD) (t : Fin (cfg3 (F := F)).N) (h : ¬t.val % 4 = 0) (d) :
    (dat V O B c).before 9 t d = reg V c (t.val - 1) (Nat.lt_of_le_of_lt (Nat.sub_le _ _) t.isLt) := by
  have hN : t.val < 4 := lt_of_lt_of_eq t.isLt (show (cfg3 (F := F)).N = 4 from N_3)
  rw [Dat.before_out_kept _ 9 rfl t (by omega) (Bool.eq_false_iff.mpr fun h => by have := (flush3_9 _).mp h; dsimp only at this; omega)
    (fun _ => rfl) (fun _ _ => rfl)]
  dsimp only [dat] <;> rfl

/-- Each window's staging memref at point `t`. -/
abbrev st0 (t : Fin (cfg3 (F := F)).N) : Memref sig .tc .vmem S128x4096 .f32 := win3_0.stage (cfg3.slots t 0)
abbrev st1 (t : Fin (cfg3 (F := F)).N) : Memref sig .tc .vmem S1x4096 .f32 := win3_1.stage (cfg3.slots t 1)
abbrev st2 (t : Fin (cfg3 (F := F)).N) : Memref sig .tc .vmem S4096x256 .f32 := win3_2.stage (cfg3.slots t 2)
abbrev st3 (t : Fin (cfg3 (F := F)).N) : Memref sig .tc .vmem S1x256 .f32 := win3_3.stage (cfg3.slots t 3)
abbrev st4 (t : Fin (cfg3 (F := F)).N) : Memref sig .tc .vmem S256x21 .f32 := win3_4.stage (cfg3.slots t 4)
abbrev st5 (t : Fin (cfg3 (F := F)).N) : Memref sig .tc .vmem S1x21 .f32 := win3_5.stage (cfg3.slots t 5)
abbrev st6 (t : Fin (cfg3 (F := F)).N) : Memref sig .tc .vmem S256x84 .f32 := win3_6.stage (cfg3.slots t 6)
abbrev st7 (t : Fin (cfg3 (F := F)).N) : Memref sig .tc .vmem S1x84 .f32 := win3_7.stage (cfg3.slots t 7)
abbrev st8 (t : Fin (cfg3 (F := F)).N) : Memref sig .tc .vmem S128x21 .f32 := win3_8.stage (cfg3.slots t 8)
abbrev st9 (t : Fin (cfg3 (F := F)).N) : Memref sig .tc .vmem S128x84 .f32 := win3_9.stage (cfg3.slots t 9)

set_option maxHeartbeats 2000000 in
/-- The body at any point, from the staging buffers as the pipeline hands them over. -/
theorem body_at (c : Dev nD) (t : Fin (cfg3 (F := F)).N) :
    iprop((dat V O B c).Φ t.castSucc ∗ (dat V O B c).owesAt none t.castSucc
        ∗ (∃ d, owns (c : Thread nD τ) (st0 t) fullShare ((dat V O B c).before 0 t d))
        ∗ (∃ d, owns (c : Thread nD τ) (st1 t) fullShare ((dat V O B c).before 1 t d))
        ∗ (∃ d, owns (c : Thread nD τ) (st2 t) fullShare ((dat V O B c).before 2 t d))
        ∗ (∃ d, owns (c : Thread nD τ) (st3 t) fullShare ((dat V O B c).before 3 t d))
        ∗ (∃ d, owns (c : Thread nD τ) (st4 t) fullShare ((dat V O B c).before 4 t d))
        ∗ (∃ d, owns (c : Thread nD τ) (st5 t) fullShare ((dat V O B c).before 5 t d))
        ∗ (∃ d, owns (c : Thread nD τ) (st6 t) fullShare ((dat V O B c).before 6 t d))
        ∗ (∃ d, owns (c : Thread nD τ) (st7 t) fullShare ((dat V O B c).before 7 t d))
        ∗ (∃ d, owns (c : Thread nD τ) (st8 t) fullShare ((dat V O B c).before 8 t d))
        ∗ (∃ d, owns (c : Thread nD τ) (st9 t) fullShare ((dat V O B c).before 9 t d)))
      ⊢ wp frame (wpE (defs₀ (F := F)) 𝒱₀ c none) Set.univ (bodyAt3 t)
          fun _ => iprop((dat V O B c).Φ t.succ ∗ (dat V O B c).owesAt none t.succ
            ∗ owns (c : Thread nD τ) (st0 t) fullShare ((dat V O B c).after 0 t)
            ∗ owns (c : Thread nD τ) (st1 t) fullShare ((dat V O B c).after 1 t)
            ∗ owns (c : Thread nD τ) (st2 t) fullShare ((dat V O B c).after 2 t)
            ∗ owns (c : Thread nD τ) (st3 t) fullShare ((dat V O B c).after 3 t)
            ∗ owns (c : Thread nD τ) (st4 t) fullShare ((dat V O B c).after 4 t)
            ∗ owns (c : Thread nD τ) (st5 t) fullShare ((dat V O B c).after 5 t)
            ∗ owns (c : Thread nD τ) (st6 t) fullShare ((dat V O B c).after 6 t)
            ∗ owns (c : Thread nD τ) (st7 t) fullShare ((dat V O B c).after 7 t)
            ∗ owns (c : Thread nD τ) (st8 t) fullShare ((dat V O B c).after 8 t)
            ∗ owns (c : Thread nD τ) (st9 t) fullShare ((dat V O B c).after 9 t)) := by
  unfold bodyAt3
  simp only [before_0, before_1, before_2, before_3, before_4, before_5, before_6, before_7]
  rw [show (dat V O B c).Φ t.succ = (dat V O B c).Φ t.castSucc from rfl,
    show (dat V O B c).owesAt none t.succ = (dat V O B c).owesAt none t.castSucc from rfl,
    after_0, after_1, after_2, after_3, after_4, after_5, after_6, after_7, after_8, after_9]
  by_cases h : t.val % 4 = 0
  · rw [cls_first V c t h, reg_first V c t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (first c (grid3.coords t) _ _ _ _ _ _ _ _ _ _ _ _ _ _ _ _ _ _ _ _ ((atFirst_iff t).mpr h) (blkOf V c 0 t) (blkOf V c 1 t) (blkOf V c 2 t) (blkOf V c 3 t) (blkOf V c 4 t) (blkOf V c 5 t) (blkOf V c 6 t) (blkOf V c 7 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    iintro ⟨H0, H1, H2, H3, H4, H5, H6, H7, H8, H9⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [cls_later V c t h, reg_later V c t h]
    simp only [before_8 V O B c t h, before_9 V O B c t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (later c (grid3.coords t) _ _ _ _ _ _ _ _ _ _ _ _ _ _ _ _ _ _ _ _ (fun e => h ((atFirst_iff t).mp e)) (blkOf V c 0 t) (blkOf V c 1 t) (blkOf V c 2 t) (blkOf V c 3 t) (blkOf V c 4 t) (blkOf V c 5 t) (blkOf V c 6 t) (blkOf V c 7 t) _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iintro ⟨H0, H1, H2, H3, H4, H5, H6, H7, H8, H9⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

theorem row (t : Fin (cfg3 (F := F)).N) : defs₀ (F := F) .tc (cfg3 (F := F)).body (cfg3.bodyArgs t (cfg3.slots t)) = bodyAt3 t := by
  rfl

theorem obligation (c : Dev nD) : BodyObligation (dat V O B c) (defs₀ (F := F)) 𝒱₀ none Set.univ := fun t => by
  rw [bigSep_W3, bigSep_W3, row]
  exact triple_restated (body_at V O B c t) rfl .rfl fun _ => .rfl

end Cert.Proof.Gather.Head

end
-- ==== Proof.Decode.lean ====
/-
  The box decoding: a body without a grid. From the four planes of the box offsets and the four lines of the selected boxes'
  coordinates it writes the four planes of the decoded corners. Here: the body's run from what it finds, and the pipeline's data
  with the body's obligation.
-/
module

public import proofs.«01_k».proof.Proof.Setup
public import proofs.«01_k».proof.Proof.Gen.KernelIdeal.Launch
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.ValueIdx

@[expose] public section

set_option maxRecDepth 16384

noncomputable section

namespace Cert.Proof.Gather.Decode

open Cert.KernelIdeal Cert.KernelIdeal.Gen
open Idealize.ShloMosaic Idealize.ShloMosaic.TcCoe
open Idealize.ShloMosaic.ValueIdx
open Idealize.ShloMosaic.SparseCore.Cfg (HIx)
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-! ## The values -/

/-- Line `k` of the coordinates. -/
def line (R : Vec F S4x128 .f32) (k : Fin 4) : Vec F S1x128 .f32 := fun i => R (ix2 (n0 := 4) (n1 := 128) k (i 1))

/-- Plane `k` of the offsets. -/
def plane (D : Vec F S4x21x128 .f32) (k : Fin 4) : Vec F S1x21x128 .f32 := fun i => D (ix3 (n0 := 4) (n1 := 21) (n2 := 128) k (i 1) (i 2))

/-- The planes the body writes. -/
def corner (D : Vec F S4x21x128 .f32) (R : Vec F S4x128 .f32) (k : Fin 4) : Vec F S1x21x128 .f32 :=
  match k with
  | 0 => k4_pay1 (k4_pay9 (line R 0) (line R 2) (plane D 0)) (k4_pay11 (line R 0) (line R 2) (plane D 2))
  | 1 => k4_pay2 (k4_pay10 (line R 1) (line R 3) (plane D 1)) (k4_pay12 (line R 1) (line R 3) (plane D 3))
  | 2 => k4_pay3 (k4_pay9 (line R 0) (line R 2) (plane D 0)) (k4_pay11 (line R 0) (line R 2) (plane D 2))
  | 3 => k4_pay4 (k4_pay10 (line R 1) (line R 3) (plane D 1)) (k4_pay12 (line R 1) (line R 3) (plane D 3))

/-- The decoded corners. -/
def out (D : Vec F S4x21x128 .f32) (R : Vec F S4x128 .f32) : Vec F S4x21x128 .f32 :=
  fun i => corner D R (i 0) (ix3 (n0 := 1) (n1 := 21) (n2 := 128) 0 (i 1) (i 2))

/-- The contents with plane `k` replaced. -/
def setPlane (X : Vec F S4x21x128 .f32) (k : Fin 4) (v : Vec F S1x21x128 .f32) : Vec F S4x21x128 .f32 :=
  fun i => if (i 0).val = k.val then v (ix3 (n0 := 1) (n1 := 21) (n2 := 128) 0 (i 1) (i 2)) else X i

theorem all_planes (X : Vec F S4x21x128 .f32) (g : Fin 4 → Vec F S1x21x128 .f32) :
    setPlane (setPlane (setPlane (setPlane X 0 (g 0)) 1 (g 1)) 2 (g 2)) 3 (g 3)
      = fun i => g (i 0) (ix3 (n0 := 1) (n1 := 21) (n2 := 128) 0 (i 1) (i 2)) := by
  funext i
  have key : ∀ k : Fin 4, i 0 = k → setPlane (setPlane (setPlane (setPlane X 0 (g 0)) 1 (g 1)) 2 (g 2)) 3 (g 3) i
      = g (i 0) (ix3 (n0 := 1) (n1 := 21) (n2 := 128) 0 (i 1) (i 2)) := by
    intro k hk
    rw [hk]
    have hv : (i 0).val = k.val := congrArg Fin.val hk
    unfold setPlane
    rw [hv]
    match k with
    | 0 => rfl
    | 1 => rfl
    | 2 => rfl
    | 3 => rfl
  exact key _ rfl

theorem all_out (X D : Vec F S4x21x128 .f32) (R : Vec F S4x128 .f32) :
    setPlane (setPlane (setPlane (setPlane X
        0 (k4_pay1 (k4_pay9 (line R 0) (line R 2) (plane D 0)) (k4_pay11 (line R 0) (line R 2) (plane D 2))))
        1 (k4_pay2 (k4_pay10 (line R 1) (line R 3) (plane D 1)) (k4_pay12 (line R 1) (line R 3) (plane D 3))))
        2 (k4_pay3 (k4_pay9 (line R 0) (line R 2) (plane D 0)) (k4_pay11 (line R 0) (line R 2) (plane D 2))))
        3 (k4_pay4 (k4_pay10 (line R 1) (line R 3) (plane D 1)) (k4_pay12 (line R 1) (line R 3) (plane D 3)))
      = out D R := all_planes X (corner D R)

/-! ## The body -/

section Body

theorem read_line (R : Vec F S4x128 .f32) (k : Fin 4) (off : Fin 2 → Nat) (ho : off = ![k.val, 0]) (inb : ∀ a, off a + S1x128.size a ≤ S4x128.size a) :
    ((Memref.whole cc4_stg1_0).access (Rect.unit (s := S4x128) off S1x128.size inb) : View sig .tc _ _ _).read (Elt F) R = line R k := by
  subst ho
  funext i
  show R _ = R _
  refine congrArg R (funext fun a => Fin.ext ?_)
  match a with
  | 0 =>
    show k.val + 1 * (i 0).val = k.val
    have : (i 0).val < 1 := (i 0).isLt
    omega
  | 1 =>
    show 0 + 1 * (i 1).val = (i 1).val
    omega

theorem read_plane (D : Vec F S4x21x128 .f32) (k : Fin 4) (off : Fin 3 → Nat) (ho : off = ![k.val, 0, 0]) (inb : ∀ a, off a + S1x21x128.size a ≤ S4x21x128.size a) :
    ((Memref.whole cc4_stg0_0).access (Rect.unit (s := S4x21x128) off S1x21x128.size inb) : View sig .tc _ _ _).read (Elt F) D = plane D k := by
  subst ho
  funext i
  show D _ = D _
  refine congrArg D (funext fun a => Fin.ext ?_)
  match a with
  | 0 =>
    show k.val + 1 * (i 0).val = k.val
    have : (i 0).val < 1 := (i 0).isLt
    omega
  | 1 =>
    show 0 + 1 * (i 1).val = (i 1).val
    omega
  | 2 =>
    show 0 + 1 * (i 2).val = (i 2).val
    omega

theorem write_plane (X : Vec F S4x21x128 .f32) (k : Fin 4) (off : Fin 3 → Nat) (ho : off = ![k.val, 0, 0]) (inb : ∀ a, off a + S1x21x128.size a ≤ S4x21x128.size a)
    (v : Vec F S1x21x128 .f32) :
    ((Memref.whole cc4_stg2_0).access (Rect.unit (s := S4x21x128) off S1x21x128.size inb) : View sig .tc _ _ _).write (Elt F) X v Finset.univ = setPlane X k v := by
  subst ho
  funext i
  by_cases h : (i 0).val = k.val
  · have he : i = ((Memref.whole cc4_stg2_0).access (Rect.unit (s := S4x21x128) ![k.val, 0, 0] S1x21x128.size inb) : View sig .tc _ _ _).emb
        (ix3 (n0 := 1) (n1 := 21) (n2 := 128) 0 (i 1) (i 2)) := by
      refine funext fun a => Fin.ext ?_
      match a with
      | 0 => show (i 0).val = k.val + 1 * 0; omega
      | 1 => show (i 1).val = 0 + 1 * (i 1).val; omega
      | 2 => show (i 2).val = 0 + 1 * (i 2).val; omega
    have hw := View.write_emb_of_mem (v := ((Memref.whole cc4_stg2_0).access (Rect.unit (s := S4x21x128) ![k.val, 0, 0] S1x21x128.size inb) : View sig .tc _ _ _)) (Val := Elt F) X v
      (M := Finset.univ) (x := ix3 (n0 := 1) (n1 := 21) (n2 := 128) 0 (i 1) (i 2)) (Finset.mem_univ _)
    rw [← he] at hw
    rw [hw]
    unfold setPlane
    rw [if_pos h]
    rfl
  · rw [View.write_of_not_mem]
    · unfold setPlane
      rw [if_neg h]
    · intro hm
      obtain ⟨x, -, hx⟩ := Finset.mem_map.mp hm
      apply h
      rw [← hx]
      show k.val + 1 * (x 0).val = k.val
      have : (x 0).val < 1 := (x 0).isLt
      omega

end Body

abbrev b0 : Memref sig .tc .vmem S4x21x128 .f32 := Memref.whole cc4_stg0_0
abbrev b1 : Memref sig .tc .vmem S4x128 .f32 := Memref.whole cc4_stg1_0
abbrev b2 : Memref sig .tc .vmem S4x21x128 .f32 := Memref.whole cc4_stg2_0

set_option maxHeartbeats 1000000 in
theorem run (c : Dev nD) (D : Vec F S4x21x128 .f32) (R : Vec F S4x128 .f32) (X : Vec F S4x21x128 .f32) (Q : PUnit → sProp 𝕄) :
    iprop((((c : Thread nD τ).loc cc4_stg0_0) ↦{fullShare} (D : Buf (Elt F) ((c : Thread nD τ).loc cc4_stg0_0)))
        ∗ (((c : Thread nD τ).loc cc4_stg1_0) ↦{fullShare} (R : Buf (Elt F) ((c : Thread nD τ).loc cc4_stg1_0)))
        ∗ (((c : Thread nD τ).loc cc4_stg2_0) ↦{fullShare} (X : Buf (Elt F) ((c : Thread nD τ).loc cc4_stg2_0)))
        ∗ (iprop((((c : Thread nD τ).loc cc4_stg0_0) ↦{fullShare} (D : Buf (Elt F) ((c : Thread nD τ).loc cc4_stg0_0)))
            ∗ (((c : Thread nD τ).loc cc4_stg1_0) ↦{fullShare} (R : Buf (Elt F) ((c : Thread nD τ).loc cc4_stg1_0)))
            ∗ (((c : Thread nD τ).loc cc4_stg2_0) ↦{fullShare} (out D R : Buf (Elt F) ((c : Thread nD τ).loc cc4_stg2_0)))) -∗ Q ⟨⟩))
      ⊢ wp frame (wpE (defs₀ (F := F)) 𝒱₀ (c : Thread nD τ) none) Set.univ
          (cc4__decode_body b0 (Memref.isWhole_whole _) b1 (Memref.isWhole_whole _) b2 (Memref.isWhole_whole _)) Q := by
  rw [cc4__decode_body_eq_skeleton]; unfold cc4__decode_body_skel
  rw [k4_part1_eq_skeleton]; unfold k4_part1_skel
  simp only [Prog.lift, Prog.bind_op, Prog.bind_ret, Prog.pure_eq_ret]
  iintro ⟨HD, HR, HX, HQ⟩
  iapply (wp_load_rect 𝒱₀ (c : Thread nD τ) none Set.univ (m := b1) (r := Rect.unit (s := S4x128) ![0, 0] S1x128.size inb_S4x128_S1x128_0_0) (Finset.subset_univ _)) $$ HR; iintro HR
  rw [read_line R 0 ![0, 0] rfl inb_S4x128_S1x128_0_0]
  iapply (wp_load_rect 𝒱₀ (c : Thread nD τ) none Set.univ (m := b1) (r := Rect.unit (s := S4x128) ![1, 0] S1x128.size inb_S4x128_S1x128_1_0) (Finset.subset_univ _)) $$ HR; iintro HR
  rw [read_line R 1 ![1, 0] rfl inb_S4x128_S1x128_1_0]
  iapply (wp_load_rect 𝒱₀ (c : Thread nD τ) none Set.univ (m := b1) (r := Rect.unit (s := S4x128) ![2, 0] S1x128.size inb_S4x128_S1x128_2_0) (Finset.subset_univ _)) $$ HR; iintro HR
  rw [read_line R 2 ![2, 0] rfl inb_S4x128_S1x128_2_0]
  iapply (wp_load_rect 𝒱₀ (c : Thread nD τ) none Set.univ (m := b1) (r := Rect.unit (s := S4x128) ![3, 0] S1x128.size inb_S4x128_S1x128_3_0) (Finset.subset_univ _)) $$ HR; iintro HR
  rw [read_line R 3 ![3, 0] rfl inb_S4x128_S1x128_3_0]
  iapply (wp_load_rect 𝒱₀ (c : Thread nD τ) none Set.univ (m := b0) (r := Rect.unit (s := S4x21x128) ![0, 0, 0] S1x21x128.size inb_S4x21x128_S1x21x128_0_0_0) (Finset.subset_univ _)) $$ HD; iintro HD
  rw [read_plane D 0 ![0, 0, 0] rfl inb_S4x21x128_S1x21x128_0_0_0]
  iapply (wp_load_rect 𝒱₀ (c : Thread nD τ) none Set.univ (m := b0) (r := Rect.unit (s := S4x21x128) ![1, 0, 0] S1x21x128.size inb_S4x21x128_S1x21x128_1_0_0) (Finset.subset_univ _)) $$ HD; iintro HD
  rw [read_plane D 1 ![1, 0, 0] rfl inb_S4x21x128_S1x21x128_1_0_0]
  iapply (wp_load_rect 𝒱₀ (c : Thread nD τ) none Set.univ (m := b0) (r := Rect.unit (s := S4x21x128) ![2, 0, 0] S1x21x128.size inb_S4x21x128_S1x21x128_2_0_0) (Finset.subset_univ _)) $$ HD; iintro HD
  rw [read_plane D 2 ![2, 0, 0] rfl inb_S4x21x128_S1x21x128_2_0_0]
  iapply (wp_load_rect 𝒱₀ (c : Thread nD τ) none Set.univ (m := b0) (r := Rect.unit (s := S4x21x128) ![3, 0, 0] S1x21x128.size inb_S4x21x128_S1x21x128_3_0_0) (Finset.subset_univ _)) $$ HD; iintro HD
  rw [read_plane D 3 ![3, 0, 0] rfl inb_S4x21x128_S1x21x128_3_0_0]
  simp only [Prog.bind_ret, Prog.bind_op]
  iapply (wp_load_rect 𝒱₀ (c : Thread nD τ) none Set.univ (m := b2) (r := Rect.unit (s := S4x21x128) ![0, 0, 0] S1x21x128.size inb_S4x21x128_S1x21x128_0_0_0) (Finset.subset_univ _)) $$ HX; iintro HX
  iapply (wp_store 𝒱₀ (c : Thread nD τ) none Set.univ (m := b2) (r := Rect.unit (s := S4x21x128) ![0, 0, 0] S1x21x128.size inb_S4x21x128_S1x21x128_0_0_0) (Finset.subset_univ _)) $$ HX; iintro HX
  rw [write_plane X 0 ![0, 0, 0] rfl inb_S4x21x128_S1x21x128_0_0_0]
  iapply (wp_load_rect 𝒱₀ (c : Thread nD τ) none Set.univ (m := b2) (r := Rect.unit (s := S4x21x128) ![1, 0, 0] S1x21x128.size inb_S4x21x128_S1x21x128_1_0_0) (Finset.subset_univ _)) $$ HX; iintro HX
  iapply (wp_store 𝒱₀ (c : Thread nD τ) none Set.univ (m := b2) (r := Rect.unit (s := S4x21x128) ![1, 0, 0] S1x21x128.size inb_S4x21x128_S1x21x128_1_0_0) (Finset.subset_univ _)) $$ HX; iintro HX
  rw [write_plane _ 1 ![1, 0, 0] rfl inb_S4x21x128_S1x21x128_1_0_0]
  iapply (wp_load_rect 𝒱₀ (c : Thread nD τ) none Set.univ (m := b2) (r := Rect.unit (s := S4x21x128) ![2, 0, 0] S1x21x128.size inb_S4x21x128_S1x21x128_2_0_0) (Finset.subset_univ _)) $$ HX; iintro HX
  iapply (wp_store 𝒱₀ (c : Thread nD τ) none Set.univ (m := b2) (r := Rect.unit (s := S4x21x128) ![2, 0, 0] S1x21x128.size inb_S4x21x128_S1x21x128_2_0_0) (Finset.subset_univ _)) $$ HX; iintro HX
  rw [write_plane _ 2 ![2, 0, 0] rfl inb_S4x21x128_S1x21x128_2_0_0]
  iapply (wp_load_rect 𝒱₀ (c : Thread nD τ) none Set.univ (m := b2) (r := Rect.unit (s := S4x21x128) ![3, 0, 0] S1x21x128.size inb_S4x21x128_S1x21x128_3_0_0) (Finset.subset_univ _)) $$ HX; iintro HX
  iapply (wp_store 𝒱₀ (c : Thread nD τ) none Set.univ (m := b2) (r := Rect.unit (s := S4x21x128) ![3, 0, 0] S1x21x128.size inb_S4x21x128_S1x21x128_3_0_0) (Finset.subset_univ _)) $$ HX; iintro HX
  rw [write_plane _ 3 ![3, 0, 0] rfl inb_S4x21x128_S1x21x128_3_0_0]
  rw [wp_ret]; imodintro
  rw [all_out]
  iapply HQ
  isplitl [HD]; · iexact HD
  isplitl [HR]; · iexact HR
  iexact HX

/-! ## The pipeline -/

-- the contents the call finds the arrays at
variable (V : (c : Dev nD) → (b : Ref sig .tc) → Buf (Elt F) ((c : Thread nD τ).loc b))

/-- Window `w`'s block at the point. -/
def blkOf (c : Dev nD) (w : Fin (cfg4 (F := F)).W) (t : Fin (cfg4 (F := F)).N) : ((cfg4.win w).xblock (cfg4.grid.coords t)).Idx → Elt F (cfg4.win w).elt :=
  ((cfg4.win w).blk t).view.read (Elt F) (V c (Pipeline.arrRef spec4 w))

/-- The pipeline's data. -/
def dat (O : CellTallies nD τ sig (HIx 1)) (B : Set (SemLoc sig × HIx 1)) (c : Dev nD) : Dat τ (Elt F) (HIx 1) ℕ UU ℕ (cfg4 (F := F)) c where
  A w := V c (Pipeline.arrRef spec4 w)
  after w t := match w with
    | ⟨0, _⟩ => blkOf V c 0 t
    | ⟨1, _⟩ => blkOf V c 1 t
    | ⟨2, _⟩ => out (F := F) (blkOf V c 0 t) (blkOf V c 1 t)
  Φ _ := Pipeline.scopedRest spec4 c
  q _ := fullShare
  owed _ := O
  recorded _ := B

variable (O : CellTallies nD τ sig (HIx 1)) (B : Set (SemLoc sig × HIx 1))

theorem dat_A (c : Dev nD) (w : Fin (cfg4 (F := F)).W) : (dat V O B c).A w = V c (Pipeline.arrRef spec4 w) := by dsimp only [dat]
theorem after_0 (c : Dev nD) (t : Fin (cfg4 (F := F)).N) : (dat V O B c).after 0 t = blkOf V c 0 t := by dsimp only [dat] <;> rfl
theorem after_1 (c : Dev nD) (t : Fin (cfg4 (F := F)).N) : (dat V O B c).after 1 t = blkOf V c 1 t := by dsimp only [dat] <;> rfl
theorem after_2 (c : Dev nD) (t : Fin (cfg4 (F := F)).N) : (dat V O B c).after 2 t = out (F := F) (blkOf V c 0 t) (blkOf V c 1 t) := by dsimp only [dat] <;> rfl

theorem before_0 (c : Dev nD) (t : Fin (cfg4 (F := F)).N) (d) : (dat V O B c).before 0 t d = blkOf V c 0 t :=
  ((dat V O B c).before_in_eq_fetched 0 rfl (fun _ => rfl) (fun _ _ _ => rfl)
    (fun t => by rw [after_0]; unfold Dat.blockOf blkOf; rw [dat_A]; try rfl) t d).trans
    (by unfold Dat.fetched Dat.blockOf blkOf; rw [dat_A]; try rfl)
theorem before_1 (c : Dev nD) (t : Fin (cfg4 (F := F)).N) (d) : (dat V O B c).before 1 t d = blkOf V c 1 t :=
  ((dat V O B c).before_in_eq_fetched 1 rfl (fun _ => rfl) (fun _ _ _ => rfl)
    (fun t => by rw [after_1]; unfold Dat.blockOf blkOf; rw [dat_A]; try rfl) t d).trans
    (by unfold Dat.fetched Dat.blockOf blkOf; rw [dat_A]; try rfl)

abbrev sg0 (t : Fin (cfg4 (F := F)).N) : Memref sig .tc .vmem S4x21x128 .f32 := win4_0.stage (cfg4.slots t 0)
abbrev sg1 (t : Fin (cfg4 (F := F)).N) : Memref sig .tc .vmem S4x128 .f32 := win4_1.stage (cfg4.slots t 1)
abbrev sg2 (t : Fin (cfg4 (F := F)).N) : Memref sig .tc .vmem S4x21x128 .f32 := win4_2.stage (cfg4.slots t 2)

/-- The body from the staging buffers' contents. -/
theorem run_owns (c : Dev nD) (D : Vec F S4x21x128 .f32) (R : Vec F S4x128 .f32) (Q : PUnit → sProp 𝕄) :
    iprop(owns (c : Thread nD τ) b0 fullShare D ∗ owns (c : Thread nD τ) b1 fullShare R ∗ (∃ d, owns (c : Thread nD τ) b2 fullShare d)
        ∗ (iprop(owns (c : Thread nD τ) b0 fullShare D ∗ owns (c : Thread nD τ) b1 fullShare R ∗ owns (c : Thread nD τ) b2 fullShare (out D R)) -∗ Q ⟨⟩))
      ⊢ wp frame (wpE (defs₀ (F := F)) 𝒱₀ (c : Thread nD τ) none) Set.univ
          (cc4__decode_body b0 (Memref.isWhole_whole _) b1 (Memref.isWhole_whole _) b2 (Memref.isWhole_whole _)) Q := by
  unfold b0 b1 b2
  simp only [owns_whole_eq]
  iintro ⟨⟨%x, %hx, H0⟩, ⟨%y, %hy, H1⟩, ⟨%d, %z, %hz, H2⟩, HQ⟩
  subst hx; subst hy
  iapply (run c x y z Q)
  isplitl [H0]; · iexact H0
  isplitl [H1]; · iexact H1
  isplitl [H2]; · iexact H2
  iintro ⟨H0, H1, H2⟩
  iapply HQ
  isplitl [H0]
  · iexists _; isplitr
    swap; · iexact H0
    ipureintro; rfl
  isplitl [H1]
  · iexists _; isplitr
    swap; · iexact H1
    ipureintro; rfl
  · iexists _; isplitr
    swap; · iexact H2
    ipureintro; rfl

/-- The body at the point. -/
theorem body_at (c : Dev nD) (t : Fin (cfg4 (F := F)).N) :
    iprop((dat V O B c).Φ t.castSucc ∗ (dat V O B c).owesAt none t.castSucc
        ∗ (∃ d, owns (c : Thread nD τ) (sg0 t) fullShare ((dat V O B c).before 0 t d))
        ∗ (∃ d, owns (c : Thread nD τ) (sg1 t) fullShare ((dat V O B c).before 1 t d))
        ∗ (∃ d, owns (c : Thread nD τ) (sg2 t) fullShare ((dat V O B c).before 2 t d)))
      ⊢ wp frame (wpE (defs₀ (F := F)) 𝒱₀ c none) Set.univ (bodyAt4 t)
          fun _ => iprop((dat V O B c).Φ t.succ ∗ (dat V O B c).owesAt none t.succ
            ∗ owns (c : Thread nD τ) (sg0 t) fullShare ((dat V O B c).after 0 t)
            ∗ owns (c : Thread nD τ) (sg1 t) fullShare ((dat V O B c).after 1 t)
            ∗ owns (c : Thread nD τ) (sg2 t) fullShare ((dat V O B c).after 2 t)) := by
  unfold bodyAt4
  simp only [before_0, before_1]
  rw [show (dat V O B c).Φ t.succ = (dat V O B c).Φ t.castSucc from rfl,
    show (dat V O B c).owesAt none t.succ = (dat V O B c).owesAt none t.castSucc from rfl, after_0, after_1, after_2]
  iintro ⟨HΦ, Ho, ⟨%d0, H0⟩, ⟨%d1, H1⟩, ⟨%d2, H2⟩⟩
  iapply (run_owns c (blkOf V c 0 t) (blkOf V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem at_row (t : Fin (cfg4 (F := F)).N) : defs₀ (F := F) .tc (cfg4 (F := F)).body (cfg4.bodyArgs t (cfg4.slots t)) = bodyAt4 t := by
  rfl

theorem obligation (c : Dev nD) : BodyObligation (dat V O B c) (defs₀ (F := F)) 𝒱₀ none Set.univ := fun t => by
  rw [bigSep_W4, bigSep_W4, at_row]
  exact triple_restated (body_at V O B c t) rfl .rfl fun _ => .rfl

/-! ## The array after the call -/

theorem emb_0 (t : Fin (cfg4 (F := F)).N) (y : S4x21x128.Idx) : (((cfg4 (F := F)).win 0).blk t).view.emb y = y := by
  funext a
  apply Fin.ext
  match a with
  | ⟨0, _⟩ => show 0 * 4 + 1 * (y 0).val = (y 0).val; omega
  | ⟨1, _⟩ => show 0 * 21 + 1 * (y 1).val = (y 1).val; omega
  | ⟨2, _⟩ => show 0 * 128 + 1 * (y 2).val = (y 2).val; omega

theorem emb_1 (t : Fin (cfg4 (F := F)).N) (y : S4x128.Idx) : (((cfg4 (F := F)).win 1).blk t).view.emb y = y := by
  funext a
  apply Fin.ext
  match a with
  | ⟨0, _⟩ => show 0 * 4 + 1 * (y 0).val = (y 0).val; omega
  | ⟨1, _⟩ => show 0 * 128 + 1 * (y 1).val = (y 1).val; omega

theorem emb_2 (t : Fin (cfg4 (F := F)).N) (y : S4x21x128.Idx) : (((cfg4 (F := F)).win 2).blk t).view.emb y = y := by
  funext a
  apply Fin.ext
  match a with
  | ⟨0, _⟩ => show 0 * 4 + 1 * (y 0).val = (y 0).val; omega
  | ⟨1, _⟩ => show 0 * 21 + 1 * (y 1).val = (y 1).val; omega
  | ⟨2, _⟩ => show 0 * 128 + 1 * (y 2).val = (y 2).val; omega

theorem blk_0 (c : Dev nD) (t : Fin (cfg4 (F := F)).N) : (blkOf V c 0 t : Vec F S4x21x128 .f32) = V c main_v36 := by
  funext (y : S4x21x128.Idx)
  unfold blkOf
  refine (View.read_apply _ _).trans ?_
  exact congrArg (V c main_v36) (emb_0 t y)

theorem blk_1 (c : Dev nD) (t : Fin (cfg4 (F := F)).N) : (blkOf V c 1 t : Vec F S4x128 .f32) = V c main_v37 := by
  funext (y : S4x128.Idx)
  unfold blkOf
  refine (View.read_apply _ _).trans ?_
  exact congrArg (V c main_v37) (emb_1 t y)

theorem flushed (c : Dev nD) (t : Fin (cfg4 (F := F)).N) :
    (dat V O B c).flushed 2 t = ((cfg4.win 2).blk t).view.read (Elt F) (out (F := F) (V c main_v36) (V c main_v37)) := by
  have hx : (dat V O B c).after 2 t = out (F := F) (V c main_v36) (V c main_v37) := by
    rw [after_2]; exact congrArg₂ out (blk_0 V c t) (blk_1 V c t)
  funext (y : S4x21x128.Idx)
  show (dat V O B c).after 2 t y = out (F := F) (V c main_v36) (V c main_v37) ((((cfg4 (F := F)).win 2).blk t).view.emb y)
  exact (congrFun hx y).trans (congrArg (out (F := F) (V c main_v36) (V c main_v37)) (emb_2 t y).symm)

theorem covered (t : Fin (cfg4 (F := F)).N) (i : S4x21x128.Idx) : i ∈ (((cfg4 (F := F)).win 2).blk t).view.set :=
  Finset.mem_map.mpr ⟨i, Finset.mem_univ _, emb_2 (F := F) t i⟩

/-- The result array: the decoded corners. -/
theorem final (c : Dev nD) : (dat V O B c).arrAt 2 (cfg4 (F := F)).N
    = (out (F := F) (V c main_v36) (V c main_v37) : Buf (Elt F) ((c : Thread nD τ).loc main_v38)) :=
  (dat V O B c).arrAt_eq_of_cover 2 (out (F := F) (V c main_v36) (V c main_v37)) (fun t _ => flushed V O B c t) fun (i : S4x21x128.Idx) =>
    ⟨⟨0, Nat.lt_of_lt_of_eq (by decide : 0 < 1) N_4.symm⟩, flush4_2 _, covered _ i⟩

end Cert.Proof.Gather.Decode

end
-- ==== Proof.Launch.lean ====
/-
  The program's run: the operations before the call, the call on the thirty-two tiles, the suppression, the two matrix-product
  grids and the decoding, with the operations around them. At the end every array of the TensorCore holds what the steps left in it
  (`V₁₁`), and every counter is zero.
-/
module

public import proofs.«01_k».proof.Proof.HostOps
public import proofs.«01_k».proof.Proof.Tile
public import proofs.«01_k».proof.Proof.Regions
public import proofs.«01_k».proof.Proof.NmsRegion
public import proofs.«01_k».proof.Proof.Mm1
public import proofs.«01_k».proof.Proof.Head
public import proofs.«01_k».proof.Proof.Decode
public import Idealize.ShloMosaic.Lib.Pipeline.Frame

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held after)

variable {F : FTy → Type} [FloatOps F]

local notation "𝕄" => MT nD τ sig (HIx 1) (Elt F) ℕ UU ℕ

/-! ## A tile's obligation -/

section Obl

variable (ix : (d : Dev nD) → Buf (Elt F) (iLoc d)) (tab : (d : Dev nD) → Buf (Elt F) (rLoc d)) (o₀ : (d : Dev nD) → Buf (Elt F) (oLoc d))

/-- The grid coordinates of tile `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__gather_sc_body (coordsV c s)
          iV (Memref.isWhole_whole _) rV (Memref.isWhole_whole _) oV (Memref.isWhole_whole _)
          sV (Memref.isWhole_whole _) gV (Memref.isWhole_whole _) cc0_scratch2
          cc0_scoped0 cc0_scoped1 cc0_scoped2 cc0_scoped3 cc0_scoped4 cc0_scoped5 cc0_scoped6) ⟨⟩ c s := rfl

theorem weaken_waits {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hin : ∀ d x, BitVec.toNat (ix d x) < 80000) :
    (K (F := F)).TileObl (D (F := F)) 𝒱 (P ix tab o₀) v₀ 0 := by
  intro d c i O W hO _ _
  simp only [show (P ix tab o₀).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) ix tab o₀ hF (hin d) O W hO).trans (wp_mono frame _ _ fun _ => weaken_waits)

end Obl

/-! ## The launch element of the certificate's ghost state -/

def u₀ : UU := ((initOf (K (F := F)).hsCells (K (F := F)).hsToks,
  initOf (Pipeline.cells (Pipeline.pin (pcfgs (F := F)) adm) cellOf_inj) (Pipeline.launchToks (Pipeline.pin (pcfgs (F := F)) adm) cellOf_inj)), 1)

theorem bigSep_nothing {I : Type} (s : Finset I) : (bigSep s fun _ => iprop(emp)) = (iprop(emp) : sProp 𝕄) := bigSep_emp_const s

/-- The pipelines' tokens on core `d`. -/
abbrev GT (d : Dev nD) : sProp 𝕄 :=
  iprop((bigSep Finset.univ fun p => Pipeline.cellsGhost (Pipeline.pin (pcfgs (F := F)) adm) EP p d)
    ∗ bigSep Finset.univ fun p => Pipeline.toksInit (Pipeline.pin (pcfgs (F := F)) adm) EP p d)

theorem hu₀ (ix : (d : Dev nD) → Buf (Elt F) (iLoc d)) (tab : (d : Dev nD) → Buf (Elt F) (rLoc d)) (o₀ : (d : Dev nD) → Buf (Elt F) (oLoc d)) :
    (ownU (u₀ (F := F)) : sProp 𝕄)
    ⊢ |={Set.univ}=> iprop(BI.own (EH (initOf (K (F := F)).hsCells (K (F := F)).hsToks)) ∗ (bigSep Finset.univ fun d : Dev nD => GT (F := F) d)
        ∗ bigSep Finset.univ fun thr : Thread nD τ => bigSep Finset.univ fun q : Fin 1 => (P ix tab o₀).x q thr) := by
  have hp : BI.own ((embL : Emb (UH × UP) 𝕄) (initOf (K (F := F)).hsCells (K (F := F)).hsToks,
        initOf (Pipeline.cells (Pipeline.pin (pcfgs (F := F)) adm) cellOf_inj) (Pipeline.launchToks (Pipeline.pin (pcfgs (F := F)) adm) cellOf_inj)))
      ⊢ iprop(BI.own (EH (initOf (K (F := F)).hsCells (K (F := F)).hsToks)) ∗ BI.own (EP (initOf
        (Pipeline.cells (Pipeline.pin (pcfgs (F := F)) adm) cellOf_inj) (Pipeline.launchToks (Pipeline.pin (pcfgs (F := F)) adm) cellOf_inj)))) :=
    own_pair_emb _ _ _
  unfold u₀
  iintro Hu
  ihave H := (ownU_pair (initOf (K (F := F)).hsCells (K (F := F)).hsToks,
    initOf (Pipeline.cells (Pipeline.pin (pcfgs (F := F)) adm) cellOf_inj) (Pipeline.launchToks (Pipeline.pin (pcfgs (F := F)) adm) cellOf_inj)) (1 : Counters)) $$ Hu
  icases H with ⟨HL, -⟩
  ihave H := hp $$ HL
  icases H with ⟨HH, HP⟩
  ihave HG := (Pipeline.fund_ghost (Pipeline.pin (pcfgs (F := F)) adm) EP cellOf_inj) $$ HP
  imod HG
  imodintro
  isplitl [HH]; · iexact HH
  isplitl [HG]
  · rw [bigSep_sep']; iexact HG
  rw [show (bigSep Finset.univ fun thr : Thread nD τ => bigSep Finset.univ fun q : Fin 1 => (P (F := F) ix tab o₀).x q thr)
      = bigSep Finset.univ fun _ => iprop(emp) from bigSep_congr fun _ _ => bigSep_univ_of_subsingleton (0 : Fin 1), bigSep_nothing]
  iempintro

/-! ## @main on the TensorCore -/

variable (m : (ℓ : Loc nD τ sig) → Buf (Elt F) ℓ) (ρ : Dev nD → PrngReg)

/-- The contents before the call, -/
abbrev V₁ (d : Dev nD) : Valuation τ sig (Elt F) := after preOps (fun b => m (d, b))
abbrev ixM (d : Dev nD) : Buf (Elt F) (iLoc d) := V₁ m d (Proc.devRef .tc main_v23)
abbrev tabM (d : Dev nD) : Buf (Elt F) (rLoc d) := V₁ m d (Proc.devRef .tc main_v24)
abbrev o₀M (d : Dev nD) : Buf (Elt F) (oLoc d) := V₁ m d (Proc.devRef .tc main_v25)
/-- after it, -/
abbrev V₂ (d : Dev nD) : Valuation τ sig (Elt F) :=
  Function.update (V₁ m d) (Proc.devRef .tc main_v25) (gat (ixM m d) (tabM m d))
/-- before the suppression, -/
def V₃ (d : Dev nD) : Valuation τ sig (Elt F) := after rowsOps (V₂ m d)
/-- its run on core `d`, -/
abbrev nms (d : Dev nD) : Pipeline.Dat τ (Elt F) (HIx 1) ℕ UU ℕ (cfg1 (F := F)) d :=
  Nms.dat (fun c b => V₃ m c (Proc.devRef .tc b)) 0 (lowWaits (F := F) 8 d) d
/-- the contents after it, -/
def V₄ (d : Dev nD) : Valuation τ sig (Elt F) := Pipeline.afterRegion (nms m d) (V₃ m d)
/-- before the first matrix product, -/
def V₅ (d : Dev nD) : Valuation τ sig (Elt F) := after postOps (V₄ m d)
/-- its run on core `d`, -/
abbrev mm1 (d : Dev nD) : Pipeline.Dat τ (Elt F) (HIx 1) ℕ UU ℕ (cfg2 (F := F)) d :=
  Mm1.dat (fun c b => V₅ m c (Proc.devRef .tc b)) 0 (lowWaits (F := F) 8 d) d
/-- the contents after it, -/
def V₆ (d : Dev nD) : Valuation τ sig (Elt F) := Pipeline.afterRegion (mm1 m d) (V₅ m d)
/-- before the head, -/
def V₇ (d : Dev nD) : Valuation τ sig (Elt F) := after midOps (V₆ m d)
/-- its run on core `d`, -/
abbrev head (d : Dev nD) : Pipeline.Dat τ (Elt F) (HIx 1) ℕ UU ℕ (cfg3 (F := F)) d :=
  Head.dat (fun c b => V₇ m c (Proc.devRef .tc b)) 0 (lowWaits (F := F) 8 d) d
/-- the contents after it, -/
def V₈ (d : Dev nD) : Valuation τ sig (Elt F) := Pipeline.afterRegion (head m d) (V₇ m d)
/-- before the decoding, -/
def V₉ (d : Dev nD) : Valuation τ sig (Elt F) := after endOps (V₈ m d)
/-- its run on core `d`, -/
abbrev decode (d : Dev nD) : Pipeline.Dat τ (Elt F) (HIx 1) ℕ UU ℕ (cfg4 (F := F)) d :=
  Decode.dat (fun c b => V₉ m c (Proc.devRef .tc b)) 0 (lowWaits (F := F) 8 d) d
/-- the contents after it, -/
def V₁₀ (d : Dev nD) : Valuation τ sig (Elt F) := Pipeline.afterRegion (decode m d) (V₉ m d)
/-- and at the end. -/
def V₁₁ (d : Dev nD) : Valuation τ sig (Elt F) := after outOps (V₁₀ m d)

/-- The four pipelines' runs. -/
def pdats : (p : Fin 4) → (c : Dev nD) → Pipeline.Dat τ (Elt F) (HIx 1) ℕ UU ℕ (Pipeline.pin (pcfgs (F := F)) adm p) c := fun p =>
  match p with
  | 0 => fun c => nms m c
  | 1 => fun c => mm1 m c
  | 2 => fun c => head m c
  | 3 => fun c => decode m c

theorem nms_obligation (c : Dev nD) : Pipeline.BodyObligationLoose (nms m c) (defs₀ (F := F)) 𝒱₀ none Set.univ :=
  (Nms.obligation (fun c b => V₃ m c (Proc.devRef .tc b)) 0 (lowWaits (F := F) 8 c) c).loose
theorem nms_A (c : Dev nD) (w : Fin (cfg1 (F := F)).W) : (nms m c).A w = V₃ m c (Proc.devRef .tc (Pipeline.arrRef spec1 w)) := Nms.dat_A _ _ _ c w
theorem nms_Φ (c : Dev nD) (t) : (nms m c).Φ t = (Pipeline.scopedRest spec1 c : sProp 𝕄) := by dsimp only [nms, Nms.dat]

theorem mm1_obligation (c : Dev nD) : Pipeline.BodyObligationLoose (mm1 m c) (defs₀ (F := F)) 𝒱₀ none Set.univ :=
  (Mm1.obligation (fun c b => V₅ m c (Proc.devRef .tc b)) 0 (lowWaits (F := F) 8 c) c).loose
theorem mm1_A (c : Dev nD) (w : Fin (cfg2 (F := F)).W) : (mm1 m c).A w = V₅ m c (Proc.devRef .tc (Pipeline.arrRef spec2 w)) := Mm1.dat_A _ _ _ c w
theorem mm1_Φ (c : Dev nD) (t) : (mm1 m c).Φ t = (Pipeline.scopedRest spec2 c : sProp 𝕄) := by dsimp only [mm1, Mm1.dat]

theorem head_obligation (c : Dev nD) : Pipeline.BodyObligationLoose (head m c) (defs₀ (F := F)) 𝒱₀ none Set.univ :=
  (Head.obligation (fun c b => V₇ m c (Proc.devRef .tc b)) 0 (lowWaits (F := F) 8 c) c).loose
theorem head_A (c : Dev nD) (w : Fin (cfg3 (F := F)).W) : (head m c).A w = V₇ m c (Proc.devRef .tc (Pipeline.arrRef spec3 w)) := Head.dat_A _ _ _ c w
theorem head_Φ (c : Dev nD) (t) : (head m c).Φ t = (Pipeline.scopedRest spec3 c : sProp 𝕄) := by dsimp only [head, Head.dat]

theorem decode_obligation (c : Dev nD) : Pipeline.BodyObligationLoose (decode m c) (defs₀ (F := F)) 𝒱₀ none Set.univ :=
  (Decode.obligation (fun c b => V₉ m c (Proc.devRef .tc b)) 0 (lowWaits (F := F) 8 c) c).loose
theorem decode_A (c : Dev nD) (w : Fin (cfg4 (F := F)).W) : (decode m c).A w = V₉ m c (Proc.devRef .tc (Pipeline.arrRef spec4 w)) := Decode.dat_A _ _ _ c w
theorem decode_Φ (c : Dev nD) (t) : (decode m c).Φ t = (Pipeline.scopedRest spec4 c : sProp 𝕄) := by dsimp only [decode, Decode.dat]

set_option backward.isDefEq.respectTransparency.types false in
/-- The suppression as a step of @main. -/
def segNms : Pipeline.RegionSeg (pcfgs (F := F)) adm (pdats m) none defs₀ 𝒱₀ (K (F := F)).L (K (F := F)).lev 0 :=
  seg (pdats m) 8 0 launch1.win launch1.block_pos launch1.arr_whole launch1.stage_whole rfl
    (nms_obligation m) (fun _ _ => rfl) (fun _ _ => rfl) (fun _ _ => rfl)
    (nms_Φ m) (V₃ m) (nms_A m)
theorem segNms_pre (d : Dev nD) : (segNms m).pre d = iprop(held (SparseCore.T d) (Pipeline.ucRefs τ sig) (V₃ m d) ∗ Idle (F := F) 8 d) := rfl
theorem segNms_post (d : Dev nD) : (segNms m).post d = iprop(held (SparseCore.T d) (Pipeline.ucRefs τ sig) (V₄ m d) ∗ Idle (F := F) 8 d) := rfl

set_option backward.isDefEq.respectTransparency.types false in
/-- The first matrix product as a step of @main. -/
def segMm1 : Pipeline.RegionSeg (pcfgs (F := F)) adm (pdats m) none defs₀ 𝒱₀ (K (F := F)).L (K (F := F)).lev 1 :=
  seg (pdats m) 8 1 launch2.win launch2.block_pos launch2.arr_whole launch2.stage_whole rfl
    (mm1_obligation m) (fun _ _ => rfl) (fun _ _ => rfl) (fun _ _ => rfl)
    (mm1_Φ m) (V₅ m) (mm1_A m)
theorem segMm1_pre (d : Dev nD) : (segMm1 m).pre d = iprop(held (SparseCore.T d) (Pipeline.ucRefs τ sig) (V₅ m d) ∗ Idle (F := F) 8 d) := rfl
theorem segMm1_post (d : Dev nD) : (segMm1 m).post d = iprop(held (SparseCore.T d) (Pipeline.ucRefs τ sig) (V₆ m d) ∗ Idle (F := F) 8 d) := rfl

set_option backward.isDefEq.respectTransparency.types false in
/-- The head as a step of @main. -/
def segHead : Pipeline.RegionSeg (pcfgs (F := F)) adm (pdats m) none defs₀ 𝒱₀ (K (F := F)).L (K (F := F)).lev 2 :=
  seg (pdats m) 8 2 launch3.win launch3.block_pos launch3.arr_whole launch3.stage_whole rfl
    (head_obligation m) (fun _ _ => rfl) (fun _ _ => rfl) (fun _ _ => rfl)
    (head_Φ m) (V₇ m) (head_A m)
theorem segHead_pre (d : Dev nD) : (segHead m).pre d = iprop(held (SparseCore.T d) (Pipeline.ucRefs τ sig) (V₇ m d) ∗ Idle (F := F) 8 d) := rfl
theorem segHead_post (d : Dev nD) : (segHead m).post d = iprop(held (SparseCore.T d) (Pipeline.ucRefs τ sig) (V₈ m d) ∗ Idle (F := F) 8 d) := rfl

set_option backward.isDefEq.respectTransparency.types false in
/-- The decoding as a step of @main. -/
def segDecode : Pipeline.RegionSeg (pcfgs (F := F)) adm (pdats m) none defs₀ 𝒱₀ (K (F := F)).L (K (F := F)).lev 3 :=
  seg (pdats m) 8 3 launch4.win launch4.block_pos launch4.arr_whole launch4.stage_whole rfl
    (decode_obligation m) (fun _ _ => rfl) (fun _ _ => rfl) (fun _ _ => rfl)
    (decode_Φ m) (V₉ m) (decode_A m)
theorem segDecode_pre (d : Dev nD) : (segDecode m).pre d = iprop(held (SparseCore.T d) (Pipeline.ucRefs τ sig) (V₉ m d) ∗ Idle (F := F) 8 d) := rfl
theorem segDecode_post (d : Dev nD) : (segDecode m).post d = iprop(held (SparseCore.T d) (Pipeline.ucRefs τ sig) (V₁₀ m d) ∗ Idle (F := F) 8 d) := rfl

/-- The three arrays of the call. -/
abbrev callRefs : Finset (DevRef τ sig) := {Proc.devRef .tc main_v23, Proc.devRef .tc main_v24, Proc.devRef .tc main_v25}

theorem dr_ne {a b : Ref sig .tc} (h : a ≠ b) : Proc.devRef (τ := τ) (.tc : Proc τ) a ≠ Proc.devRef .tc b :=
  StableHlo.devRef_ne_of_ne h

theorem callRefs_sub : callRefs ⊆ Pipeline.ucRefs τ sig := by
  intro b hb
  simp only [callRefs, Finset.mem_insert, Finset.mem_singleton] at hb
  rcases hb with rfl | rfl | rfl <;>
    exact Finset.mem_filter.mpr ⟨StableHlo.devRef_mem_tcRefs _, by decide⟩

theorem held_call (d : Dev nD) (W : Valuation τ sig (Elt F)) :
    (held (SparseCore.T d) callRefs W : sProp 𝕄)
      = iprop((iLoc d ↦{fullShare} W (Proc.devRef .tc main_v23)) ∗ (rLoc d ↦{fullShare} W (Proc.devRef .tc main_v24))
          ∗ oLoc d ↦{fullShare} W (Proc.devRef .tc main_v25)) := by
  unfold held callRefs
  rw [SparseCore.bigSep_insert' (by
      simp only [Finset.mem_insert, Finset.mem_singleton, not_or]
      exact ⟨dr_ne (by decide), dr_ne (by decide)⟩),
    SparseCore.bigSep_insert' (by simp only [Finset.mem_singleton]; exact dr_ne (by decide)), bigSep_singleton]

theorem held_rest (d : Dev nD) :
    (held (SparseCore.T d) (Pipeline.ucRefs τ sig \ callRefs) (V₂ m d) : sProp 𝕄)
      = held (SparseCore.T d) (Pipeline.ucRefs τ sig \ callRefs) (V₁ m d) := by
  unfold held
  refine bigSep_congr fun b hb => ?_
  rw [show V₂ m d b = V₁ m d b from Function.update_of_ne (fun e => (Finset.mem_sdiff.mp hb).2 (by subst e; simp [callRefs])) _ _]

theorem V₂_list (d : Dev nD) : V₂ m d (Proc.devRef .tc main_v23) = ixM m d := Function.update_of_ne (dr_ne (by decide)) _ _
theorem V₂_table (d : Dev nD) : V₂ m d (Proc.devRef .tc main_v24) = tabM m d := Function.update_of_ne (dr_ne (by decide)) _ _
theorem V₂_out (d : Dev nD) : V₂ m d (Proc.devRef .tc main_v25) = gat (ixM m d) (tabM m d) := Function.update_self _ _ _

/-- At the end: every array of the TensorCore, at what the operations left. -/
abbrev FIN (d : Dev nD) : sProp 𝕄 := held (SparseCore.T d) (Pipeline.ucRefs τ sig) (V₁₁ m d)

theorem st_all (d : Dev nD) : (bigSep Finset.univ fun c : Fin ((K (F := F)).nCore 0) => (P (ixM m) (tabM m) (o₀M m)).st 0 d c)
    = (iprop((iLoc d ↦{fullShare} ixM m d) ∗ (rLoc d ↦{fullShare} tabM m d) ∗ (oLoc d ↦{fullShare} o₀M m d)) : sProp 𝕄) :=
  go_all (ixM m) (tabM m) (o₀M m) d
theorem dn_all (d : Dev nD) : (bigSep Finset.univ fun c : Fin ((K (F := F)).nCore 0) => (P (ixM m) (tabM m) (o₀M m)).dn 0 d c)
    = (iprop((iLoc d ↦{fullShare} ixM m d) ∗ (rLoc d ↦{fullShare} tabM m d) ∗ (oLoc d ↦{fullShare} gat (ixM m d) (tabM m d))) : sProp 𝕄) :=
  td_all (ixM m) (tabM m) d

/-- After its one SparseCore call the core owes no start. -/
theorem Otc_one (d : Dev nD) : (K (F := F)).Otc d 1 = 0 := by
  unfold SparseCore.Cfg.Otc
  exact Finset.sum_eq_zero fun q _ => if_neg (by omega)

theorem idle_after (d : Dev nD) : (iprop(∃ W, ⌜(K (F := F)).WBelow (SparseCore.T d) W (8 * SparseCore.Cfg.Blocks.fst 1 1 ((0 : Fin 1).val + 1))⌝
      ∗ owes (SparseCore.T d) ((K (F := F)).Otc d ((0 : Fin 1).val + 1)) W) : sProp 𝕄) = Idle (F := F) 8 d := by
  rw [show (K (F := F)).Otc d ((0 : Fin 1).val + 1) = 0 from Otc_one d]; rfl

theorem bigSep_four (f : Fin 4 → sProp 𝕄) : bigSep Finset.univ f = iprop(f 0 ∗ f 1 ∗ f 2 ∗ f 3) := by
  rw [show (Finset.univ : Finset (Fin 4)) = {0, 1, 2, 3} from rfl, SparseCore.bigSep_insert' (by decide), SparseCore.bigSep_insert' (by decide),
    SparseCore.bigSep_insert' (by decide), bigSep_singleton]

theorem hmain [∀ e, Nonempty (Elt F e)] (κ : GSem nD τ sig → ℕ) (d : Dev nD) :
    iprop((K (F := F)).ctx EH (P (ixM m) (tabM m) (o₀M m)) κ ∗ (K (F := F)).tcSt EH d 0 ∗ (K (F := F)).tcRes m ρ d ∗ GT (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (SparseCore.T d) (Pipeline.ucRefs τ sig) (fun b => m (d, b)) from
    Pipeline.unscopedBufs_held d (fun b => m (d, b)), main_eq]
  iintro ⟨#Hctx, Hst, ⟨Hb, Hh, Hts, -⟩, Hcg, Htk⟩
  iapply (StableHlo.wp_seq 𝒱 none Set.univ d (Pipeline.ucRefs τ sig) _ preOps
    (fun op h => Pipeline.sub_ucRefs op ((List.forall_iff_forall_mem.mp pre_sub) op h))
    (fun op h => (List.forall_iff_forall_mem.mp pre_fresh) op h) (fun b => m (d, b))) $$ [Hb Hh]
  · isplitl [Hb] <;> iassumption
  iintro ⟨Hb, Hh⟩
  ihave Hh := (Entails.of_eq (StableHlo.held_sub_split (SparseCore.T d) callRefs_sub (V₁ m d))) $$ Hh
  icases Hh with ⟨Hc, Hr⟩
  ihave Hc := (Entails.of_eq (held_call d (V₁ m d))) $$ Hc
  simp only [wp_bind]
  iapply ((K (F := F)).wp_run (D (F := F)) 𝒱 (EH := EH) (P := P (ixM m) (tabM m) (o₀M m)) κ d 0) $$ [Hst Hc Hr Hb Hts Hcg Htk]
  isplitr; · iexact Hctx
  isplitl [Hst]; · iexact Hst
  isplitl [Hc]
  · iapply (Entails.of_eq (st_all m d).symm); iexact Hc
  iintro ⟨Hst, Hdn⟩
  ihave Hc := (Entails.of_eq (dn_all m d)) $$ Hdn
  ihave Hc := (Entails.of_eq ((congrArg₂ (fun a b => iprop((iLoc d ↦{fullShare} a) ∗ b)) (V₂_list m d)
    (congrArg₂ (fun a b => iprop((rLoc d ↦{fullShare} a) ∗ (oLoc d ↦{fullShare} b) : sProp 𝕄)) (V₂_table m d) (V₂_out m d))).symm.trans
      (held_call d (V₂ m d)).symm)) $$ Hc
  ihave Hr := (Entails.of_eq (held_rest m d).symm) $$ Hr
  ihave Hh := (Entails.of_eq (StableHlo.held_sub_split (SparseCore.T d) callRefs_sub (V₂ m d)).symm) $$ [Hc Hr]
  · isplitl [Hc] <;> iassumption
  simp only [← wp_bind]
  iapply (StableHlo.wp_seq 𝒱 none Set.univ d (Pipeline.ucRefs τ sig) _ rowsOps
    (fun op h => Pipeline.sub_ucRefs op ((List.forall_iff_forall_mem.mp rows_sub) op h))
    (fun op h => (List.forall_iff_forall_mem.mp rows_fresh) op h) (V₂ m d)) $$ [Hb Hh]
  · isplitl [Hb] <;> iassumption
  iintro ⟨Hb, Hh⟩
  rw [show after rowsOps (V₂ m d) = V₃ m d from rfl]
  unfold SparseCore.Cfg.tcSt
  icases Hst with ⟨HO, Hst⟩
  ihave HO := (Entails.of_eq (idle_after d)) $$ HO
  ihave Hlv := ((K (F := F)).ctx_levAts (EH := EH) (P := P (ixM m) (tabM m) (o₀M m)) κ) $$ Hctx
  ihave Hcg := (Entails.of_eq (bigSep_four _)) $$ Hcg
  ihave Htk := (Entails.of_eq (bigSep_four _)) $$ Htk
  icases Hcg with ⟨Hcg0, Hcg1, Hcg2, Hcg3⟩
  icases Htk with ⟨Htk0, Htk1, Htk2, Htk3⟩
  simp only [wp_bind]
  iapply (wp_seg (pdats m) (segNms m) d) $$ [-]
  isplitr [Hb Hh HO Hcg0 Htk0]
  · iintro ⟨Hb, Hp⟩
    ihave Hp := (Entails.of_eq (segNms_post m d)) $$ Hp
    icases Hp with ⟨Hh, HO⟩
    simp only [← wp_bind]
    iapply (StableHlo.wp_seq 𝒱 none Set.univ d (Pipeline.ucRefs τ sig) _ postOps
      (fun op h => Pipeline.sub_ucRefs op ((List.forall_iff_forall_mem.mp post_sub) op h))
      (fun op h => (List.forall_iff_forall_mem.mp post_fresh) op h) (V₄ m d)) $$ [Hb Hh]
    · isplitl [Hb] <;> iassumption
    iintro ⟨Hb, Hh⟩
    rw [show after postOps (V₄ m d) = V₅ m d from rfl]
    simp only [wp_bind]
    iapply (wp_seg (pdats m) (segMm1 m) d) $$ [-]
    isplitr [Hb Hh HO Hcg1 Htk1]
    · iintro ⟨Hb, Hp⟩
      ihave Hp := (Entails.of_eq (segMm1_post m d)) $$ Hp
      icases Hp with ⟨Hh, HO⟩
      simp only [← wp_bind]
      iapply (StableHlo.wp_seq 𝒱 none Set.univ d (Pipeline.ucRefs τ sig) _ midOps
        (fun op h => Pipeline.sub_ucRefs op ((List.forall_iff_forall_mem.mp mid_sub) op h))
        (fun op h => (List.forall_iff_forall_mem.mp mid_fresh) op h) (V₆ m d)) $$ [Hb Hh]
      · isplitl [Hb] <;> iassumption
      iintro ⟨Hb, Hh⟩
      rw [show after midOps (V₆ m d) = V₇ m d from rfl]
      simp only [wp_bind]
      iapply (wp_seg (pdats m) (segHead m) d) $$ [-]
      isplitr [Hb Hh HO Hcg2 Htk2]
      · iintro ⟨Hb, Hp⟩
        ihave Hp := (Entails.of_eq (segHead_post m d)) $$ Hp
        icases Hp with ⟨Hh, HO⟩
        simp only [← wp_bind]
        iapply (StableHlo.wp_seq 𝒱 none Set.univ d (Pipeline.ucRefs τ sig) _ endOps
          (fun op h => Pipeline.sub_ucRefs op ((List.forall_iff_forall_mem.mp end_sub) op h))
          (fun op h => (List.forall_iff_forall_mem.mp end_fresh) op h) (V₈ m d)) $$ [Hb Hh]
        · isplitl [Hb] <;> iassumption
        iintro ⟨Hb, Hh⟩
        rw [show after endOps (V₈ m d) = V₉ m d from rfl]
        simp only [wp_bind]
        iapply (wp_seg (pdats m) (segDecode m) d) $$ [-]
        isplitr [Hb Hh HO Hcg3 Htk3]
        · iintro ⟨Hb, Hp⟩
          ihave Hp := (Entails.of_eq (segDecode_post m d)) $$ Hp
          icases Hp with ⟨Hh, HO⟩
          simp only [← wp_bind]
          iapply (StableHlo.wp_seq 𝒱 none Set.univ d (Pipeline.ucRefs τ sig) _ outOps
            (fun op h => Pipeline.sub_ucRefs op ((List.forall_iff_forall_mem.mp out_sub) op h))
            (fun op h => (List.forall_iff_forall_mem.mp out_fresh) op h) (V₁₀ m d)) $$ [Hb Hh]
          · isplitl [Hb] <;> iassumption
          iintro ⟨Hb, Hh⟩
          rw [show after outOps (V₁₀ m d) = V₁₁ m d from rfl, wp_pure]
          imodintro
          isplitl [Hst HO]
          · isplitl [HO]
            · iapply (Entails.of_eq (idle_after d).symm); iexact HO
            iexact Hst
          isplitl [Hh]; · iexact Hh
          isplitl [Hb] <;> iassumption
        isplitl [Hb]; · iexact Hb
        isplitl [Hh HO]
        · iapply (Entails.of_eq (segDecode_pre m d).symm); isplitl [Hh]; · iexact Hh
          iexact HO
        isplitr; · iexact Hlv
        isplitl [Hcg3] <;> iassumption
      isplitl [Hb]; · iexact Hb
      isplitl [Hh HO]
      · iapply (Entails.of_eq (segHead_pre m d).symm); isplitl [Hh]; · iexact Hh
        iexact HO
      isplitr; · iexact Hlv
      isplitl [Hcg2] <;> iassumption
    isplitl [Hb]; · iexact Hb
    isplitl [Hh HO]
    · iapply (Entails.of_eq (segMm1_pre m d).symm); isplitl [Hh]; · iexact Hh
      iexact HO
    isplitr; · iexact Hlv
    isplitl [Hcg1] <;> iassumption
  isplitl [Hb]; · iexact Hb
  isplitl [Hh HO]
  · iapply (Entails.of_eq (segNms_pre m d).symm); isplitl [Hh]; · iexact Hh
    iexact HO
  isplitr; · iexact Hlv
  isplitl [Hcg0] <;> iassumption

/-! ## The run -/

def fq (d : Dev nD) (s' : Phys nD τ sig (Elt F)) : Prop := ∀ b ∈ Pipeline.ucRefs τ sig, s'.mem.mem (d, b) = V₁₁ m d b

theorem hfin (d : Dev nD) (s' : Phys nD τ sig (Elt F)) : iprop(FIN m d ∗ SI s') ⊢ (⌜fq m d s'⌝ : sProp 𝕄) := by
  by_cases h : fq m d s'
  · iintro -; ipureintro; exact h
  · unfold fq at h; push Not at h
    obtain ⟨b, hb, hne⟩ := h
    unfold FIN
    rw [StableHlo.held_sub_split (SparseCore.T d) (Finset.singleton_subset_iff.mpr hb) (V₁₁ m d)]
    unfold held
    rw [bigSep_singleton]
    iintro ⟨⟨Hb, -⟩, HSI⟩
    ihave H := (SI_pointsTo_agree (st := s') (ℓ := (d, b)) (I := Finset.univ) (q := fullShare) (f := V₁₁ m d b)) $$ [HSI Hb]
    · isplitl [HSI] <;> iassumption
    icases H with %h1
    exact absurd (funext fun i => h1 i (Finset.mem_univ i)) hne

/-- What the run leaves: in every array of the TensorCore what the steps left there, the counters at zero. -/
def QC : PUnit × MemSt nD τ sig (Elt F) → Prop := fun r =>
  (∀ (c : Dev nD) (b : Ref sig .tc), b.isScoped = false → r.2.mem ((SparseCore.T c).loc b) = V₁₁ m c (Proc.devRef .tc b)) ∧ r.2.sem = fun _ => 0

theorem mem_uc (b : Ref sig .tc) (h : b.isScoped = false) : Proc.devRef (τ := τ) (.tc : Proc τ) b ∈ Pipeline.ucRefs τ sig :=
  Finset.mem_filter.mpr ⟨StableHlo.devRef_mem_tcRefs _, by rw [Bool.not_eq_true]; exact h⟩

theorem ixM_eq (d : Dev nD) : ixM m d = flatList (F := F) (order (scores (m ((SparseCore.T d).loc main_arg0)))) := pre_list _

theorem run_main [∀ e, Nonempty (Elt F e)]
    (hin : ∀ d x, BitVec.toNat (flatList (F := F) (order (scores (m ((SparseCore.T d).loc main_arg0)))) x) < 80000) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (ixM m) (tabM m) (o₀M m)) (A := ∅) facts v₀
    (fun q hq => match q with | 0 => nomatch hq)
    (fun q _ => match q with | 0 => tileObl (ixM m) (tabM m) (o₀M m) facts (fun d x => by rw [ixM_eq]; exact hin d x))
    (fun q _ => match q with | 0 => SparseCore.Cfg.VecSplit.of_plain (vecSplit (ixM m) (tabM m) (o₀M m)))
    m ρ main (fun d => GT (F := F) d) (FIN m) (u₀ (F := F)) (sep_elim_left.trans (hu₀ (ixM m) (tabM m) (o₀M m))) (hmain m ρ) (fq m) (hfin m) (QC m)
    (fun r h hz => ⟨fun c b hb => (h c : ∀ b ∈ Pipeline.ucRefs τ sig, r.mem.mem (c, b) = V₁₁ m c b) _ (mem_uc b hb), hz⟩)

end Cert.Proof.Gather

end
-- ==== Proof.Kept.lean ====
/-
  The arrays the program leaves as they were: nothing but a stretch's own results and a call's own results changes, so the
  arguments end unchanged. And the program's frame, for any floats.
-/
module

public import proofs.«01_k».proof.Proof.Launch
public import Idealize.ShloMosaic.Lib.Pipeline.FrameTail
public import Idealize.ShloMosaic.Lib.Pipeline.RegionArraysS

@[expose] public section

set_option maxRecDepth 8192

noncomputable section

namespace Cert.Proof.Gather

open Cert.KernelIdeal Cert.KernelIdeal.Gen
open Idealize.ShloMosaic Idealize.ShloMosaic.TcCoe Idealize.ShloMosaic.StableHlo
open Idealize.ShloMosaic.SparseCore.Cfg (HIx)
open Idealize.SL.Sem

variable {F : FTy → Type} [FloatOps F]
variable (m : (ℓ : Loc nD τ sig) → Buf (Elt F) ℓ)

/-- What the argument `b` held at the start. -/
abbrev arg (d : Dev nD) (b : Ref sig .tc) : Buf (Elt F) ((d : Thread nD τ).loc b) := m ((d.tc : Thread nD τ).loc b)

/-- The arrays the four calls write. -/
abbrev nmsW : List (Ref sig .tc) := [main_v27]
abbrev mm1W : List (Ref sig .tc) := [main_v29]
abbrev headW : List (Ref sig .tc) := [main_v34_0, main_v34_1]
abbrev decodeW : List (Ref sig .tc) := [main_v38]

theorem nms_in (w : Fin (cfg1 (F := F)).W) (h : Pipeline.arrRef spec1 w ∉ nmsW) : ((cfg1 (F := F)).win w).isOut = false := by
  match w with
  | ⟨0, _⟩ => rfl
  | ⟨1, _⟩ => exact absurd (List.mem_singleton.mpr rfl) h

theorem mm1_in (w : Fin (cfg2 (F := F)).W) (h : Pipeline.arrRef spec2 w ∉ mm1W) : ((cfg2 (F := F)).win w).isOut = false := by
  match w with
  | ⟨0, _⟩ => rfl
  | ⟨1, _⟩ => rfl
  | ⟨2, _⟩ => exact absurd (List.mem_singleton.mpr rfl) h

theorem head_in (w : Fin (cfg3 (F := F)).W) (h : Pipeline.arrRef spec3 w ∉ headW) : ((cfg3 (F := F)).win w).isOut = false := by
  match w with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => exact absurd (List.mem_cons.mpr (.inl rfl)) h
  | ⟨9, _⟩ => exact absurd (List.mem_cons.mpr (.inr (List.mem_singleton.mpr rfl))) h

theorem decode_in (w : Fin (cfg4 (F := F)).W) (h : Pipeline.arrRef spec4 w ∉ decodeW) : ((cfg4 (F := F)).win w).isOut = false := by
  match w with
  | ⟨0, _⟩ => rfl
  | ⟨1, _⟩ => rfl
  | ⟨2, _⟩ => exact absurd (List.mem_singleton.mpr rfl) h

theorem V₃_keeps (d : Dev nD) {r : Ref sig .tc} (h1 : r ∉ preW) (h2 : r ≠ main_v25) (h3 : r ∉ rowsW) :
    V₃ m d (Proc.devRef .tc r) = arg m d r :=
  (rows_keeps _ h3).trans ((Function.update_of_ne (dr_ne h2) _ _).trans (pre_keeps _ h1))

theorem V₄_keeps (d : Dev nD) {r : Ref sig .tc} (h : r ∉ nmsW) : V₄ m d (Proc.devRef .tc r) = V₃ m d (Proc.devRef .tc r) :=
  Pipeline.afterRegion_keeps (nms m d) (V₃ m d) launch1.win.arr_inj (nms_A m d) r fun w e => nms_in w (by rw [e]; exact h)

theorem V₅_keeps (d : Dev nD) {r : Ref sig .tc} (h : r ∉ postW) : V₅ m d (Proc.devRef .tc r) = V₄ m d (Proc.devRef .tc r) := post_keeps _ h

theorem V₆_keeps (d : Dev nD) {r : Ref sig .tc} (h : r ∉ mm1W) : V₆ m d (Proc.devRef .tc r) = V₅ m d (Proc.devRef .tc r) :=
  Pipeline.afterRegion_keeps (mm1 m d) (V₅ m d) launch2.win.arr_inj (mm1_A m d) r fun w e => mm1_in w (by rw [e]; exact h)

theorem V₇_keeps (d : Dev nD) {r : Ref sig .tc} (h : r ∉ midW) : V₇ m d (Proc.devRef .tc r) = V₆ m d (Proc.devRef .tc r) := mid_keeps _ h

theorem V₈_keeps (d : Dev nD) {r : Ref sig .tc} (h : r ∉ headW) : V₈ m d (Proc.devRef .tc r) = V₇ m d (Proc.devRef .tc r) :=
  Pipeline.afterRegion_keeps (head m d) (V₇ m d) launch3.win.arr_inj (head_A m d) r fun w e => head_in w (by rw [e]; exact h)

theorem V₉_keeps (d : Dev nD) {r : Ref sig .tc} (h : r ∉ endW) : V₉ m d (Proc.devRef .tc r) = V₈ m d (Proc.devRef .tc r) := end_keeps _ h

theorem V₁₀_keeps (d : Dev nD) {r : Ref sig .tc} (h : r ∉ decodeW) : V₁₀ m d (Proc.devRef .tc r) = V₉ m d (Proc.devRef .tc r) :=
  Pipeline.afterRegion_keeps (decode m d) (V₉ m d) launch4.win.arr_inj (decode_A m d) r fun w e => decode_in w (by rw [e]; exact h)

theorem V₁₁_keeps (d : Dev nD) {r : Ref sig .tc} (h : r ∉ outW) : V₁₁ m d (Proc.devRef .tc r) = V₁₀ m d (Proc.devRef .tc r) := out_keeps _ h

/-- The arrays written up to each call. -/
abbrev toW5 : List (Ref sig .tc) := preW ++ [main_v25] ++ rowsW ++ nmsW ++ postW
abbrev toW7 : List (Ref sig .tc) := toW5 ++ mm1W ++ midW
abbrev toW11 : List (Ref sig .tc) := toW7 ++ headW ++ endW ++ decodeW ++ outW

/-- An array nothing writes, before the first matrix product, -/
theorem V₅_arg (d : Dev nD) {r : Ref sig .tc} (h : r ∉ toW5) : V₅ m d (Proc.devRef .tc r) = arg m d r := by
  rw [toW5, List.mem_append, List.mem_append, List.mem_append, List.mem_append, not_or, not_or, not_or, not_or] at h
  exact (V₅_keeps m d h.2).trans ((V₄_keeps m d h.1.2).trans
    (V₃_keeps m d h.1.1.1.1 (fun e => h.1.1.1.2 (List.mem_singleton.mpr e)) h.1.1.2))

/-- before the head, -/
theorem V₇_arg (d : Dev nD) {r : Ref sig .tc} (h : r ∉ toW7) : V₇ m d (Proc.devRef .tc r) = arg m d r := by
  rw [toW7, List.mem_append, List.mem_append, not_or, not_or] at h
  exact (V₇_keeps m d h.2).trans ((V₆_keeps m d h.1.2).trans (V₅_arg m d h.1.1))

/-- and at the end. -/
theorem V₁₁_arg (d : Dev nD) {r : Ref sig .tc} (h : r ∉ toW11) : V₁₁ m d (Proc.devRef .tc r) = arg m d r := by
  rw [toW11, List.mem_append, List.mem_append, List.mem_append, List.mem_append, not_or, not_or, not_or, not_or] at h
  exact (V₁₁_keeps m d h.2).trans ((V₁₀_keeps m d h.1.2).trans ((V₉_keeps m d h.1.1.2).trans ((V₈_keeps m d h.1.1.1.2).trans (V₇_arg m d h.1.1.1.1))))

/-- A run that leaves every array as `V₁₁` says leaves an array nothing writes as it was. -/
theorem kept {m : (ℓ : Loc nD τ sig) → Buf (Elt F) ℓ} {r : PUnit × MemSt nD τ sig (Elt F)} (h : QC m r) (c : Dev nD)
    {b : Ref sig .tc} (hs : b.isScoped = false) (hb : b ∉ toW11) :
    r.2.mem ((c.tc : Thread nD τ).loc b) = m ((c.tc : Thread nD τ).loc b) :=
  (h.1 c b hs).trans (V₁₁_arg m c hb)

/-- The arguments. -/
theorem args_kept {m : (ℓ : Loc nD τ sig) → Buf (Elt F) ℓ} {r : PUnit × MemSt nD τ sig (Elt F)} (h : QC m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨kept h c rfl (by decide),
    kept h c rfl (by decide),
    kept h c rfl (by decide),
    kept h c rfl (by decide),
    kept h c rfl (by decide),
    kept h c rfl (by decide),
    kept h c rfl (by decide),
    kept h c rfl (by decide),
    kept h c rfl (by decide),
    kept h c rfl (by decide),
    kept h c rfl (by decide)⟩

/-- The frame, for any floats. -/
theorem frame_any [∀ e, Nonempty (Elt F e)] (m : (ℓ : Loc nD τ sig) → Buf (Elt F) ℓ) (ρ : Dev nD → PrngReg)
    (hin : ∀ d x, BitVec.toNat (flatList (F := F) (order (scores (arg m d main_arg0))) x) < 80000) :
    θ_run (defs (F := F)) (threads (F := F)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run Cert.KernelIdeal.defs _ _).mono (fun _ h => ⟨fun c => args_kept h c, h.2⟩)
    (run_main (F := F) m ρ hin)

end Cert.Proof.Gather

end
-- ==== Proof.Printed.HostOps.lean ====
/-
  The host operations around the SparseCore call: the operations before it as one list, the operation after it, and what they
  leave in the arrays, as functions of the two arguments.

  Before the call the host computes the foreground score of every box (`scores`), the positions of the 6000 best (`order`), the
  list of the words of the boxes' coordinates (`flatList`, four words for each position, the list of positions extended by 144
  zeros), and the boxes' coordinates as one flat table (`flatTable`). After the call it reads the gathered words four by four.

  This is ../HostOps.lean for the program as printed: the two programs differ in the record their suppression loop carries.
-/
module

public import proofs.«01_k».proof.Proof.Printed.Setup

@[expose] public section

noncomputable section

namespace Cert.Proof.Printed

open Cert.Kernel Cert.Kernel.Gen
open Idealize.ShloMosaic Idealize.ShloMosaic.TcCoe Idealize.ShloMosaic.StableHlo
open Idealize.SL Idealize.SL.Sem

variable {F : FTy → Type} [FloatOps F]

/-! ## What the operations compute -/

/-- The foreground probability of each box: the softmax of its two logits, column 1. -/
def scores (x : (⟨S20000x2, .f32⟩ : BufTy).Contents (Elt F)) : (⟨S20000, .f32⟩ : BufTy).Contents (Elt F) :=
  let mx := maximumf (broadcastInDim S20000 ![] bcast_S_S20000 (constant S_ .f32 0xFF800000#32))
    (Host.reduce FloatOps.maximumf x (constant S_ .f32 0xFF800000#32) reducesTo_S20000x2_S20000_d1 h_S_)
  let e := Host.exp (subf x (broadcastInDim S20000x2 ![0, 1] bcast_S20000x1_S20000x2_0_1 (broadcastInDim S20000x1 ![0] bcast_S20000_S20000x1_0 mx)))
  let sm := Host.reduceAdd e (constant S_ .f32 0x00000000#32) reducesTo_S20000x2_S20000_d1 h_S_
  let p := Host.divf e (broadcastInDim S20000x2 ![0, 1] bcast_S20000x1_S20000x2_0_1 (broadcastInDim S20000x1 ![0] bcast_S20000_S20000x1_0 sm))
  shapeCast S20000 (extractStridedSlice S20000x1 ![0, 1] p slices_S20000x2_S20000x1_0_1) shapeCasts_S20000x1_S20000

/-- The positions of the 6000 best scores, best first. -/
def order (s : (⟨S20000, .f32⟩ : BufTy).Contents (Elt F)) : (⟨S6000, .i32⟩ : BufTy).Contents (Elt F) :=
  (Host.topK S6000 0 (FloatOps.cmpfTotal .gt) s sliceFits_S20000_S6000).2

/-- The positions, then the padding. -/
def pad : (⟨S6000, .i32⟩ : BufTy).Contents (Elt F) → (⟨S144, .i32⟩ : BufTy).Contents (Elt F) → (⟨S6144, .i32⟩ : BufTy).Contents (Elt F) :=
  fun a b => concatenate S6144 0 [⟨S6000, a⟩, ⟨S144, b⟩] concatenates_S6000_S144_S6144_d0

/-- The positions extended by 144 zeros. -/
def padded (o : (⟨S6000, .i32⟩ : BufTy).Contents (Elt F)) : (⟨S6144, .i32⟩ : BufTy).Contents (Elt F) :=
  pad (F := F) o (broadcastInDim S144 ![] bcast_S_S144 (constantI S_ 32 0#32))

/-- The index list of the call: for each position of the extended list its box's four words, `4 * p`, `4 * p + 1`, … -/
def flatList (o : (⟨S6000, .i32⟩ : BufTy).Contents (Elt F)) : (⟨S24576, .i32⟩ : BufTy).Contents (Elt F) :=
  shapeCast S24576 (addi
    (broadcastInDim S6144x4 ![0, 1] bcast_S6144x1_S6144x4_0_1 (muli (broadcastInDim S6144x1 ![0] bcast_S6144_S6144x1_0 (padded (F := F) o))
      (broadcastInDim S6144x1 ![] bcast_S_S6144x1 (constantI S_ 32 4#32))))
    (broadcastInDim S6144x4 ![0, 1] bcast_S1x4_S6144x4_0_1 (broadcastInDim S1x4 ![1] bcast_S4_S1x4_1 (iotaInDim S4 32 0))))
    shapeCasts_S6144x4_S24576

/-- The boxes' coordinates in one line. -/
def flatTable (r : (⟨S20000x4, .f32⟩ : BufTy).Contents (Elt F)) : (⟨S80000, .f32⟩ : BufTy).Contents (Elt F) :=
  shapeCast S80000 r shapeCasts_S20000x4_S80000

/-! ## The operations -/

/-- The operations before the call, in order. -/
abbrev preOps : List (HloOp τ sig (Elt F)) :=
  [ nullary main_cst (constant S_ .f32 0xFF800000#32),
    binary main_arg0 main_cst main_v0 ((fun x v => Host.reduce FloatOps.maximumf x v reducesTo_S20000x2_S20000_d1 h_S_) : (⟨S20000x2, .f32⟩ : BufTy).Contents (Elt F) → (⟨S_, .f32⟩ : BufTy).Contents (Elt F) → (⟨S20000, .f32⟩ : BufTy).Contents (Elt F)),
    nullary main_cst_0 (constant S_ .f32 0xFF800000#32),
    unary main_cst_0 main_v1 (broadcastInDim S20000 ![] bcast_S_S20000 : (⟨S_, .f32⟩ : BufTy).Contents (Elt F) → (⟨S20000, .f32⟩ : BufTy).Contents (Elt F)),
    binary main_v1 main_v0 main_v2 (maximumf : (⟨S20000, .f32⟩ : BufTy).Contents (Elt F) → (⟨S20000, .f32⟩ : BufTy).Contents (Elt F) → (⟨S20000, .f32⟩ : BufTy).Contents (Elt F)),
    unary main_v2 main_v3 (broadcastInDim S20000x1 ![0] bcast_S20000_S20000x1_0 : (⟨S20000, .f32⟩ : BufTy).Contents (Elt F) → (⟨S20000x1, .f32⟩ : BufTy).Contents (Elt F)),
    unary main_v3 main_v4 (broadcastInDim S20000x2 ![0, 1] bcast_S20000x1_S20000x2_0_1 : (⟨S20000x1, .f32⟩ : BufTy).Contents (Elt F) → (⟨S20000x2, .f32⟩ : BufTy).Contents (Elt F)),
    binary main_arg0 main_v4 main_v5 (subf : (⟨S20000x2, .f32⟩ : BufTy).Contents (Elt F) → (⟨S20000x2, .f32⟩ : BufTy).Contents (Elt F) → (⟨S20000x2, .f32⟩ : BufTy).Contents (Elt F)),
    unary main_v5 main_v6 (Host.exp : (⟨S20000x2, .f32⟩ : BufTy).Contents (Elt F) → (⟨S20000x2, .f32⟩ : BufTy).Contents (Elt F)),
    nullary main_cst_1 (constant S_ .f32 0x00000000#32),
    binary main_v6 main_cst_1 main_v7 ((fun x v => Host.reduceAdd x v reducesTo_S20000x2_S20000_d1 h_S_) : (⟨S20000x2, .f32⟩ : BufTy).Contents (Elt F) → (⟨S_, .f32⟩ : BufTy).Contents (Elt F) → (⟨S20000, .f32⟩ : BufTy).Contents (Elt F)),
    unary main_v7 main_v8 (broadcastInDim S20000x1 ![0] bcast_S20000_S20000x1_0 : (⟨S20000, .f32⟩ : BufTy).Contents (Elt F) → (⟨S20000x1, .f32⟩ : BufTy).Contents (Elt F)),
    unary main_v8 main_v9 (broadcastInDim S20000x2 ![0, 1] bcast_S20000x1_S20000x2_0_1 : (⟨S20000x1, .f32⟩ : BufTy).Contents (Elt F) → (⟨S20000x2, .f32⟩ : BufTy).Contents (Elt F)),
    binary main_v6 main_v9 main_v10 (Host.divf : (⟨S20000x2, .f32⟩ : BufTy).Contents (Elt F) → (⟨S20000x2, .f32⟩ : BufTy).Contents (Elt F) → (⟨S20000x2, .f32⟩ : BufTy).Contents (Elt F)),
    unary main_v10 main_v11 ((extractStridedSlice S20000x1 ![0, 1] · slices_S20000x2_S20000x1_0_1) : (⟨S20000x2, .f32⟩ : BufTy).Contents (Elt F) → (⟨S20000x1, .f32⟩ : BufTy).Contents (Elt F)),
    reshape main_v11 main_v12 (rfl : (.f32 : EltTy) = .f32) shapeCasts_S20000x1_S20000,
    unary main_v12 main_values ((fun x => (Host.topK S6000 0 (FloatOps.cmpfTotal .gt) x sliceFits_S20000_S6000).1) : (⟨S20000, .f32⟩ : BufTy).Contents (Elt F) → (⟨S6000, .f32⟩ : BufTy).Contents (Elt F)),
    unary main_v12 main_indices ((fun x => (Host.topK S6000 0 (FloatOps.cmpfTotal .gt) x sliceFits_S20000_S6000).2) : (⟨S20000, .f32⟩ : BufTy).Contents (Elt F) → (⟨S6000, .i32⟩ : BufTy).Contents (Elt F)),
    nullary main_c (constantI S_ 32 0#32),
    unary main_c main_v13 (broadcastInDim S144 ![] bcast_S_S144 : (⟨S_, .i32⟩ : BufTy).Contents (Elt F) → (⟨S144, .i32⟩ : BufTy).Contents (Elt F)),
    binary main_indices main_v13 main_v14 (pad (F := F)),
    unary main_v14 main_v15 (broadcastInDim S6144x1 ![0] bcast_S6144_S6144x1_0 : (⟨S6144, .i32⟩ : BufTy).Contents (Elt F) → (⟨S6144x1, .i32⟩ : BufTy).Contents (Elt F)),
    nullary main_c_2 (constantI S_ 32 4#32),
    unary main_c_2 main_v16 (broadcastInDim S6144x1 ![] bcast_S_S6144x1 : (⟨S_, .i32⟩ : BufTy).Contents (Elt F) → (⟨S6144x1, .i32⟩ : BufTy).Contents (Elt F)),
    binary main_v15 main_v16 main_v17 (muli : (⟨S6144x1, .i32⟩ : BufTy).Contents (Elt F) → (⟨S6144x1, .i32⟩ : BufTy).Contents (Elt F) → (⟨S6144x1, .i32⟩ : BufTy).Contents (Elt F)),
    nullary main_v18 (iotaInDim S4 32 0),
    unary main_v18 main_v19 (broadcastInDim S1x4 ![1] bcast_S4_S1x4_1 : (⟨S4, .i32⟩ : BufTy).Contents (Elt F) → (⟨S1x4, .i32⟩ : BufTy).Contents (Elt F)),
    unary main_v17 main_v20 (broadcastInDim S6144x4 ![0, 1] bcast_S6144x1_S6144x4_0_1 : (⟨S6144x1, .i32⟩ : BufTy).Contents (Elt F) → (⟨S6144x4, .i32⟩ : BufTy).Contents (Elt F)),
    unary main_v19 main_v21 (broadcastInDim S6144x4 ![0, 1] bcast_S1x4_S6144x4_0_1 : (⟨S1x4, .i32⟩ : BufTy).Contents (Elt F) → (⟨S6144x4, .i32⟩ : BufTy).Contents (Elt F)),
    binary main_v20 main_v21 main_v22 (addi : (⟨S6144x4, .i32⟩ : BufTy).Contents (Elt F) → (⟨S6144x4, .i32⟩ : BufTy).Contents (Elt F) → (⟨S6144x4, .i32⟩ : BufTy).Contents (Elt F)),
    reshape main_v22 main_v23 (rfl : (.i32 : EltTy) = .i32) shapeCasts_S6144x4_S24576,
    reshape main_arg1 main_v24 (rfl : (.f32 : EltTy) = .f32) shapeCasts_S20000x4_S80000 ]

/-- The operation between the SparseCore call and the suppression. -/
abbrev rowsOps : List (HloOp τ sig (Elt F)) :=
  [ reshape main_v25 main_v26 (rfl : (.f32 : EltTy) = .f32) shapeCasts_S24576_S6144x4 ]

/-- The operation between the suppression and the first matrix product. -/
abbrev postOps : List (HloOp τ sig (Elt F)) :=
  [ reshape main_arg2 main_v28 (rfl : (.f32 : EltTy) = .f32) shapeCasts_S128x512x7x7_S128x25088 ]

/-- The operations between the first matrix product and the head. -/
abbrev midOps : List (HloOp τ sig (Elt F)) :=
  [ reshape main_arg4 main_v30 (rfl : (.f32 : EltTy) = .f32) shapeCasts_S4096_S1x4096,
    reshape main_arg6 main_v31 (rfl : (.f32 : EltTy) = .f32) shapeCasts_S1024_S1x1024,
    reshape main_arg8 main_v32 (rfl : (.f32 : EltTy) = .f32) shapeCasts_S21_S1x21,
    reshape main_arg10 main_v33 (rfl : (.f32 : EltTy) = .f32) shapeCasts_S84_S1x84 ]

/-- The offsets' planes and the selected boxes' lines, as the decoding reads them. -/
abbrev planes (x : (⟨S21x128x4, .f32⟩ : BufTy).Contents (Elt F)) : (⟨S4x21x128, .f32⟩ : BufTy).Contents (Elt F) :=
  transpose S4x21x128 [2, 0, 1] x transposes_S21x128x4_S4x21x128_2_0_1
/-- The operations between the head and the decoding. -/
abbrev endOps : List (HloOp τ sig (Elt F)) :=
  [ reshape main_v34_1 main_v35 (rfl : (.f32 : EltTy) = .f32) shapeCasts_S128x84_S21x128x4,
    unary main_v35 main_v36 ((transpose S4x21x128 [2, 0, 1] · transposes_S21x128x4_S4x21x128_2_0_1) : (⟨S21x128x4, .f32⟩ : BufTy).Contents (Elt F) → (⟨S4x21x128, .f32⟩ : BufTy).Contents (Elt F)),
    unary main_v27 main_v37 ((transpose S4x128 [1, 0] · transposes_S128x4_S4x128_1_0) : (⟨S128x4, .f32⟩ : BufTy).Contents (Elt F) → (⟨S4x128, .f32⟩ : BufTy).Contents (Elt F)) ]

/-- The operation after the decoding. -/
abbrev outOps : List (HloOp τ sig (Elt F)) :=
  [ unary main_v38 main_v39 ((transpose S128x21x4 [2, 1, 0] · transposes_S4x21x128_S128x21x4_2_1_0) : (⟨S4x21x128, .f32⟩ : BufTy).Contents (Elt F) → (⟨S128x21x4, .f32⟩ : BufTy).Contents (Elt F)) ]

theorem pre_sub : (preOps : List (HloOp τ sig (Elt F))).Forall fun op => op.bufs ⊆ tcRefs τ sig := by
  simp only [preOps, List.forall_cons, List.Forall, nullary_bufs_sub, unary_bufs_sub, binary_bufs_sub, reshape_bufs_sub, and_self]
theorem pre_fresh : (preOps : List (HloOp τ sig (Elt F))).Forall fun op => op.fresh = ∅ := forall_fresh_of_map rfl
theorem post_sub : (postOps : List (HloOp τ sig (Elt F))).Forall fun op => op.bufs ⊆ tcRefs τ sig := reshape_bufs_sub ..
theorem post_fresh : (postOps : List (HloOp τ sig (Elt F))).Forall fun op => op.fresh = ∅ := forall_fresh_of_map rfl
theorem mid_sub : (midOps : List (HloOp τ sig (Elt F))).Forall fun op => op.bufs ⊆ tcRefs τ sig := by
  simp only [midOps, List.forall_cons, List.Forall, reshape_bufs_sub, and_self]
theorem mid_fresh : (midOps : List (HloOp τ sig (Elt F))).Forall fun op => op.fresh = ∅ := forall_fresh_of_map rfl
theorem rows_sub : (rowsOps : List (HloOp τ sig (Elt F))).Forall fun op => op.bufs ⊆ tcRefs τ sig := reshape_bufs_sub ..
theorem rows_fresh : (rowsOps : List (HloOp τ sig (Elt F))).Forall fun op => op.fresh = ∅ := forall_fresh_of_map rfl
theorem end_sub : (endOps : List (HloOp τ sig (Elt F))).Forall fun op => op.bufs ⊆ tcRefs τ sig := by
  simp only [endOps, List.forall_cons, List.Forall, unary_bufs_sub, reshape_bufs_sub, and_self]
theorem out_sub : (outOps : List (HloOp τ sig (Elt F))).Forall fun op => op.bufs ⊆ tcRefs τ sig := unary_bufs_sub ..
theorem out_fresh : (outOps : List (HloOp τ sig (Elt F))).Forall fun op => op.fresh = ∅ := forall_fresh_of_map rfl
theorem end_fresh : (endOps : List (HloOp τ sig (Elt F))).Forall fun op => op.fresh = ∅ := forall_fresh_of_map rfl

/-- The program's @main: host operations, the SparseCore call, and the four calls of the TensorCore with the host operations
    between them. -/
theorem main_eq (d : Dev nD) :
    main (F := F) d = seq preOps >>= fun _ => ((sc (F := F)).run d 0 >>= fun _ => (seq rowsOps >>= fun _ =>
      (Prog.lift (.customCall (SparseCore.inner (Pipeline.entry 0)) ()) >>= fun _ => (seq postOps >>= fun _ =>
      (Prog.lift (.customCall (SparseCore.inner (Pipeline.entry 1)) ()) >>= fun _ => (seq midOps >>= fun _ =>
        (Prog.lift (.customCall (SparseCore.inner (Pipeline.entry 2)) ()) >>= fun _ => (seq endOps >>= fun _ =>
          (Prog.lift (.customCall (SparseCore.inner (Pipeline.entry 3)) ()) >>= fun _ => (seq outOps >>= fun _ => pure ⟨⟩)))))))))) := by
  rw [seq_bind_seqK]; rfl

/-! ## What they leave in the arrays -/

variable (V : Valuation τ sig (Elt F))

set_option maxHeartbeats 1000000 in
theorem pre_list : after preOps V (Proc.devRef .tc main_v23) = flatList (F := F) (order (scores (V (Proc.devRef .tc main_arg0)))) := by
  simp only [preOps]; after_results_simp <;> rfl

/-- The arrays each stretch writes. -/
abbrev preW : List (Ref sig .tc) :=
  [main_cst, main_v0, main_cst_0, main_v1, main_v2, main_v3, main_v4, main_v5, main_v6, main_cst_1, main_v7, main_v8, main_v9,
    main_v10, main_v11, main_v12, main_values, main_indices, main_c, main_v13, main_v14, main_v15, main_c_2, main_v16, main_v17,
    main_v18, main_v19, main_v20, main_v21, main_v22, main_v23, main_v24]
abbrev rowsW : List (Ref sig .tc) := [main_v26]
abbrev postW : List (Ref sig .tc) := [main_v28]
abbrev midW : List (Ref sig .tc) := [main_v30, main_v31, main_v32, main_v33]
abbrev endW : List (Ref sig .tc) := [main_v35, main_v36, main_v37]
abbrev outW : List (Ref sig .tc) := [main_v39]

theorem pre_keeps {r : Ref sig .tc} (hr : r ∉ preW) : after preOps V (Proc.devRef .tc r) = V (Proc.devRef .tc r) :=
  after_of_writes_sub _ V (forall_writes_sub_of_map rfl) hr
theorem rows_keeps {r : Ref sig .tc} (hr : r ∉ rowsW) : after rowsOps V (Proc.devRef .tc r) = V (Proc.devRef .tc r) :=
  after_of_writes_sub _ V (forall_writes_sub_of_map rfl) hr
theorem out_keeps {r : Ref sig .tc} (hr : r ∉ outW) : after outOps V (Proc.devRef .tc r) = V (Proc.devRef .tc r) :=
  after_of_writes_sub _ V (forall_writes_sub_of_map rfl) hr
theorem post_keeps {r : Ref sig .tc} (hr : r ∉ postW) : after postOps V (Proc.devRef .tc r) = V (Proc.devRef .tc r) :=
  after_of_writes_sub _ V (forall_writes_sub_of_map rfl) hr
theorem mid_keeps {r : Ref sig .tc} (hr : r ∉ midW) : after midOps V (Proc.devRef .tc r) = V (Proc.devRef .tc r) :=
  after_of_writes_sub _ V (forall_writes_sub_of_map rfl) hr
theorem end_keeps {r : Ref sig .tc} (hr : r ∉ endW) : after endOps V (Proc.devRef .tc r) = V (Proc.devRef .tc r) :=
  after_of_writes_sub _ V (forall_writes_sub_of_map rfl) hr

end Cert.Proof.Printed

end
-- ==== Proof.Printed.NmsRegion.lean ====
/-
  The suppression call as a pipeline of one point: its operand is the table of gathered boxes, whole; its result the selected rows,
  whole. The three scratch buffers are taken from the scoped storage the call finds and given back at whatever they then hold.

  This is ../NmsRegion.lean for the program as printed: the two programs differ in the record their suppression loop carries.
-/
module

public import proofs.«01_k».proof.Proof.Printed.Nms
public import Idealize.ShloMosaic.Lib.Pipeline.FrameBody
public import Idealize.ShloMosaic.Lib.Pipeline.RegionsLoop
public import Idealize.ShloMosaic.Lib.Pipeline.FrameSuffix
public import Idealize.ShloMosaic.Lib.Pipeline.Value

@[expose] public section

set_option maxRecDepth 16384

noncomputable section

namespace Cert.Proof.Printed.Nms

open Cert.Kernel Cert.Kernel.Gen
open Idealize.ShloMosaic Idealize.ShloMosaic.TcCoe
open Idealize.ShloMosaic.SparseCore.Cfg (HIx)
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

-- the contents the call finds the arrays at
variable (V : (c : Dev nD) → (b : Ref sig .tc) → Buf (Elt F) ((c : Thread nD τ).loc b))

/-- Window `w`'s block at the point. -/
def blkOf (c : Dev nD) (w : Fin (cfg1 (F := F)).W) (t : Fin (cfg1 (F := F)).N) : ((cfg1.win w).xblock (cfg1.grid.coords t)).Idx → Elt F (cfg1.win w).elt :=
  ((cfg1.win w).blk t).view.read (Elt F) (V c (Pipeline.arrRef spec1 w))

/-- The pipeline's data. -/
def dat (O : CellTallies nD τ sig (HIx 1)) (B : Set (SemLoc sig × HIx 1)) (c : Dev nD) : Dat τ (Elt F) (HIx 1) ℕ UU ℕ (cfg1 (F := F)) c where
  A w := V c (Pipeline.arrRef spec1 w)
  after w t := match w with
    | ⟨0, _⟩ => blkOf V c 0 t
    | ⟨1, _⟩ => out (F := F) (blkOf V c 0 t)
  Φ _ := Pipeline.scopedRest spec1 c
  q _ := fullShare
  owed _ := O
  recorded _ := B

variable (O : CellTallies nD τ sig (HIx 1)) (B : Set (SemLoc sig × HIx 1))

theorem dat_A (c : Dev nD) (w : Fin (cfg1 (F := F)).W) : (dat V O B c).A w = V c (Pipeline.arrRef spec1 w) := by dsimp only [dat]
theorem after_0 (c : Dev nD) (t : Fin (cfg1 (F := F)).N) : (dat V O B c).after 0 t = blkOf V c 0 t := by dsimp only [dat] <;> rfl
theorem after_1 (c : Dev nD) (t : Fin (cfg1 (F := F)).N) : (dat V O B c).after 1 t = out (F := F) (blkOf V c 0 t) := by dsimp only [dat] <;> rfl

/-- The operand's staging buffer holds the table. -/
theorem before_0 (c : Dev nD) (t : Fin (cfg1 (F := F)).N) (d) : (dat V O B c).before 0 t d = blkOf V c 0 t :=
  ((dat V O B c).before_in_eq_fetched 0 rfl (fun _ => rfl) (fun _ _ _ => rfl)
    (fun t => by rw [after_0]; unfold Dat.blockOf blkOf; rw [dat_A]; try rfl) t d).trans
    (by unfold Dat.fetched Dat.blockOf blkOf; rw [dat_A]; try rfl)

/-- Each window's staging memref. -/
abbrev sg0 (t : Fin (cfg1 (F := F)).N) : Memref sig .tc .vmem S6144x4 .f32 := win1_0.stage (cfg1.slots t 0)
abbrev sg1 (t : Fin (cfg1 (F := F)).N) : Memref sig .tc .vmem S128x4 .f32 := win1_1.stage (cfg1.slots t 1)

/-- The scoped storage, the scratch buffers apart. -/
theorem rest_split (c : Dev nD) : (Pipeline.scopedRest spec1 c : sProp 𝕄)
    = iprop(iprop((∃ f : Buf (Elt F) ((c : Thread nD τ).loc cc1_scratch0), ((c : Thread nD τ).loc cc1_scratch0) ↦{fullShare} f)
        ∗ (∃ f : Buf (Elt F) ((c : Thread nD τ).loc cc1_scratch1), ((c : Thread nD τ).loc cc1_scratch1) ↦{fullShare} f)
        ∗ (∃ f : Buf (Elt F) ((c : Thread nD τ).loc cc1_scratch2), ((c : Thread nD τ).loc cc1_scratch2) ↦{fullShare} f))
        ∗ Pipeline.scopedRestBut spec1 c [cc1_scratch0, cc1_scratch1, cc1_scratch2]) := scopedRest1_split c

/-- The body from the staging buffers' contents. -/
theorem run_owns (c : Dev nD) (X : Vec F S6144x4 .f32) (Q : PUnit → sProp 𝕄) :
    iprop(Pipeline.scopedRest spec1 c ∗ owns (c : Thread nD τ) a0 fullShare X ∗ (∃ d, owns (c : Thread nD τ) a1 fullShare d)
        ∗ (iprop(Pipeline.scopedRest spec1 c ∗ owns (c : Thread nD τ) a0 fullShare X ∗ owns (c : Thread nD τ) a1 fullShare (out X)) -∗ Q ⟨⟩))
      ⊢ wp frame (wpE (defs₀ (F := F)) 𝒱₀ (c : Thread nD τ) none) Set.univ
          (cc1__nms_body a0 (Memref.isWhole_whole _) a1 (Memref.isWhole_whole _) a2 (Memref.isWhole_whole _) a3 (Memref.isWhole_whole _) a4 (Memref.isWhole_whole _)) Q := by
  rw [rest_split]
  unfold a0 a1
  simp only [owns_whole_eq]
  iintro ⟨⟨⟨⟨%k0, Hk⟩, ⟨%x0, Hx⟩, ⟨%f0, Hf⟩⟩, Hrest⟩, ⟨%b, %hb, Hb⟩, ⟨%d, %r, %hr, Hr⟩, HQ⟩
  subst hb
  iapply (run c Set.univ b k0 r x0 f0 Q)
  isplitl [Hb Hk]
  · unfold bufs; isplitl [Hb] <;> iassumption
  isplitl [Hr]
  · unfold sel; iexact Hr
  isplitl [Hx]; · iexact Hx
  isplitl [Hf]
  · unfold cnts; iexact Hf
  iintro %K %x %f ⟨Hb, Hs, Hx, Hf⟩
  unfold bufs sel cnt cnts
  icases Hb with ⟨Hb, Hk⟩
  iapply HQ
  isplitr [Hb Hs]
  · isplitr [Hrest]
    · isplitl [Hk]; · iexists _; iexact Hk
      isplitl [Hx]; · iexists _; iexact Hx
      iexists _; iexact Hf
    · iexact Hrest
  isplitl [Hb]
  · iexists _; isplitr
    swap; · iexact Hb
    ipureintro; rfl
  · iexists _; isplitr
    swap; · iexact Hs
    ipureintro; rfl

/-- The body at the point. -/
theorem body_at (c : Dev nD) (t : Fin (cfg1 (F := F)).N) :
    iprop((dat V O B c).Φ t.castSucc ∗ (dat V O B c).owesAt none t.castSucc
        ∗ (∃ d, owns (c : Thread nD τ) (sg0 t) fullShare ((dat V O B c).before 0 t d))
        ∗ (∃ d, owns (c : Thread nD τ) (sg1 t) fullShare ((dat V O B c).before 1 t d)))
      ⊢ wp frame (wpE (defs₀ (F := F)) 𝒱₀ c none) Set.univ (bodyAt1 t)
          fun _ => iprop((dat V O B c).Φ t.succ ∗ (dat V O B c).owesAt none t.succ
            ∗ owns (c : Thread nD τ) (sg0 t) fullShare ((dat V O B c).after 0 t)
            ∗ owns (c : Thread nD τ) (sg1 t) fullShare ((dat V O B c).after 1 t)) := by
  unfold bodyAt1
  simp only [before_0]
  rw [show (dat V O B c).Φ t.succ = (Pipeline.scopedRest spec1 c : sProp 𝕄) from rfl,
    show (dat V O B c).Φ t.castSucc = (Pipeline.scopedRest spec1 c : sProp 𝕄) from rfl,
    show (dat V O B c).owesAt none t.succ = (dat V O B c).owesAt none t.castSucc from rfl, after_0, after_1]
  iintro ⟨HΦ, Ho, ⟨%d0, H0⟩, ⟨%d1, H1⟩⟩
  iapply (run_owns c (blkOf V c 0 t) _)
  isplitl [HΦ]; · iexact HΦ
  isplitl [H0]; · iexact H0
  isplitl [H1]; · iexists _; iexact H1
  iintro ⟨HΦ, H0, H1⟩
  isplitl [HΦ]; · iexact HΦ
  isplitl [Ho]; · iexact Ho
  isplitl [H0]; · iexact H0
  iexact H1

theorem at_row (t : Fin (cfg1 (F := F)).N) : defs₀ (F := F) .tc (cfg1 (F := F)).body (cfg1.bodyArgs t (cfg1.slots t)) = bodyAt1 t := by
  rfl

theorem obligation (c : Dev nD) : BodyObligation (dat V O B c) (defs₀ (F := F)) 𝒱₀ none Set.univ := fun t => by
  rw [bigSep_W1, bigSep_W1, at_row]
  exact triple_restated (body_at V O B c t) rfl .rfl fun _ => .rfl

end Cert.Proof.Printed.Nms

end
-- ==== Proof.Rows.lean ====
/-
  What the call's result holds, row by row: row `i` is the box at the `i`-th best score for `i < 6000`, and box 0 for the
  padding rows. `pos` is the position of the `i`-th best score: the stable sort's, greatest first.
-/
module

public import proofs.«01_k».proof.Proof.HostOps
public import Idealize.ShloMosaic.Lib.Pointwise
public import Idealize.ShloMosaic.Lib.SortFacts

@[expose] public section

noncomputable section

namespace Cert.Proof.Gather

open Cert.KernelIdeal Cert.KernelIdeal.Gen
open Idealize.ShloMosaic Idealize.SL.Sem

variable {F : FTy → Type} [FloatOps F]

/-- The position of the `p`-th best score. -/
def pos (s : (⟨S20000, .f32⟩ : BufTy).Contents (Elt F)) (p : Fin 6000) : Fin 20000 :=
  sortedFrom (fun k k' : Fin 20000 => FloatOps.cmpfTotal .gt (s (ix1 k) : F .f32) (s (ix1 k')) == 1#1) ⟨p.val, by omega⟩

theorem along_rank1 {n : Nat} (j : (⟨1, ![n]⟩ : Shape).Idx) (k : Fin n) : j.along (0 : Fin 1) k = ix1 k := by
  funext a
  have : a = 0 := Subsingleton.elim _ _
  subst this
  exact Function.update_self ..

theorem order_apply (s : (⟨S20000, .f32⟩ : BufTy).Contents (Elt F)) (p : Fin 6000) :
    order s (ix1 p) = BitVec.ofNat 32 (pos s p).val := by
  unfold order Host.topK pos
  simp only [extractStridedSlice, Host.sort2, show (0 : ℕ) < S20000.rank from Nat.one_pos, ↓reduceDIte, iotaInDim,
    show (⟨0, Nat.one_pos⟩ : Fin S20000.rank) = (0 : Fin 1) from rfl]
  have e : ∀ (j : S20000.Idx) (k : Fin 20000), j.along (⟨0, Nat.one_pos⟩ : Fin S20000.rank) k = ix1 k := fun j k => along_rank1 j k
  have e' : (fun k k' : Fin 20000 => FloatOps.cmpfTotal .gt (s (Shape.Idx.along (s := S20000) (fun a => ⟨0 + (ix1 p (Fin.cast rfl a)).val, by
        have : a = 0 := Subsingleton.elim _ _
        subst this; show 0 + p.val < 20000; omega⟩) ⟨0, Nat.one_pos⟩ k) : F .f32)
      (s (Shape.Idx.along (s := S20000) (fun a => ⟨0 + (ix1 p (Fin.cast rfl a)).val, by
        have : a = 0 := Subsingleton.elim _ _
        subst this; show 0 + p.val < 20000; omega⟩) ⟨0, Nat.one_pos⟩ k')) == 1#1)
      = fun k k' => FloatOps.cmpfTotal .gt (s (ix1 k) : F .f32) (s (ix1 k')) == 1#1 := by
    funext k k'; rw [e, e]
  refine congrArg (BitVec.ofNat 32) ?_
  refine (congrArg (fun i : S20000.Idx => (i 0).val) (e _ _)).trans ?_
  exact congrArg Fin.val (congrArg₂ (sortedFrom (n := 20000)) e' (Fin.ext (Nat.zero_add p.val)))

/-- The box of row `i`. -/
def row (s : (⟨S20000, .f32⟩ : BufTy).Contents (Elt F)) (i : Fin 6144) : Fin 20000 :=
  if h : i.val < 6000 then pos s ⟨i.val, h⟩ else 0

theorem padded_apply (s : (⟨S20000, .f32⟩ : BufTy).Contents (Elt F)) (i : Fin 6144) :
    padded (F := F) (order s) (ix1 i) = BitVec.ofNat 32 (row s i).val := by
  unfold padded pad row
  pointwise
  split
  · exact order_apply s _
  · rfl

theorem flat_toNat (s : (⟨S20000, .f32⟩ : BufTy).Contents (Elt F)) (i : Fin 6144) (c : Fin 4) (n : Fin 24576) (hn : n.val = 4 * i.val + c.val) :
    BitVec.toNat (flatList (F := F) (order s) (ix1 n)) = 4 * (row s i).val + c.val := by
  unfold flatList
  pointwise
  have hi : (⟨n.val / 4, by omega⟩ : Fin 6144) = i := Fin.ext (by simp only []; omega)
  have hr := (row s i).isLt
  have hc := c.isLt
  rw [hi, padded_apply, hn]
  simp only [IntOp.addi, IntOp.muli, BitVec.toNat_add, BitVec.toNat_mul, BitVec.toNat_ofNat]
  omega

theorem list_lt (s : (⟨S20000, .f32⟩ : BufTy).Contents (Elt F)) (x : S24576.Idx) :
    BitVec.toNat (flatList (F := F) (order s) x) < 80000 := by
  have hx : (x 0).val < 24576 := (x 0).isLt
  rw [eq_ix1 x, flat_toNat s ⟨(x 0).val / 4, by omega⟩ ⟨(x 0).val % 4, by omega⟩ (x 0) (by simp only []; omega)]
  have := (row s ⟨(x 0).val / 4, by omega⟩).isLt
  simp only []; omega

theorem rows_apply (s : (⟨S20000, .f32⟩ : BufTy).Contents (Elt F)) (r : (⟨S20000x4, .f32⟩ : BufTy).Contents (Elt F)) (i : Fin 6144) (c : Fin 4) :
    rowsOf (gat (flatList (F := F) (order s)) (flatTable r)) (ix2 i c) = r (ix2 (row s i) c) := by
  unfold rowsOf
  pointwise
  unfold gat flatTable
  rw [flat_toNat s i c _ (by simp only []; omega)]
  have hr := (row s i).isLt
  have hc := c.isLt
  pointwise [tabIx]
  congr 2 <;> refine Fin.ext ?_ <;> simp only [] <;> omega

end Cert.Proof.Gather

end
-- ==== Proof.Mm1Value.lean ====
/-
  What the first matrix product's grid leaves in its result, over the extended reals: the matrix product of its two operands, each
  entry one sum over the whole contracted axis. A block of the result is the sum over its four inner blocks, in order, over zero.
-/
module

public import proofs.«01_k».proof.Proof.Mm1
public import Idealize.ShloMosaic.Lib.Pipeline.Value
public import Idealize.ShloMosaic.Lib.Pointwise
public import Idealize.ShloMosaic.Lib.ValueIdx

@[expose] public section

noncomputable section

namespace Cert.Proof.Gather.Mm1

open Cert.KernelIdeal Cert.KernelIdeal.Gen
open Idealize.ShloMosaic Idealize.ShloMosaic.TcCoe
open Idealize.ShloMosaic.SparseCore.Cfg (HIx)
open Idealize.SL.Sem

/-! ## Where the windows look -/

theorem index_0 : ∀ t : Fin grid2.N, win2_0.index t 0 = 0 ∧ win2_0.index t 1 = t.val % 4 := by decide +kernel
theorem index_1 : ∀ t : Fin grid2.N, win2_1.index t 0 = t.val % 4 ∧ win2_1.index t 1 = t.val / 4 := by decide +kernel
theorem index_2 : ∀ t : Fin grid2.N, win2_2.index t 0 = 0 ∧ win2_2.index t 1 = t.val / 4 := by decide +kernel

section Any

variable {F : FTy → Type} [FloatOps F]
variable (V : (c : Dev nD) → (b : Ref sig .tc) → Buf (Elt F) ((c : Thread nD τ).loc b))
variable (O : CellTallies nD τ sig (HIx 1)) (B : Set (SemLoc sig × HIx 1))

/-- The two operands. -/
abbrev xArr (c : Dev nD) : Vec F S128x25088 .f32 := V c main_v28
abbrev wArr (c : Dev nD) : Vec F S25088x4096 .f32 := V c main_arg3

theorem blk_x (c : Dev nD) (t : Fin (cfg2 (F := F)).N) (i : Fin 128) (k : Fin 6272) :
    (blkOf V c 0 t : Vec F S128x6272 .f32) (ix2 i k)
      = xArr V c (ix2 i ⟨t.val % 4 * 6272 + k.val, by have := Nat.mod_lt t.val (show 0 < 4 by decide); omega⟩) := by
  have hi := index_0 t
  unfold blkOf
  refine (View.read_apply _ _).trans ?_
  show V c main_v28 _ = V c main_v28 _
  congr 1
  funext a
  apply Fin.ext
  match a with
  | ⟨0, _⟩ => show win2_0.index t 0 * 128 + 1 * i.val = i.val; rw [hi.1]; omega
  | ⟨1, _⟩ => show win2_0.index t 1 * 6272 + 1 * k.val = t.val % 4 * 6272 + k.val; rw [hi.2]; omega

theorem t_lt (t : Fin (cfg2 (F := F)).N) : t.val < 16 := Nat.lt_of_lt_of_eq t.isLt N_2

theorem blk_w (c : Dev nD) (t : Fin (cfg2 (F := F)).N) (k : Fin 6272) (j : Fin 1024) :
    (blkOf V c 1 t : Vec F S6272x1024 .f32) (ix2 k j)
      = wArr V c (ix2 ⟨t.val % 4 * 6272 + k.val, by have := Nat.mod_lt t.val (show 0 < 4 by decide); omega⟩
          ⟨t.val / 4 * 1024 + j.val, by have := t_lt t; omega⟩) := by
  have hi := index_1 t
  unfold blkOf
  refine (View.read_apply _ _).trans ?_
  show V c main_arg3 _ = V c main_arg3 _
  congr 1
  funext a
  apply Fin.ext
  match a with
  | ⟨0, _⟩ => show win2_1.index t 0 * 6272 + 1 * k.val = t.val % 4 * 6272 + k.val; rw [hi.1]; omega
  | ⟨1, _⟩ => show win2_1.index t 1 * 1024 + 1 * j.val = t.val / 4 * 1024 + j.val; rw [hi.2]; omega

/-- The last point of the result's block `n`. -/
abbrev lastOf (n : Fin 4) : Fin (cfg2 (F := F)).N := ⟨4 * n.val + 3, Nat.lt_of_lt_of_eq (by omega : 4 * n.val + 3 < 16) N_2.symm⟩

/-- The result: each block as its last point left it. -/
def result (c : Dev nD) : Vec F S128x4096 .f32 := fun j =>
  acc V c (lastOf (F := F) ⟨(j 1).val / 1024, by have : (j 1).val < 4096 := (j 1).isLt; omega⟩).val (lastOf (F := F) _).isLt
    (ix2 (j 0) ⟨(j 1).val % 1024, Nat.mod_lt _ (by decide)⟩)

theorem acc_congr (c : Dev nD) (n n' : ℕ) (h : n < (cfg2 (F := F)).N) (h' : n' < (cfg2 (F := F)).N) (e : n = n') (p q : S128x1024.Idx) (e' : p = q) :
    acc V c n h p = acc V c n' h' q := by subst e; subst e'; rfl

theorem flushed_eq (c : Dev nD) (t : Fin (cfg2 (F := F)).N) (hf : (cfg2.win 2).flush t = true) :
    (dat V O B c).flushed 2 t = ((cfg2.win 2).blk t).view.read (Elt F) (result V c : Buf (Elt F) ((c : Thread nD τ).loc main_v29)) := by
  have h3 : t.val % 4 = 3 := (flush2_2 t).mp hf
  have ht := t_lt t
  have hi := index_2 t
  show (cfg2.win 2).cut (grid2.coords t) ((dat V O B c).after 2 t) = _
  rw [after_2]
  funext (y : S128x1024.Idx)
  have h0 : (y 0).val < 128 := (y 0).isLt
  have h1 : (y 1).val < 1024 := (y 1).isLt
  show acc V c t.val t.isLt y = result V c ((((cfg2 (F := F)).win 2).blk t).view.emb y)
  unfold result
  have e1 : (((cfg2.win 2).blk t).view.emb y (1 : Fin 2)).val = t.val / 4 * 1024 + (y 1).val := by
    show win2_2.index t 1 * 1024 + 1 * (y 1).val = _; rw [hi.2]; omega
  have e0 : (((cfg2.win 2).blk t).view.emb y (0 : Fin 2)).val = (y 0).val := by
    show win2_2.index t 0 * 128 + 1 * (y 0).val = _; rw [hi.1]; omega
  refine acc_congr V c _ _ _ _ (by show t.val = 4 * ((((cfg2.win 2).blk t).view.emb y (1 : Fin 2)).val / 1024) + 3; rw [e1]; omega) _ _ ?_
  funext a
  apply Fin.ext
  match a with
  | ⟨0, _⟩ => exact e0.symm
  | ⟨1, _⟩ => show (y 1).val = (((cfg2.win 2).blk t).view.emb y (1 : Fin 2)).val % 1024; rw [e1]; omega

theorem final (c : Dev nD) : (dat V O B c).arrAt 2 (cfg2 (F := F)).N = (result V c : Buf (Elt F) ((c : Thread nD τ).loc main_v29)) :=
  (dat V O B c).arrAt_eq_of_cover 2 (result V c) (flushed_eq V O B c) fun (i : S128x4096.Idx) => by
    have h0 : (i 0 : Nat) < 128 := (i 0).isLt
    have h1 : (i 1 : Nat) < 4096 := (i 1).isLt
    obtain ⟨n, hn⟩ : ∃ n : Fin 4, (i 1 : Nat) / 1024 = n.val := ⟨⟨(i 1 : Nat) / 1024, by omega⟩, rfl⟩
    have hi := index_2 (lastOf (F := F) n)
    have h4 : (4 * n.val + 3) / 4 = n.val := by omega
    exact ⟨lastOf (F := F) n, (flush2_2 _).mpr (by show (4 * n.val + 3) % 4 = 3; omega), by
      show i ∈ ((View.whole main_v29).slice (win2_2.rect (lastOf (F := F) n))).set
      rw [View.set_slice_whole, Rect.mem_set_unit]
      intro a
      match a with
      | ⟨0, _⟩ =>
        show win2_2.index (lastOf (F := F) n) 0 * 128 ≤ (i 0 : Nat) ∧ (i 0 : Nat) < win2_2.index (lastOf (F := F) n) 0 * 128 + 128
        rw [hi.1]; omega
      | ⟨1, _⟩ =>
        show win2_2.index (lastOf (F := F) n) 1 * 1024 ≤ (i 1 : Nat) ∧ (i 1 : Nat) < win2_2.index (lastOf (F := F) n) 1 * 1024 + 1024
        rw [hi.2, h4]; omega⟩

end Any

/-! ## Over the extended reals -/

section Ideal

variable (V : (c : Dev nD) → (b : Ref sig .tc) → Buf (Elt Ideal) ((c : Thread nD τ).loc b))

theorem pay_apply (y : Vec Ideal S128x1024 .f32) (x : Vec Ideal S128x6272 .f32) (w : Vec Ideal S6272x1024 .f32) (i : Fin 128) (j : Fin 1024) :
    k2_pay2 (F := Ideal) y x w (ix2 i j) = (y (ix2 i j) : EReal) + ∑ k : Fin 6272, (x (ix2 i k) : EReal) * w (ix2 k j) := by
  unfold k2_pay2
  pointwise

theorem zero_apply (i : Fin 128) (j : Fin 1024) : k2_pay1 (F := Ideal) (ix2 i j) = (0 : EReal) := by
  unfold k2_pay1
  pointwise

/-- A sum over an axis in four blocks. -/
theorem sum_blocks {M : ℕ} (f : Fin (4 * M) → EReal) :
    ∑ k, f k = ((∑ k : Fin M, f ⟨0 * M + k.val, by omega⟩ + ∑ k : Fin M, f ⟨1 * M + k.val, by omega⟩)
      + ∑ k : Fin M, f ⟨2 * M + k.val, by omega⟩) + ∑ k : Fin M, f ⟨3 * M + k.val, by omega⟩ := by
  rw [← finProdFinEquiv.sum_comp, Fintype.sum_prod_type, Fin.sum_univ_four]
  congr 1
  · congr 1
    · congr 1 <;> exact Finset.sum_congr rfl fun k _ => congrArg f (Fin.ext (by simp [finProdFinEquiv]; try omega))
    · exact Finset.sum_congr rfl fun k _ => congrArg f (Fin.ext (by simp [finProdFinEquiv]; try omega))
  · exact Finset.sum_congr rfl fun k _ => congrArg f (Fin.ext (by simp [finProdFinEquiv]; try omega))

/-- A block of the result, its four steps spelt out. -/
theorem acc_block (c : Dev nD) (n : Fin 4) (b : (k : ℕ) → k < 4 → Fin (cfg2 (F := Ideal)).N) (hb : ∀ k h, (b k h).val = 4 * n.val + k) :
    acc V c (lastOf (F := Ideal) n).val (lastOf (F := Ideal) n).isLt
      = k2_pay2 (k2_pay2 (k2_pay2 (k2_pay2 (k2_pay1 (F := Ideal)) (blkOf V c 0 (b 0 (by decide))) (blkOf V c 1 (b 0 (by decide))))
          (blkOf V c 0 (b 1 (by decide))) (blkOf V c 1 (b 1 (by decide)))) (blkOf V c 0 (b 2 (by decide))) (blkOf V c 1 (b 2 (by decide))))
          (blkOf V c 0 (b 3 (by decide))) (blkOf V c 1 (b 3 (by decide))) := by
  have step : ∀ k (h : k + 1 < 4), acc V c (b (k + 1) h).val (b (k + 1) h).isLt
      = k2_pay2 (acc V c (b k (by omega)).val (b k (by omega)).isLt) (blkOf V c 0 (b (k + 1) h)) (blkOf V c 1 (b (k + 1) h)) := fun k h => by
    have e := hb (k + 1) h
    have e' := hb k (by omega)
    rw [acc_later V c (b (k + 1) h) (by omega)]
    exact congrArg (fun y => k2_pay2 y _ _) (funext fun p => acc_congr V c _ _ _ _ (by omega) p p rfl)
  rw [show acc V c (lastOf (F := Ideal) n).val (lastOf (F := Ideal) n).isLt = acc V c (b 3 (by decide)).val (b 3 (by decide)).isLt from
    funext fun p => acc_congr V c _ _ _ _ (by rw [hb]) p p rfl, step 2 (by decide), step 1 (by decide), step 0 (by decide),
    acc_first V c (b 0 (by decide)) (by rw [hb]; omega)]

/-- An entry of the result is the row times the column. -/
theorem result_apply (c : Dev nD) (i : Fin 128) (j : Fin 4096) :
    (result V c (ix2 i j) : EReal) = ∑ k : Fin 25088, (xArr V c (ix2 i k) : EReal) * wArr V c (ix2 k j) := by
  obtain ⟨n, hn⟩ : ∃ n : Fin 4, j.val / 1024 = n.val := ⟨⟨j.val / 1024, by omega⟩, rfl⟩
  obtain ⟨q, hq⟩ : ∃ q : Fin 1024, j.val % 1024 = q.val := ⟨⟨j.val % 1024, Nat.mod_lt _ (by decide)⟩, rfl⟩
  have hr : result V c (ix2 i j) = acc V c (lastOf (F := Ideal) n).val (lastOf (F := Ideal) n).isLt (ix2 i q) := by
    unfold result
    refine acc_congr V c _ _ _ _ (by show 4 * (j.val / 1024) + 3 = 4 * n.val + 3; rw [hn]) _ _ ?_
    exact congrArg (ix2 i) (Fin.ext hq)
  have hb : ∀ k (h : k < 4), 4 * n.val + k < (cfg2 (F := Ideal)).N := fun k h => Nat.lt_of_lt_of_eq (by omega : 4 * n.val + k < 16) N_2.symm
  rw [hr, acc_block V c n (fun k h => ⟨4 * n.val + k, hb k h⟩) (fun _ _ => rfl)]
  rw [pay_apply, pay_apply, pay_apply, pay_apply, zero_apply, zero_add]
  refine Eq.trans ?_ (sum_blocks (M := 6272) fun k : Fin 25088 => (xArr V c (ix2 i k) : EReal) * wArr V c (ix2 k j)).symm
  have term : ∀ b (h : b < 4) (k : Fin 6272), ((show Vec Ideal S128x6272 .f32 from blkOf V c 0 ⟨4 * n.val + b, hb b h⟩) (ix2 i k) : EReal)
        * (show Vec Ideal S6272x1024 .f32 from blkOf V c 1 ⟨4 * n.val + b, hb b h⟩) (ix2 k q)
      = (xArr V c (ix2 i ⟨b * 6272 + k.val, by omega⟩) : EReal) * wArr V c (ix2 ⟨b * 6272 + k.val, by omega⟩ j) := fun b h k => by
    refine (congrArg₂ (fun u v : EReal => u * v) (blk_x V c _ i k) (blk_w V c _ k q)).trans ?_
    have m1 : (4 * n.val + b) % 4 = b := by omega
    have m2 : (4 * n.val + b) / 4 = n.val := by omega
    have e1 : (⟨(4 * n.val + b) % 4 * 6272 + k.val, by rw [m1]; omega⟩ : Fin 25088) = ⟨b * 6272 + k.val, by omega⟩ := Fin.ext (by show (4 * n.val + b) % 4 * 6272 + k.val = _; rw [m1])
    have e2 : (⟨(4 * n.val + b) / 4 * 1024 + q.val, by rw [m2]; omega⟩ : Fin 4096) = j := Fin.ext (by show (4 * n.val + b) / 4 * 1024 + q.val = _; rw [m2]; omega)
    exact congrArg₂ (fun u v => (xArr V c (ix2 i u) : EReal) * wArr V c (ix2 u v)) e1 e2
  refine congrArg₂ _ (congrArg₂ _ (congrArg₂ _ ?_ ?_) ?_) ?_
  · exact Finset.sum_congr rfl fun k _ => term 0 (by decide) k
  · exact Finset.sum_congr rfl fun k _ => term 1 (by decide) k
  · exact Finset.sum_congr rfl fun k _ => term 2 (by decide) k
  · exact Finset.sum_congr rfl fun k _ => term 3 (by decide) k

end Ideal

end Cert.Proof.Gather.Mm1

end
-- ==== Proof.HeadValue.lean ====
/-
  What the second and third dense layers' grid leaves in its two results, over the extended reals: each the matrix product of the
  hidden layer with the result's weights, the bias' row added. The hidden layer is itself the product of the biased first layer with
  the second weights, its own bias added; the grid makes it 256 columns at a time, and adds each block's contribution.
-/
module

public import proofs.«01_k».proof.Proof.Head
public import proofs.«01_k».proof.Proof.Mm1Value
public import Idealize.ShloMosaic.Lib.Pipeline.Value
public import Idealize.ShloMosaic.Lib.Pointwise
public import Idealize.ShloMosaic.Lib.ValueIdx

@[expose] public section

noncomputable section

namespace Cert.Proof.Gather.Head

open Cert.KernelIdeal Cert.KernelIdeal.Gen
open Idealize.ShloMosaic Idealize.ShloMosaic.TcCoe
open Idealize.ShloMosaic.SparseCore.Cfg (HIx)
open Idealize.SL.Sem

/-! ## Where the windows look -/

theorem index_0 : ∀ t : Fin grid3.N, win3_0.index t 0 = 0 ∧ win3_0.index t 1 = 0 := by decide +kernel
theorem index_1 : ∀ t : Fin grid3.N, win3_1.index t 0 = 0 ∧ win3_1.index t 1 = 0 := by decide +kernel
theorem index_2 : ∀ t : Fin grid3.N, win3_2.index t 0 = 0 ∧ win3_2.index t 1 = t.val := by decide +kernel
theorem index_3 : ∀ t : Fin grid3.N, win3_3.index t 0 = 0 ∧ win3_3.index t 1 = t.val := by decide +kernel
theorem index_4 : ∀ t : Fin grid3.N, win3_4.index t 0 = t.val ∧ win3_4.index t 1 = 0 := by decide +kernel
theorem index_5 : ∀ t : Fin grid3.N, win3_5.index t 0 = 0 ∧ win3_5.index t 1 = 0 := by decide +kernel
theorem index_6 : ∀ t : Fin grid3.N, win3_6.index t 0 = t.val ∧ win3_6.index t 1 = 0 := by decide +kernel
theorem index_7 : ∀ t : Fin grid3.N, win3_7.index t 0 = 0 ∧ win3_7.index t 1 = 0 := by decide +kernel
theorem index_8 : ∀ t : Fin grid3.N, win3_8.index t 0 = 0 ∧ win3_8.index t 1 = 0 := by decide +kernel
theorem index_9 : ∀ t : Fin grid3.N, win3_9.index t 0 = 0 ∧ win3_9.index t 1 = 0 := by decide +kernel

section Any

variable {F : FTy → Type} [FloatOps F]
variable (V : (c : Dev nD) → (b : Ref sig .tc) → Buf (Elt F) ((c : Thread nD τ).loc b))
variable (O : CellTallies nD τ sig (HIx 1)) (B : Set (SemLoc sig × HIx 1))

theorem t_lt (t : Fin (cfg3 (F := F)).N) : t.val < 4 := Nat.lt_of_lt_of_eq t.isLt N_3

/-! The operands, and what a point sees of each. -/

abbrev hArr (c : Dev nD) : Vec F S128x4096 .f32 := V c main_v29
abbrev b1Arr (c : Dev nD) : Vec F S1x4096 .f32 := V c main_v30
abbrev w2Arr (c : Dev nD) : Vec F S4096x1024 .f32 := V c main_arg5
abbrev b2Arr (c : Dev nD) : Vec F S1x1024 .f32 := V c main_v31
abbrev wcArr (c : Dev nD) : Vec F S1024x21 .f32 := V c main_arg7
abbrev bcArr (c : Dev nD) : Vec F S1x21 .f32 := V c main_v32
abbrev wbArr (c : Dev nD) : Vec F S1024x84 .f32 := V c main_arg9
abbrev bbArr (c : Dev nD) : Vec F S1x84 .f32 := V c main_v33

theorem blk_h (c : Dev nD) (t : Fin (cfg3 (F := F)).N) (i : Fin 128) (j : Fin 4096) :
    (blkOf V c 0 t : Vec F S128x4096 .f32) (ix2 i j) = hArr V c (ix2 i j) := by
  have hi := index_0 t
  unfold blkOf
  refine (View.read_apply _ _).trans ?_
  show V c main_v29 _ = V c main_v29 _
  congr 1
  funext a
  apply Fin.ext
  match a with
  | ⟨0, _⟩ => show win3_0.index t 0 * 128 + 1 * i.val = i.val; rw [hi.1]; omega
  | ⟨1, _⟩ => show win3_0.index t 1 * 4096 + 1 * j.val = j.val; rw [hi.2]; omega

theorem blk_b1 (c : Dev nD) (t : Fin (cfg3 (F := F)).N) (i : Fin 1) (j : Fin 4096) :
    (blkOf V c 1 t : Vec F S1x4096 .f32) (ix2 i j) = b1Arr V c (ix2 i j) := by
  have hi := index_1 t
  unfold blkOf
  refine (View.read_apply _ _).trans ?_
  show V c main_v30 _ = V c main_v30 _
  congr 1
  funext a
  apply Fin.ext
  match a with
  | ⟨0, _⟩ => show win3_1.index t 0 * 1 + 1 * i.val = i.val; rw [hi.1]; omega
  | ⟨1, _⟩ => show win3_1.index t 1 * 4096 + 1 * j.val = j.val; rw [hi.2]; omega

theorem blk_w2 (c : Dev nD) (t : Fin (cfg3 (F := F)).N) (i : Fin 4096) (j : Fin 256) :
    (blkOf V c 2 t : Vec F S4096x256 .f32) (ix2 i j) = w2Arr V c (ix2 i ⟨t.val * 256 + j.val, by have := t_lt t; omega⟩) := by
  have hi := index_2 t
  unfold blkOf
  refine (View.read_apply _ _).trans ?_
  show V c main_arg5 _ = V c main_arg5 _
  congr 1
  funext a
  apply Fin.ext
  match a with
  | ⟨0, _⟩ => show win3_2.index t 0 * 4096 + 1 * i.val = i.val; rw [hi.1]; omega
  | ⟨1, _⟩ => show win3_2.index t 1 * 256 + 1 * j.val = t.val * 256 + j.val; rw [hi.2]; omega

theorem blk_b2 (c : Dev nD) (t : Fin (cfg3 (F := F)).N) (i : Fin 1) (j : Fin 256) :
    (blkOf V c 3 t : Vec F S1x256 .f32) (ix2 i j) = b2Arr V c (ix2 i ⟨t.val * 256 + j.val, by have := t_lt t; omega⟩) := by
  have hi := index_3 t
  unfold blkOf
  refine (View.read_apply _ _).trans ?_
  show V c main_v31 _ = V c main_v31 _
  congr 1
  funext a
  apply Fin.ext
  match a with
  | ⟨0, _⟩ => show win3_3.index t 0 * 1 + 1 * i.val = i.val; rw [hi.1]; omega
  | ⟨1, _⟩ => show win3_3.index t 1 * 256 + 1 * j.val = t.val * 256 + j.val; rw [hi.2]; omega

theorem blk_wc (c : Dev nD) (t : Fin (cfg3 (F := F)).N) (i : Fin 256) (j : Fin 21) :
    (blkOf V c 4 t : Vec F S256x21 .f32) (ix2 i j) = wcArr V c (ix2 ⟨t.val * 256 + i.val, by have := t_lt t; omega⟩ j) := by
  have hi := index_4 t
  unfold blkOf
  refine (View.read_apply _ _).trans ?_
  show V c main_arg7 _ = V c main_arg7 _
  congr 1
  funext a
  apply Fin.ext
  match a with
  | ⟨0, _⟩ => show win3_4.index t 0 * 256 + 1 * i.val = t.val * 256 + i.val; rw [hi.1]; omega
  | ⟨1, _⟩ => show win3_4.index t 1 * 21 + 1 * j.val = j.val; rw [hi.2]; omega

theorem blk_bc (c : Dev nD) (t : Fin (cfg3 (F := F)).N) (i : Fin 1) (j : Fin 21) :
    (blkOf V c 5 t : Vec F S1x21 .f32) (ix2 i j) = bcArr V c (ix2 i j) := by
  have hi := index_5 t
  unfold blkOf
  refine (View.read_apply _ _).trans ?_
  show V c main_v32 _ = V c main_v32 _
  congr 1
  funext a
  apply Fin.ext
  match a with
  | ⟨0, _⟩ => show win3_5.index t 0 * 1 + 1 * i.val = i.val; rw [hi.1]; omega
  | ⟨1, _⟩ => show win3_5.index t 1 * 21 + 1 * j.val = j.val; rw [hi.2]; omega

theorem blk_wb (c : Dev nD) (t : Fin (cfg3 (F := F)).N) (i : Fin 256) (j : Fin 84) :
    (blkOf V c 6 t : Vec F S256x84 .f32) (ix2 i j) = wbArr V c (ix2 ⟨t.val * 256 + i.val, by have := t_lt t; omega⟩ j) := by
  have hi := index_6 t
  unfold blkOf
  refine (View.read_apply _ _).trans ?_
  show V c main_arg9 _ = V c main_arg9 _
  congr 1
  funext a
  apply Fin.ext
  match a with
  | ⟨0, _⟩ => show win3_6.index t 0 * 256 + 1 * i.val = t.val * 256 + i.val; rw [hi.1]; omega
  | ⟨1, _⟩ => show win3_6.index t 1 * 84 + 1 * j.val = j.val; rw [hi.2]; omega

theorem blk_bb (c : Dev nD) (t : Fin (cfg3 (F := F)).N) (i : Fin 1) (j : Fin 84) :
    (blkOf V c 7 t : Vec F S1x84 .f32) (ix2 i j) = bbArr V c (ix2 i j) := by
  have hi := index_7 t
  unfold blkOf
  refine (View.read_apply _ _).trans ?_
  show V c main_v33 _ = V c main_v33 _
  congr 1
  funext a
  apply Fin.ext
  match a with
  | ⟨0, _⟩ => show win3_7.index t 0 * 1 + 1 * i.val = i.val; rw [hi.1]; omega
  | ⟨1, _⟩ => show win3_7.index t 1 * 84 + 1 * j.val = j.val; rw [hi.2]; omega

/-- The last point. -/
abbrev t3 : Fin (cfg3 (F := F)).N := ⟨3, Nat.lt_of_lt_of_eq (by decide : 3 < 4) N_3.symm⟩

/-- The two results: what the last point leaves. -/
def clsOut (c : Dev nD) : Vec F S128x21 .f32 := cls V c 3 (t3 (F := F)).isLt
def regOut (c : Dev nD) : Vec F S128x84 .f32 := reg V c 3 (t3 (F := F)).isLt

theorem cls_congr (c : Dev nD) (n n' : ℕ) (h : n < (cfg3 (F := F)).N) (h' : n' < (cfg3 (F := F)).N) (e : n = n') : cls V c n h = cls V c n' h' := by
  subst e; rfl

theorem cls_flushed (c : Dev nD) (t : Fin (cfg3 (F := F)).N) (hw : (cfg3.win 8).flush t = true) :
    (dat V O B c).flushed 8 t = ((cfg3.win 8).blk t).view.read (Elt F) (clsOut V c) := by
  have ht : t.val = 3 := by have h1 := (flush3_8 t).mp hw; have h2 := t_lt t; omega
  have hi := index_8 t
  have hx : (dat V O B c).after 8 t = clsOut V c := by
    rw [after_8]; exact cls_congr V c _ _ _ _ ht
  funext (y : S128x21.Idx)
  show (dat V O B c).after 8 t y = clsOut V c ((((cfg3 (F := F)).win 8).blk t).view.emb y)
  rw [hx]
  congr 1
  funext a
  apply Fin.ext
  match a with
  | ⟨0, _⟩ => show (y 0).val = win3_8.index t 0 * 128 + 1 * (y 0).val; rw [hi.1]; omega
  | ⟨1, _⟩ => show (y 1).val = win3_8.index t 1 * 21 + 1 * (y 1).val; rw [hi.2]; omega

theorem cls_final (c : Dev nD) : (dat V O B c).arrAt 8 (cfg3 (F := F)).N = (clsOut V c : Buf (Elt F) ((c : Thread nD τ).loc main_v34_0)) :=
  (dat V O B c).arrAt_eq_of_cover 8 (clsOut V c) (cls_flushed V O B c) fun (i : S128x21.Idx) => by
    have h0 : (i 0 : Nat) < 128 := (i 0).isLt
    have h1 : (i 1 : Nat) < 21 := (i 1).isLt
    have hi := index_8 (t3 (F := F))
    exact ⟨(t3 (F := F)), (flush3_8 _).mpr rfl, by
      show i ∈ ((View.whole main_v34_0).slice (win3_8.rect (t3 (F := F)))).set
      rw [View.set_slice_whole, Rect.mem_set_unit]
      intro a
      match a with
      | ⟨0, _⟩ =>
        show win3_8.index (t3 (F := F)) 0 * 128 ≤ (i 0 : Nat) ∧ (i 0 : Nat) < win3_8.index (t3 (F := F)) 0 * 128 + 128
        rw [hi.1]; omega
      | ⟨1, _⟩ =>
        show win3_8.index (t3 (F := F)) 1 * 21 ≤ (i 1 : Nat) ∧ (i 1 : Nat) < win3_8.index (t3 (F := F)) 1 * 21 + 21
        rw [hi.2]; omega⟩

theorem reg_congr (c : Dev nD) (n n' : ℕ) (h : n < (cfg3 (F := F)).N) (h' : n' < (cfg3 (F := F)).N) (e : n = n') : reg V c n h = reg V c n' h' := by
  subst e; rfl

theorem reg_flushed (c : Dev nD) (t : Fin (cfg3 (F := F)).N) (hw : (cfg3.win 9).flush t = true) :
    (dat V O B c).flushed 9 t = ((cfg3.win 9).blk t).view.read (Elt F) (regOut V c) := by
  have ht : t.val = 3 := by have h1 := (flush3_9 t).mp hw; have h2 := t_lt t; omega
  have hi := index_9 t
  have hx : (dat V O B c).after 9 t = regOut V c := by
    rw [after_9]; exact reg_congr V c _ _ _ _ ht
  funext (y : S128x84.Idx)
  show (dat V O B c).after 9 t y = regOut V c ((((cfg3 (F := F)).win 9).blk t).view.emb y)
  rw [hx]
  congr 1
  funext a
  apply Fin.ext
  match a with
  | ⟨0, _⟩ => show (y 0).val = win3_9.index t 0 * 128 + 1 * (y 0).val; rw [hi.1]; omega
  | ⟨1, _⟩ => show (y 1).val = win3_9.index t 1 * 84 + 1 * (y 1).val; rw [hi.2]; omega

theorem reg_final (c : Dev nD) : (dat V O B c).arrAt 9 (cfg3 (F := F)).N = (regOut V c : Buf (Elt F) ((c : Thread nD τ).loc main_v34_1)) :=
  (dat V O B c).arrAt_eq_of_cover 9 (regOut V c) (reg_flushed V O B c) fun (i : S128x84.Idx) => by
    have h0 : (i 0 : Nat) < 128 := (i 0).isLt
    have h1 : (i 1 : Nat) < 84 := (i 1).isLt
    have hi := index_9 (t3 (F := F))
    exact ⟨(t3 (F := F)), (flush3_9 _).mpr rfl, by
      show i ∈ ((View.whole main_v34_1).slice (win3_9.rect (t3 (F := F)))).set
      rw [View.set_slice_whole, Rect.mem_set_unit]
      intro a
      match a with
      | ⟨0, _⟩ =>
        show win3_9.index (t3 (F := F)) 0 * 128 ≤ (i 0 : Nat) ∧ (i 0 : Nat) < win3_9.index (t3 (F := F)) 0 * 128 + 128
        rw [hi.1]; omega
      | ⟨1, _⟩ =>
        show win3_9.index (t3 (F := F)) 1 * 84 ≤ (i 1 : Nat) ∧ (i 1 : Nat) < win3_9.index (t3 (F := F)) 1 * 84 + 84
        rw [hi.2]; omega⟩

end Any

/-! ## Over the extended reals -/

section Ideal

variable (V : (c : Dev nD) → (b : Ref sig .tc) → Buf (Elt Ideal) ((c : Thread nD τ).loc b))

/-- An entry of the hidden layer. -/
def hid (h : Vec Ideal S128x4096 .f32) (b1 : Vec Ideal S1x4096 .f32) (w2 : Vec Ideal S4096x1024 .f32) (b2 : Vec Ideal S1x1024 .f32)
    (i : Fin 128) (k : Fin 1024) : EReal :=
  (∑ l : Fin 4096, ((h (ix2 i l) : EReal) + b1 (ix2 0 l)) * w2 (ix2 l k)) + b2 (ix2 0 k)

theorem pay3_apply (h : Vec Ideal S128x4096 .f32) (b1 : Vec Ideal S1x4096 .f32) (w2 : Vec Ideal S4096x256 .f32) (b2 : Vec Ideal S1x256 .f32)
    (i : Fin 128) (k : Fin 256) :
    k3_pay3 (F := Ideal) h b1 w2 b2 (ix2 i k) = (∑ l : Fin 4096, ((h (ix2 i l) : EReal) + b1 (ix2 0 l)) * w2 (ix2 l k)) + b2 (ix2 0 k) := by
  unfold k3_pay3
  pointwise

theorem pay1_apply (b : Vec Ideal S1x21 .f32) (i : Fin 128) (j : Fin 21) : k3_pay1 (F := Ideal) b (ix2 i j) = (b (ix2 0 j) : EReal) := by
  unfold k3_pay1
  pointwise

theorem pay4_apply (h : Vec Ideal S128x4096 .f32) (b1 : Vec Ideal S1x4096 .f32) (w2 : Vec Ideal S4096x256 .f32) (b2 : Vec Ideal S1x256 .f32)
    (y : Vec Ideal S128x21 .f32) (w : Vec Ideal S256x21 .f32) (i : Fin 128) (j : Fin 21) :
    k3_pay4 (F := Ideal) h b1 w2 b2 y w (ix2 i j)
      = (y (ix2 i j) : EReal) + ∑ k : Fin 256, (k3_pay3 (F := Ideal) h b1 w2 b2 (ix2 i k) : EReal) * w (ix2 k j) := by
  unfold k3_pay4
  pointwise

theorem pay2_apply (b : Vec Ideal S1x84 .f32) (i : Fin 128) (j : Fin 84) : k3_pay2 (F := Ideal) b (ix2 i j) = (b (ix2 0 j) : EReal) := by
  unfold k3_pay2
  pointwise

theorem pay5_apply (h : Vec Ideal S128x4096 .f32) (b1 : Vec Ideal S1x4096 .f32) (w2 : Vec Ideal S4096x256 .f32) (b2 : Vec Ideal S1x256 .f32)
    (y : Vec Ideal S128x84 .f32) (w : Vec Ideal S256x84 .f32) (i : Fin 128) (j : Fin 84) :
    k3_pay5 (F := Ideal) h b1 w2 b2 y w (ix2 i j)
      = (y (ix2 i j) : EReal) + ∑ k : Fin 256, (k3_pay3 (F := Ideal) h b1 w2 b2 (ix2 i k) : EReal) * w (ix2 k j) := by
  unfold k3_pay5
  pointwise

theorem bias_last (b x y z w : EReal) : b + x + y + z + w = x + y + z + w + b := by
  rw [add_comm b x, add_right_comm x b y, add_right_comm (x + y) b z, add_right_comm (x + y + z) b w]

/-- A point's columns of the hidden layer. -/
theorem hid_block (c : Dev nD) (t : Fin (cfg3 (F := Ideal)).N) (i : Fin 128) (k : Fin 256) :
    k3_pay3 (F := Ideal) (blkOf V c 0 t) (blkOf V c 1 t) (blkOf V c 2 t) (blkOf V c 3 t) (ix2 i k)
      = hid (hArr V c) (b1Arr V c) (w2Arr V c) (b2Arr V c) i ⟨t.val * 256 + k.val, by have := t_lt t; omega⟩ := by
  rw [pay3_apply]
  unfold hid
  refine congrArg₂ (fun u v : EReal => u + v) (Finset.sum_congr rfl fun l _ => ?_) (blk_b2 V c t 0 k)
  exact congrArg₂ (fun u v : EReal => u * v) (congrArg₂ (fun u v : EReal => u + v) (blk_h V c t i l) (blk_b1 V c t 0 l)) (blk_w2 V c t l k)

/-- One point's contribution. -/
theorem cls_step (c : Dev nD) (t : Fin (cfg3 (F := Ideal)).N) (y : Vec Ideal S128x21 .f32) (i : Fin 128) (j : Fin 21) :
    k3_pay4 (F := Ideal) (blkOf V c 0 t) (blkOf V c 1 t) (blkOf V c 2 t) (blkOf V c 3 t) y (blkOf V c 4 t) (ix2 i j)
      = (y (ix2 i j) : EReal) + ∑ k : Fin 256, hid (hArr V c) (b1Arr V c) (w2Arr V c) (b2Arr V c) i ⟨t.val * 256 + k.val, by have := t_lt t; omega⟩
          * (wcArr V c (ix2 ⟨t.val * 256 + k.val, by have := t_lt t; omega⟩ j) : EReal) := by
  rw [pay4_apply]
  refine congrArg₂ (fun u v : EReal => u + v) rfl (Finset.sum_congr rfl fun k _ => ?_)
  exact congrArg₂ (fun u v : EReal => u * v) (hid_block V c t i k) (blk_wc V c t k j)

theorem clsOut_apply (c : Dev nD) (i : Fin 128) (j : Fin 21) :
    (clsOut V c (ix2 i j) : EReal) = (∑ k : Fin 1024, hid (hArr V c) (b1Arr V c) (w2Arr V c) (b2Arr V c) i k * (wcArr V c (ix2 k j) : EReal))
      + bcArr V c (ix2 0 j) := by
  refine Eq.trans ?_ (congrArg (· + _) (Mm1.sum_blocks (M := 256) fun k : Fin 1024 => hid (hArr V c) (b1Arr V c) (w2Arr V c) (b2Arr V c) i k * (wcArr V c (ix2 k j) : EReal))).symm
  unfold clsOut
  simp only [cls]
  refine (cls_step V c (t3 (F := Ideal)) _ i j).trans ?_
  refine (congrArg (· + _) (cls_step V c ⟨2, _⟩ _ i j)).trans ?_
  refine (congrArg (· + _ + _) (cls_step V c ⟨1, _⟩ _ i j)).trans ?_
  refine (congrArg (· + _ + _ + _) (cls_step V c ⟨0, _⟩ _ i j)).trans ?_
  rw [pay1_apply, show (blkOf V c 5 ⟨0, _⟩ : Vec Ideal S1x21 .f32) (ix2 0 j) = _ from blk_bc V c _ 0 j]
  exact bias_last _ _ _ _ _

/-- One point's contribution. -/
theorem reg_step (c : Dev nD) (t : Fin (cfg3 (F := Ideal)).N) (y : Vec Ideal S128x84 .f32) (i : Fin 128) (j : Fin 84) :
    k3_pay5 (F := Ideal) (blkOf V c 0 t) (blkOf V c 1 t) (blkOf V c 2 t) (blkOf V c 3 t) y (blkOf V c 6 t) (ix2 i j)
      = (y (ix2 i j) : EReal) + ∑ k : Fin 256, hid (hArr V c) (b1Arr V c) (w2Arr V c) (b2Arr V c) i ⟨t.val * 256 + k.val, by have := t_lt t; omega⟩
          * (wbArr V c (ix2 ⟨t.val * 256 + k.val, by have := t_lt t; omega⟩ j) : EReal) := by
  rw [pay5_apply]
  refine congrArg₂ (fun u v : EReal => u + v) rfl (Finset.sum_congr rfl fun k _ => ?_)
  exact congrArg₂ (fun u v : EReal => u * v) (hid_block V c t i k) (blk_wb V c t k j)

theorem regOut_apply (c : Dev nD) (i : Fin 128) (j : Fin 84) :
    (regOut V c (ix2 i j) : EReal) = (∑ k : Fin 1024, hid (hArr V c) (b1Arr V c) (w2Arr V c) (b2Arr V c) i k * (wbArr V c (ix2 k j) : EReal))
      + bbArr V c (ix2 0 j) := by
  refine Eq.trans ?_ (congrArg (· + _) (Mm1.sum_blocks (M := 256) fun k : Fin 1024 => hid (hArr V c) (b1Arr V c) (w2Arr V c) (b2Arr V c) i k * (wbArr V c (ix2 k j) : EReal))).symm
  unfold regOut
  simp only [reg]
  refine (reg_step V c (t3 (F := Ideal)) _ i j).trans ?_
  refine (congrArg (· + _) (reg_step V c ⟨2, _⟩ _ i j)).trans ?_
  refine (congrArg (· + _ + _) (reg_step V c ⟨1, _⟩ _ i j)).trans ?_
  refine (congrArg (· + _ + _ + _) (reg_step V c ⟨0, _⟩ _ i j)).trans ?_
  rw [pay2_apply, show (blkOf V c 7 ⟨0, _⟩ : Vec Ideal S1x84 .f32) (ix2 0 j) = _ from blk_bb V c _ 0 j]
  exact bias_last _ _ _ _ _

end Ideal

end Cert.Proof.Gather.Head
-- ==== Proof.Values.lean ====
/-
  What the program's results hold at the end, from what the arguments held at the start.
-/
module

public import proofs.«01_k».proof.Proof.Kept
public import proofs.«01_k».proof.Proof.Mm1Value
public import proofs.«01_k».proof.Proof.HeadValue
public import Idealize.ShloMosaic.Lib.Pipeline.FrameTail
public import Idealize.ShloMosaic.Lib.Pipeline.RegionArraysS
public import Idealize.ShloMosaic.Lib.ValueLayout

@[expose] public section

set_option maxRecDepth 8192

noncomputable section

namespace Cert.Proof.Gather

open Cert.KernelIdeal Cert.KernelIdeal.Gen
open Idealize.ShloMosaic Idealize.ShloMosaic.TcCoe Idealize.ShloMosaic.StableHlo
open Idealize.ShloMosaic.SparseCore.Cfg (HIx)
open Idealize.SL.Sem

variable {F : FTy → Type} [FloatOps F]
variable (m : (ℓ : Loc nD τ sig) → Buf (Elt F) ℓ)

/-- The gathered rows. -/
def gathered (d : Dev nD) : Vec F S6144x4 .f32 :=
  rowsOf (gat (flatList (F := F) (order (F := F) (scores (arg m d main_arg0)))) (flatTable (arg m d main_arg1)))

theorem V₃_rows (d : Dev nD) : V₃ m d (Proc.devRef .tc main_v26) = gathered m d := by
  refine (rows_rows _).trans ?_
  rw [V₂_out, ixM_eq]
  exact congrArg (fun t => rowsOf (gat _ t)) (pre_table _)

/-- The selected boxes. -/
theorem V₈_kept (d : Dev nD) : V₈ m d (Proc.devRef .tc main_v27) = Nms.out (gathered m d) := by
  rw [V₈_keeps m d (by decide), V₇_keeps m d (by decide), V₆_keeps m d (by decide), V₅_keeps m d (by decide)]
  refine (Pipeline.afterRegion_arr (nms m d) (V₃ m d) launch1.win.arr_inj 1).trans ?_
  refine (Nms.final _ _ _ d).trans ?_
  exact congrArg Nms.out (V₃_rows m d)

/-- The first layer's product. -/
theorem V₇_mm1 (d : Dev nD) : V₇ m d (Proc.devRef .tc main_v29) = Mm1.result (fun c b => V₅ m c (Proc.devRef .tc b)) d :=
  (V₇_keeps m d (by decide)).trans ((Pipeline.afterRegion_arr (mm1 m d) (V₅ m d) launch2.win.arr_inj 2).trans (Mm1.final _ _ _ d))

theorem V₅_x (d : Dev nD) : V₅ m d (Proc.devRef .tc main_v28)
    = (shapeCast S128x25088 (arg m d main_arg2 : Vec F S128x512x7x7 .f32) shapeCasts_S128x512x7x7_S128x25088 : Vec F S128x25088 .f32) :=
  (post_x _).trans (congrArg (fun u : Vec F S128x512x7x7 .f32 => (shapeCast S128x25088 u shapeCasts_S128x512x7x7_S128x25088 : Vec F S128x25088 .f32))
    ((V₄_keeps m d (by decide)).trans (V₃_keeps m d (by decide) (by decide) (by decide))))

theorem V₆_arg (d : Dev nD) {r : Ref sig .tc} (h : r ∉ toW5) (h4 : r ∉ mm1W) :
    V₆ m d (Proc.devRef .tc r) = arg m d r := (V₆_keeps m d h4).trans (V₅_arg m d h)

theorem V₇_b1 (d : Dev nD) : V₇ m d (Proc.devRef .tc main_v30)
    = (shapeCast S1x4096 (arg m d main_arg4 : Vec F S4096 .f32) shapeCasts_S4096_S1x4096 : Vec F S1x4096 .f32) :=
  (mid_b1 _).trans (congrArg (fun u : Vec F S4096 .f32 => (shapeCast S1x4096 u shapeCasts_S4096_S1x4096 : Vec F S1x4096 .f32))
    (V₆_arg m d (by decide) (by decide)))
theorem V₇_b2 (d : Dev nD) : V₇ m d (Proc.devRef .tc main_v31)
    = (shapeCast S1x1024 (arg m d main_arg6 : Vec F S1024 .f32) shapeCasts_S1024_S1x1024 : Vec F S1x1024 .f32) :=
  (mid_b2 _).trans (congrArg (fun u : Vec F S1024 .f32 => (shapeCast S1x1024 u shapeCasts_S1024_S1x1024 : Vec F S1x1024 .f32))
    (V₆_arg m d (by decide) (by decide)))
theorem V₇_bc (d : Dev nD) : V₇ m d (Proc.devRef .tc main_v32)
    = (shapeCast S1x21 (arg m d main_arg8 : Vec F S21 .f32) shapeCasts_S21_S1x21 : Vec F S1x21 .f32) :=
  (mid_bc _).trans (congrArg (fun u : Vec F S21 .f32 => (shapeCast S1x21 u shapeCasts_S21_S1x21 : Vec F S1x21 .f32))
    (V₆_arg m d (by decide) (by decide)))
theorem V₇_bb (d : Dev nD) : V₇ m d (Proc.devRef .tc main_v33)
    = (shapeCast S1x84 (arg m d main_arg10 : Vec F S84 .f32) shapeCasts_S84_S1x84 : Vec F S1x84 .f32) :=
  (mid_bb _).trans (congrArg (fun u : Vec F S84 .f32 => (shapeCast S1x84 u shapeCasts_S84_S1x84 : Vec F S1x84 .f32))
    (V₆_arg m d (by decide) (by decide)))

/-- The classes' scores, -/
theorem V₁₁_cls (d : Dev nD) : V₁₁ m d (Proc.devRef .tc main_v34_0) = Head.clsOut (fun c b => V₇ m c (Proc.devRef .tc b)) d :=
  (V₁₁_keeps m d (by decide)).trans ((V₁₀_keeps m d (by decide)).trans ((V₉_keeps m d (by decide)).trans
    ((Pipeline.afterRegion_arr (head m d) (V₇ m d) launch3.win.arr_inj 8).trans (Head.cls_final _ _ _ d))))

/-- the box offsets, -/
theorem V₈_reg (d : Dev nD) : V₈ m d (Proc.devRef .tc main_v34_1) = Head.regOut (fun c b => V₇ m c (Proc.devRef .tc b)) d :=
  (Pipeline.afterRegion_arr (head m d) (V₇ m d) launch3.win.arr_inj 9).trans (Head.reg_final _ _ _ d)

/-- and the decoded boxes, from the offsets, class by class, and the selected boxes. -/
def decoded (x : Vec F S21x128x4 .f32) (r : Vec F S128x4 .f32) : Vec F S128x21x4 .f32 :=
  transpose S128x21x4 [2, 1, 0] (Decode.out (planes x) (linesOf r)) transposes_S4x21x128_S128x21x4_2_1_0

theorem V₁₁_boxes (d : Dev nD) : V₁₁ m d (Proc.devRef .tc main_v39)
    = decoded (shapeCast S21x128x4 (Head.regOut (fun c b => V₇ m c (Proc.devRef .tc b)) d) shapeCasts_S128x84_S21x128x4) (Nms.out (gathered m d)) := by
  have h0 : V₉ m d (Proc.devRef .tc main_v36) = planes (shapeCast S21x128x4 (Head.regOut (fun c b => V₇ m c (Proc.devRef .tc b)) d : Vec F S128x84 .f32) shapeCasts_S128x84_S21x128x4) :=
    (end_planes _).trans (congrArg (fun u : Vec F S128x84 .f32 => planes (shapeCast S21x128x4 u shapeCasts_S128x84_S21x128x4)) (V₈_reg m d))
  have h1 : V₉ m d (Proc.devRef .tc main_v37) = linesOf (Nms.out (gathered m d)) := (end_lines _).trans (congrArg linesOf (V₈_kept m d))
  have h2 : V₁₀ m d (Proc.devRef .tc main_v38) = Decode.out (V₉ m d (Proc.devRef .tc main_v36)) (V₉ m d (Proc.devRef .tc main_v37)) :=
    (Pipeline.afterRegion_arr (decode m d) (V₉ m d) launch4.win.arr_inj 2).trans (Decode.final _ _ _ d)
  refine (out_boxes _).trans ?_
  exact congrArg (fun u : Vec F S4x21x128 .f32 => (transpose S128x21x4 [2, 1, 0] u transposes_S4x21x128_S128x21x4_2_1_0 : Vec F S128x21x4 .f32))
    (h2.trans (congrArg₂ Decode.out h0 h1))

/-! ## Over the extended reals -/

section Ideal

variable (m : (ℓ : Loc nD τ sig) → Buf (Elt Ideal) ℓ)

/-- The biased first layer. -/
def layer1 (x : Vec Ideal S128x25088 .f32) (w1 : Vec Ideal S25088x4096 .f32) (b1 : Vec Ideal S4096 .f32) (i : Fin 128) (l : Fin 4096) : EReal :=
  (∑ k : Fin 25088, (x (ix2 i k) : EReal) * w1 (ix2 k l)) + b1 (ix1 l)

/-- The biased second layer. -/
def layer2 (x : Vec Ideal S128x25088 .f32) (w1 : Vec Ideal S25088x4096 .f32) (b1 : Vec Ideal S4096 .f32)
    (w2 : Vec Ideal S4096x1024 .f32) (b2 : Vec Ideal S1024 .f32) (i : Fin 128) (k : Fin 1024) : EReal :=
  (∑ l : Fin 4096, layer1 x w1 b1 i l * w2 (ix2 l k)) + b2 (ix1 k)

/-- The pooled features, one row a proposal. -/
abbrev features (d : Dev nD) : Vec Ideal S128x25088 .f32 :=
  shapeCast S128x25088 (arg m d main_arg2 : Vec Ideal S128x512x7x7 .f32) shapeCasts_S128x512x7x7_S128x25088

theorem hid_eq (d : Dev nD) (i : Fin 128) (k : Fin 1024) :
    Head.hid (V₇ m d (Proc.devRef .tc main_v29)) (V₇ m d (Proc.devRef .tc main_v30)) (V₇ m d (Proc.devRef .tc main_arg5)) (V₇ m d (Proc.devRef .tc main_v31)) i k
      = layer2 (features m d) (arg m d main_arg3) (arg m d main_arg4) (arg m d main_arg5) (arg m d main_arg6) i k := by
  rw [V₇_mm1, V₇_b1, V₇_b2, V₇_arg m d (r := main_arg5) (by decide)]
  unfold Head.hid layer2 layer1
  have hb1 : ∀ l, (shapeCast S1x4096 (arg m d main_arg4 : Vec Ideal S4096 .f32) shapeCasts_S4096_S1x4096 : Vec Ideal S1x4096 .f32) (ix2 0 l)
      = (arg m d main_arg4 : Vec Ideal S4096 .f32) (ix1 l) := fun l => ValueIdx.shapeCast_a_1a_apply _ _ 0 l
  have hb2 : (shapeCast S1x1024 (arg m d main_arg6 : Vec Ideal S1024 .f32) shapeCasts_S1024_S1x1024 : Vec Ideal S1x1024 .f32) (ix2 0 k)
      = (arg m d main_arg6 : Vec Ideal S1024 .f32) (ix1 k) := ValueIdx.shapeCast_a_1a_apply _ _ 0 k
  rw [hb2]
  refine congrArg (· + _) (Finset.sum_congr rfl fun l _ => ?_)
  rw [hb1, Mm1.result_apply]
  have hx : Mm1.xArr (fun c b => V₅ m c (Proc.devRef .tc b)) d = features m d := V₅_x m d
  have hw : Mm1.wArr (fun c b => V₅ m c (Proc.devRef .tc b)) d = arg m d main_arg3 := V₅_arg m d (by decide)
  rw [hx, hw]

theorem cls_apply (d : Dev nD) (i : Fin 128) (j : Fin 21) :
    ((V₁₁ m d (Proc.devRef .tc main_v34_0) : Vec Ideal S128x21 .f32) (ix2 i j) : EReal)
      = (∑ k : Fin 1024, layer2 (features m d) (arg m d main_arg3) (arg m d main_arg4) (arg m d main_arg5) (arg m d main_arg6) i k
            * ((arg m d main_arg7 : Vec Ideal S1024x21 .f32) (ix2 k j) : EReal)) + (arg m d main_arg8 : Vec Ideal S21 .f32) (ix1 j) := by
  rw [V₁₁_cls, Head.clsOut_apply]
  have hbc : (Head.bcArr (fun c b => V₇ m c (Proc.devRef .tc b)) d) (ix2 0 j) = (arg m d main_arg8 : Vec Ideal S21 .f32) (ix1 j) := by
    refine (congrFun (V₇_bc m d) _).trans ?_
    pointwise
  have hwc : Head.wcArr (fun c b => V₇ m c (Proc.devRef .tc b)) d = arg m d main_arg7 := V₇_arg m d (by decide)
  rw [hbc, hwc]
  refine congrArg (· + _) (Finset.sum_congr rfl fun k _ => ?_)
  exact congrArg (· * _) (hid_eq m d i k)

theorem reg_apply (d : Dev nD) (i : Fin 128) (j : Fin 84) :
    (Head.regOut (fun c b => V₇ m c (Proc.devRef .tc b)) d (ix2 i j) : EReal)
      = (∑ k : Fin 1024, layer2 (features m d) (arg m d main_arg3) (arg m d main_arg4) (arg m d main_arg5) (arg m d main_arg6) i k
            * ((arg m d main_arg9 : Vec Ideal S1024x84 .f32) (ix2 k j) : EReal)) + (arg m d main_arg10 : Vec Ideal S84 .f32) (ix1 j) := by
  rw [Head.regOut_apply]
  have hbb : (Head.bbArr (fun c b => V₇ m c (Proc.devRef .tc b)) d) (ix2 0 j) = (arg m d main_arg10 : Vec Ideal S84 .f32) (ix1 j) := by
    refine (congrFun (V₇_bb m d) _).trans ?_
    pointwise
  have hwb : Head.wbArr (fun c b => V₇ m c (Proc.devRef .tc b)) d = arg m d main_arg9 := V₇_arg m d (by decide)
  rw [hbb, hwb]
  refine congrArg (· + _) (Finset.sum_congr rfl fun k _ => ?_)
  exact congrArg (· * _) (hid_eq m d i k)

end Ideal

end Cert.Proof.Gather

end
-- ==== Proof.RowGather.lean ====
/-
  A gather of whole rows, read at an index: what `x[idx]` of `x : [N, C]` at `idx : [B]` lowers to.
-/
module

public import Idealize.ShloMosaic.Lib.ValueIdxCore

@[expose] public section

noncomputable section

namespace Cert.Proof.RowGather

open Idealize.ShloMosaic Idealize.ShloMosaic.ValueIdx

/-- The dimension numbers of a gather of rows. -/
abbrev rowDims (N C B : Nat) (wf : GatherDims.WF ⟨2, ![N, C]⟩ ⟨2, ![B, 1]⟩ ⟨2, ![B, C]⟩ [1] [0] [] [0] [] 1 ![1, C]) :
    GatherDims ⟨2, ![N, C]⟩ ⟨2, ![B, 1]⟩ ⟨2, ![B, C]⟩ where
  offsetDims := [1]
  collapsedSliceDims := [0]
  operandBatchingDims := []
  startIndicesBatchingDims := []
  startIndexMap := [0]
  indexVectorDim := 1
  sliceSizes := ![1, C]
  wf := wf

/-- The start index of a result element is its row's. -/
theorem siIdx_eq {N C B : Nat} (wf) (j : (⟨2, ![B, C]⟩ : Shape).Idx)
    (k : Fin (rowDims N C B wf).startIndexMap.length) :
    (rowDims N C B wf).siIdx j k = ix2 (j 0) 0 := by
  have hk : k.val = 0 := by have := k.isLt; simp only [List.length_singleton] at this; omega
  funext b
  refine Fin.ext ?_
  match b with
  | ⟨0, _⟩ => rfl
  | ⟨1, _⟩ =>
    have : (((rowDims N C B wf).siIdx j k) 1).val < 1 := (((rowDims N C B wf).siIdx j k) 1).isLt
    show (((rowDims N C B wf).siIdx j k) 1).val = 0
    omega

/-- The gather at `(b, c)`: the operand's row that the word names, read as a signed number and clamped to the rows. -/
theorem gather_rows {α : Type} {N C B w : Nat} (hN : 0 < N) (wf) (x : (⟨2, ![N, C]⟩ : Shape).Idx → α) (idx : IVec ⟨2, ![B, 1]⟩ w)
    (j : (⟨2, ![B, C]⟩ : Shape).Idx) :
    Host.gather (rowDims N C B wf) x idx j
      = x (ix2 ⟨min (idx (ix2 (j 0) 0)).toInt.toNat (N - 1), by omega⟩ (j 1)) := by
  unfold Host.gather
  refine congrArg x ?_
  have key : ∀ a : Fin 2, (rowDims N C B wf).start j idx a + (rowDims N C B wf).batchCoord j a + (rowDims N C B wf).offCoord j a
      = ((ix2 (n0 := N) (n1 := C) ⟨min (idx (ix2 (n0 := B) (n1 := 1) (j 0) 0)).toInt.toNat (N - 1), by omega⟩ (j 1)) a).val := by
    intro a
    rw [GatherDims.batchCoord_eq_zero _ _ _ List.not_mem_nil]
    have h01 : ∀ b : Fin 2, b ∈ ([0] : List (Fin 2)) ↔ b = 0 := fun b => List.mem_singleton
    match a with
    | 0 =>
      rw [GatherDims.offCoord_eq_zero _ _ _ (fun h => ((GatherDims.mem_sKept _ _).mp h).1 (List.mem_singleton.mpr rfl))]
      have h0 : (0 : Fin 2) ∈ (rowDims N C B wf).startIndexMap := List.mem_singleton.mpr rfl
      unfold GatherDims.start
      refine (congrArg (fun n => n + 0 + 0) (dif_pos h0)).trans ?_
      rw [siIdx_eq]
      rfl
    | 1 =>
      have h1 : (1 : Fin 2) ∉ (rowDims N C B wf).startIndexMap := fun h => by
        have := (h01 1).mp h; exact absurd this (by decide)
      have h2 : (1 : Fin 2) ∈ (rowDims N C B wf).sKept :=
        (GatherDims.mem_sKept _ _).mpr ⟨fun h => absurd ((h01 1).mp h) (by decide), List.not_mem_nil⟩
      unfold GatherDims.start GatherDims.offCoord
      refine (congrArg₂ (fun n k => n + 0 + k) (dif_neg h1) (dif_pos h2)).trans ?_
      exact (Nat.zero_add _).trans rfl
  funext a
  exact Fin.ext (key a)

end Cert.Proof.RowGather

end
-- ==== Proof.RefRun.lean ====
/-
  The reference's run, stretch by stretch: what each stretch of its operations leaves in the arrays the following ones read, and
  the arrays the whole run leaves as they were. The loop's own value is in RefLoop.lean.
-/
module

public import proofs.«01_k».proof.Proof.HostOps
public import proofs.«01_k».proof.Proof.Gen.ReferenceIdeal.Run

@[expose] public section

set_option maxRecDepth 8192

noncomputable section

namespace Cert.Proof.Ref

open Cert.ReferenceIdeal Cert.ReferenceIdeal.Gen Cert.ReferenceIdeal.Value
open Idealize.ShloMosaic Idealize.ShloMosaic.TcCoe Idealize.ShloMosaic.StableHlo
open Idealize.SL Idealize.SL.Sem
open Cert.Proof.Gather (scores)

variable {F : FTy → Type} [FloatOps F]

/-! ## What the operations compute -/

/-- The positions of the scores, the greatest first. -/
def sorted (s : FVec F S20000 .f32) : IVec S20000 32 :=
  (Host.sort2 S20000 0 comparator_f32_i32_d0 (Host.negf s) (iotaInDim S20000 32 0)).2

/-- The first 6000 of them. -/
def top (o : IVec S20000 32) : IVec S6000 32 :=
  select (cmpi .slt (extractStridedSlice S6000 ![0] o slices_S20000_S6000_0) (broadcastInDim S6000 ![] bcast_S_S6000 (constantI S_ 32 0#32)))
    (addi (extractStridedSlice S6000 ![0] o slices_S20000_S6000_0) (broadcastInDim S6000 ![] bcast_S_S6000 (constantI S_ 32 20000#32)))
    (extractStridedSlice S6000 ![0] o slices_S20000_S6000_0)

/-- The boxes at these positions. -/
def boxes (o : IVec S20000 32) (r : FVec F S20000x4 .f32) : FVec F S6000x4 .f32 :=
  Host.gather gather_S20000x4_S6000x1_S6000x4_1_0_n_n_0_1_14 r (broadcastInDim S6000x1 ![0] bcast_S6000_S6000x1_0 (top o))

/-- Their areas. -/
def areas (b : FVec F S6000x4 .f32) : FVec F S6000 .f32 :=
  mulf (subf (shapeCast S6000 (extractStridedSlice S6000x1 ![0, 2] b slices_S6000x4_S6000x1_0_2) shapeCasts_S6000x1_S6000)
      (shapeCast S6000 (extractStridedSlice S6000x1 ![0, 0] b slices_S6000x4_S6000x1_0_0) shapeCasts_S6000x1_S6000))
    (subf (shapeCast S6000 (extractStridedSlice S6000x1 ![0, 3] b slices_S6000x4_S6000x1_0_3) shapeCasts_S6000x1_S6000)
      (shapeCast S6000 (extractStridedSlice S6000x1 ![0, 1] b slices_S6000x4_S6000x1_0_1) shapeCasts_S6000x1_S6000))

/-- The positions of the kept boxes, then those of the others. -/
def keptFirst (k : IVec S6000 1) : IVec S6000 32 :=
  (Host.sort2 S6000 0 comparator_i1_i32_d0 (noti k) (iotaInDim S6000 32 0)).2

/-- The first 300 of these positions. -/
def firsts (o : IVec S6000 32) : IVec S300 32 :=
  select (cmpi .slt (extractStridedSlice S300 ![0] o slices_S6000_S300_0) (broadcastInDim S300 ![] bcast_S_S300 (constantI S_ 32 0#32)))
    (addi (extractStridedSlice S300 ![0] o slices_S6000_S300_0) (broadcastInDim S300 ![] bcast_S_S300 (constantI S_ 32 6000#32)))
    (extractStridedSlice S300 ![0] o slices_S6000_S300_0)

/-- The first 128 boxes of those 300. -/
def picked (o : IVec S6000 32) (b : FVec F S6000x4 .f32) : FVec F S128x4 .f32 :=
  extractStridedSlice S128x4 ![0, 0] (Host.gather gather_S6000x4_S300x1_S300x4_1_0_n_n_0_1_14 b
    (broadcastInDim S300x1 ![0] bcast_S300_S300x1_0 (firsts o))) slices_S300x4_S128x4_0_0

/-- The first two dense layers, -/
def hidden (p : FVec F S128x512x7x7 .f32) (w1 : FVec F S25088x4096 .f32) (b1 : FVec F S4096 .f32)
    (w2 : FVec F S4096x1024 .f32) (b2 : FVec F S1024 .f32) : FVec F S128x1024 .f32 :=
  addf (Host.dotGeneral dot_S128x4096_S4096x1024_S128x1024_1_0_0_1_n_n none
      (addf (Host.dotGeneral dot_S128x25088_S25088x4096_S128x4096_1_0_0_1_n_n none (shapeCast S128x25088 p shapeCasts_S128x512x7x7_S128x25088) w1)
        (broadcastInDim S128x4096 ![0, 1] bcast_S1x4096_S128x4096_0_1 (broadcastInDim S1x4096 ![1] bcast_S4096_S1x4096_1 b1))) w2)
    (broadcastInDim S128x1024 ![0, 1] bcast_S1x1024_S128x1024_0_1 (broadcastInDim S1x1024 ![1] bcast_S1024_S1x1024_1 b2))

/-- the class scores, -/
def cls (h : FVec F S128x1024 .f32) (w : FVec F S1024x21 .f32) (b : FVec F S21 .f32) : FVec F S128x21 .f32 :=
  addf (Host.dotGeneral dot_S128x1024_S1024x21_S128x21_1_0_0_1_n_n none h w)
    (broadcastInDim S128x21 ![0, 1] bcast_S1x21_S128x21_0_1 (broadcastInDim S1x21 ![1] bcast_S21_S1x21_1 b))

/-- and the box offsets, before their reshaping. -/
def reg (h : FVec F S128x1024 .f32) (w : FVec F S1024x84 .f32) (b : FVec F S84 .f32) : FVec F S128x84 .f32 :=
  addf (Host.dotGeneral dot_S128x1024_S1024x84_S128x84_1_0_0_1_n_n none h w)
    (broadcastInDim S128x84 ![0, 1] bcast_S1x84_S128x84_0_1 (broadcastInDim S1x84 ![1] bcast_S84_S1x84_1 b))

/-- A column of the boxes, a plane of the offsets, and a line repeated for each class. -/
def col (r : FVec F S128x4 .f32) (k : Fin 4) : FVec F S128 .f32 :=
  match k with
  | 0 => shapeCast S128 (extractStridedSlice S128x1 ![0, 0] r slices_S128x4_S128x1_0_0) shapeCasts_S128x1_S128
  | 1 => shapeCast S128 (extractStridedSlice S128x1 ![0, 1] r slices_S128x4_S128x1_0_1) shapeCasts_S128x1_S128
  | 2 => shapeCast S128 (extractStridedSlice S128x1 ![0, 2] r slices_S128x4_S128x1_0_2) shapeCasts_S128x1_S128
  | 3 => shapeCast S128 (extractStridedSlice S128x1 ![0, 3] r slices_S128x4_S128x1_0_3) shapeCasts_S128x1_S128
def off (x : FVec F S21x128x4 .f32) (k : Fin 4) : FVec F S21x128 .f32 :=
  match k with
  | 0 => shapeCast S21x128 (extractStridedSlice S21x128x1 ![0, 0, 0] x slices_S21x128x4_S21x128x1_0_0_0) shapeCasts_S21x128x1_S21x128
  | 1 => shapeCast S21x128 (extractStridedSlice S21x128x1 ![0, 0, 1] x slices_S21x128x4_S21x128x1_0_0_1) shapeCasts_S21x128x1_S21x128
  | 2 => shapeCast S21x128 (extractStridedSlice S21x128x1 ![0, 0, 2] x slices_S21x128x4_S21x128x1_0_0_2) shapeCasts_S21x128x1_S21x128
  | 3 => shapeCast S21x128 (extractStridedSlice S21x128x1 ![0, 0, 3] x slices_S21x128x4_S21x128x1_0_0_3) shapeCasts_S21x128x1_S21x128
def wide (v : FVec F S128 .f32) : FVec F S21x128 .f32 :=
  broadcastInDim S21x128 ![0, 1] bcast_S1x128_S21x128_0_1 (broadcastInDim S1x128 ![1] bcast_S128_S1x128_1 v)
/-- Half of a line and of a plane. -/
def half (v : FVec F S128 .f32) : FVec F S128 .f32 := mulf (broadcastInDim S128 ![] bcast_S_S128 (constant S_ .f32 0x3F000000#32)) v
def half2 (v : FVec F S21x128 .f32) : FVec F S21x128 .f32 := mulf (broadcastInDim S21x128 ![] bcast_S_S21x128 (constant S_ .f32 0x3F000000#32)) v
/-- The decoded centre and extent, from the offsets and the box's lower and upper border. -/
def centre (x : FVec F S21x128 .f32) (lo hi : FVec F S128 .f32) : FVec F S21x128 .f32 :=
  addf (mulf x (wide (subf hi lo))) (wide (addf lo (half (subf hi lo))))
def extent (x : FVec F S21x128 .f32) (lo hi : FVec F S128 .f32) : FVec F S21x128 .f32 := mulf (Host.exp x) (wide (subf hi lo))

/-- The decoded boxes. -/
def decoded (x : FVec F S21x128x4 .f32) (r : FVec F S128x4 .f32) : FVec F S128x21x4 .f32 :=
  transpose S128x21x4 [1, 0, 2] (concatenate S21x128x4 2
    [⟨S21x128x1, broadcastInDim S21x128x1 ![0, 1] bcast_S21x128_S21x128x1_0_1 (subf (centre (off x 0) (col r 0) (col r 2)) (half2 (extent (off x 2) (col r 0) (col r 2))))⟩,
      ⟨S21x128x1, broadcastInDim S21x128x1 ![0, 1] bcast_S21x128_S21x128x1_0_1 (subf (centre (off x 1) (col r 1) (col r 3)) (half2 (extent (off x 3) (col r 1) (col r 3))))⟩,
      ⟨S21x128x1, broadcastInDim S21x128x1 ![0, 1] bcast_S21x128_S21x128x1_0_1 (addf (centre (off x 0) (col r 0) (col r 2)) (half2 (extent (off x 2) (col r 0) (col r 2))))⟩,
      ⟨S21x128x1, broadcastInDim S21x128x1 ![0, 1] bcast_S21x128_S21x128x1_0_1 (addf (centre (off x 1) (col r 1) (col r 3)) (half2 (extent (off x 3) (col r 1) (col r 3))))⟩]
    concatenates_S21x128x1_S21x128x1_S21x128x1_S21x128x1_S21x128x4_d2) transposes_S21x128x4_S128x21x4_1_0_2

/-! ## The stretches -/

variable (V : Valuation τ sig (Elt F))

/-- The last stretch in three: the selection, the dense layers, the decoding. -/
abbrev pickOps : List (HloOp τ sig (Elt F)) := (hostOps0_5 (F := F)).take 11
abbrev denseOps : List (HloOp τ sig (Elt F)) := ((hostOps0_5 (F := F)).drop 11).take 18
abbrev decodeOps : List (HloOp τ sig (Elt F)) := (hostOps0_5 (F := F)).drop 29
theorem last_cut : (hostOps0_5 : List (HloOp τ sig (Elt F))) = pickOps ++ (denseOps ++ decodeOps) := rfl

/-- The arrays each writes. -/
abbrev pickW : List (Ref sig .tc) :=
  [main_v39, main_c_6, main_v40, main_v41, main_c_7, main_v42, main_v43, main_v44, main_v45, main_v46, main_v47]
abbrev denseW : List (Ref sig .tc) :=
  [main_v48, main_v49, main_v50, main_v51, main_v52, main_v53, main_v54, main_v55, main_v56, main_v57, main_v58, main_v59, main_v60, main_v61,
    main_v62, main_v63, main_v64, main_v65]
abbrev decodeW : List (Ref sig .tc) :=
  [main_v66, main_v67, main_v68, main_v69, main_v70, main_v71, main_v72, main_v73, main_v74, main_v75, main_v76, main_v77, main_cst_8, main_v78,
    main_v79, main_v80, main_v81, main_v82, main_cst_9, main_v83, main_v84, main_v85, main_v86, main_v87, main_v88, main_v89, main_v90, main_v91,
    main_v92, main_v93, main_v94, main_v95, main_v96, main_v97, main_v98, main_v99, main_v100, main_v101, main_v102, main_v103, main_v104,
    main_v105, main_v106, main_v107, main_v108, main_v109, main_v110, main_v111, main_v112, main_v113, main_cst_10, main_v114, main_v115,
    main_v116, main_cst_11, main_v117, main_v118, main_v119, main_cst_12, main_v120, main_v121, main_v122, main_cst_13, main_v123, main_v124,
    main_v125, main_v126, main_v127, main_v128, main_v129, main_v130, main_v131]
abbrev sortW : List (Ref sig .tc) := [main_v37, main_call1_v0, main_call1_v1_0, main_v38]

theorem pick_keeps {r : Ref sig .tc} (hr : r ∉ pickW) : after pickOps V (Proc.devRef .tc r) = V (Proc.devRef .tc r) :=
  after_of_writes_sub _ V (forall_writes_sub_of_map rfl) hr
theorem dense_keeps {r : Ref sig .tc} (hr : r ∉ denseW) : after denseOps V (Proc.devRef .tc r) = V (Proc.devRef .tc r) :=
  after_of_writes_sub _ V (forall_writes_sub_of_map rfl) hr
theorem decode_keeps {r : Ref sig .tc} (hr : r ∉ decodeW) : after decodeOps V (Proc.devRef .tc r) = V (Proc.devRef .tc r) :=
  after_of_writes_sub _ V (forall_writes_sub_of_map rfl) hr
theorem sort_keeps {r : Ref sig .tc} (hr : r ∉ sortW) : after hostOps0_4 (after hostOps0_3 V) (Proc.devRef .tc r) = V (Proc.devRef .tc r) :=
  (after_of_writes_sub (W := [main_call1_v0, main_call1_v1_0, main_v38]) _ _ (forall_writes_sub_of_map rfl) (fun h => hr (List.mem_cons_of_mem _ h))).trans
    (after_of_writes_sub (W := [main_v37]) _ _ (forall_writes_sub_of_map rfl) (fun h => hr (by rw [List.mem_singleton.mp h]; exact List.mem_cons_self)))

theorem pre0_scores : after hostOps0 V (Proc.devRef .tc main_v13) = Host.negf (scores (F := F) (V (Proc.devRef .tc main_arg0))) := by
  simp only [hostOps0]; after_results_simp <;> rfl
theorem pre0_keeps {r : Ref sig .tc} (hr : r ∉ hostOps0_W) : after hostOps0 V (Proc.devRef .tc r) = V (Proc.devRef .tc r) :=
  after_of_writes_sub _ V hostOps0_writes hr
theorem pre1_sorted (s : FVec F S20000 .f32) (h : V (Proc.devRef .tc main_v13) = Host.negf s) : after hostOps0_1 V (Proc.devRef .tc main_v14) = sorted s := by
  unfold sorted
  rw [← h]
  simp only [hostOps0_1]; after_results_simp <;> rfl
theorem pre1_keeps {r : Ref sig .tc} (hr : r ∉ hostOps0_1_W) : after hostOps0_1 V (Proc.devRef .tc r) = V (Proc.devRef .tc r) :=
  after_of_writes_sub _ V hostOps0_1_writes hr
theorem pre2_boxes : after hostOps0_2 V (Proc.devRef .tc main_v22) = boxes (V (Proc.devRef .tc main_v14)) (V (Proc.devRef .tc main_arg1)) := by
  simp only [hostOps0_2]; after_results_simp <;> rfl
theorem pre2_0 : after hostOps0_2 V (Proc.devRef .tc main_v36_0) = boxes (V (Proc.devRef .tc main_v14)) (V (Proc.devRef .tc main_arg1)) := by
  simp only [hostOps0_2]; after_results_simp <;> rfl
theorem pre2_1 : after hostOps0_2 V (Proc.devRef .tc main_v36_1) = areas (boxes (V (Proc.devRef .tc main_v14)) (V (Proc.devRef .tc main_arg1))) := by
  simp only [hostOps0_2]; after_results_simp <;> rfl
theorem pre2_2 : after hostOps0_2 V (Proc.devRef .tc main_v36_2) = (iotaInDim S6000 32 0 : IVec S6000 32) := by
  simp only [hostOps0_2]; after_results_simp <;> rfl
theorem pre2_4 : after hostOps0_2 V (Proc.devRef .tc main_v36_4) = (constantI S_ 32 0#32 : IVec S_ 32) := by
  simp only [hostOps0_2]; after_results_simp <;> rfl
theorem pre2_5 : after hostOps0_2 V (Proc.devRef .tc main_v36_5) = (broadcastInDim S6000 ![] bcast_S_S6000 (constantI S_ 1 1#1) : IVec S6000 1) := by
  simp only [hostOps0_2]; after_results_simp <;> rfl
theorem pre2_keeps {r : Ref sig .tc} (hr : r ∉ hostOps0_2_W) : after hostOps0_2 V (Proc.devRef .tc r) = V (Proc.devRef .tc r) :=
  after_of_writes_sub _ V hostOps0_2_writes hr

theorem sort_order : after hostOps0_4 (after hostOps0_3 V) (Proc.devRef .tc main_v38) = keptFirst (V (Proc.devRef .tc main_v36_5)) := by
  simp only [hostOps0_4, hostOps0_3]; after_results_simp <;> rfl

theorem pick_boxes : after pickOps V (Proc.devRef .tc main_v47) = picked (V (Proc.devRef .tc main_v38)) (V (Proc.devRef .tc main_v22)) := by
  simp only [pickOps, hostOps0_5, List.take_succ_cons, List.take_zero]; after_results_simp <;> rfl

theorem dense_cls : after denseOps V (Proc.devRef .tc main_v60)
    = cls (hidden (V (Proc.devRef .tc main_arg2)) (V (Proc.devRef .tc main_arg3)) (V (Proc.devRef .tc main_arg4)) (V (Proc.devRef .tc main_arg5))
        (V (Proc.devRef .tc main_arg6))) (V (Proc.devRef .tc main_arg7)) (V (Proc.devRef .tc main_arg8)) := by
  simp only [denseOps, hostOps0_5, List.drop_succ_cons, List.drop_zero, List.take_succ_cons, List.take_zero]; after_results_simp <;> rfl

theorem dense_reg : after denseOps V (Proc.devRef .tc main_v65)
    = (shapeCast S21x128x4 (reg (hidden (V (Proc.devRef .tc main_arg2)) (V (Proc.devRef .tc main_arg3)) (V (Proc.devRef .tc main_arg4)) (V (Proc.devRef .tc main_arg5))
        (V (Proc.devRef .tc main_arg6))) (V (Proc.devRef .tc main_arg9)) (V (Proc.devRef .tc main_arg10))) shapeCasts_S128x84_S21x128x4 : FVec F S21x128x4 .f32) := by
  simp only [denseOps, hostOps0_5, List.drop_succ_cons, List.drop_zero, List.take_succ_cons, List.take_zero]; after_results_simp <;> rfl

set_option maxHeartbeats 4000000 in
theorem decode_boxes : after decodeOps V (Proc.devRef .tc main_v131) = decoded (V (Proc.devRef .tc main_v65)) (V (Proc.devRef .tc main_v47)) := by
  simp only [decodeOps, hostOps0_5, List.drop_succ_cons, List.drop_zero]; after_results_simp <;> rfl

/-! ## The whole run -/

variable (m : (ℓ : Loc nD τ sig) → Buf (Elt F) ℓ)

/-- What the argument `b` held at the start. -/
abbrev arg (c : Dev nD) (b : Ref sig .tc) : Buf (Elt F) ((c.tc : Thread nD τ).loc b) := m ((c.tc : Thread nD τ).loc b)

/-- What the arrays hold before the loop, -/
abbrev entry (c : Dev nD) : Valuation τ sig (Elt F) := entryContents preI m c
/-- and after it. -/
abbrev left (c : Dev nD) : Valuation τ sig (Elt F) := after condOps (atK m 6000 c)
/-- The arrays at the end. -/
abbrev ends (c : Dev nD) : Valuation τ sig (Elt F) := finalContents condOps preI bodyI postI 6000 m c

theorem entry_eq (c : Dev nD) : entry m c = after hostOps0_2 (after hostOps0_1 (after hostOps0 (launchContents m c))) := rfl
theorem ends_eq (c : Dev nD) : ends m c = after decodeOps (after denseOps (after pickOps (after hostOps0_4 (after hostOps0_3 (left m c))))) := by
  show after hostOps0_5 (after hostOps0_4 (after hostOps0_3 (left m c))) = _
  rw [last_cut, after_append, after_append]

theorem entry_arg (c : Dev nD) {r : Ref sig .tc} (h0 : r ∉ hostOps0_W) (h1 : r ∉ hostOps0_1_W) (h2 : r ∉ hostOps0_2_W) :
    entry m c (Proc.devRef .tc r) = arg m c r := by
  rw [entry_eq]
  exact (pre2_keeps _ h2).trans ((pre1_keeps _ h1).trans (pre0_keeps _ h0))

theorem trip_keeps (c : Dev nD) {r : Ref sig .tc} (hc : r ∉ condOps_W) (hw : r ∉ while0Ops0_W) : ∀ k, atK m k c (Proc.devRef .tc r) = entry m c (Proc.devRef .tc r)
  | 0 => rfl
  | k + 1 => by
    have ih := trip_keeps c hc hw k
    show after while0Ops0 (after condOps (atK m k c)) (Proc.devRef .tc r) = _
    exact (after_of_writes_sub _ _ while0Ops0_writes hw).trans ((after_of_writes_sub _ _ condOps_writes hc).trans ih)

theorem left_keeps (c : Dev nD) {r : Ref sig .tc} (hc : r ∉ condOps_W) (hw : r ∉ while0Ops0_W) : left m c (Proc.devRef .tc r) = entry m c (Proc.devRef .tc r) :=
  (after_of_writes_sub _ _ condOps_writes hc).trans (trip_keeps m c hc hw 6000)

/-- The boxes at the best positions. -/
def best (c : Dev nD) : FVec F S6000x4 .f32 := boxes (sorted (scores (F := F) (arg m c main_arg0))) (arg m c main_arg1)

/-- The first two arrays: what the loop's entry holds. -/
theorem sorted_at (c : Dev nD) : after hostOps0_1 (after hostOps0 (launchContents m c)) (Proc.devRef .tc main_v14) = sorted (scores (F := F) (arg m c main_arg0)) :=
  pre1_sorted _ _ (pre0_scores _)
theorem table_at (c : Dev nD) : after hostOps0_1 (after hostOps0 (launchContents m c)) (Proc.devRef .tc main_arg1) = arg m c main_arg1 :=
  (pre1_keeps _ (by decide)).trans (pre0_keeps _ (by decide))
theorem entry_boxes (c : Dev nD) : entry m c (Proc.devRef .tc main_v22) = best m c := by
  rw [entry_eq]
  exact (pre2_boxes _).trans (congrArg₂ boxes (sorted_at m c) (table_at m c))
theorem entry_0 (c : Dev nD) : entry m c (Proc.devRef .tc main_v36_0) = best m c := by
  rw [entry_eq]
  exact (pre2_0 _).trans (congrArg₂ boxes (sorted_at m c) (table_at m c))
theorem entry_1 (c : Dev nD) : entry m c (Proc.devRef .tc main_v36_1) = areas (best m c) := by
  rw [entry_eq]
  exact (pre2_1 _).trans (congrArg areas (congrArg₂ boxes (sorted_at m c) (table_at m c)))
theorem entry_2 (c : Dev nD) : entry m c (Proc.devRef .tc main_v36_2) = (iotaInDim S6000 32 0 : IVec S6000 32) := by
  rw [entry_eq]; exact pre2_2 _
theorem entry_4 (c : Dev nD) : entry m c (Proc.devRef .tc main_v36_4) = (constantI S_ 32 0#32 : IVec S_ 32) := by
  rw [entry_eq]; exact pre2_4 _
theorem entry_5 (c : Dev nD) : entry m c (Proc.devRef .tc main_v36_5) = (broadcastInDim S6000 ![] bcast_S_S6000 (constantI S_ 1 1#1) : IVec S6000 1) := by
  rw [entry_eq]; exact pre2_5 _

/-- The marks the loop leaves. -/
abbrev marks (c : Dev nD) : IVec S6000 1 := (STEP^[6000] (entry m c)) (Proc.devRef .tc main_v36_5)

theorem left_marks (c : Dev nD) : left m c (Proc.devRef .tc main_v36_5) = marks m c :=
  (cond_keeps _ _ (by decide)).trans (atK_agree m c 6000 _ (by decide))

/-- The arrays written before the last two stretches, and in all. -/
abbrev loopW : List (Ref sig .tc) := hostOps0_W ++ hostOps0_1_W ++ hostOps0_2_W ++ condOps_W ++ while0Ops0_W ++ sortW ++ pickW

theorem before_dense (c : Dev nD) {r : Ref sig .tc} (h : r ∉ loopW) :
    after pickOps (after hostOps0_4 (after hostOps0_3 (left m c))) (Proc.devRef .tc r) = arg m c r := by
  simp only [loopW, List.mem_append, not_or] at h
  obtain ⟨⟨⟨⟨⟨⟨h0, h1⟩, h2⟩, h3⟩, h4⟩, h5⟩, h6⟩ := h
  exact (pick_keeps _ h6).trans ((sort_keeps _ h5).trans ((left_keeps m c h3 h4).trans (entry_arg m c h0 h1 h2)))

theorem ends_arg (c : Dev nD) {r : Ref sig .tc} (h : r ∉ loopW) (hd : r ∉ denseW) (he : r ∉ decodeW) : ends m c (Proc.devRef .tc r) = arg m c r := by
  rw [ends_eq]
  exact (decode_keeps _ he).trans ((dense_keeps _ hd).trans (before_dense m c h))

/-- The selected boxes. -/
theorem kept_at (c : Dev nD) : after pickOps (after hostOps0_4 (after hostOps0_3 (left m c))) (Proc.devRef .tc main_v47)
    = picked (keptFirst (marks m c)) (best m c) := by
  refine (pick_boxes _).trans (congrArg₂ picked ?_ ?_)
  · exact (sort_order _).trans (congrArg keptFirst (left_marks m c))
  · exact (sort_keeps _ (by decide)).trans ((left_keeps m c (by decide) (by decide)).trans (entry_boxes m c))

/-- The class scores, -/
theorem ends_cls (c : Dev nD) : ends m c (Proc.devRef .tc main_v60)
    = cls (hidden (arg m c main_arg2) (arg m c main_arg3) (arg m c main_arg4) (arg m c main_arg5) (arg m c main_arg6)) (arg m c main_arg7) (arg m c main_arg8) := by
  rw [ends_eq]
  refine (decode_keeps _ (by decide)).trans ((dense_cls _).trans ?_)
  rw [before_dense m c (r := main_arg2) (by decide), before_dense m c (r := main_arg3) (by decide), before_dense m c (r := main_arg4) (by decide),
    before_dense m c (r := main_arg5) (by decide), before_dense m c (r := main_arg6) (by decide), before_dense m c (r := main_arg7) (by decide),
    before_dense m c (r := main_arg8) (by decide)]

/-- and the boxes. -/
theorem ends_boxes (c : Dev nD) : ends m c (Proc.devRef .tc main_v131)
    = decoded (shapeCast S21x128x4 (reg (hidden (arg m c main_arg2) (arg m c main_arg3) (arg m c main_arg4) (arg m c main_arg5) (arg m c main_arg6))
        (arg m c main_arg9) (arg m c main_arg10)) shapeCasts_S128x84_S21x128x4) (picked (keptFirst (marks m c)) (best m c)) := by
  rw [ends_eq]
  refine (decode_boxes _).trans (congrArg₂ decoded ((dense_reg _).trans ?_) ((dense_keeps _ (by decide)).trans (kept_at m c)))
  rw [before_dense m c (r := main_arg2) (by decide), before_dense m c (r := main_arg3) (by decide), before_dense m c (r := main_arg4) (by decide),
    before_dense m c (r := main_arg5) (by decide), before_dense m c (r := main_arg6) (by decide), before_dense m c (r := main_arg9) (by decide),
    before_dense m c (r := main_arg10) (by decide)]

end Cert.Proof.Ref

end
-- ==== Proof.Equation.lean ====
/-
  The sorted rows' equation: over the extended reals the reference's 6000 boxes are the first 6000 rows the program gathers. The
  reference sorts the negated scores, smallest first; the program takes the greatest scores first. Both sorts are stable and
  order the positions alike, so the positions agree.
-/
module

public import proofs.«01_k».proof.Proof.Values
public import proofs.«01_k».proof.Proof.Rows
public import proofs.«01_k».proof.Proof.RowGather
public import proofs.«01_k».proof.Proof.RefRun

@[expose] public section

noncomputable section

namespace Cert.Proof.Equation

open Cert.ReferenceIdeal Cert.ReferenceIdeal.Gen
open Idealize.ShloMosaic Idealize.SL.Sem
open Cert.Proof.Gather (scores order pos row flatList flatTable gat rowsOf along_rank1)

/-- The reference's comparison of two negated scores is the kernel's comparison of the scores. -/
theorem comparator_eq (a b : Ideal .f32) (u v : BitVec 32) :
    comparator_f32_i32_d0 (F := Ideal) (FloatOps.negf a, u) (FloatOps.negf b, v) = FloatOps.cmpfTotal .gt a b := by
  have hz : (FloatOps.ofBits .f32 0x00000000#32 : Ideal .f32) = 0 := Ideal.ofBits_zero_f32
  have hsel : ∀ x : Ideal .f32, Scalar.select (FloatOps.cmpf .une x x) (FloatOps.ofBits .f32 0x7FC00000#32 : Ideal .f32)
      (Scalar.select (FloatOps.cmpf .oeq x (FloatOps.ofBits .f32 0x00000000#32)) (FloatOps.ofBits .f32 0x00000000#32) x) = x := by
    intro x
    rw [hz, show FloatOps.cmpf .une x x = BitVec.ofBool (decide (x ≠ x)) from rfl,
      show FloatOps.cmpf .oeq x (0 : Ideal .f32) = BitVec.ofBool (decide (x = 0)) from rfl]
    by_cases h : x = 0 <;> simp [Scalar.select, h]
  unfold comparator_f32_i32_d0
  simp only [hsel]
  show BitVec.ofBool (decide (-(a : EReal) < -b)) = BitVec.ofBool (decide ((b : EReal) < a))
  exact congrArg BitVec.ofBool (decide_eq_decide.mpr EReal.neg_lt_neg_iff)

theorem sorted_apply (s : FVec Ideal S20000 .f32) (p : Fin 6000) :
    Ref.sorted s (ix1 ⟨p.val, by omega⟩) = BitVec.ofNat 32 (pos (F := Ideal) s p).val := by
  unfold Ref.sorted pos
  simp only [Host.sort2, show (0 : ℕ) < S20000.rank from Nat.one_pos, ↓reduceDIte, iotaInDim, Host.negf, Ideal.hostNegf_def, comparator_eq]
  have e : ∀ (j : S20000.Idx) (k : Fin 20000), j.along (⟨0, Nat.one_pos⟩ : Fin S20000.rank) k = ix1 k := fun j k => along_rank1 j k
  have e' : (fun k k' : Fin 20000 => FloatOps.cmpfTotal .gt
      (s (Shape.Idx.along (s := S20000) (ix1 ⟨p.val, by omega⟩) ⟨0, Nat.one_pos⟩ k) : Ideal .f32)
      (s (Shape.Idx.along (s := S20000) (ix1 ⟨p.val, by omega⟩) ⟨0, Nat.one_pos⟩ k')) == 1#1)
      = fun k k' => FloatOps.cmpfTotal .gt (s (ix1 k) : Ideal .f32) (s (ix1 k')) == 1#1 := by
    funext k k'; rw [e, e]
  refine congrArg (BitVec.ofNat 32) ?_
  refine (congrArg (fun i : S20000.Idx => (i 0).val) (e _ _)).trans ?_
  exact congrArg Fin.val (congrArg₂ (sortedFrom (n := 20000)) e' rfl)

/-- A small word read as a signed number. -/
theorem toInt_small (n : ℕ) (h : n < 20000) : (BitVec.ofNat 32 n).toInt = n := by
  rw [BitVec.toInt_eq_toNat_of_lt (by rw [BitVec.toNat_ofNat]; omega), BitVec.toNat_ofNat, Nat.mod_eq_of_lt (by omega)]

theorem top_apply (s : FVec Ideal S20000 .f32) (p : Fin 6000) :
    Ref.top (Ref.sorted s) (ix1 p) = BitVec.ofNat 32 (pos (F := Ideal) s p).val := by
  unfold Ref.top
  pointwise
  rw [sorted_apply]
  have hp := (pos (F := Ideal) s p).isLt
  generalize (pos (F := Ideal) s p).val = n at hp
  have h : IntOp.cmpi .slt (BitVec.ofNat 32 n) 0#32 = 0#1 := by
    have : ¬ (BitVec.ofNat 32 n).toInt < 0 := by rw [toInt_small n hp]; omega
    simp [IntOp.cmpi, BitVec.slt, this]
  rw [h]
  rfl

/-- The reference's boxes, row by row. -/
theorem boxes_apply (s : FVec Ideal S20000 .f32) (r : FVec Ideal S20000x4 .f32) (p : Fin 6000) (c : Fin 4) :
    Ref.boxes (Ref.sorted s) r (ix2 p c) = r (ix2 (pos (F := Ideal) s p) c) := by
  unfold Ref.boxes
  refine (RowGather.gather_rows (N := 20000) (C := 4) (B := 6000) (by decide) _ r _ (ix2 p c)).trans ?_
  have hi : broadcastInDim S6000x1 ![0] bcast_S6000_S6000x1_0 (Ref.top (Ref.sorted s)) (ix2 p 0) = BitVec.ofNat 32 (pos (F := Ideal) s p).val := by
    pointwise
    exact top_apply s p
  refine congrArg (fun q => r (ix2 q c)) (Fin.ext ?_)
  have hp := (pos (F := Ideal) s p).isLt
  show min (broadcastInDim S6000x1 ![0] bcast_S6000_S6000x1_0 (Ref.top (Ref.sorted s)) (ix2 p 0)).toInt.toNat 19999 = _
  rw [hi, toInt_small _ hp, Int.toNat_natCast]
  omega

/-- The program's first 6000 rows are the reference's boxes. -/
theorem rows_boxes (s : FVec Ideal S20000 .f32) (r : FVec Ideal S20000x4 .f32) (i : Fin 6144) (hi : i.val < 6000) (c : Fin 4) :
    rowsOf (F := Ideal) (gat (flatList (F := Ideal) (order (F := Ideal) s)) (flatTable (F := Ideal) r)) (ix2 i c)
      = Ref.boxes (Ref.sorted s) r (ix2 ⟨i.val, hi⟩ c) := by
  refine (Cert.Proof.Gather.rows_apply (F := Ideal) s r i c).trans ((boxes_apply s r ⟨i.val, hi⟩ c).trans ?_).symm
  unfold row
  rw [dif_pos hi]

end Cert.Proof.Equation

end
-- ==== Proof.Dense.lean ====
/-
  The dense layers' equation: over the extended reals the program's class scores and box deltas are the reference's. Both are the
  same three layers; the reference's are whole matrix products, each with its bias added.
-/
module

public import proofs.«01_k».proof.Proof.Values
public import proofs.«01_k».proof.Proof.RefRun

@[expose] public section

noncomputable section

namespace Cert.Proof.Equation

open Cert.ReferenceIdeal Cert.ReferenceIdeal.Gen
open Idealize.ShloMosaic Idealize.SL.Sem
open Cert.Proof.Gather (layer1 layer2)

theorem refLayer1_apply (x : FVec Ideal S128x25088 .f32) (w : FVec Ideal S25088x4096 .f32) (b : FVec Ideal S4096 .f32) (i : Fin 128) (l : Fin 4096) :
    addf (Host.dotGeneral dot_S128x25088_S25088x4096_S128x4096_1_0_0_1_n_n none x w)
        (broadcastInDim S128x4096 ![0, 1] bcast_S1x4096_S128x4096_0_1 (broadcastInDim S1x4096 ![1] bcast_S4096_S1x4096_1 b)) (ix2 i l)
      = layer1 x w b i l := by
  unfold layer1
  pointwise

theorem refLayer2_apply (x : FVec Ideal S128x4096 .f32) (w : FVec Ideal S4096x1024 .f32) (b : FVec Ideal S1024 .f32) (i : Fin 128) (k : Fin 1024) :
    addf (Host.dotGeneral dot_S128x4096_S4096x1024_S128x1024_1_0_0_1_n_n none x w)
        (broadcastInDim S128x1024 ![0, 1] bcast_S1x1024_S128x1024_0_1 (broadcastInDim S1x1024 ![1] bcast_S1024_S1x1024_1 b)) (ix2 i k)
      = (∑ l : Fin 4096, (x (ix2 i l) : EReal) * w (ix2 l k)) + (b (ix1 k) : EReal) := by
  pointwise

theorem refHidden_apply (p : FVec Ideal S128x512x7x7 .f32) (w1 : FVec Ideal S25088x4096 .f32) (b1 : FVec Ideal S4096 .f32)
    (w2 : FVec Ideal S4096x1024 .f32) (b2 : FVec Ideal S1024 .f32) (i : Fin 128) (k : Fin 1024) :
    Ref.hidden p w1 b1 w2 b2 (ix2 i k)
      = layer2 (shapeCast S128x25088 p shapeCasts_S128x512x7x7_S128x25088) w1 b1 w2 b2 i k := by
  unfold Ref.hidden layer2
  refine (refLayer2_apply _ w2 b2 i k).trans ?_
  refine congrArg (fun u : EReal => u + (b2 (ix1 k) : EReal)) (Finset.sum_congr rfl fun l _ => ?_)
  exact congrArg (fun u : EReal => u * (w2 (ix2 l k) : EReal)) (refLayer1_apply _ w1 b1 i l)

theorem refCls_apply (h : FVec Ideal S128x1024 .f32) (w : FVec Ideal S1024x21 .f32) (b : FVec Ideal S21 .f32) (i : Fin 128) (j : Fin 21) :
    Ref.cls h w b (ix2 i j) = (∑ k : Fin 1024, (h (ix2 i k) : EReal) * w (ix2 k j)) + (b (ix1 j) : EReal) := by
  unfold Ref.cls
  pointwise

theorem refReg_apply (h : FVec Ideal S128x1024 .f32) (w : FVec Ideal S1024x84 .f32) (b : FVec Ideal S84 .f32) (i : Fin 128) (j : Fin 84) :
    Ref.reg h w b (ix2 i j) = (∑ k : Fin 1024, (h (ix2 i k) : EReal) * w (ix2 k j)) + (b (ix1 j) : EReal) := by
  unfold Ref.reg
  pointwise

variable (μ : (ℓ : Loc Cert.KernelIdeal.nD Cert.KernelIdeal.τ Cert.KernelIdeal.sig) → Buf (Elt Ideal) ℓ)

/-- The class scores. -/
theorem equation_cls (c : Dev Cert.KernelIdeal.nD) :
    (Gather.V₁₁ μ c (Proc.devRef .tc Cert.KernelIdeal.main_v34_0) : FVec Ideal S128x21 .f32)
      = Ref.cls (F := Ideal) (Ref.hidden (F := Ideal) (Gather.arg μ c Cert.KernelIdeal.main_arg2) (Gather.arg μ c Cert.KernelIdeal.main_arg3) (Gather.arg μ c Cert.KernelIdeal.main_arg4)
          (Gather.arg μ c Cert.KernelIdeal.main_arg5) (Gather.arg μ c Cert.KernelIdeal.main_arg6))
          (Gather.arg μ c Cert.KernelIdeal.main_arg7) (Gather.arg μ c Cert.KernelIdeal.main_arg8) := by
  funext y
  rw [ValueIdx.eq_ix2 y]
  refine (Gather.cls_apply μ c (y 0) (y 1)).trans ?_
  refine Eq.trans ?_ (refCls_apply _ _ _ (y 0) (y 1)).symm
  refine congrArg (fun u : EReal => u + ((Gather.arg μ c Cert.KernelIdeal.main_arg8 : FVec Ideal S21 .f32) (ix1 (y 1)) : EReal)) (Finset.sum_congr rfl fun k _ => ?_)
  exact congrArg (fun u : EReal => u * ((Gather.arg μ c Cert.KernelIdeal.main_arg7 : FVec Ideal S1024x21 .f32) (ix2 k (y 1)) : EReal)) (refHidden_apply _ _ _ _ _ (y 0) k).symm

/-- The box deltas, before their reshaping. -/
theorem equation_reg (c : Dev Cert.KernelIdeal.nD) :
    (Gather.Head.regOut (fun c b => Gather.V₇ μ c (Proc.devRef .tc b)) c : FVec Ideal S128x84 .f32)
      = Ref.reg (F := Ideal) (Ref.hidden (F := Ideal) (Gather.arg μ c Cert.KernelIdeal.main_arg2) (Gather.arg μ c Cert.KernelIdeal.main_arg3) (Gather.arg μ c Cert.KernelIdeal.main_arg4)
          (Gather.arg μ c Cert.KernelIdeal.main_arg5) (Gather.arg μ c Cert.KernelIdeal.main_arg6))
          (Gather.arg μ c Cert.KernelIdeal.main_arg9) (Gather.arg μ c Cert.KernelIdeal.main_arg10) := by
  funext y
  rw [ValueIdx.eq_ix2 y]
  refine (Gather.reg_apply μ c (y 0) (y 1)).trans ?_
  refine Eq.trans ?_ (refReg_apply _ _ _ (y 0) (y 1)).symm
  refine congrArg (fun u : EReal => u + ((Gather.arg μ c Cert.KernelIdeal.main_arg10 : FVec Ideal S84 .f32) (ix1 (y 1)) : EReal)) (Finset.sum_congr rfl fun k _ => ?_)
  exact congrArg (fun u : EReal => u * ((Gather.arg μ c Cert.KernelIdeal.main_arg9 : FVec Ideal S1024x84 .f32) (ix2 k (y 1)) : EReal)) (refHidden_apply _ _ _ _ _ (y 0) k).symm

end Cert.Proof.Equation

end
-- ==== Proof.NmsPay.lean ====
/-
  The suppression's computations at an element, over the extended reals.
-/
module

public import proofs.«01_k».proof.Proof.Nms
public import Idealize.ShloMosaic.Lib.Pointwise
public import Idealize.ShloMosaic.Lib.ValueLayout

@[expose] public section

noncomputable section

namespace Cert.Proof.Gather.Nms

open Cert.KernelIdeal Cert.KernelIdeal.Gen
open Idealize Idealize.ShloMosaic
open scoped Classical

/-- A box: its upper, left, lower and right borders. -/
abbrev Box := Fin 4 → EReal
/-- The area two boxes share. -/
def shared (a b : Box) : EReal := max (min (a 2) (b 2) - max (a 0) (b 0)) 0 * max (min (a 3) (b 3) - max (a 1) (b 1)) 0
/-- A box's area. -/
def size (a : Box) : EReal := (a 2 - a 0) * (a 3 - a 1)
/-- The shared area's part of the boxes' union is over the threshold. -/
def Overlaps (a b : Box) : Prop :=
  Ideal.ofBits .f32 1060320051#32 < Ideal.div (shared a b) (size a + size b - shared a b + Ideal.ofBits .f32 814313567#32)
/-- The box in a block's row `p`. -/
def bx (r : Vec Ideal S256x4 .f32) (p : Fin 256) : Box := fun c => r (ix2 p c)

theorem word_bool (P : Prop) [Decidable P] : (FloatOps.sitofp (F := Ideal) .f32 (BitVec.setWidth 32 (BitVec.ofBool (decide P))) : EReal) = if P then 1 else 0 := by
  by_cases h : P
  · have e : (BitVec.setWidth 32 (BitVec.ofBool (decide P))).toInt = 1 := by rw [decide_eq_true h]; decide
    show (((BitVec.setWidth 32 (BitVec.ofBool (decide P))).toInt : ℝ) : EReal) = _
    rw [e, if_pos h]; norm_num
  · have e : (BitVec.setWidth 32 (BitVec.ofBool (decide P))).toInt = 0 := by rw [decide_eq_false h]; decide
    show (((BitVec.setWidth 32 (BitVec.ofBool (decide P))).toInt : ℝ) : EReal) = _
    rw [e, if_neg h]; norm_num

theorem word_nat (n : ℕ) (h : n < 2 ^ 31) : (FloatOps.sitofp (F := Ideal) .f32 (BitVec.ofNat 32 n) : EReal) = ((n : ℝ) : EReal) := by
  show (((BitVec.ofNat 32 n).toInt : ℝ) : EReal) = _
  rw [show (BitVec.ofNat 32 n).toInt = (n : ℤ) from by
    rw [BitVec.toInt_eq_toNat_of_lt (by rw [BitVec.toNat_ofNat]; omega), BitVec.toNat_ofNat, Nat.mod_eq_of_lt (by omega)]]
  norm_num

theorem andi_bool (P Q : Prop) [Decidable P] [Decidable Q] : IntOp.andi (BitVec.ofBool (decide P)) (BitVec.ofBool (decide Q)) = BitVec.ofBool (decide (P ∧ Q)) := by
  by_cases hP : P <;> by_cases hQ : Q <;> simp only [hP, hQ, decide_true, decide_false, and_self, and_true, and_false, false_and] <;> rfl

theorem select_bool {α : Type} (P : Prop) [Decidable P] (a b : α) : Scalar.select (BitVec.ofBool (decide P)) a b = if P then a else b := by
  by_cases h : P <;> simp only [h, decide_true, decide_false, if_true, if_false] <;> rfl

theorem valid_eq (n : ℕ) (hn : n < 24) (q : Fin 256) :
    IntOp.cmpi CmpIPredicate.slt (IntOp.addi (Scalar.muli (Scf.iv (0#32) (1#32) n) 256#32) (BitVec.ofNat 32 q.val)) 6000#32
      = BitVec.ofBool (decide (256 * n + q.val < 6000)) := by
  have e : IntOp.addi (Scalar.muli (Scf.iv (0#32) (1#32) n) 256#32) (BitVec.ofNat 32 q.val) = BitVec.ofNat 32 (256 * n + q.val) := by
    apply BitVec.eq_of_toNat_eq
    simp only [IntOp.addi, Scalar.muli, IntOp.muli, Scf.iv, BitVec.toNat_add, BitVec.toNat_mul, BitVec.toNat_ofNat]
    omega
  rw [e]
  show BitVec.ofBool ((BitVec.ofNat 32 (256 * n + q.val)).slt 6000#32) = _
  congr 1
  rw [BitVec.slt_eq_decide, BitVec.toInt_eq_toNat_of_lt (by rw [BitVec.toNat_ofNat]; omega), BitVec.toNat_ofNat, Nat.mod_eq_of_lt (by omega)]
  congr 1
  rw [show (6000#32).toInt = 6000 from by decide]
  apply propext; omega

theorem inner_apply (r : Vec Ideal S256x4 .f32) (p q : Fin 256) :
    inner (F := Ideal) r (ix2 p q) = if Overlaps (bx r p) (bx r q) ∧ p.val < q.val then (1 : EReal) else 0 := by
  unfold inner k1_pay5 k1_pay3 k1_pay4 k1_pay29 k1_pay30 k1_pay31 k1_pay32
  unfold k1_pay16 k1_pay17 k1_pay18 k1_pay19 k1_pay25 k1_pay26 k1_pay27 k1_pay28 k1_pay15 k1_pay24
  pointwise
  rw [word_nat _ (by omega), word_nat _ (by omega), andi_bool, word_bool]
  refine if_congr (and_congr Iff.rfl ?_) rfl rfl
  rw [EReal.coe_lt_coe_iff, Nat.cast_lt]

theorem pay21_apply (acc row : Vec Ideal S1x256 .f32) (r b : Vec Ideal S256x4 .f32) (q : Fin 256) :
    (k1_pay21 (F := Ideal) r acc b row (ix2 0 q) : EReal)
      = acc (ix2 0 q) + ∑ p : Fin 256, row (ix2 0 p) * (if Overlaps (bx b p) (bx r q) then (1 : EReal) else 0) := by
  unfold k1_pay21 k1_pay16 k1_pay17 k1_pay18 k1_pay19 k1_pay15
  pointwise
  simp only [word_bool]
  refine congrArg (fun z : EReal => acc (ix2 0 q) + z) (Finset.sum_congr rfl fun p _ => ?_)
  refine congrArg (fun z : EReal => row (ix2 0 p) * z) (if_congr Iff.rfl rfl rfl)

theorem pay23_apply (n : ℕ) (hn : n < 24) (acc : Vec Ideal S1x256 .f32) (q : Fin 256) :
    k1_pay23 (F := Ideal) lanes (Scf.iv 0#32 1#32 n) acc (ix2 0 q) = if acc (ix2 0 q) = (0 : EReal) ∧ 256 * n + q.val < 6000 then (1 : EReal) else 0 := by
  unfold k1_pay23 lanes
  pointwise
  rw [valid_eq n hn q, andi_bool, select_bool]

theorem pay13_apply (M : Vec Ideal S256x256 .f32) (p k : Vec Ideal S1x256 .f32) (q : Fin 256) :
    k1_pay13 (F := Ideal) M p k (ix2 0 q) = if ∑ i : Fin 256, (k (ix2 0 i) * M (ix2 i q) : EReal) = 0 then p (ix2 0 q) else (0 : EReal) := by
  unfold k1_pay13
  pointwise

theorem pay14_apply (M : Vec Ideal S256x256 .f32) (p k : Vec Ideal S1x256 .f32) :
    (k1_pay14 (F := Ideal) M p k : EReal)
      = ∑ q : Fin 256, max ((k1_pay13 (F := Ideal) M p k (ix2 0 q) : EReal) - k (ix2 0 q)) (-((k1_pay13 (F := Ideal) M p k (ix2 0 q) : EReal) - k (ix2 0 q))) := by
  unfold k1_pay14
  pointwise
  rw [Fin.sum_univ_one]
  rfl

theorem pay7_apply (k : Vec Ideal S1x256 .f32) (c : Ideal .f32) : (k1_pay7 (F := Ideal) k c : EReal) = c + ∑ q : Fin 256, (k (ix2 0 q) : EReal) := by
  unfold k1_pay7
  pointwise
  rw [Fin.sum_univ_one]
theorem pay11_apply (k : Vec Ideal S1x256 .f32) (c : Ideal .f32) : (k1_pay11 (F := Ideal) c k : EReal) = c + ∑ q : Fin 256, (k (ix2 0 q) : EReal) := by
  unfold k1_pay11
  pointwise
  rw [Fin.sum_univ_one]
theorem pay12_apply (k : Vec Ideal S1x256 .f32) (c : Ideal .f32) : (k1_pay12 (F := Ideal) c k : EReal) = c + ∑ q : Fin 256, (k (ix2 0 q) : EReal) := by
  unfold k1_pay12
  pointwise
  rw [Fin.sum_univ_one]

theorem pay34_apply (n : ℕ) (hn : n < 24) (row : Vec Ideal S1x256 .f32) (q : Fin 256) :
    k1_pay34 (F := Ideal) lanes (Scf.iv 0#32 1#32 n) row (ix2 0 q) = if 256 * n + q.val < 6000 then (1 : EReal) - row (ix2 0 q) else 0 := by
  unfold k1_pay34 k1_pay33 lanes
  pointwise
  rw [valid_eq n hn q, select_bool]

theorem pay33_apply (n : ℕ) (hn : n < 24) (q : Fin 256) :
    k1_pay33 lanes (Scf.iv 0#32 1#32 n) (ix2 0 q) = BitVec.ofBool (decide (256 * n + q.val < 6000)) := by
  unfold k1_pay33 lanes
  pointwise
  rw [valid_eq n hn q]

theorem pay8_apply (p q : Fin 256) : k1_pay8 (F := Ideal) (ix2 p q) = if p.val ≤ q.val then (1 : EReal) else 0 := by
  unfold k1_pay8 k1_pay3 k1_pay4
  pointwise
  rw [word_nat _ (by omega), word_nat _ (by omega)]
  refine if_congr ?_ rfl rfl
  rw [EReal.coe_le_coe_iff, Nat.cast_le]

theorem pay9_apply (q : Fin 128) : k1_pay9 (F := Ideal) (ix2 q 0) = ((q.val : ℝ) : EReal) := by
  unfold k1_pay9
  pointwise
  exact word_nat _ (by omega)

theorem pay36_apply (n : ℕ) (hn : n < 24) (row : Vec Ideal S1x256 .f32) (kt kb sb : Ideal .f32) (b : Vec Ideal S256x4 .f32) (q : Fin 128) (ch : Fin 4) :
    (k1_pay36 (F := Ideal) lanes kt k1_pay8 k1_pay9 (Scf.iv 0#32 1#32 n) kb sb row b (ix2 q ch) : EReal)
      = ∑ x : Fin 256, if (if (0 : EReal) < row (ix2 0 x) then
            (kb : EReal) + (∑ p : Fin 256, (row (ix2 0 p) : EReal) * (if p.val ≤ x.val then (1 : EReal) else 0)) - 1
          else (kt : EReal) + sb + (∑ p : Fin 256, (if 256 * n + p.val < 6000 then (1 : EReal) - row (ix2 0 p) else 0) * (if p.val ≤ x.val then (1 : EReal) else 0)) - 1)
            = ((q.val : ℝ) : EReal) ∧ 256 * n + x.val < 6000 then b (ix2 x ch) else (0 : EReal) := by
  unfold k1_pay36
  pointwise
  simp only [pay33_apply n hn, pay34_apply n hn, pay8_apply, pay9_apply, andi_bool, select_bool]

theorem pay10_apply (a b : Vec Ideal S128x4 .f32) (q : Fin 128) (ch : Fin 4) :
    (k1_pay10 (F := Ideal) (k1_pay35 a) b (ix2 q ch) : EReal) = a (ix2 q ch) + b (ix2 q ch) := by
  unfold k1_pay10 k1_pay35
  pointwise

end Cert.Proof.Gather.Nms
end
-- ==== Proof.Greedy.lean ====
/-
  The greedy choice among 6000 boxes in order, free of any program: a box is kept when no kept box before it overlaps it. The
  kept boxes in order, then the others in order, each has a place (`slot`); the places are the positions of the stable sort
  that puts the kept boxes first, and a choice that stopped early after 128 kept boxes places the first 128 alike.
-/
module

public import Mathlib.Data.Nat.Count
public import Mathlib.Order.Interval.Finset.Nat
public import Idealize.ShloMosaic.Lib.SortFacts

@[expose] public section

noncomputable section

namespace Cert.Proof.Greedy

open scoped Classical
open Idealize.ShloMosaic

variable (ovl : ℕ → ℕ → Prop)

/-- Box `j` is kept: it is one of the 6000, and no kept box before it overlaps it. -/
def Keep (j : ℕ) : Prop := j < 6000 ∧ ∀ i, i < j → Keep i → ¬ ovl i j
termination_by j

theorem keep_iff (j : ℕ) : Keep ovl j ↔ j < 6000 ∧ ∀ i, i < j → Keep ovl i → ¬ ovl i j := by rw [Keep]

/-- The boxes left over. -/
def Left (P : ℕ → Prop) (j : ℕ) : Prop := j < 6000 ∧ ¬ P j

/-- Box `j`'s place, when `P` says which are kept and the others come behind `kt` of them. -/
def slot (P : ℕ → Prop) (kt j : ℕ) : ℕ := if P j then Nat.count P j else kt + Nat.count (Left P) j

/-! ## The mask, one box at a time -/

/-- The mask after `k` boxes have struck those they overlap. -/
def mask : ℕ → ℕ → Prop
  | 0, _ => True
  | k + 1, j => mask k j ∧ ¬ ((ovl k j ∧ k < j) ∧ mask k k)

theorem mask_iff (k : ℕ) (hk : k ≤ 6000) (j : ℕ) : mask ovl k j ↔ ∀ i, i < k → i < j → Keep ovl i → ¬ ovl i j := by
  induction k generalizing j with
  | zero => exact ⟨fun _ i hi => absurd hi (Nat.not_lt_zero _), fun _ => trivial⟩
  | succ k ih =>
    have hkk : mask ovl k k ↔ Keep ovl k := by
      rw [ih (by omega) k, keep_iff]
      exact ⟨fun h => ⟨by omega, fun i hi => h i hi hi⟩, fun h i hi _ => h.2 i hi⟩
    show (mask ovl k j ∧ ¬ ((ovl k j ∧ k < j) ∧ mask ovl k k)) ↔ _
    rw [hkk, ih (by omega) j]
    constructor
    · rintro ⟨h, h'⟩ i hi hij hK ho
      rcases Nat.lt_succ_iff_lt_or_eq.mp hi with hi | rfl
      · exact h i hi hij hK ho
      · exact h' ⟨⟨ho, hij⟩, hK⟩
    · intro h
      exact ⟨fun i hi => h i (by omega), fun h' => h k (by omega) h'.1.2 h'.2 h'.1.1⟩

theorem mask_all (j : ℕ) (hj : j < 6000) : mask ovl 6000 j ↔ Keep ovl j := by
  rw [mask_iff ovl 6000 le_rfl j, keep_iff]
  exact ⟨fun h => ⟨hj, fun i hi => h i (by omega) hi⟩, fun h i _ hij => h.2 i hij⟩

/-! ## Places -/

section places
variable (P : ℕ → Prop) (hP : ∀ j, P j → j < 6000)
include hP

theorem count_beyond (n : ℕ) (hn : 6000 ≤ n) : Nat.count P n = Nat.count P 6000 := by
  induction n, hn using Nat.le_induction with
  | base => rfl
  | succ n hn ih => rw [Nat.count_succ, if_neg (fun h => absurd (hP n h) (by omega)), ih, Nat.add_zero]

omit hP in
theorem count_both (n : ℕ) (hn : n ≤ 6000) : Nat.count P n + Nat.count (Left P) n = n := by
  induction n with
  | zero => rfl
  | succ n ih =>
    have := ih (by omega)
    rw [Nat.count_succ, Nat.count_succ]
    by_cases h : P n
    · rw [if_pos h, if_neg (fun h' : Left P n => h'.2 h)]; omega
    · rw [if_neg h, if_pos (show Left P n from ⟨by omega, h⟩)]; omega

/-- Which of two boxes comes first. -/
def First (i j : ℕ) : Prop := (P i ∧ ¬ P j) ∨ ((P i ↔ P j) ∧ i < j)

theorem slot_lt (i j : ℕ) (hi : i < 6000) (h : First P i j) : slot P (Nat.count P 6144) i < slot P (Nat.count P 6144) j := by
  unfold slot
  rcases h with ⟨hPi, hPj⟩ | ⟨hij, hlt⟩
  · rw [if_pos hPi, if_neg hPj]
    have := Nat.count_strict_mono (p := P) hPi (show i < 6144 by omega)
    omega
  · by_cases hPi : P i
    · rw [if_pos hPi, if_pos (hij.mp hPi)]
      exact Nat.count_strict_mono hPi hlt
    · rw [if_neg hPi, if_neg (fun h => hPi (hij.mpr h))]
      have := Nat.count_strict_mono (p := Left P) (show Left P i from ⟨hi, hPi⟩) hlt
      omega

theorem slot_bound (j : ℕ) (hj : j < 6000) : slot P (Nat.count P 6144) j < 6000 := by
  unfold slot
  split
  · have := Nat.count_le (p := P) (n := j); omega
  · rename_i h
    rw [count_beyond P hP 6144 (by omega)]
    have h1 := count_both P 6000 le_rfl
    have h2 := Nat.count_strict_mono (p := Left P) (show Left P j from ⟨hj, h⟩) hj
    omega

/-- A listing of the boxes in their order gives every box its place. -/
theorem slot_listed (σ : Fin 6000 → Fin 6000) (h : ∀ a b : Fin 6000, a < b → First P (σ a).val (σ b).val) (a : Fin 6000) :
    slot P (Nat.count P 6144) (σ a).val = a.val := by
  have hm : ∀ a b : Fin 6000, a < b → slot P (Nat.count P 6144) (σ a).val < slot P (Nat.count P 6144) (σ b).val :=
    fun a b hab => slot_lt P hP _ _ (σ a).isLt (h a b hab)
  have lo : ∀ (n : ℕ) (hn : n < 6000), n ≤ slot P (Nat.count P 6144) (σ ⟨n, hn⟩).val := by
    intro n
    induction n with
    | zero => intro _; exact Nat.zero_le _
    | succ n ih =>
      intro hn
      have := ih (by omega)
      have := hm ⟨n, by omega⟩ ⟨n + 1, hn⟩ (by simp [Fin.lt_def])
      omega
  have hi : ∀ (n : ℕ) (hn : n < 6000), slot P (Nat.count P 6144) (σ ⟨5999 - n, by omega⟩).val + n < 6000 := by
    intro n
    induction n with
    | zero => intro _; exact slot_bound P hP _ (σ _).isLt
    | succ n ih =>
      intro hn
      have := ih (by omega)
      have := hm ⟨5999 - (n + 1), by omega⟩ ⟨5999 - n, by omega⟩ (by simp only [Fin.lt_def]; omega)
      omega
  have h1 := lo a.val a.isLt
  have h2 := hi (5999 - a.val) (by omega)
  have e : (⟨5999 - (5999 - a.val), by omega⟩ : Fin 6000) = a := Fin.ext (by show 5999 - (5999 - a.val) = a.val; omega)
  rw [e] at h2
  have h3 : slot P (Nat.count P 6144) (σ a).val = slot P (Nat.count P 6144) (σ ⟨a.val, a.isLt⟩).val := rfl
  omega

end places

/-- `K` among the first `256 c` boxes only. -/
def Below (K : ℕ → Prop) (c j : ℕ) : Prop := j < 256 * c ∧ K j

/-- Stopped after `256 c` boxes with 128 kept, the first 128 places are the same. -/
theorem slot_early (K : ℕ → Prop) (c : ℕ) (hc : c ≤ 24) (h : c = 24 ∨ 128 ≤ Nat.count K (256 * c)) (q : ℕ) (hq : q < 128)
    (j : ℕ) (hj : j < 6000) :
    slot (Below K c) (Nat.count K (256 * c)) j = q ↔ slot K (Nat.count K 6144) j = q := by
  have hcount : ∀ n, n ≤ 256 * c → Nat.count (Below K c) n = Nat.count K n := by
    intro n
    induction n with
    | zero => intro _; rfl
    | succ n ih =>
      intro hn
      rw [Nat.count_succ, Nat.count_succ, ih (by omega)]
      refine congrArg (Nat.count K n + ·) (if_congr ⟨fun h => h.2, fun h => ⟨by omega, h⟩⟩ rfl rfl)
  rcases h with rfl | h
  · have hleft : ∀ n, n ≤ 6000 → Nat.count (Left (Below K 24)) n = Nat.count (Left K) n := by
      intro n
      induction n with
      | zero => intro _; rfl
      | succ n ih =>
        intro hn
        rw [Nat.count_succ, Nat.count_succ, ih (by omega)]
        refine congrArg (Nat.count (Left K) n + ·) (if_congr ⟨fun h => ⟨h.1, fun h' => h.2 ⟨by omega, h'⟩⟩, fun h => ⟨h.1, fun h' => h.2 h'.2⟩⟩ rfl rfl)
    unfold slot
    rw [hcount j (by omega), hleft j (by omega)]
    have : Below K 24 j ↔ K j := ⟨fun h => h.2, fun h => ⟨by omega, h⟩⟩
    by_cases hK : K j
    · rw [if_pos hK, if_pos (this.mpr hK)]
    · rw [if_neg hK, if_neg (fun h => hK (this.mp h))]
  · have hk : Nat.count K (256 * c) ≤ Nat.count K 6144 := Nat.count_monotone K (by omega)
    unfold slot
    by_cases hK : K j
    · rw [if_pos hK]
      by_cases hjc : j < 256 * c
      · rw [if_pos ⟨hjc, hK⟩, hcount j (by omega)]
      · rw [if_neg (fun h : Below K c j => hjc h.1)]
        have := Nat.count_monotone K (show 256 * c ≤ j by omega)
        constructor <;> intro _ <;> omega
    · rw [if_neg hK, if_neg (fun h : Below K c j => hK h.2)]
      constructor <;> intro _ <;> omega

/-! ## The stable sort that puts the kept boxes first -/

theorem stableSort_later {n : ℕ} (R R' : Fin n → Fin n → Bool) (l : List (Fin n)) (hl : l.Pairwise (· < ·))
    (h : ∀ a b, a < b → R b a = R' b a) : stableSort R l = stableSort R' l := by
  induction l with
  | nil => rfl
  | cons a l ih =>
    rw [List.pairwise_cons] at hl
    unfold stableSort
    rw [ih hl.2]
    refine insertBefore_congr R R' a _ fun b hb => ?_
    exact h a b (hl.1 b ((perm_stableSort R' l).mem_iff.mp hb))

theorem sortedFrom_later {n : ℕ} (R R' : Fin n → Fin n → Bool) (h : ∀ a b, a < b → R b a = R' b a) : sortedFrom R = sortedFrom R' := by
  funext k
  unfold sortedFrom
  rw [List.get_of_eq (show sortPositions n R = sortPositions n R' from stableSort_later R R' _ (List.pairwise_lt_finRange n) h)]
  rfl

theorem sorted_first (P : ℕ → Prop) (a b : Fin 6000) (hab : a < b) :
    First P (sortedFrom (fun k k' : Fin 6000 => decide (P k.val ∧ ¬ P k'.val)) a).val
      (sortedFrom (fun k k' : Fin 6000 => decide (P k.val ∧ ¬ P k'.val)) b).val := by
  have e : sortedFrom (fun k k' : Fin 6000 => decide (P k.val ∧ ¬ P k'.val)) = sortedFrom (fun k k' : Fin 6000 => decide (First P k.val k'.val)) :=
    sortedFrom_later _ _ fun x y hxy => decide_eq_decide.mpr
      ⟨fun h => Or.inl h, fun h => h.elim id fun h' => absurd h'.2 (by have := Fin.lt_def.mp hxy; omega)⟩
  rw [e]
  have key : ∀ x y : Fin 6000, First P x.val y.val ∨ x = y ∨ First P y.val x.val := by
    intro x y
    unfold First
    rcases lt_trichotomy x.val y.val with h | h | h
    · by_cases hx : P x.val <;> by_cases hy : P y.val <;> simp [hx, hy, h]
    · exact Or.inr (Or.inl (Fin.ext h))
    · by_cases hx : P x.val <;> by_cases hy : P y.val <;> simp [hx, hy, h]
  have asym : ∀ x y : Fin 6000, First P x.val y.val → ¬ First P y.val x.val := by
    rintro x y (⟨h1, h2⟩ | ⟨h1, h2⟩) (⟨h3, h4⟩ | ⟨h3, h4⟩)
    · exact h2 h3
    · exact h2 (h3.mpr h1)
    · exact h4 (h1.mpr h3)
    · omega
  have trans : ∀ x y z : Fin 6000, First P x.val y.val → First P y.val z.val → First P x.val z.val := by
    intro x y z h h'
    unfold First at *
    by_cases hx : P x.val <;> by_cases hy : P y.val <;> by_cases hz : P z.val <;> simp only [hx, hy, hz, not_true, not_false_iff, and_true, and_false, true_and, false_and, false_or, or_false, iff_self, true_or, iff_true, iff_false] at * <;> omega
  have no := sortedFrom_noInversion (fun k k' : Fin 6000 => decide (First P k.val k'.val)) (fun k k' : Fin 6000 => decide (First P k.val k'.val))
    (fun x y h => decide_eq_false (asym x y (of_decide_eq_true h))) (fun _ _ h => h)
    (fun x y z h h' => by
      have h := of_decide_eq_false h
      have h' := of_decide_eq_false h'
      refine decide_eq_false fun hxz => ?_
      rcases key x y with h1 | rfl | h1
      · exact h h1
      · exact h' hxz
      · exact h' (trans y x z h1 hxz)) a b hab
  have no := of_decide_eq_false no
  rcases key (sortedFrom (fun k k' : Fin 6000 => decide (First P k.val k'.val)) a) (sortedFrom (fun k k' : Fin 6000 => decide (First P k.val k'.val)) b) with h | h | h
  · exact h
  · exact absurd (sortedFrom_injective _ h) (ne_of_lt hab)
  · exact absurd h no

end Cert.Proof.Greedy
end
-- ==== Proof.NmsValue.lean ====
/-
  The suppression over the extended reals: the stored flags are the greedy choice's, the counts count them, and the 128 rows of
  the result are the boxes in the first 128 places.
-/
module

public import proofs.«01_k».proof.Proof.NmsPay
public import proofs.«01_k».proof.Proof.Greedy

@[expose] public section

noncomputable section

namespace Cert.Proof.Gather.Nms

open Cert.KernelIdeal Cert.KernelIdeal.Gen
open Idealize Idealize.ShloMosaic
open Cert.Proof.Greedy (Keep keep_iff Left slot Below)
open scoped Classical

/-! ## Numbers and flags -/

/-- A count as an extended real. -/
def num (n : ℕ) : EReal := ((n : ℝ) : EReal)

theorem num_zero : num 0 = 0 := by simp [num]
theorem num_add (a b : ℕ) : num a + num b = num (a + b) := by unfold num; rw [Nat.cast_add, EReal.coe_add]
theorem num_succ_sub (a : ℕ) : num (a + 1) - 1 = num a := by
  unfold num
  rw [← EReal.coe_one, ← EReal.coe_sub, show ((a + 1 : ℕ) : ℝ) - 1 = a from by push_cast; ring]
theorem one_sub_one : (1 : EReal) - 1 = 0 := by rw [← EReal.coe_one, ← EReal.coe_sub, sub_self, EReal.coe_zero]
theorem num_inj (a b : ℕ) : num a = num b ↔ a = b := by unfold num; rw [EReal.coe_eq_coe_iff, Nat.cast_inj]
theorem num_lt (a b : ℕ) : num a < num b ↔ a < b := by unfold num; rw [EReal.coe_lt_coe_iff, Nat.cast_lt]
theorem word_zero : (Scalar.ofBits (F := Ideal) .f32 0x00000000#32 : EReal) = 0 := Ideal.ofBits_zero_f32
theorem word_128 : (Scalar.ofBits (F := Ideal) .f32 0x43000000#32 : EReal) = num 128 := by
  show Ideal.ofBits .f32 0x43000000#32 = num 128
  unfold num
  simp [Ideal.ofBits, Ideal.ieee, -EReal.coe_mul]; norm_num

theorem cmpf_ogt (a b : Ideal .f32) : (Scalar.cmpf (F := Ideal) .ogt a b = 1#1) ↔ (b : EReal) < a := by
  show BitVec.ofBool (decide ((b : EReal) < a)) = 1#1 ↔ _
  by_cases h : (b : EReal) < a <;> simp [h]
theorem cmpf_olt (a b : Ideal .f32) : (Scalar.cmpf (F := Ideal) .olt a b = 1#1) ↔ (a : EReal) < b := by
  show BitVec.ofBool (decide ((a : EReal) < b)) = 1#1 ↔ _
  by_cases h : (a : EReal) < b <;> simp [h]

theorem sum_flag (P : ℕ → Prop) (n : ℕ) : (∑ q : Fin n, if P q.val then (1 : EReal) else 0) = num (Nat.count P n) := by
  rw [Fin.sum_univ_eq_sum_range (fun q => if P q then (1 : EReal) else 0) n]
  induction n with
  | zero => simp [num_zero]
  | succ n ih =>
    rw [Finset.sum_range_succ, ih, Nat.count_succ, ← num_add]
    refine congrArg (fun z : EReal => num (Nat.count P n) + z) ?_
    by_cases h : P n
    · rw [if_pos h, if_pos h]; simp [num]
    · rw [if_neg h, if_neg h, num_zero]

/-- `P`, among the first `x + 1`. -/
def Upto (P : ℕ → Prop) (x p : ℕ) : Prop := P p ∧ p ≤ x

theorem sum_prefix (P : ℕ → Prop) (x : ℕ) (hx : x < 256) :
    (∑ p : Fin 256, (if P p.val then (1 : EReal) else 0) * (if p.val ≤ x then (1 : EReal) else 0)) = num (Nat.count P (x + 1)) := by
  have e : ∀ p : Fin 256, (if P p.val then (1 : EReal) else 0) * (if p.val ≤ x then (1 : EReal) else 0) = if Upto P x p.val then (1 : EReal) else 0 := by
    intro p; unfold Upto; by_cases h : P p.val <;> by_cases h' : p.val ≤ x <;> simp [h, h']
  rw [Finset.sum_congr rfl fun p _ => e p]
  refine (sum_flag (Upto P x) 256).trans (congrArg num ?_)
  rw [Nat.count_eq_card_filter_range, Nat.count_eq_card_filter_range]
  refine congrArg Finset.card (Finset.ext fun p => ?_)
  simp only [Finset.mem_filter, Finset.mem_range]
  constructor
  · rintro ⟨_, h, h'⟩; exact ⟨by omega, h⟩
  · rintro ⟨h, h'⟩; exact ⟨by omega, h', by omega⟩

/-- A row of flags. -/
def flag (P : ℕ → Prop) : Vec Ideal S1x256 .f32 := fun i => if P (i 1).val then (1 : EReal) else 0
theorem flag_at (P : ℕ → Prop) (q : Fin 256) : (flag P (ix2 0 q) : EReal) = if P q.val then 1 else 0 := rfl

theorem row_ext (a b : Vec Ideal S1x256 .f32) (h : ∀ q : Fin 256, (a (ix2 0 q) : EReal) = b (ix2 0 q)) : a = b := by
  funext i
  have e : i = ix2 0 (i 1) := by
    refine (ValueIdx.eq_ix2 i).trans ?_
    congr 1
    exact Subsingleton.elim (α := Fin 1) _ _
  rw [e]; exact h (i 1)

/-! ## The choice -/

variable (B : Vec Ideal S6144x4 .f32)

/-- Box `j`. -/
def box (j : ℕ) : Box := fun c => B (ix2 (n0 := 6144) (n1 := 4) ⟨j % 6144, Nat.mod_lt _ (by decide)⟩ c)
/-- Box `i` overlaps box `j` too much. -/
def ovl (i j : ℕ) : Prop := Overlaps (box B i) (box B j)
/-- The boxes kept. -/
abbrev Kept : ℕ → Prop := Keep (ovl B)

theorem bx_blk (n : ℕ) (p : Fin 256) : bx (blk B n) p = box B (256 * n + p.val) := rfl

/-- The flags of the first `c` blocks, and zeros behind them. -/
def flags (c : ℕ) : Vec Ideal S24x256 .f32 := fun i => if Below (Kept B) c (256 * (i 0).val + (i 1).val) then (1 : EReal) else 0

theorem row_flags (c n : ℕ) (hn : n < 24) : row (flags B c) n = flag fun p => Below (Kept B) c (256 * n + p) := by
  funext i
  show (if Below (Kept B) c (256 * (n % 24) + (i 1).val) then (1 : EReal) else 0) = if Below (Kept B) c (256 * n + (i 1).val) then (1 : EReal) else 0
  rw [Nat.mod_eq_of_lt hn]

theorem acc_apply (r : Vec Ideal S256x4 .f32) (c n : ℕ) (hc : n ≤ c) (hn : n ≤ 24) (q : Fin 256) :
    (accF B (flags B c) r n (ix2 0 q) : EReal) = ∑ i ∈ Finset.range (256 * n), if Kept B i ∧ Overlaps (box B i) (bx r q) then (1 : EReal) else 0 := by
  induction n with
  | zero =>
    show (k1_pay20 (F := Ideal) (ix2 0 q) : EReal) = _
    unfold k1_pay20
    pointwise
    simp
  | succ n ih =>
    show (k1_pay21 (F := Ideal) r (accF B (flags B c) r n) (blk B n) (row (flags B c) n) (ix2 0 q) : EReal) = _
    rw [pay21_apply, ih (by omega) (by omega), show 256 * (n + 1) = 256 * n + 256 from by ring, Finset.sum_range_add]
    refine congrArg (fun z : EReal => (∑ i ∈ Finset.range (256 * n), if Kept B i ∧ Overlaps (box B i) (bx r q) then (1 : EReal) else 0) + z) ?_
    rw [Finset.sum_range (fun p => if Kept B (256 * n + p) ∧ Overlaps (box B (256 * n + p)) (bx r q) then (1 : EReal) else 0)]
    refine Finset.sum_congr rfl fun p _ => ?_
    rw [row_flags B c n (by omega), flag_at, bx_blk]
    have hb : Below (Kept B) c (256 * n + p.val) ↔ Kept B (256 * n + p.val) := ⟨fun h => h.2, fun h => ⟨by have := p.isLt; nlinarith, h⟩⟩
    by_cases h : Kept B (256 * n + p.val) <;> by_cases h' : Overlaps (box B (256 * n + p.val)) (bx r q) <;> simp [hb, h, h']

theorem acc_zero (r : Vec Ideal S256x4 .f32) (c n : ℕ) (hc : n ≤ c) (hn : n ≤ 24) (q : Fin 256) :
    (accF B (flags B c) r n (ix2 0 q) : EReal) = 0 ↔ ∀ i, i < 256 * n → Kept B i → ¬ Overlaps (box B i) (bx r q) := by
  rw [acc_apply B r c n hc hn q, Finset.sum_eq_zero_iff_of_nonneg (fun i _ => by split <;> norm_num)]
  refine ⟨fun h i hi hk ho => ?_, fun h i hi => if_neg fun hk => h i (Finset.mem_range.mp hi) hk.1 hk.2⟩
  have := h i (Finset.mem_range.mpr hi)
  rw [if_pos ⟨hk, ho⟩] at this
  exact one_ne_zero this

/-- Not overlapped by any kept box of an earlier block. -/
def Pre (n p : ℕ) : Prop := (∀ i, i < 256 * n → Kept B i → ¬ ovl B i (256 * n + p)) ∧ 256 * n + p < 6000

theorem preF_eq (c n : ℕ) (hc : n ≤ c) (hn : n < 24) : preF B (flags B c) n = flag (Pre B n) := by
  refine row_ext _ _ fun q => ?_
  unfold preF
  rw [pay23_apply n hn, flag_at]
  refine if_congr ?_ rfl rfl
  exact and_congr ((acc_zero B _ c n hc (by omega) q).trans Iff.rfl) Iff.rfl

/-- A round within a block: a box stays when it passed the earlier blocks and no box staying before it overlaps it. -/
def Round (n : ℕ) (P : ℕ → Prop) (p : ℕ) : Prop := (∀ i, i < 256 → P i → ¬ (ovl B (256 * n + i) (256 * n + p) ∧ i < p)) ∧ Pre B n p

theorem pay13_eq (n : ℕ) (P : ℕ → Prop) : k1_pay13 (F := Ideal) (inner (blk B n)) (flag (Pre B n)) (flag P) = flag (Round B n P) := by
  refine row_ext _ _ fun q => ?_
  rw [pay13_apply, flag_at, flag_at]
  have e : ∀ i : Fin 256, ((flag P (ix2 0 i) : EReal) * inner (F := Ideal) (blk B n) (ix2 i q))
      = if P i.val ∧ (ovl B (256 * n + i.val) (256 * n + q.val) ∧ i.val < q.val) then (1 : EReal) else 0 := by
    intro i
    rw [flag_at, inner_apply, bx_blk, bx_blk]
    show (if P i.val then (1 : EReal) else 0) * (if ovl B (256 * n + i.val) (256 * n + q.val) ∧ i.val < q.val then (1 : EReal) else 0) = _
    by_cases h : P i.val <;> by_cases h' : ovl B (256 * n + i.val) (256 * n + q.val) ∧ i.val < q.val <;> simp only [h, h', if_true, if_false, mul_one, mul_zero, true_and, false_and]
  rw [Finset.sum_congr rfl fun i _ => e i]
  have hz : (∑ i : Fin 256, if P i.val ∧ (ovl B (256 * n + i.val) (256 * n + q.val) ∧ i.val < q.val) then (1 : EReal) else 0) = 0
      ↔ ∀ i, i < 256 → P i → ¬ (ovl B (256 * n + i) (256 * n + q.val) ∧ i < q.val) := by
    rw [Finset.sum_eq_zero_iff_of_nonneg (fun i _ => by split <;> norm_num)]
    refine ⟨fun h i hi hp ho => ?_, fun h i _ => if_neg fun hk => h i.val i.isLt hk.1 hk.2⟩
    have := h ⟨i, hi⟩ (Finset.mem_univ _)
    rw [if_pos ⟨hp, ho⟩] at this
    exact one_ne_zero this
  unfold Round
  by_cases h1 : ∀ i, i < 256 → P i → ¬ (ovl B (256 * n + i) (256 * n + q.val) ∧ i < q.val)
  · rw [if_pos (hz.mpr h1)]
    by_cases h2 : Pre B n q.val
    · rw [if_pos h2, if_pos ⟨h1, h2⟩]
    · rw [if_neg h2, if_neg fun h => h2 h.2]
  · rw [if_neg fun h => h1 (hz.mp h), if_neg fun h => h1 h.1]

theorem pay14_pos (n : ℕ) (P : ℕ → Prop) (h : ¬ (0 : EReal) < k1_pay14 (F := Ideal) (inner (blk B n)) (flag (Pre B n)) (flag P)) :
    ∀ q, q < 256 → (Round B n P q ↔ P q) := by
  rw [pay14_apply, pay13_eq] at h
  intro q hq
  by_contra hne
  apply h
  have hnn : ∀ i : Fin 256, (0 : EReal) ≤ max ((flag (Round B n P) (ix2 0 i) : EReal) - flag P (ix2 0 i)) (-((flag (Round B n P) (ix2 0 i) : EReal) - flag P (ix2 0 i))) := by
    intro i
    rw [flag_at, flag_at]
    by_cases h1 : Round B n P i.val <;> by_cases h2 : P i.val <;> simp only [h1, h2, if_true, if_false, one_sub_one] <;> norm_num
  refine lt_of_lt_of_le ?_ (Finset.single_le_sum (fun i _ => hnn i) (Finset.mem_univ (⟨q, hq⟩ : Fin 256)))
  rw [flag_at, flag_at]
  by_cases h1 : Round B n P q <;> by_cases h2 : P q <;> simp only [h1, h2, if_true, if_false, iff_self, not_true, iff_true, iff_false, not_false_iff] at hne ⊢
  all_goals norm_num

theorem kept_local (n p : ℕ) (hp : p < 256) : Kept B (256 * n + p) ↔ (∀ i, i < p → Kept B (256 * n + i) → ¬ ovl B (256 * n + i) (256 * n + p)) ∧ Pre B n p := by
  rw [Kept, keep_iff]
  constructor
  · rintro ⟨h, h'⟩
    exact ⟨fun i hi => h' _ (by omega), fun i hi => h' i (by omega), h⟩
  · rintro ⟨h, h', h''⟩
    refine ⟨h'', fun i hi hk => ?_⟩
    by_cases hin : i < 256 * n
    · exact h' i hin hk
    · have e : i = 256 * n + (i - 256 * n) := by omega
      rw [e] at hk ⊢
      exact h _ (by omega) hk

theorem round_agree (n t : ℕ) (P : ℕ → Prop) (h : ∀ q, q < t → q < 256 → (P q ↔ Kept B (256 * n + q))) (q : ℕ) (hq : q < t + 1) (hq' : q < 256) :
    Round B n P q ↔ Kept B (256 * n + q) := by
  rw [kept_local B n q hq']
  refine and_congr ⟨fun H i hi hk ho => H i (by omega) ((h i (by omega) (by omega)).mpr hk) ⟨ho, hi⟩, fun H i hi hp ho => ?_⟩ Iff.rfl
  exact H i ho.2 ((h i (by omega) hi).mp hp) ho.1

theorem flag_congr (P Q : ℕ → Prop) (h : ∀ q, q < 256 → (P q ↔ Q q)) : flag P = flag Q :=
  row_ext _ _ fun q => by rw [flag_at, flag_at]; exact if_congr (h q.val q.isLt) rfl rfl

theorem fixed_kept (n : ℕ) (P : ℕ → Prop) (h : ∀ q, q < 256 → (Round B n P q ↔ P q)) (q : ℕ) (hq : q < 256) : P q ↔ Kept B (256 * n + q) := by
  induction q using Nat.strong_induction_on with
  | _ q ih => rw [← h q hq]; exact round_agree B n q P (fun i hi hi' => ih i hi hi') q (by omega) hq

theorem whileF_eq (n fuel : ℕ) (ch : BitVec 1) (P : ℕ → Prop) (hf : fuel ≤ 258)
    (h : ∀ q, q < 258 - fuel → q < 256 → (P q ↔ Kept B (256 * n + q)))
    (hc : ch ≠ 1#1 → ∀ q, q < 256 → (Round B n P q ↔ P q)) :
    whileF (inner (blk B n)) (flag (Pre B n)) fuel ch (flag P) = flag fun p => Kept B (256 * n + p) := by
  induction fuel generalizing ch P with
  | zero => exact flag_congr _ _ fun q hq => h q (by omega) hq
  | succ fuel ih =>
    show (if ch = 1#1 then _ else flag P) = _
    by_cases hch : ch = 1#1
    · rw [if_pos hch, pay13_eq]
      refine ih _ _ (by omega) (fun q hq hq' => round_agree B n (258 - (fuel + 1)) P h q (by omega) hq') fun hne => ?_
      have h0 : ¬ (0 : EReal) < k1_pay14 (F := Ideal) (inner (blk B n)) (flag (Pre B n)) (flag P) := by
        intro hp
        exact hne ((cmpf_ogt _ _).mpr (by rw [word_zero]; exact hp))
      have h1 := pay14_pos B n P h0
      intro q hq
      refine and_congr ⟨fun H i hi hp => H i hi ((h1 i hi).mpr hp), fun H i hi hp => H i hi ((h1 i hi).mp hp)⟩ Iff.rfl
    · rw [if_neg hch]
      exact flag_congr _ _ fun q hq => fixed_kept B n P (hc hch) q hq

theorem keepF_eq (c n : ℕ) (hc : n ≤ c) (hn : n < 24) : keepF B (flags B c) n = flag fun p => Kept B (256 * n + p) := by
  unfold keepF
  rw [preF_eq B c n hc hn]
  exact whileF_eq B n 258 1#1 (Pre B n) le_rfl (fun q hq => absurd hq (by omega)) fun h => absurd rfl h

theorem setRow_flags (n : ℕ) (hn : n < 24) : setRow (flags B n) n (k1_pay6 (F := Ideal) (flag fun p => Kept B (256 * n + p))) = flags B (n + 1) := by
  have e6 : k1_pay6 (F := Ideal) (flag fun p => Kept B (256 * n + p)) = flag fun p => Kept B (256 * n + p) := by
    refine row_ext _ _ fun q => ?_
    unfold k1_pay6
    pointwise
  rw [e6]
  funext i
  have h0 : (i 0).val < 24 := (i 0).isLt
  have h1 : (i 1).val < 256 := (i 1).isLt
  show (if (i 0).val = n then (flag (fun p => Kept B (256 * n + p)) (ix2 (n0 := 1) (n1 := 256) ⟨0, _⟩ (i 1)) : EReal)
      else if Below (Kept B) n (256 * (i 0).val + (i 1).val) then (1 : EReal) else 0)
    = if Below (Kept B) (n + 1) (256 * (i 0).val + (i 1).val) then (1 : EReal) else 0
  by_cases h : (i 0).val = n
  · rw [if_pos h]
    refine (flag_at _ (i 1)).trans (if_congr ?_ rfl rfl)
    rw [h]
    exact ⟨fun hk => ⟨by omega, hk⟩, fun hk => hk.2⟩
  · rw [if_neg h]
    refine if_congr (and_congr ?_ Iff.rfl) rfl rfl
    omega

theorem cond1_iff (x : BitVec 1) : k1_cond1 x = 1#1 ↔ x = 1#1 := by revert x; decide

/-- The first loop's state: the flags of the first `c` blocks and their count, with every block done or 128 boxes kept. -/
theorem st1_eq (n : ℕ) (hn : n ≤ 24) : ∃ c, c ≤ n ∧ st1 B n = (flags B c, num (Nat.count (Kept B) (256 * c)))
    ∧ (c = n ∨ 128 ≤ Nat.count (Kept B) (256 * c)) := by
  induction n with
  | zero =>
    refine ⟨0, le_rfl, Prod.ext ?_ ?_, Or.inl rfl⟩
    · show k1_pay1 (F := Ideal) = flags B 0
      funext i
      have e : i = ix2 (i 0) (i 1) := ValueIdx.eq_ix2 i
      rw [e]
      unfold k1_pay1
      pointwise
      exact (if_neg fun h : Below (Kept B) 0 _ => absurd h.1 (by omega)).symm
    · show (Scalar.ofBits (F := Ideal) .f32 0x00000000#32 : EReal) = num (Nat.count (Kept B) 0)
      rw [word_zero, Nat.count_zero, num_zero]
  | succ n ih =>
    obtain ⟨c, hc, hs, hor⟩ := ih (by omega)
    have hcond : k1_cond1 (Scalar.cmpf (F := Ideal) .olt (num (Nat.count (Kept B) (256 * c))) (Scalar.ofBits .f32 0x43000000#32)) = 1#1
        ↔ Nat.count (Kept B) (256 * c) < 128 := by
      rw [cond1_iff, cmpf_olt, word_128, num_lt]
    rw [st1, hs]
    by_cases h : Nat.count (Kept B) (256 * c) < 128
    · have hcn : c = n := hor.resolve_right (by omega)
      subst hcn
      refine ⟨c + 1, le_rfl, (if_pos (hcond.mpr h)).trans ?_, Or.inl rfl⟩
      dsimp only
      rw [keepF_eq B c c le_rfl (by omega), setRow_flags B c (by omega)]
      refine Prod.ext rfl ?_
      show (k1_pay7 (F := Ideal) (flag fun p => Kept B (256 * c + p)) (num (Nat.count (Kept B) (256 * c))) : EReal) = _
      rw [pay7_apply, show 256 * (c + 1) = 256 * c + 256 from by ring, Nat.count_add, ← num_add]
      exact congrArg (fun z : EReal => num (Nat.count (Kept B) (256 * c)) + z) (sum_flag (fun p => Kept B (256 * c + p)) 256)
    · exact ⟨c, by omega, if_neg fun h' => h (hcond.mp h'), Or.inr (by omega)⟩

/-! ## The selection -/

theorem cond2_iff (a b : ℕ) : cond2 (F := Ideal) (num a) (num b) = 1#1 ↔ (a < 128 ∨ b < 128) := by
  have h : ∀ x y : BitVec 1, (Scalar.cmpi .ne (Scalar.extui (Scalar.ori x y) : BitVec 32) 0#32 = 1#1) ↔ (x = 1#1 ∨ y = 1#1) := by decide
  unfold cond2
  rw [h, cmpf_olt, cmpf_olt, word_128, num_lt, num_lt]

section select
variable (P : ℕ → Prop)

/-- Box `j`'s part of row `q`, channel `ch`. -/
def part (kt q : ℕ) (ch : Fin 4) (j : ℕ) : EReal := if slot P kt j = q ∧ j < 6000 then box B j ch else 0

theorem pay36_eq (n : ℕ) (hn : n < 24) (kt : ℕ) (q : Fin 128) (ch : Fin 4) :
    (k1_pay36 (F := Ideal) lanes (num kt) k1_pay8 k1_pay9 (Scf.iv 0#32 1#32 n) (num (Nat.count P (256 * n))) (num (Nat.count (Left P) (256 * n)))
      (flag fun p => P (256 * n + p)) (blk B n) (ix2 q ch) : EReal) = ∑ p ∈ Finset.range 256, part B P kt q.val ch (256 * n + p) := by
  rw [pay36_apply n hn, Finset.sum_range (fun p => part B P kt q.val ch (256 * n + p))]
  refine Finset.sum_congr rfl fun x _ => ?_
  unfold part
  refine if_congr (and_congr_left fun hx => ?_) rfl rfl
  have e1 : (∑ p : Fin 256, (flag (fun p => P (256 * n + p)) (ix2 0 p) : EReal) * (if p.val ≤ x.val then (1 : EReal) else 0))
      = num (Nat.count (fun p => P (256 * n + p)) (x.val + 1)) := sum_prefix (fun p => P (256 * n + p)) x.val x.isLt
  have e2 : (∑ p : Fin 256, (if 256 * n + p.val < 6000 then (1 : EReal) - flag (fun p => P (256 * n + p)) (ix2 0 p) else 0) * (if p.val ≤ x.val then (1 : EReal) else 0))
      = num (Nat.count (fun p => Left P (256 * n + p)) (x.val + 1)) := by
    refine Eq.trans (Finset.sum_congr rfl fun p _ => ?_) (sum_prefix (fun p => Left P (256 * n + p)) x.val x.isLt)
    refine congrArg (fun z : EReal => z * (if p.val ≤ x.val then (1 : EReal) else 0)) ?_
    rw [flag_at]
    unfold Left
    by_cases h1 : 256 * n + p.val < 6000 <;> by_cases h2 : P (256 * n + p.val) <;> simp [h1, h2, one_sub_one]
  rw [e1, e2, flag_at]
  show _ = num q.val ↔ _
  have hpos : (0 : EReal) < (if P (256 * n + x.val) then (1 : EReal) else 0) ↔ P (256 * n + x.val) := by
    by_cases h : P (256 * n + x.val) <;> simp [h]
  unfold slot
  by_cases h : P (256 * n + x.val)
  · rw [if_pos (hpos.mpr h), if_pos h, num_add, ← Nat.count_add, ← Nat.add_assoc, Nat.count_succ, if_pos h, num_succ_sub, num_inj]
  · rw [if_neg (fun h' => h (hpos.mp h')), if_neg h, num_add, num_add, Nat.add_assoc, ← Nat.count_add, ← Nat.add_assoc (256 * n), Nat.count_succ,
      if_pos (show Left P (256 * n + x.val) from ⟨hx, h⟩), ← Nat.add_assoc, num_succ_sub, num_inj]

theorem part_zero (kt q : ℕ) (hq : q < 128) (ch : Fin 4) (n : ℕ) (hk : 128 ≤ Nat.count P (256 * n)) (ht : 128 ≤ kt) (p : ℕ) :
    part B P kt q ch (256 * n + p) = 0 := by
  unfold part
  refine if_neg fun h => ?_
  have h := h.1
  unfold slot at h
  by_cases hp : P (256 * n + p)
  · rw [if_pos hp] at h
    have := Nat.count_monotone P (show 256 * n ≤ 256 * n + p by omega)
    omega
  · rw [if_neg hp] at h
    omega

/-- The second loop's state after `n` blocks. -/
theorem st2_eq (K : Vec Ideal S24x256 .f32) (hK : ∀ n, n < 24 → row K n = flag fun p => P (256 * n + p)) (kt : ℕ) (n : ℕ) (hn : n ≤ 24) :
    (∀ (q : Fin 128) (ch : Fin 4), ((st2 B K (num kt) n).1 (ix2 q ch) : EReal) = ∑ j ∈ Finset.range (256 * n), part B P kt q.val ch j)
    ∧ (((st2 B K (num kt) n).2.1 = num (Nat.count P (256 * n)) ∧ (st2 B K (num kt) n).2.2 = num (Nat.count (Left P) (256 * n)))
      ∨ (¬ cond2 (st2 B K (num kt) n).2.1 (num kt) = 1#1 ∧ 128 ≤ Nat.count P (256 * n) ∧ 128 ≤ kt)) := by
  induction n with
  | zero =>
    refine ⟨fun q ch => ?_, Or.inl ⟨?_, ?_⟩⟩
    · show (k1_pay2 (F := Ideal) (ix2 q ch) : EReal) = _
      unfold k1_pay2
      pointwise
      simp
    · show (Scalar.ofBits (F := Ideal) .f32 0x00000000#32 : EReal) = num (Nat.count P 0)
      rw [word_zero, Nat.count_zero, num_zero]
    · show (Scalar.ofBits (F := Ideal) .f32 0x00000000#32 : EReal) = num (Nat.count (Left P) 0)
      rw [word_zero, Nat.count_zero, num_zero]
  | succ n ih =>
    obtain ⟨hR, hS⟩ := ih (by omega)
    have hstep : st2 B K (num kt) (n + 1) = if cond2 (st2 B K (num kt) n).2.1 (num kt) = 1#1 then
        (k1_pay10 (k1_pay35 (st2 B K (num kt) n).1) (k1_pay36 lanes (num kt) k1_pay8 k1_pay9 (Scf.iv 0#32 1#32 n) (st2 B K (num kt) n).2.1 (st2 B K (num kt) n).2.2 (row K n) (blk B n)),
          k1_pay11 (st2 B K (num kt) n).2.1 (row K n), k1_pay12 (st2 B K (num kt) n).2.2 (k1_pay34 lanes (Scf.iv 0#32 1#32 n) (row K n)))
      else st2 B K (num kt) n := rfl
    have e256 : 256 * (n + 1) = 256 * n + 256 := by ring
    have skip : ∀ (h1 : 128 ≤ Nat.count P (256 * n)) (h2 : 128 ≤ kt) (h3 : ¬ cond2 (st2 B K (num kt) n).2.1 (num kt) = 1#1),
        (∀ (q : Fin 128) (ch : Fin 4), ((st2 B K (num kt) (n + 1)).1 (ix2 q ch) : EReal) = ∑ j ∈ Finset.range (256 * (n + 1)), part B P kt q.val ch j)
        ∧ (((st2 B K (num kt) (n + 1)).2.1 = num (Nat.count P (256 * (n + 1))) ∧ (st2 B K (num kt) (n + 1)).2.2 = num (Nat.count (Left P) (256 * (n + 1))))
          ∨ (¬ cond2 (st2 B K (num kt) (n + 1)).2.1 (num kt) = 1#1 ∧ 128 ≤ Nat.count P (256 * (n + 1)) ∧ 128 ≤ kt)) := by
      intro h1 h2 h3
      rw [hstep, if_neg h3]
      refine ⟨fun q ch => ?_, Or.inr ⟨h3, le_trans h1 (Nat.count_monotone P (by omega)), h2⟩⟩
      rw [hR, e256, Finset.sum_range_add, Finset.sum_eq_zero (s := Finset.range 256) (fun p _ => part_zero B P kt q.val q.isLt ch n h1 h2 p), add_zero]
    rcases hS with ⟨hkb, hsb⟩ | ⟨h3, h1, h2⟩
    · by_cases hc : cond2 (st2 B K (num kt) n).2.1 (num kt) = 1#1
      · rw [hstep, if_pos hc, hkb, hsb, hK n (by omega)]
        refine ⟨fun q ch => ?_, Or.inl ⟨?_, ?_⟩⟩
        · dsimp only
          rw [pay10_apply, hR, pay36_eq B P n (by omega), e256, Finset.sum_range_add]
        · dsimp only
          refine (pay11_apply _ _).trans ?_
          rw [e256, Nat.count_add, ← num_add]
          exact congrArg (fun z : EReal => num (Nat.count P (256 * n)) + z) (sum_flag (fun p => P (256 * n + p)) 256)
        · dsimp only
          refine (pay12_apply _ _).trans ?_
          rw [e256, Nat.count_add, ← num_add]
          refine congrArg (fun z : EReal => num (Nat.count (Left P) (256 * n)) + z) (Eq.trans (Finset.sum_congr rfl fun p _ => ?_) (sum_flag (fun p => Left P (256 * n + p)) 256))
          rw [pay34_apply n (by omega), flag_at]
          unfold Left
          by_cases h1 : 256 * n + p.val < 6000 <;> by_cases h2 : P (256 * n + p.val) <;> simp [h1, h2, one_sub_one]
      · have hc' := hc
        rw [hkb, cond2_iff] at hc'
        exact skip (by omega) (by omega) hc
    · exact skip h1 h2 h3

end select

/-- The result: row `q` is the sum of the boxes placed there. -/
theorem out_apply (q : Fin 128) (ch : Fin 4) :
    (out B (ix2 q ch) : EReal) = ∑ j ∈ Finset.range 6144, part B (Kept B) (Nat.count (Kept B) 6144) q.val ch j := by
  obtain ⟨c, hc, hs, hor⟩ := st1_eq B 24 le_rfl
  unfold out
  rw [hs]
  dsimp only
  rw [(st2_eq B (Below (Kept B) c) (flags B c) (fun n hn => row_flags B c n hn) _ 24 le_rfl).1 q ch]
  refine Finset.sum_congr rfl fun j _ => ?_
  unfold part
  refine if_congr (and_congr_left fun hj => ?_) rfl rfl
  exact Greedy.slot_early (Kept B) c hc hor q.val q.isLt j hj

/-- Row `q` of the result is the box a listing of the kept boxes first, then the others, has at `q`. -/
theorem out_listed (σ : Fin 6000 → Fin 6000) (hs : Function.Surjective σ)
    (h : ∀ a b : Fin 6000, a < b → Greedy.First (Kept B) (σ a).val (σ b).val) (q : Fin 128) (ch : Fin 4) :
    (out B (ix2 q ch) : EReal) = box B (σ ⟨q.val, by omega⟩).val ch := by
  have hP : ∀ j, Kept B j → j < 6000 := fun j hj => ((keep_iff (ovl B) j).mp hj).1
  rw [out_apply]
  have hq := Greedy.slot_listed (Kept B) hP σ h
  rw [Finset.sum_eq_single (σ ⟨q.val, by omega⟩).val]
  · unfold part
    exact if_pos ⟨hq ⟨q.val, by omega⟩, (σ _).isLt⟩
  · intro j _ hj
    unfold part
    refine if_neg fun hh => hj ?_
    obtain ⟨a, ha⟩ := hs ⟨j, hh.2⟩
    have h1 := hq a
    rw [ha] at h1
    have : a = ⟨q.val, by omega⟩ := Fin.ext (h1.symm.trans hh.1)
    rw [← this, ha]
  · intro hn
    exact absurd (Finset.mem_range.mpr (by have := (σ ⟨q.val, by omega⟩).isLt; omega)) hn

end Cert.Proof.Gather.Nms
end
-- ==== Proof.RefLoop.lean ====
/-
  The reference's loop, over the extended reals: after `k` trips an element's mark is set exactly where `Greedy.mask` says, so
  after all of them exactly the boxes of the greedy selection are marked.
-/
module

public import proofs.«01_k».proof.Proof.RefRun
public import proofs.«01_k».proof.Proof.NmsPay
public import proofs.«01_k».proof.Proof.Greedy
public import Idealize.ShloMosaic.Lib.DynamicIndex

@[expose] public section

set_option maxRecDepth 8192

noncomputable section

namespace Cert.Proof.Ref

open Cert.ReferenceIdeal Cert.ReferenceIdeal.Gen Cert.ReferenceIdeal.Value
open Idealize Idealize.ShloMosaic Idealize.ShloMosaic.TcCoe Idealize.ShloMosaic.StableHlo
open Idealize.SL Idealize.SL.Sem
open Cert.Proof.Gather.Nms (Box shared size Overlaps select_bool andi_bool)
open scoped Classical

/-- A small word read as a signed number. -/
theorem toInt_small (n : ℕ) (h : n < 2 ^ 31) : (BitVec.ofNat 32 n).toInt = n := by
  rw [BitVec.toInt_eq_toNat_of_lt (by rw [BitVec.toNat_ofNat]; omega), BitVec.toNat_ofNat, Nat.mod_eq_of_lt (by omega)]

/-- The index as the program adjusts it: a word that is not negative is taken as it is. -/
def adjusted (i : IVec S_ 32) (n : BitVec 32) : IVec S_ 32 :=
  select (cmpi .slt i (constantI S_ 32 0#32)) (addi i (constantI S_ 32 n)) i

theorem adjusted_at (k : ℕ) (hk : k < 6000) (n : BitVec 32) (j : S_.Idx) : adjusted (fun _ => BitVec.ofNat 32 k) n j = BitVec.ofNat 32 k := by
  have h : IntOp.cmpi .slt (BitVec.ofNat 32 k) 0#32 = 0#1 := by
    have : ¬ (BitVec.ofNat 32 k).toInt < 0 := by rw [toInt_small k (by omega)]; omega
    simp [IntOp.cmpi, BitVec.slt, this]
  show Scalar.select (IntOp.cmpi .slt (BitVec.ofNat 32 k) 0#32) _ _ = _
  rw [h]
  rfl

/-- Box `i`, as the trip reads it, -/
def boxAt (b : FVec Ideal S6000x4 .f32) (i : IVec S_ 32) : FVec Ideal S4 .f32 :=
  shapeCast S4 (Host.dynamicSlice S1x4 b (fun k => (((![adjusted i 6000#32, adjusted (constantI S_ 32 0#32) 4#32] : Fin 2 → (⟨S_, .i32⟩ : BufTy).Contents (Elt Ideal))) k
    (Shape.Idx.first h_S_)).toInt) sliceFits_S6000x4_S1x4) shapeCasts_S1x4_S4

/-- and element `i` of a line. -/
def elemAt {α : Type} (x : S6000.Idx → α) (i : IVec S_ 32) : S_.Idx → α :=
  shapeCast S_ (Host.dynamicSlice S1 x (fun k => (((![adjusted i 6000#32] : Fin 1 → (⟨S_, .i32⟩ : BufTy).Contents (Elt Ideal))) k
    (Shape.Idx.first h_S_)).toInt) sliceFits_S6000_S1) shapeCasts_S1_S_

theorem boxAt_apply (b : FVec Ideal S6000x4 .f32) (k : ℕ) (hk : k < 6000) (c : Fin 4) :
    boxAt b (fun _ => BitVec.ofNat 32 k) (ix1 c) = b (ix2 ⟨k, hk⟩ c) := by
  unfold boxAt
  refine (ValueIdx.shapeCast_1a_a_apply _ _ c).trans ?_
  rw [Host.dynamicSlice_eq_extractStridedSlice S1x4 b _ ![k, 0] _ ⟨rfl, fun a => by
      match a with
      | 0 => show k + 1 ≤ 6000; omega
      | 1 => show 0 + 4 ≤ 4; omega⟩ (fun a => by
      match a with
      | 0 => show (adjusted (fun _ => BitVec.ofNat 32 k) 6000#32 _).toInt = _; rw [adjusted_at k hk]; exact toInt_small k (by omega)
      | 1 => rfl)]
  refine congrArg b (funext fun a => Fin.ext ?_)
  match a with
  | 0 => show k + 0 = k; omega
  | 1 => show 0 + c.val = c.val; omega

theorem elemAt_apply {α : Type} (x : S6000.Idx → α) (k : ℕ) (hk : k < 6000) (j : S_.Idx) :
    elemAt x (fun _ => BitVec.ofNat 32 k) j = x (ix1 ⟨k, hk⟩) := by
  unfold elemAt
  rw [Host.dynamicSlice_eq_extractStridedSlice S1 x _ ![k] _ ⟨rfl, fun a => by
      match a with
      | 0 => show k + 1 ≤ 6000; omega⟩ (fun a => by
      match a with
      | 0 => show (adjusted (fun _ => BitVec.ofNat 32 k) 6000#32 _).toInt = _; rw [adjusted_at k hk]; exact toInt_small k (by omega))]
  unfold shapeCast extractStridedSlice
  refine congrArg x (funext fun a => Fin.ext ?_)
  match a with
  | 0 =>
    show k + (Shape.reshapeEquiv shapeCasts_S1_S_ j 0).val = k
    have : (Shape.reshapeEquiv shapeCasts_S1_S_ j 0).val < 1 := (Shape.reshapeEquiv shapeCasts_S1_S_ j 0).isLt
    omega

/-- The areas box `i` shares with each box. -/
def common (b : FVec Ideal S6000x4 .f32) (i : IVec S_ 32) : FVec Ideal S6000 .f32 :=
  mulf (maximumf (subf (minimumf (broadcastInDim S6000 ![] bcast_S_S6000 (shapeCast S_ (extractStridedSlice S1 ![2] (boxAt b i) slices_S4_S1_2) shapeCasts_S1_S_))
        (shapeCast S6000 (extractStridedSlice S6000x1 ![0, 2] b slices_S6000x4_S6000x1_0_2) shapeCasts_S6000x1_S6000))
      (maximumf (broadcastInDim S6000 ![] bcast_S_S6000 (shapeCast S_ (extractStridedSlice S1 ![0] (boxAt b i) slices_S4_S1_0) shapeCasts_S1_S_))
        (shapeCast S6000 (extractStridedSlice S6000x1 ![0, 0] b slices_S6000x4_S6000x1_0_0) shapeCasts_S6000x1_S6000)))
      (broadcastInDim S6000 ![] bcast_S_S6000 (constant S_ .f32 0x00000000#32)))
    (maximumf (subf (minimumf (broadcastInDim S6000 ![] bcast_S_S6000 (shapeCast S_ (extractStridedSlice S1 ![3] (boxAt b i) slices_S4_S1_3) shapeCasts_S1_S_))
        (shapeCast S6000 (extractStridedSlice S6000x1 ![0, 3] b slices_S6000x4_S6000x1_0_3) shapeCasts_S6000x1_S6000))
      (maximumf (broadcastInDim S6000 ![] bcast_S_S6000 (shapeCast S_ (extractStridedSlice S1 ![1] (boxAt b i) slices_S4_S1_1) shapeCasts_S1_S_))
        (shapeCast S6000 (extractStridedSlice S6000x1 ![0, 1] b slices_S6000x4_S6000x1_0_1) shapeCasts_S6000x1_S6000)))
      (broadcastInDim S6000 ![] bcast_S_S6000 (constant S_ .f32 0x00000000#32)))

/-- The marks after one trip. -/
def step (b : FVec Ideal S6000x4 .f32) (A : FVec Ideal S6000 .f32) (idx : IVec S6000 32) (i : IVec S_ 32) (keep : IVec S6000 1) : IVec S6000 1 :=
  id (andi keep (noti (andi (andi (cmpf .ogt (Host.divf (common b i)
      (addf (subf (addf (broadcastInDim S6000 ![] bcast_S_S6000 (elemAt A i)) A) (common b i)) (broadcastInDim S6000 ![] bcast_S_S6000 (constant S_ .f32 0x3089705F#32))))
      (broadcastInDim S6000 ![] bcast_S_S6000 (constant S_ .f32 0x3F333333#32)))
    (cmpi .sgt idx (broadcastInDim S6000 ![] bcast_S_S6000 i))) (broadcastInDim S6000 ![] bcast_S_S6000 (elemAt keep i)))))

theorem boxAt_eq (V : Valuation τ sig (Elt Ideal)) :
    res_main_while0b_v141 V = boxAt (V (Proc.devRef .tc main_v36_0)) (V (Proc.devRef .tc main_v36_4)) := rfl

theorem common_eq (V : Valuation τ sig (Elt Ideal)) :
    res_main_while0b_v172 V = common (V (Proc.devRef .tc main_v36_0)) (V (Proc.devRef .tc main_v36_4)) := by
  unfold res_main_while0b_v172 common
  rw [boxAt_eq]

theorem step_eq (V : Valuation τ sig (Elt Ideal)) : step_main_v36_5 V
    = step (V (Proc.devRef .tc main_v36_0)) (V (Proc.devRef .tc main_v36_1)) (V (Proc.devRef .tc main_v36_2)) (V (Proc.devRef .tc main_v36_4)) (V (Proc.devRef .tc main_v36_5)) := by
  unfold step_main_v36_5 step
  rw [common_eq]
  rfl

/-- Box `j`. -/
def boxOf (b : FVec Ideal S6000x4 .f32) (j : Fin 6000) : Box := fun c => b (ix2 j c)

theorem areas_apply (b : FVec Ideal S6000x4 .f32) (j : Fin 6000) : areas b (ix1 j) = size (boxOf b j) := by
  unfold areas size boxOf
  pointwise

theorem common_apply (b : FVec Ideal S6000x4 .f32) (k : ℕ) (hk : k < 6000) (j : Fin 6000) :
    common b (fun _ => BitVec.ofNat 32 k) (ix1 j) = shared (boxOf b ⟨k, hk⟩) (boxOf b j) := by
  have h0 := boxAt_apply b k hk 0
  have h1 := boxAt_apply b k hk 1
  have h2 := boxAt_apply b k hk 2
  have h3 := boxAt_apply b k hk 3
  unfold common shared boxOf
  generalize boxAt b (fun _ => BitVec.ofNat 32 k) = u at h0 h1 h2 h3
  pointwise
  rw [← h0, ← h1, ← h2, ← h3]

/-- The trip's question at an element. -/
theorem step_apply (b : FVec Ideal S6000x4 .f32) (k : ℕ) (hk : k < 6000) (keep : IVec S6000 1) (j : Fin 6000) :
    step b (areas b) (iotaInDim S6000 32 0) (fun _ => BitVec.ofNat 32 k) keep (ix1 j)
      = IntOp.andi (keep (ix1 j)) (~~~(IntOp.andi (IntOp.andi (BitVec.ofBool (decide (Overlaps (boxOf b ⟨k, hk⟩) (boxOf b j))))
          (BitVec.ofBool (decide (k < j.val)))) (keep (ix1 ⟨k, hk⟩)))) := by
  have hA : ∀ z : S_.Idx, elemAt (areas b) (fun _ => BitVec.ofNat 32 k) z = size (boxOf b ⟨k, hk⟩) := fun z => (elemAt_apply _ k hk z).trans (areas_apply b _)
  have hK : ∀ z : S_.Idx, elemAt keep (fun _ => BitVec.ofNat 32 k) z = keep (ix1 ⟨k, hk⟩) := fun z => elemAt_apply _ k hk z
  have hC := common_apply b k hk j
  have hS := areas_apply b j
  have hlt : IntOp.cmpi .sgt (BitVec.ofNat 32 j.val) (BitVec.ofNat 32 k) = BitVec.ofBool (decide (k < j.val)) := by
    show BitVec.ofBool ((BitVec.ofNat 32 k).slt (BitVec.ofNat 32 j.val)) = _
    congr 1
    rw [BitVec.slt_eq_decide, toInt_small k (by omega), toInt_small j.val (by omega)]
    congr 1
    apply propext; omega
  unfold step
  generalize elemAt (areas b) (fun _ => BitVec.ofNat 32 k) = u at hA
  generalize elemAt keep (fun _ => BitVec.ofNat 32 k) = w at hK
  generalize common b (fun _ => BitVec.ofNat 32 k) = x at hC
  generalize areas b = y at hS
  unfold Overlaps
  rw [← hlt, ← hC, ← hS]
  simp only [id_eq]
  pointwise
  rw [hA, hK]
  congr

/-- The trip's bit, read as a proposition. -/
theorem bit_iff (a b : BitVec 1) (p q : Bool) :
    IntOp.andi a (~~~(IntOp.andi (IntOp.andi (BitVec.ofBool p) (BitVec.ofBool q)) b)) = 1#1 ↔ a = 1#1 ∧ ¬ ((p = true ∧ q = true) ∧ b = 1#1) := by
  revert a b p q; decide

variable (m : (ℓ : Loc nD τ sig) → Buf (Elt Ideal) ℓ)

/-- What the loop carries after `k` trips. -/
structure Carries (ovl : ℕ → ℕ → Prop) (b : FVec Ideal S6000x4 .f32) (k : ℕ) (V : Valuation τ sig (Elt Ideal)) : Prop where
  boxes : V (Proc.devRef .tc main_v36_0) = b
  areas : V (Proc.devRef .tc main_v36_1) = areas b
  indices : V (Proc.devRef .tc main_v36_2) = (iotaInDim S6000 32 0 : IVec S6000 32)
  count : V (Proc.devRef .tc main_v36_4) = ((fun _ => BitVec.ofNat 32 k) : IVec S_ 32)
  mark : ∀ j : Fin 6000, (V (Proc.devRef .tc main_v36_5) : IVec S6000 1) (ix1 j) = 1#1 ↔ Greedy.mask ovl k j.val

/-- One trip. -/
theorem carries_succ (ovl : ℕ → ℕ → Prop) (b : FVec Ideal S6000x4 .f32)
    (ho : ∀ i j : Fin 6000, ovl i.val j.val ↔ Overlaps (boxOf b i) (boxOf b j)) (k : ℕ) (hk : k < 6000) (V : Valuation τ sig (Elt Ideal))
    (h : Carries ovl b k V) : Carries ovl b (k + 1) (STEP V) where
  boxes := (STEP_main_v36_0 V).trans h.boxes
  areas := (STEP_main_v36_1 V).trans h.areas
  indices := (STEP_main_v36_2 V).trans h.indices
  count := by
    refine (STEP_main_v36_4 V).trans ?_
    show addi (V (Proc.devRef .tc main_v36_4)) (constantI S_ 32 1#32) = _
    rw [h.count]
    funext j
    exact (BitVec.ofNat_add k 1).symm
  mark := fun j => by
    have e : (STEP V (Proc.devRef .tc main_v36_5) : IVec S6000 1)
        = step b (Ref.areas b) (iotaInDim S6000 32 0) (fun _ => BitVec.ofNat 32 k) (V (Proc.devRef .tc main_v36_5)) := by
      rw [STEP_main_v36_5, step_eq, h.boxes, h.areas, h.indices, h.count]
    rw [e, step_apply b k hk, bit_iff, decide_eq_true_iff, decide_eq_true_iff, h.mark j, h.mark ⟨k, hk⟩, ← ho ⟨k, hk⟩ j]
    exact Iff.rfl

/-- All trips up to `k`. -/
theorem carries (c : Dev nD) (ovl : ℕ → ℕ → Prop) (ho : ∀ i j : Fin 6000, ovl i.val j.val ↔ Overlaps (boxOf (best m c) i) (boxOf (best m c) j)) :
    ∀ k, k ≤ 6000 → Carries ovl (best m c) k (STEP^[k] (entry m c))
  | 0, _ => by
    refine ⟨entry_0 m c, entry_1 m c, entry_2 m c, (entry_4 m c).trans rfl, fun j => ?_⟩
    show (entry m c (Proc.devRef .tc main_v36_5) : IVec S6000 1) (ix1 j) = 1#1 ↔ True
    rw [entry_5]
    exact iff_true_intro rfl
  | k + 1, hk => by
    rw [Function.iterate_succ_apply']
    exact carries_succ ovl (best m c) ho k hk _ (carries c ovl ho k (by omega))

/-- The marks the loop leaves: the greedy selection. -/
theorem marks_iff (c : Dev nD) (ovl : ℕ → ℕ → Prop) (ho : ∀ i j : Fin 6000, ovl i.val j.val ↔ Overlaps (boxOf (best m c) i) (boxOf (best m c) j))
    (j : Fin 6000) : marks m c (ix1 j) = 1#1 ↔ Greedy.Keep ovl j.val :=
  ((carries m c ovl ho 6000 le_rfl).mark j).trans (Greedy.mask_all ovl j.val j.isLt)

end Cert.Proof.Ref

end
-- ==== Proof.Select.lean ====
/-
  The selection's equation: over the extended reals the boxes the program selects are the reference's. Both keep the greedy
  selection's boxes in order, then the others in order; the reference by its sorted marks.
-/
module

public import proofs.«01_k».proof.Proof.NmsValue
public import proofs.«01_k».proof.Proof.RefLoop
public import proofs.«01_k».proof.Proof.Equation

@[expose] public section

noncomputable section

namespace Cert.Proof.Equation

open Cert.ReferenceIdeal Cert.ReferenceIdeal.Gen
open Idealize.ShloMosaic Idealize.SL.Sem
open Cert.Proof.Gather (along_rank1)
open scoped Classical

/-- The list of the boxes `P` marks, then of the others. -/
def listing (P : ℕ → Prop) : Fin 6000 → Fin 6000 := sortedFrom (fun k k' : Fin 6000 => decide (P k.val ∧ ¬ P k'.val))

/-- The comparison of two complemented marks. -/
theorem marks_lt (x y : BitVec 1) (u v : BitVec 32) : (comparator_i1_i32_d0 (~~~x, u) (~~~y, v) == 1#1) = decide (x = 1#1 ∧ ¬ y = 1#1) := by
  show (IntOp.cmpi .ult (~~~x) (~~~y) == 1#1) = _
  revert x y; decide

theorem keptFirst_apply (P : ℕ → Prop) (k : IVec S6000 1) (hk : ∀ j : Fin 6000, k (ix1 j) = 1#1 ↔ P j.val) (a : Fin 6000) :
    Ref.keptFirst k (ix1 a) = BitVec.ofNat 32 (listing P a).val := by
  unfold Ref.keptFirst listing
  simp only [Host.sort2, show (0 : ℕ) < S6000.rank from Nat.one_pos, ↓reduceDIte, iotaInDim, noti, marks_lt]
  have e : ∀ (j : S6000.Idx) (k : Fin 6000), j.along (⟨0, Nat.one_pos⟩ : Fin S6000.rank) k = ix1 k := fun j k => along_rank1 j k
  have e' : (fun u v : Fin 6000 => decide (k (Shape.Idx.along (s := S6000) (ix1 a) ⟨0, Nat.one_pos⟩ u) = 1#1
      ∧ ¬ k (Shape.Idx.along (s := S6000) (ix1 a) ⟨0, Nat.one_pos⟩ v) = 1#1)) = fun u v => decide (P u.val ∧ ¬ P v.val) := by
    funext u v; rw [e, e]; exact decide_eq_decide.mpr (and_congr (hk u) (not_congr (hk v)))
  refine congrArg (BitVec.ofNat 32) ?_
  refine (congrArg (fun i : S6000.Idx => (i 0).val) (e _ _)).trans ?_
  exact congrArg Fin.val (congrArg₂ (sortedFrom (n := 6000)) e' rfl)

theorem firsts_apply (o : IVec S6000 32) (n : ℕ) (hn : n < 6000) (q : Fin 300) (ho : o (ix1 ⟨q.val, by omega⟩) = BitVec.ofNat 32 n) :
    Ref.firsts o (ix1 q) = BitVec.ofNat 32 n := by
  unfold Ref.firsts
  pointwise
  rw [ho]
  have h : IntOp.cmpi .slt (BitVec.ofNat 32 n) 0#32 = 0#1 := by
    have : ¬ (BitVec.ofNat 32 n).toInt < 0 := by rw [toInt_small n (by omega)]; omega
    simp [IntOp.cmpi, BitVec.slt, this]
  rw [h]
  rfl

theorem picked_apply (o : IVec S6000 32) (b : FVec Ideal S6000x4 .f32) (q : Fin 128) (c : Fin 4) (n : Fin 6000)
    (ho : o (ix1 ⟨q.val, by omega⟩) = BitVec.ofNat 32 n.val) : Ref.picked o b (ix2 q c) = b (ix2 n c) := by
  have hg : Host.gather gather_S6000x4_S300x1_S300x4_1_0_n_n_0_1_14 b (broadcastInDim S300x1 ![0] bcast_S300_S300x1_0 (Ref.firsts o))
      (ix2 (⟨q.val, by omega⟩ : Fin 300) c) = b (ix2 n c) := by
    refine (RowGather.gather_rows (N := 6000) (C := 4) (B := 300) (by decide) _ b _ (ix2 (⟨q.val, by omega⟩ : Fin 300) c)).trans ?_
    have hi : broadcastInDim S300x1 ![0] bcast_S300_S300x1_0 (Ref.firsts o) (ix2 (⟨q.val, by omega⟩ : Fin 300) 0) = BitVec.ofNat 32 n.val := by
      pointwise
      exact firsts_apply o n.val n.isLt ⟨q.val, by omega⟩ ho
    refine congrArg (fun q => b (ix2 q c)) (Fin.ext ?_)
    have hp := n.isLt
    show min (broadcastInDim S300x1 ![0] bcast_S300_S300x1_0 (Ref.firsts o) (ix2 (⟨q.val, by omega⟩ : Fin 300) 0)).toInt.toNat 5999 = _
    rw [hi, toInt_small _ (by omega), Int.toNat_natCast]
    omega
  unfold Ref.picked
  pointwise
  exact hg

variable (m : (ℓ : Loc nD τ sig) → Buf (Elt Ideal) ℓ)

/-- The selection. -/
theorem selected (c : Dev nD) (B : FVec Ideal Cert.KernelIdeal.S6144x4 .f32)
    (hB : ∀ (i : Fin 6144) (hi : i.val < 6000) (ch : Fin 4), B (ix2 i ch) = Ref.best m c (ix2 ⟨i.val, hi⟩ ch)) :
    (Gather.Nms.out (F := Ideal) B : FVec Ideal S128x4 .f32) = Ref.picked (Ref.keptFirst (Ref.marks m c)) (Ref.best m c) := by
  have hbox : ∀ j : Fin 6000, Gather.Nms.box B j.val = Ref.boxOf (Ref.best m c) j := by
    intro j
    funext ch
    have hj := j.isLt
    refine (hB ⟨j.val % 6144, by omega⟩ (by show j.val % 6144 < 6000; omega) ch).trans ?_
    refine congrArg (fun i => Ref.best m c (ix2 i ch)) (Fin.ext ?_)
    show j.val % 6144 = j.val
    omega
  have hm := Ref.marks_iff m c (Gather.Nms.ovl B) (fun i j => by
    show Gather.Nms.Overlaps (Gather.Nms.box B i.val) (Gather.Nms.box B j.val) ↔ _
    rw [hbox, hbox])
  funext y
  rw [ValueIdx.eq_ix2 y]
  refine (Gather.Nms.out_listed B (listing (Gather.Nms.Kept B)) (sortedFrom_surjective _) (Greedy.sorted_first _) (y 0) (y 1)).trans ?_
  rw [hbox]
  exact (picked_apply _ _ (y 0) (y 1) _ (keptFirst_apply (Gather.Nms.Kept B) _ hm _)).symm

end Cert.Proof.Equation

end
-- ==== Proof.Decoded.lean ====
/-
  The decoding's equation: over the extended reals the program's decoded boxes and the reference's are the same numbers, from the
  same offsets and the same boxes. The program works on planes, one a coordinate; the reference on columns.
-/
module

public import proofs.«01_k».proof.Proof.Values
public import proofs.«01_k».proof.Proof.RefRun

@[expose] public section

set_option maxRecDepth 8192

noncomputable section

namespace Cert.Proof.Equation

open Cert.ReferenceIdeal Cert.ReferenceIdeal.Gen
open Idealize.ShloMosaic Idealize.SL.Sem

/-- One half. -/
abbrev h : EReal := Ideal.ofBits .f32 0x3F000000#32

/-- A decoded centre and extent, from an offset and the box's borders. -/
def mid (t lo hi : EReal) : EReal := t * (hi - lo) + (lo + h * (hi - lo))
def ext (t lo hi : EReal) : EReal := Ideal.exp t * (hi - lo)

/-- Coordinate `k` of a decoded box. -/
def corner (t : Fin 4 → EReal) (b : Fin 4 → EReal) (k : Fin 4) : EReal :=
  match k with
  | 0 => mid (t 0) (b 0) (b 2) - h * ext (t 2) (b 0) (b 2)
  | 1 => mid (t 1) (b 1) (b 3) - h * ext (t 3) (b 1) (b 3)
  | 2 => mid (t 0) (b 0) (b 2) + h * ext (t 2) (b 0) (b 2)
  | 3 => mid (t 1) (b 1) (b 3) + h * ext (t 3) (b 1) (b 3)

theorem ref_corner (x : FVec Ideal S21x128x4 .f32) (r : FVec Ideal S128x4 .f32) (q : Fin 128) (i : Fin 21) (k : Fin 4) :
    Ref.decoded x r (ix3 q i k) = corner (fun k => x (ix3 i q k)) (fun k => r (ix2 q k)) k := by
  unfold Ref.decoded Ref.centre Ref.extent Ref.half2 Ref.half Ref.wide corner mid ext
  match k with
  | 0 => unfold Ref.off Ref.col; pointwise
  | 1 => unfold Ref.off Ref.col; pointwise
  | 2 => unfold Ref.off Ref.col; pointwise
  | 3 => unfold Ref.off Ref.col; pointwise

theorem ker_corner (x : FVec Ideal S21x128x4 .f32) (r : FVec Ideal S128x4 .f32) (q : Fin 128) (i : Fin 21) (k : Fin 4) :
    Gather.decoded (F := Ideal) x r (ix3 q i k) = corner (fun k => x (ix3 i q k)) (fun k => r (ix2 q k)) k := by
  unfold Gather.decoded Gather.Decode.out
  pointwise
  unfold Gather.Decode.corner corner mid ext
  match k with
  | 0 =>
    unfold Cert.KernelIdeal.Gen.k4_pay1 Cert.KernelIdeal.Gen.k4_pay9 Cert.KernelIdeal.Gen.k4_pay11 Cert.KernelIdeal.Gen.k4_pay7 Cert.KernelIdeal.Gen.k4_pay5 Gather.Decode.plane Gather.Decode.line Gather.planes Gather.linesOf
    pointwise
  | 1 =>
    unfold Cert.KernelIdeal.Gen.k4_pay2 Cert.KernelIdeal.Gen.k4_pay10 Cert.KernelIdeal.Gen.k4_pay12 Cert.KernelIdeal.Gen.k4_pay8 Cert.KernelIdeal.Gen.k4_pay6 Gather.Decode.plane Gather.Decode.line Gather.planes Gather.linesOf
    pointwise
  | 2 =>
    unfold Cert.KernelIdeal.Gen.k4_pay3 Cert.KernelIdeal.Gen.k4_pay9 Cert.KernelIdeal.Gen.k4_pay11 Cert.KernelIdeal.Gen.k4_pay7 Cert.KernelIdeal.Gen.k4_pay5 Gather.Decode.plane Gather.Decode.line Gather.planes Gather.linesOf
    pointwise
  | 3 =>
    unfold Cert.KernelIdeal.Gen.k4_pay4 Cert.KernelIdeal.Gen.k4_pay10 Cert.KernelIdeal.Gen.k4_pay12 Cert.KernelIdeal.Gen.k4_pay8 Cert.KernelIdeal.Gen.k4_pay6 Gather.Decode.plane Gather.Decode.line Gather.planes Gather.linesOf
    pointwise

/-- The decoded boxes. -/
theorem decoded_eq (x : FVec Ideal S21x128x4 .f32) (r : FVec Ideal S128x4 .f32) :
    Gather.decoded (F := Ideal) x r = Ref.decoded x r := by
  funext y
  rw [ValueIdx.eq_ix3 y]
  exact (ker_corner x r (y 0) (y 1) (y 2)).trans (ref_corner x r (y 0) (y 1) (y 2)).symm

end Cert.Proof.Equation

end
-- ==== Proof.lean ====
/-
  The certificate: the frames of the program from its run (Launch.lean, Kept.lean; Printed/ for the program as printed), the
  reference's from its run (RefRun.lean), and the equations of the results over the extended reals (Dense.lean: the class scores
  and box offsets; Select.lean: the selected boxes; Decoded.lean: the decoded boxes).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Kept
public import proofs.«01_k».proof.Proof.Printed.Kept
public import proofs.«01_k».proof.Proof.Rows
public import proofs.«01_k».proof.Proof.Values
public import proofs.«01_k».proof.Proof.Equation
public import proofs.«01_k».proof.Proof.Dense
public import proofs.«01_k».proof.Proof.Select
public import proofs.«01_k».proof.Proof.Decoded
public import Idealize.ShloMosaic.Lib.Quiescent
public import Idealize.ShloMosaic.Lib.Tactic

@[expose] public section

noncomputable section

namespace Cert.Proof

open Idealize.ShloMosaic Idealize.SL.Sem Cert.KernelIdeal
open Idealize.ShloMosaic.Tactic

/-- The frame of the program as printed, from its own run: each of the two programs declares the record its suppression loop
carries, so the run of one is not the run of the other. -/
theorem frame_kernel : Cert.quiescent_Kernel := fun m ρ _ => Printed.frame_any (F := Bits) m ρ (fun _ x => Gather.list_lt (F := Bits) _ x)

/-- The frame of the idealized program, from its run. -/
theorem frame_ideal : Cert.quiescent_KernelIdeal := fun m ρ _ => Gather.frame_any (F := Ideal) m ρ (fun _ x => Gather.list_lt _ x)

/-- The reference's arguments. -/
theorem ref_kept {m : (ℓ : Loc ReferenceIdeal.nD ReferenceIdeal.τ ReferenceIdeal.sig) → Buf (Elt Ideal) ℓ} {r : PUnit × MemSt ReferenceIdeal.nD ReferenceIdeal.τ ReferenceIdeal.sig (Elt Ideal)}
    (h : ∀ (c : Dev ReferenceIdeal.nD) (b : Ref ReferenceIdeal.sig .tc), (Proc.devRef .tc b : DevRef ReferenceIdeal.τ ReferenceIdeal.sig).isScoped = false →
      r.2.mem ((c.tc : Thread ReferenceIdeal.nD ReferenceIdeal.τ).loc b) = Ref.ends m c (Proc.devRef .tc b)) (c : Dev ReferenceIdeal.nD) :
    r.2.mem ((c.tc : Thread ReferenceIdeal.nD ReferenceIdeal.τ).loc ReferenceIdeal.main_arg0) = m ((c.tc : Thread ReferenceIdeal.nD ReferenceIdeal.τ).loc ReferenceIdeal.main_arg0)
      ∧ r.2.mem ((c.tc : Thread ReferenceIdeal.nD ReferenceIdeal.τ).loc ReferenceIdeal.main_arg1) = m ((c.tc : Thread ReferenceIdeal.nD ReferenceIdeal.τ).loc ReferenceIdeal.main_arg1)
      ∧ r.2.mem ((c.tc : Thread ReferenceIdeal.nD ReferenceIdeal.τ).loc ReferenceIdeal.main_arg2) = m ((c.tc : Thread ReferenceIdeal.nD ReferenceIdeal.τ).loc ReferenceIdeal.main_arg2)
      ∧ r.2.mem ((c.tc : Thread ReferenceIdeal.nD ReferenceIdeal.τ).loc ReferenceIdeal.main_arg3) = m ((c.tc : Thread ReferenceIdeal.nD ReferenceIdeal.τ).loc ReferenceIdeal.main_arg3)
      ∧ r.2.mem ((c.tc : Thread ReferenceIdeal.nD ReferenceIdeal.τ).loc ReferenceIdeal.main_arg4) = m ((c.tc : Thread ReferenceIdeal.nD ReferenceIdeal.τ).loc ReferenceIdeal.main_arg4)
      ∧ r.2.mem ((c.tc : Thread ReferenceIdeal.nD ReferenceIdeal.τ).loc ReferenceIdeal.main_arg5) = m ((c.tc : Thread ReferenceIdeal.nD ReferenceIdeal.τ).loc ReferenceIdeal.main_arg5)
      ∧ r.2.mem ((c.tc : Thread ReferenceIdeal.nD ReferenceIdeal.τ).loc ReferenceIdeal.main_arg6) = m ((c.tc : Thread ReferenceIdeal.nD ReferenceIdeal.τ).loc ReferenceIdeal.main_arg6)
      ∧ r.2.mem ((c.tc : Thread ReferenceIdeal.nD ReferenceIdeal.τ).loc ReferenceIdeal.main_arg7) = m ((c.tc : Thread ReferenceIdeal.nD ReferenceIdeal.τ).loc ReferenceIdeal.main_arg7)
      ∧ r.2.mem ((c.tc : Thread ReferenceIdeal.nD ReferenceIdeal.τ).loc ReferenceIdeal.main_arg8) = m ((c.tc : Thread ReferenceIdeal.nD ReferenceIdeal.τ).loc ReferenceIdeal.main_arg8)
      ∧ r.2.mem ((c.tc : Thread ReferenceIdeal.nD ReferenceIdeal.τ).loc ReferenceIdeal.main_arg9) = m ((c.tc : Thread ReferenceIdeal.nD ReferenceIdeal.τ).loc ReferenceIdeal.main_arg9)
      ∧ r.2.mem ((c.tc : Thread ReferenceIdeal.nD ReferenceIdeal.τ).loc ReferenceIdeal.main_arg10) = m ((c.tc : Thread ReferenceIdeal.nD ReferenceIdeal.τ).loc ReferenceIdeal.main_arg10) :=
  have k : ∀ {b : Ref ReferenceIdeal.sig .tc}, (Proc.devRef .tc b : DevRef ReferenceIdeal.τ ReferenceIdeal.sig).isScoped = false → b ∉ Ref.loopW → b ∉ Ref.denseW → b ∉ Ref.decodeW →
      r.2.mem ((c.tc : Thread ReferenceIdeal.nD ReferenceIdeal.τ).loc b) = m ((c.tc : Thread ReferenceIdeal.nD ReferenceIdeal.τ).loc b) :=
    fun hs h0 h1 h2 => (h c _ hs).trans (Ref.ends_arg m c h0 h1 h2)
  ⟨k rfl (by decide) (by decide) (by decide), k rfl (by decide) (by decide) (by decide), k rfl (by decide) (by decide) (by decide), k rfl (by decide) (by decide) (by decide), k rfl (by decide) (by decide) (by decide), k rfl (by decide) (by decide) (by decide), k rfl (by decide) (by decide) (by decide), k rfl (by decide) (by decide) (by decide), k rfl (by decide) (by decide) (by decide), k rfl (by decide) (by decide) (by decide), k rfl (by decide) (by decide) (by decide)⟩

/-- The reference's frame. -/
theorem frame_reference : Cert.quiescent_ReferenceIdeal := fun m ρ _ =>
  (θ_run Cert.ReferenceIdeal.defs _ _).mono (fun r h => ⟨fun c => ref_kept h c, sem_eq_zero_of_no_sems (by decide) r.2⟩)
    (Cert.ReferenceIdeal.Value.run_fold (F := Ideal) m ρ)

/-- The program's results are the reference's. -/
theorem equal : Cert.algebraic_KernelIdeal_ReferenceIdeal := by
  intro m ρ m' ρ' _ hagree
  refine ⟨fun c => Ref.ends (F := Ideal) m' c (Proc.devRef .tc ReferenceIdeal.main_v60),
    fun c => Ref.ends (F := Ideal) m' c (Proc.devRef .tc ReferenceIdeal.main_v131), ?_, ?_⟩
  · refine (θ_run Cert.KernelIdeal.defs _ _).mono (fun r h c => ⟨(h.1 c main_v34_0 rfl).trans ?_, (h.1 c main_v39 rfl).trans ?_, Gather.args_kept h c⟩)
      (Gather.run_main (F := Ideal) m ρ (fun _ x => Gather.list_lt _ x))
    all_goals
      obtain ⟨h0, h1, h2, h3, h4, h5, h6, h7, h8, h9, h10⟩ := hagree c
    · refine (Equation.equation_cls m c).trans (Eq.trans ?_ (Ref.ends_cls m' c).symm)
      unfold Ref.arg
      rw [h2, h3, h4, h5, h6, h7, h8]
    · have hB : ∀ (i : Fin 6144) (hi : i.val < 6000) (ch : Fin 4), (Gather.gathered (F := Ideal) m c : FVec Ideal S6144x4 .f32) (ix2 i ch) = Ref.best m' c (ix2 ⟨i.val, hi⟩ ch) := by
        intro i hi ch
        refine (Equation.rows_boxes _ _ i hi ch).trans ?_
        unfold Ref.best Ref.arg
        rw [h0, h1]
      refine (Gather.V₁₁_boxes m c).trans (Eq.trans ?_ (Ref.ends_boxes m' c).symm)
      refine (Equation.decoded_eq _ _).trans ?_
      refine congrArg₂ (Ref.decoded (F := Ideal)) ?_ (Equation.selected m' c _ hB)
      refine (congrArg (fun u : Vec Ideal S128x84 .f32 => (shapeCast S21x128x4 u Cert.ReferenceIdeal.Gen.shapeCasts_S128x84_S21x128x4 : Vec Ideal S21x128x4 .f32))
        (Equation.equation_reg m c)).trans ?_
      unfold Ref.arg
      rw [h2, h3, h4, h5, h6, h9, h10]
  · exact (θ_run Cert.ReferenceIdeal.defs _ _).mono (fun r h c => ⟨h c _ rfl, h c _ rfl, ref_kept h c⟩)
      (Cert.ReferenceIdeal.Value.run_fold (F := Ideal) m' ρ')

/-- The five claims. -/
theorem claim : Cert.Claim :=
  ⟨Cert.Kernel.Gen.facts, Cert.KernelIdeal.Gen.facts, Cert.ReferenceIdeal.Gen.facts,
    frame_kernel, frame_ideal, frame_reference, trivial, equal⟩

end Cert.Proof

end
